-- ==== Defs.lean ====
def Pre_UKernel (m : (ℓ : Loc Cert.UKernel.nD Cert.UKernel.τ Cert.UKernel.sig) → Buf (Elt Bits) ℓ) : Prop :=
  True

def Pre_UKernelIdeal (m : (ℓ : Loc Cert.UKernelIdeal.nD Cert.UKernelIdeal.τ Cert.UKernelIdeal.sig) → Buf (Elt Ideal) ℓ) : Prop :=
  True

def Pre_UReferenceIdeal (m : (ℓ : Loc Cert.UReferenceIdeal.nD Cert.UReferenceIdeal.τ Cert.UReferenceIdeal.sig) → Buf (Elt Ideal) ℓ) : Prop :=
  True

def Pre_DKernel (m : (ℓ : Loc Cert.DKernel.nD Cert.DKernel.τ Cert.DKernel.sig) → Buf (Elt Bits) ℓ) : Prop :=
  True

def Pre_DKernelIdeal (m : (ℓ : Loc Cert.DKernelIdeal.nD Cert.DKernelIdeal.τ Cert.DKernelIdeal.sig) → Buf (Elt Ideal) ℓ) : Prop :=
  True

def Pre_DReferenceIdeal (m : (ℓ : Loc Cert.DReferenceIdeal.nD Cert.DReferenceIdeal.τ Cert.DReferenceIdeal.sig) → Buf (Elt Ideal) ℓ) : Prop :=
  True

def Pre_WUpKernel (m : (ℓ : Loc Cert.WUpKernel.nD Cert.WUpKernel.τ Cert.WUpKernel.sig) → Buf (Elt Bits) ℓ) : Prop :=
  True

def Pre_WUpKernelIdeal (m : (ℓ : Loc Cert.WUpKernelIdeal.nD Cert.WUpKernelIdeal.τ Cert.WUpKernelIdeal.sig) → Buf (Elt Ideal) ℓ) : Prop :=
  True

def Pre_WUpReferenceIdeal (m : (ℓ : Loc Cert.WUpReferenceIdeal.nD Cert.WUpReferenceIdeal.τ Cert.WUpReferenceIdeal.sig) → Buf (Elt Ideal) ℓ) : Prop :=
  True

def Pre_WGateKernel (m : (ℓ : Loc Cert.WGateKernel.nD Cert.WGateKernel.τ Cert.WGateKernel.sig) → Buf (Elt Bits) ℓ) : Prop :=
  True

def Pre_WGateKernelIdeal (m : (ℓ : Loc Cert.WGateKernelIdeal.nD Cert.WGateKernelIdeal.τ Cert.WGateKernelIdeal.sig) → Buf (Elt Ideal) ℓ) : Prop :=
  True

def Pre_WGateReferenceIdeal (m : (ℓ : Loc Cert.WGateReferenceIdeal.nD Cert.WGateReferenceIdeal.τ Cert.WGateReferenceIdeal.sig) → Buf (Elt Ideal) ℓ) : Prop :=
  True

def Pre_WPleKernel (m : (ℓ : Loc Cert.WPleKernel.nD Cert.WPleKernel.τ Cert.WPleKernel.sig) → Buf (Elt Bits) ℓ) : Prop :=
  True

def Pre_WPleKernelIdeal (m : (ℓ : Loc Cert.WPleKernelIdeal.nD Cert.WPleKernelIdeal.τ Cert.WPleKernelIdeal.sig) → Buf (Elt Ideal) ℓ) : Prop :=
  True

def Pre_WPleReferenceIdeal (m : (ℓ : Loc Cert.WPleReferenceIdeal.nD Cert.WPleReferenceIdeal.τ Cert.WPleReferenceIdeal.sig) → Buf (Elt Ideal) ℓ) : Prop :=
  True

def Pre_WOKernel (m : (ℓ : Loc Cert.WOKernel.nD Cert.WOKernel.τ Cert.WOKernel.sig) → Buf (Elt Bits) ℓ) : Prop :=
  True

def Pre_WOKernelIdeal (m : (ℓ : Loc Cert.WOKernelIdeal.nD Cert.WOKernelIdeal.τ Cert.WOKernelIdeal.sig) → Buf (Elt Ideal) ℓ) : Prop :=
  True

def Pre_WOReferenceIdeal (m : (ℓ : Loc Cert.WOReferenceIdeal.nD Cert.WOReferenceIdeal.τ Cert.WOReferenceIdeal.sig) → Buf (Elt Ideal) ℓ) : Prop :=
  True

def Pre_WQkvKernel (m : (ℓ : Loc Cert.WQkvKernel.nD Cert.WQkvKernel.τ Cert.WQkvKernel.sig) → Buf (Elt Bits) ℓ) : Prop :=
  True

def Pre_WQkvKernelIdeal (m : (ℓ : Loc Cert.WQkvKernelIdeal.nD Cert.WQkvKernelIdeal.τ Cert.WQkvKernelIdeal.sig) → Buf (Elt Ideal) ℓ) : Prop :=
  True

def Pre_WQkvReferenceIdeal (m : (ℓ : Loc Cert.WQkvReferenceIdeal.nD Cert.WQkvReferenceIdeal.τ Cert.WQkvReferenceIdeal.sig) → Buf (Elt Ideal) ℓ) : Prop :=
  True

def Pre_DYKernel (m : (ℓ : Loc Cert.DYKernel.nD Cert.DYKernel.τ Cert.DYKernel.sig) → Buf (Elt Bits) ℓ) : Prop :=
  True

def Pre_DYKernelIdeal (m : (ℓ : Loc Cert.DYKernelIdeal.nD Cert.DYKernelIdeal.τ Cert.DYKernelIdeal.sig) → Buf (Elt Ideal) ℓ) : Prop :=
  True

def Pre_DYReferenceIdeal (m : (ℓ : Loc Cert.DYReferenceIdeal.nD Cert.DYReferenceIdeal.τ Cert.DYReferenceIdeal.sig) → Buf (Elt Ideal) ℓ) : Prop :=
  True

def Pre_DOmKernel (m : (ℓ : Loc Cert.DOmKernel.nD Cert.DOmKernel.τ Cert.DOmKernel.sig) → Buf (Elt Bits) ℓ) : Prop :=
  True

def Pre_DOmKernelIdeal (m : (ℓ : Loc Cert.DOmKernelIdeal.nD Cert.DOmKernelIdeal.τ Cert.DOmKernelIdeal.sig) → Buf (Elt Ideal) ℓ) : Prop :=
  True

def Pre_DOmReferenceIdeal (m : (ℓ : Loc Cert.DOmReferenceIdeal.nD Cert.DOmReferenceIdeal.τ Cert.DOmReferenceIdeal.sig) → Buf (Elt Ideal) ℓ) : Prop :=
  True

def Pre_DH0Kernel (m : (ℓ : Loc Cert.DH0Kernel.nD Cert.DH0Kernel.τ Cert.DH0Kernel.sig) → Buf (Elt Bits) ℓ) : Prop :=
  True

def Pre_DH0KernelIdeal (m : (ℓ : Loc Cert.DH0KernelIdeal.nD Cert.DH0KernelIdeal.τ Cert.DH0KernelIdeal.sig) → Buf (Elt Ideal) ℓ) : Prop :=
  True

def Pre_DH0ReferenceIdeal (m : (ℓ : Loc Cert.DH0ReferenceIdeal.nD Cert.DH0ReferenceIdeal.τ Cert.DH0ReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DHKernel (m : (ℓ : Loc Cert.DHKernel.nD Cert.DHKernel.τ Cert.DHKernel.sig) → Buf (Elt Bits) ℓ) : Prop :=
  True

def Pre_DHKernelIdeal (m : (ℓ : Loc Cert.DHKernelIdeal.nD Cert.DHKernelIdeal.τ Cert.DHKernelIdeal.sig) → Buf (Elt Ideal) ℓ) : Prop :=
  True

def Pre_DHReferenceIdeal (m : (ℓ : Loc Cert.DHReferenceIdeal.nD Cert.DHReferenceIdeal.τ Cert.DHReferenceIdeal.sig) → Buf (Elt Ideal) ℓ) : Prop :=
  True

def Pre_DHgKernel (m : (ℓ : Loc Cert.DHgKernel.nD Cert.DHgKernel.τ Cert.DHgKernel.sig) → Buf (Elt Bits) ℓ) : Prop :=
  True

def Pre_DHgKernelIdeal (m : (ℓ : Loc Cert.DHgKernelIdeal.nD Cert.DHgKernelIdeal.τ Cert.DHgKernelIdeal.sig) → Buf (Elt Ideal) ℓ) : Prop :=
  True

def Pre_DHgReferenceIdeal (m : (ℓ : Loc Cert.DHgReferenceIdeal.nD Cert.DHgReferenceIdeal.τ Cert.DHgReferenceIdeal.sig) → Buf (Elt Ideal) ℓ) : Prop :=
  True

def Pre_DHInKernel (m : (ℓ : Loc Cert.DHInKernel.nD Cert.DHInKernel.τ Cert.DHInKernel.sig) → Buf (Elt Bits) ℓ) : Prop :=
  True

def Pre_DHInKernelIdeal (m : (ℓ : Loc Cert.DHInKernelIdeal.nD Cert.DHInKernelIdeal.τ Cert.DHInKernelIdeal.sig) → Buf (Elt Ideal) ℓ) : Prop :=
  True

def Pre_DHInReferenceIdeal (m : (ℓ : Loc Cert.DHInReferenceIdeal.nD Cert.DHInReferenceIdeal.τ Cert.DHInReferenceIdeal.sig) → Buf (Elt Ideal) ℓ) : Prop :=
  True

def Pre_WInKernel (m : (ℓ : Loc Cert.WInKernel.nD Cert.WInKernel.τ Cert.WInKernel.sig) → Buf (Elt Bits) ℓ) : Prop :=
  True

def Pre_WInKernelIdeal (m : (ℓ : Loc Cert.WInKernelIdeal.nD Cert.WInKernelIdeal.τ Cert.WInKernelIdeal.sig) → Buf (Elt Ideal) ℓ) : Prop :=
  True

def Pre_WInReferenceIdeal (m : (ℓ : Loc Cert.WInReferenceIdeal.nD Cert.WInReferenceIdeal.τ Cert.WInReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_AOutKernel (m : (ℓ : Loc Cert.AOutKernel.nD Cert.AOutKernel.τ Cert.AOutKernel.sig) → Buf (Elt Bits) ℓ) : Prop :=
  True

def Pre_AOutKernelIdeal (m : (ℓ : Loc Cert.AOutKernelIdeal.nD Cert.AOutKernelIdeal.τ Cert.AOutKernelIdeal.sig) → Buf (Elt Ideal) ℓ) : Prop :=
  True

def Pre_AOutReferenceIdeal (m : (ℓ : Loc Cert.AOutReferenceIdeal.nD Cert.AOutReferenceIdeal.τ Cert.AOutReferenceIdeal.sig) → Buf (Elt Ideal) ℓ) : Prop :=
  True

def Pre_DOutKernel (m : (ℓ : Loc Cert.DOutKernel.nD Cert.DOutKernel.τ Cert.DOutKernel.sig) → Buf (Elt Bits) ℓ) : Prop :=
  True

def Pre_DOutKernelIdeal (m : (ℓ : Loc Cert.DOutKernelIdeal.nD Cert.DOutKernelIdeal.τ Cert.DOutKernelIdeal.sig) → Buf (Elt Ideal) ℓ) : Prop :=
  True

def Pre_DOutReferenceIdeal (m : (ℓ : Loc Cert.DOutReferenceIdeal.nD Cert.DOutReferenceIdeal.τ Cert.DOutReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnReferenceIdeal (m : (ℓ : Loc Cert.AttnReferenceIdeal.nD Cert.AttnReferenceIdeal.τ Cert.AttnReferenceIdeal.sig) → Buf (Elt Ideal) ℓ) : Prop :=
  True

def Pre_AttnBKernel (m : (ℓ : Loc Cert.AttnBKernel.nD Cert.AttnBKernel.τ Cert.AttnBKernel.sig) → Buf (Elt Bits) ℓ) : Prop :=
  True

def Pre_AttnBKernelIdeal (m : (ℓ : Loc Cert.AttnBKernelIdeal.nD Cert.AttnBKernelIdeal.τ Cert.AttnBKernelIdeal.sig) → Buf (Elt Ideal) ℓ) : Prop :=
  True

def Pre_AttnBKernelIdeal_finite [hPre_finite : Cert.Pre_finite.Facts] (m : (ℓ : Loc Cert.AttnBKernelIdeal.nD Cert.AttnBKernelIdeal.τ Cert.AttnBKernelIdeal.sig) → Buf (Elt Ideal) ℓ) : Prop :=
  ∀ c : Dev Cert.AttnBKernelIdeal.nD,
    (Cert.Pre_finite.fn (F := Ideal) (m ((c.tc : Thread Cert.AttnBKernelIdeal.nD Cert.AttnBKernelIdeal.τ).loc Cert.AttnBKernelIdeal.main_arg0)) (m ((c.tc : Thread Cert.AttnBKernelIdeal.nD Cert.AttnBKernelIdeal.τ).loc Cert.AttnBKernelIdeal.main_arg1)) (m ((c.tc : Thread Cert.AttnBKernelIdeal.nD Cert.AttnBKernelIdeal.τ).loc Cert.AttnBKernelIdeal.main_arg2)) (m ((c.tc : Thread Cert.AttnBKernelIdeal.nD Cert.AttnBKernelIdeal.τ).loc Cert.AttnBKernelIdeal.main_arg3)) (m ((c.tc : Thread Cert.AttnBKernelIdeal.nD Cert.AttnBKernelIdeal.τ).loc Cert.AttnBKernelIdeal.main_arg4))) = (fun _ => 1#1)

def Pre_AttnBReferenceIdeal (m : (ℓ : Loc Cert.AttnBReferenceIdeal.nD Cert.AttnBReferenceIdeal.τ Cert.AttnBReferenceIdeal.sig) → Buf (Elt Ideal) ℓ) : Prop :=
  True

def Pre_AttnBReferenceIdeal_finite [hPre_finite : Cert.Pre_finite.Facts] (m : (ℓ : Loc Cert.AttnBReferenceIdeal.nD Cert.AttnBReferenceIdeal.τ Cert.AttnBReferenceIdeal.sig) → Buf (Elt Ideal) ℓ) : Prop :=
  ∀ c : Dev Cert.AttnBReferenceIdeal.nD,
    (Cert.Pre_finite.fn (F := Ideal) (m ((c.tc : Thread Cert.AttnBReferenceIdeal.nD Cert.AttnBReferenceIdeal.τ).loc Cert.AttnBReferenceIdeal.main_arg0)) (m ((c.tc : Thread Cert.AttnBReferenceIdeal.nD Cert.AttnBReferenceIdeal.τ).loc Cert.AttnBReferenceIdeal.main_arg1)) (m ((c.tc : Thread Cert.AttnBReferenceIdeal.nD Cert.AttnBReferenceIdeal.τ).loc Cert.AttnBReferenceIdeal.main_arg2)) (m ((c.tc : Thread Cert.AttnBReferenceIdeal.nD Cert.AttnBReferenceIdeal.τ).loc Cert.AttnBReferenceIdeal.main_arg3)) (m ((c.tc : Thread Cert.AttnBReferenceIdeal.nD Cert.AttnBReferenceIdeal.τ).loc Cert.AttnBReferenceIdeal.main_arg4))) = (fun _ => 1#1)

def quiescent_UKernel [hUKernel : Cert.UKernel.Facts] : Prop :=
  ∀ (m : (ℓ : Loc Cert.UKernel.nD Cert.UKernel.τ Cert.UKernel.sig) → Buf (Elt Bits) ℓ) (g : Dev Cert.UKernel.nD → PrngReg), Pre_UKernel m →
    θ_run (Cert.UKernel.defs (F := Bits)) (onTc (τ := Cert.UKernel.τ) (Cert.UKernel.main (F := Bits))) ⟨m, fun _ => 0, g⟩ (fun r => (∀ c : Dev Cert.UKernel.nD,
      r.2.mem ((c.tc : Thread Cert.UKernel.nD Cert.UKernel.τ).loc Cert.UKernel.main_arg0) = m ((c.tc : Thread Cert.UKernel.nD Cert.UKernel.τ).loc Cert.UKernel.main_arg0)
      ∧ r.2.mem ((c.tc : Thread Cert.UKernel.nD Cert.UKernel.τ).loc Cert.UKernel.main_arg1) = m ((c.tc : Thread Cert.UKernel.nD Cert.UKernel.τ).loc Cert.UKernel.main_arg1)
      ∧ r.2.mem ((c.tc : Thread Cert.UKernel.nD Cert.UKernel.τ).loc Cert.UKernel.main_arg2) = m ((c.tc : Thread Cert.UKernel.nD Cert.UKernel.τ).loc Cert.UKernel.main_arg2))
      ∧ r.2.sem = fun _ => 0)

def quiescent_UKernelIdeal [hUKernelIdeal : Cert.UKernelIdeal.Facts] : Prop :=
  ∀ (m : (ℓ : Loc Cert.UKernelIdeal.nD Cert.UKernelIdeal.τ Cert.UKernelIdeal.sig) → Buf (Elt Ideal) ℓ) (g : Dev Cert.UKernelIdeal.nD → PrngReg), Pre_UKernelIdeal m →
    θ_run (Cert.UKernelIdeal.defs (F := Ideal)) (onTc (τ := Cert.UKernelIdeal.τ) (Cert.UKernelIdeal.main (F := Ideal))) ⟨m, fun _ => 0, g⟩ (fun r => (∀ c : Dev Cert.UKernelIdeal.nD,
      r.2.mem ((c.tc : Thread Cert.UKernelIdeal.nD Cert.UKernelIdeal.τ).loc Cert.UKernelIdeal.main_arg0) = m ((c.tc : Thread Cert.UKernelIdeal.nD Cert.UKernelIdeal.τ).loc Cert.UKernelIdeal.main_arg0)
      ∧ r.2.mem ((c.tc : Thread Cert.UKernelIdeal.nD Cert.UKernelIdeal.τ).loc Cert.UKernelIdeal.main_arg1) = m ((c.tc : Thread Cert.UKernelIdeal.nD Cert.UKernelIdeal.τ).loc Cert.UKernelIdeal.main_arg1)
      ∧ r.2.mem ((c.tc : Thread Cert.UKernelIdeal.nD Cert.UKernelIdeal.τ).loc Cert.UKernelIdeal.main_arg2) = m ((c.tc : Thread Cert.UKernelIdeal.nD Cert.UKernelIdeal.τ).loc Cert.UKernelIdeal.main_arg2))
      ∧ r.2.sem = fun _ => 0)

def quiescent_UReferenceIdeal [hUReferenceIdeal : Cert.UReferenceIdeal.Facts] : Prop :=
  ∀ (m : (ℓ : Loc Cert.UReferenceIdeal.nD Cert.UReferenceIdeal.τ Cert.UReferenceIdeal.sig) → Buf (Elt Ideal) ℓ) (g : Dev Cert.UReferenceIdeal.nD → PrngReg), Pre_UReferenceIdeal m →
    θ_run (Cert.UReferenceIdeal.defs (F := Ideal)) (onTc (τ := Cert.UReferenceIdeal.τ) (Cert.UReferenceIdeal.main (F := Ideal))) ⟨m, fun _ => 0, g⟩ (fun r => (∀ c : Dev Cert.UReferenceIdeal.nD,
      r.2.mem ((c.tc : Thread Cert.UReferenceIdeal.nD Cert.UReferenceIdeal.τ).loc Cert.UReferenceIdeal.main_arg0) = m ((c.tc : Thread Cert.UReferenceIdeal.nD Cert.UReferenceIdeal.τ).loc Cert.UReferenceIdeal.main_arg0)
      ∧ r.2.mem ((c.tc : Thread Cert.UReferenceIdeal.nD Cert.UReferenceIdeal.τ).loc Cert.UReferenceIdeal.main_arg1) = m ((c.tc : Thread Cert.UReferenceIdeal.nD Cert.UReferenceIdeal.τ).loc Cert.UReferenceIdeal.main_arg1)
      ∧ r.2.mem ((c.tc : Thread Cert.UReferenceIdeal.nD Cert.UReferenceIdeal.τ).loc Cert.UReferenceIdeal.main_arg2) = m ((c.tc : Thread Cert.UReferenceIdeal.nD Cert.UReferenceIdeal.τ).loc Cert.UReferenceIdeal.main_arg2))
      ∧ r.2.sem = fun _ => 0)

def quiescent_DKernel [hDKernel : Cert.DKernel.Facts] : Prop :=
  ∀ (m : (ℓ : Loc Cert.DKernel.nD Cert.DKernel.τ Cert.DKernel.sig) → Buf (Elt Bits) ℓ) (g : Dev Cert.DKernel.nD → PrngReg), Pre_DKernel m →
    θ_run (Cert.DKernel.defs (F := Bits)) (onTc (τ := Cert.DKernel.τ) (Cert.DKernel.main (F := Bits))) ⟨m, fun _ => 0, g⟩ (fun r => (∀ c : Dev Cert.DKernel.nD,
      r.2.mem ((c.tc : Thread Cert.DKernel.nD Cert.DKernel.τ).loc Cert.DKernel.main_arg0) = m ((c.tc : Thread Cert.DKernel.nD Cert.DKernel.τ).loc Cert.DKernel.main_arg0)
      ∧ r.2.mem ((c.tc : Thread Cert.DKernel.nD Cert.DKernel.τ).loc Cert.DKernel.main_arg1) = m ((c.tc : Thread Cert.DKernel.nD Cert.DKernel.τ).loc Cert.DKernel.main_arg1)
      ∧ r.2.mem ((c.tc : Thread Cert.DKernel.nD Cert.DKernel.τ).loc Cert.DKernel.main_arg2) = m ((c.tc : Thread Cert.DKernel.nD Cert.DKernel.τ).loc Cert.DKernel.main_arg2))
      ∧ r.2.sem = fun _ => 0)

def quiescent_DKernelIdeal [hDKernelIdeal : Cert.DKernelIdeal.Facts] : Prop :=
  ∀ (m : (ℓ : Loc Cert.DKernelIdeal.nD Cert.DKernelIdeal.τ Cert.DKernelIdeal.sig) → Buf (Elt Ideal) ℓ) (g : Dev Cert.DKernelIdeal.nD → PrngReg), Pre_DKernelIdeal m →
    θ_run (Cert.DKernelIdeal.defs (F := Ideal)) (onTc (τ := Cert.DKernelIdeal.τ) (Cert.DKernelIdeal.main (F := Ideal))) ⟨m, fun _ => 0, g⟩ (fun r => (∀ c : Dev Cert.DKernelIdeal.nD,
      r.2.mem ((c.tc : Thread Cert.DKernelIdeal.nD Cert.DKernelIdeal.τ).loc Cert.DKernelIdeal.main_arg0) = m ((c.tc : Thread Cert.DKernelIdeal.nD Cert.DKernelIdeal.τ).loc Cert.DKernelIdeal.main_arg0)
      ∧ r.2.mem ((c.tc : Thread Cert.DKernelIdeal.nD Cert.DKernelIdeal.τ).loc Cert.DKernelIdeal.main_arg1) = m ((c.tc : Thread Cert.DKernelIdeal.nD Cert.DKernelIdeal.τ).loc Cert.DKernelIdeal.main_arg1)
      ∧ r.2.mem ((c.tc : Thread Cert.DKernelIdeal.nD Cert.DKernelIdeal.τ).loc Cert.DKernelIdeal.main_arg2) = m ((c.tc : Thread Cert.DKernelIdeal.nD Cert.DKernelIdeal.τ).loc Cert.DKernelIdeal.main_arg2))
      ∧ r.2.sem = fun _ => 0)

def quiescent_DReferenceIdeal [hDReferenceIdeal : Cert.DReferenceIdeal.Facts] : Prop :=
  ∀ (m : (ℓ : Loc Cert.DReferenceIdeal.nD Cert.DReferenceIdeal.τ Cert.DReferenceIdeal.sig) → Buf (Elt Ideal) ℓ) (g : Dev Cert.DReferenceIdeal.nD → PrngReg), Pre_DReferenceIdeal m →
    θ_run (Cert.DReferenceIdeal.defs (F := Ideal)) (onTc (τ := Cert.DReferenceIdeal.τ) (Cert.DReferenceIdeal.main (F := Ideal))) ⟨m, fun _ => 0, g⟩ (fun r => (∀ c : Dev Cert.DReferenceIdeal.nD,
      r.2.mem ((c.tc : Thread Cert.DReferenceIdeal.nD Cert.DReferenceIdeal.τ).loc Cert.DReferenceIdeal.main_arg0) = m ((c.tc : Thread Cert.DReferenceIdeal.nD Cert.DReferenceIdeal.τ).loc Cert.DReferenceIdeal.main_arg0)
      ∧ r.2.mem ((c.tc : Thread Cert.DReferenceIdeal.nD Cert.DReferenceIdeal.τ).loc Cert.DReferenceIdeal.main_arg1) = m ((c.tc : Thread Cert.DReferenceIdeal.nD Cert.DReferenceIdeal.τ).loc Cert.DReferenceIdeal.main_arg1)
      ∧ r.2.mem ((c.tc : Thread Cert.DReferenceIdeal.nD Cert.DReferenceIdeal.τ).loc Cert.DReferenceIdeal.main_arg2) = m ((c.tc : Thread Cert.DReferenceIdeal.nD Cert.DReferenceIdeal.τ).loc Cert.DReferenceIdeal.main_arg2))
      ∧ r.2.sem = fun _ => 0)

def quiescent_WUpKernel [hWUpKernel : Cert.WUpKernel.Facts] : Prop :=
  ∀ (m : (ℓ : Loc Cert.WUpKernel.nD Cert.WUpKernel.τ Cert.WUpKernel.sig) → Buf (Elt Bits) ℓ) (g : Dev Cert.WUpKernel.nD → PrngReg), Pre_WUpKernel m →
    θ_run (Cert.WUpKernel.defs (F := Bits)) (onTc (τ := Cert.WUpKernel.τ) (Cert.WUpKernel.main (F := Bits))) ⟨m, fun _ => 0, g⟩ (fun r => (∀ c : Dev Cert.WUpKernel.nD,
      r.2.mem ((c.tc : Thread Cert.WUpKernel.nD Cert.WUpKernel.τ).loc Cert.WUpKernel.main_arg0) = m ((c.tc : Thread Cert.WUpKernel.nD Cert.WUpKernel.τ).loc Cert.WUpKernel.main_arg0)
      ∧ r.2.mem ((c.tc : Thread Cert.WUpKernel.nD Cert.WUpKernel.τ).loc Cert.WUpKernel.main_arg1) = m ((c.tc : Thread Cert.WUpKernel.nD Cert.WUpKernel.τ).loc Cert.WUpKernel.main_arg1)
      ∧ r.2.mem ((c.tc : Thread Cert.WUpKernel.nD Cert.WUpKernel.τ).loc Cert.WUpKernel.main_arg2) = m ((c.tc : Thread Cert.WUpKernel.nD Cert.WUpKernel.τ).loc Cert.WUpKernel.main_arg2))
      ∧ r.2.sem = fun _ => 0)

def quiescent_WUpKernelIdeal [hWUpKernelIdeal : Cert.WUpKernelIdeal.Facts] : Prop :=
  ∀ (m : (ℓ : Loc Cert.WUpKernelIdeal.nD Cert.WUpKernelIdeal.τ Cert.WUpKernelIdeal.sig) → Buf (Elt Ideal) ℓ) (g : Dev Cert.WUpKernelIdeal.nD → PrngReg), Pre_WUpKernelIdeal m →
    θ_run (Cert.WUpKernelIdeal.defs (F := Ideal)) (onTc (τ := Cert.WUpKernelIdeal.τ) (Cert.WUpKernelIdeal.main (F := Ideal))) ⟨m, fun _ => 0, g⟩ (fun r => (∀ c : Dev Cert.WUpKernelIdeal.nD,
      r.2.mem ((c.tc : Thread Cert.WUpKernelIdeal.nD Cert.WUpKernelIdeal.τ).loc Cert.WUpKernelIdeal.main_arg0) = m ((c.tc : Thread Cert.WUpKernelIdeal.nD Cert.WUpKernelIdeal.τ).loc Cert.WUpKernelIdeal.main_arg0)
      ∧ r.2.mem ((c.tc : Thread Cert.WUpKernelIdeal.nD Cert.WUpKernelIdeal.τ).loc Cert.WUpKernelIdeal.main_arg1) = m ((c.tc : Thread Cert.WUpKernelIdeal.nD Cert.WUpKernelIdeal.τ).loc Cert.WUpKernelIdeal.main_arg1)
      ∧ r.2.mem ((c.tc : Thread Cert.WUpKernelIdeal.nD Cert.WUpKernelIdeal.τ).loc Cert.WUpKernelIdeal.main_arg2) = m ((c.tc : Thread Cert.WUpKernelIdeal.nD Cert.WUpKernelIdeal.τ).loc Cert.WUpKernelIdeal.main_arg2))
      ∧ r.2.sem = fun _ => 0)

def quiescent_WUpReferenceIdeal [hWUpReferenceIdeal : Cert.WUpReferenceIdeal.Facts] : Prop :=
  ∀ (m : (ℓ : Loc Cert.WUpReferenceIdeal.nD Cert.WUpReferenceIdeal.τ Cert.WUpReferenceIdeal.sig) → Buf (Elt Ideal) ℓ) (g : Dev Cert.WUpReferenceIdeal.nD → PrngReg), Pre_WUpReferenceIdeal m →
    θ_run (Cert.WUpReferenceIdeal.defs (F := Ideal)) (onTc (τ := Cert.WUpReferenceIdeal.τ) (Cert.WUpReferenceIdeal.main (F := Ideal))) ⟨m, fun _ => 0, g⟩ (fun r => (∀ c : Dev Cert.WUpReferenceIdeal.nD,
      r.2.mem ((c.tc : Thread Cert.WUpReferenceIdeal.nD Cert.WUpReferenceIdeal.τ).loc Cert.WUpReferenceIdeal.main_arg0) = m ((c.tc : Thread Cert.WUpReferenceIdeal.nD Cert.WUpReferenceIdeal.τ).loc Cert.WUpReferenceIdeal.main_arg0)
      ∧ r.2.mem ((c.tc : Thread Cert.WUpReferenceIdeal.nD Cert.WUpReferenceIdeal.τ).loc Cert.WUpReferenceIdeal.main_arg1) = m ((c.tc : Thread Cert.WUpReferenceIdeal.nD Cert.WUpReferenceIdeal.τ).loc Cert.WUpReferenceIdeal.main_arg1)
      ∧ r.2.mem ((c.tc : Thread Cert.WUpReferenceIdeal.nD Cert.WUpReferenceIdeal.τ).loc Cert.WUpReferenceIdeal.main_arg2) = m ((c.tc : Thread Cert.WUpReferenceIdeal.nD Cert.WUpReferenceIdeal.τ).loc Cert.WUpReferenceIdeal.main_arg2))
      ∧ r.2.sem = fun _ => 0)

def quiescent_WGateKernel [hWGateKernel : Cert.WGateKernel.Facts] : Prop :=
  ∀ (m : (ℓ : Loc Cert.WGateKernel.nD Cert.WGateKernel.τ Cert.WGateKernel.sig) → Buf (Elt Bits) ℓ) (g : Dev Cert.WGateKernel.nD → PrngReg), Pre_WGateKernel m →
    θ_run (Cert.WGateKernel.defs (F := Bits)) (onTc (τ := Cert.WGateKernel.τ) (Cert.WGateKernel.main (F := Bits))) ⟨m, fun _ => 0, g⟩ (fun r => (∀ c : Dev Cert.WGateKernel.nD,
      r.2.mem ((c.tc : Thread Cert.WGateKernel.nD Cert.WGateKernel.τ).loc Cert.WGateKernel.main_arg0) = m ((c.tc : Thread Cert.WGateKernel.nD Cert.WGateKernel.τ).loc Cert.WGateKernel.main_arg0)
      ∧ r.2.mem ((c.tc : Thread Cert.WGateKernel.nD Cert.WGateKernel.τ).loc Cert.WGateKernel.main_arg1) = m ((c.tc : Thread Cert.WGateKernel.nD Cert.WGateKernel.τ).loc Cert.WGateKernel.main_arg1)
      ∧ r.2.mem ((c.tc : Thread Cert.WGateKernel.nD Cert.WGateKernel.τ).loc Cert.WGateKernel.main_arg2) = m ((c.tc : Thread Cert.WGateKernel.nD Cert.WGateKernel.τ).loc Cert.WGateKernel.main_arg2))
      ∧ r.2.sem = fun _ => 0)

def quiescent_WGateKernelIdeal [hWGateKernelIdeal : Cert.WGateKernelIdeal.Facts] : Prop :=
  ∀ (m : (ℓ : Loc Cert.WGateKernelIdeal.nD Cert.WGateKernelIdeal.τ Cert.WGateKernelIdeal.sig) → Buf (Elt Ideal) ℓ) (g : Dev Cert.WGateKernelIdeal.nD → PrngReg), Pre_WGateKernelIdeal m →
    θ_run (Cert.WGateKernelIdeal.defs (F := Ideal)) (onTc (τ := Cert.WGateKernelIdeal.τ) (Cert.WGateKernelIdeal.main (F := Ideal))) ⟨m, fun _ => 0, g⟩ (fun r => (∀ c : Dev Cert.WGateKernelIdeal.nD,
      r.2.mem ((c.tc : Thread Cert.WGateKernelIdeal.nD Cert.WGateKernelIdeal.τ).loc Cert.WGateKernelIdeal.main_arg0) = m ((c.tc : Thread Cert.WGateKernelIdeal.nD Cert.WGateKernelIdeal.τ).loc Cert.WGateKernelIdeal.main_arg0)
      ∧ r.2.mem ((c.tc : Thread Cert.WGateKernelIdeal.nD Cert.WGateKernelIdeal.τ).loc Cert.WGateKernelIdeal.main_arg1) = m ((c.tc : Thread Cert.WGateKernelIdeal.nD Cert.WGateKernelIdeal.τ).loc Cert.WGateKernelIdeal.main_arg1)
      ∧ r.2.mem ((c.tc : Thread Cert.WGateKernelIdeal.nD Cert.WGateKernelIdeal.τ).loc Cert.WGateKernelIdeal.main_arg2) = m ((c.tc : Thread Cert.WGateKernelIdeal.nD Cert.WGateKernelIdeal.τ).loc Cert.WGateKernelIdeal.main_arg2))
      ∧ r.2.sem = fun _ => 0)

def quiescent_WGateReferenceIdeal [hWGateReferenceIdeal : Cert.WGateReferenceIdeal.Facts] : Prop :=
  ∀ (m : (ℓ : Loc Cert.WGateReferenceIdeal.nD Cert.WGateReferenceIdeal.τ Cert.WGateReferenceIdeal.sig) → Buf (Elt Ideal) ℓ) (g : Dev Cert.WGateReferenceIdeal.nD → PrngReg), Pre_WGateReferenceIdeal m →
    θ_run (Cert.WGateReferenceIdeal.defs (F := Ideal)) (onTc (τ := Cert.WGateReferenceIdeal.τ) (Cert.WGateReferenceIdeal.main (F := Ideal))) ⟨m, fun _ => 0, g⟩ (fun r => (∀ c : Dev Cert.WGateReferenceIdeal.nD,
      r.2.mem ((c.tc : Thread Cert.WGateReferenceIdeal.nD Cert.WGateReferenceIdeal.τ).loc Cert.WGateReferenceIdeal.main_arg0) = m ((c.tc : Thread Cert.WGateReferenceIdeal.nD Cert.WGateReferenceIdeal.τ).loc Cert.WGateReferenceIdeal.main_arg0)
      ∧ r.2.mem ((c.tc : Thread Cert.WGateReferenceIdeal.nD Cert.WGateReferenceIdeal.τ).loc Cert.WGateReferenceIdeal.main_arg1) = m ((c.tc : Thread Cert.WGateReferenceIdeal.nD Cert.WGateReferenceIdeal.τ).loc Cert.WGateReferenceIdeal.main_arg1)
      ∧ r.2.mem ((c.tc : Thread Cert.WGateReferenceIdeal.nD Cert.WGateReferenceIdeal.τ).loc Cert.WGateReferenceIdeal.main_arg2) = m ((c.tc : Thread Cert.WGateReferenceIdeal.nD Cert.WGateReferenceIdeal.τ).loc Cert.WGateReferenceIdeal.main_arg2))
      ∧ r.2.sem = fun _ => 0)

def quiescent_WPleKernel [hWPleKernel : Cert.WPleKernel.Facts] : Prop :=
  ∀ (m : (ℓ : Loc Cert.WPleKernel.nD Cert.WPleKernel.τ Cert.WPleKernel.sig) → Buf (Elt Bits) ℓ) (g : Dev Cert.WPleKernel.nD → PrngReg), Pre_WPleKernel m →
    θ_run (Cert.WPleKernel.defs (F := Bits)) (onTc (τ := Cert.WPleKernel.τ) (Cert.WPleKernel.main (F := Bits))) ⟨m, fun _ => 0, g⟩ (fun r => (∀ c : Dev Cert.WPleKernel.nD,
      r.2.mem ((c.tc : Thread Cert.WPleKernel.nD Cert.WPleKernel.τ).loc Cert.WPleKernel.main_arg0) = m ((c.tc : Thread Cert.WPleKernel.nD Cert.WPleKernel.τ).loc Cert.WPleKernel.main_arg0)
      ∧ r.2.mem ((c.tc : Thread Cert.WPleKernel.nD Cert.WPleKernel.τ).loc Cert.WPleKernel.main_arg1) = m ((c.tc : Thread Cert.WPleKernel.nD Cert.WPleKernel.τ).loc Cert.WPleKernel.main_arg1)
      ∧ r.2.mem ((c.tc : Thread Cert.WPleKernel.nD Cert.WPleKernel.τ).loc Cert.WPleKernel.main_arg2) = m ((c.tc : Thread Cert.WPleKernel.nD Cert.WPleKernel.τ).loc Cert.WPleKernel.main_arg2))
      ∧ r.2.sem = fun _ => 0)

def quiescent_WPleKernelIdeal [hWPleKernelIdeal : Cert.WPleKernelIdeal.Facts] : Prop :=
  ∀ (m : (ℓ : Loc Cert.WPleKernelIdeal.nD Cert.WPleKernelIdeal.τ Cert.WPleKernelIdeal.sig) → Buf (Elt Ideal) ℓ) (g : Dev Cert.WPleKernelIdeal.nD → PrngReg), Pre_WPleKernelIdeal m →
    θ_run (Cert.WPleKernelIdeal.defs (F := Ideal)) (onTc (τ := Cert.WPleKernelIdeal.τ) (Cert.WPleKernelIdeal.main (F := Ideal))) ⟨m, fun _ => 0, g⟩ (fun r => (∀ c : Dev Cert.WPleKernelIdeal.nD,
      r.2.mem ((c.tc : Thread Cert.WPleKernelIdeal.nD Cert.WPleKernelIdeal.τ).loc Cert.WPleKernelIdeal.main_arg0) = m ((c.tc : Thread Cert.WPleKernelIdeal.nD Cert.WPleKernelIdeal.τ).loc Cert.WPleKernelIdeal.main_arg0)
      ∧ r.2.mem ((c.tc : Thread Cert.WPleKernelIdeal.nD Cert.WPleKernelIdeal.τ).loc Cert.WPleKernelIdeal.main_arg1) = m ((c.tc : Thread Cert.WPleKernelIdeal.nD Cert.WPleKernelIdeal.τ).loc Cert.WPleKernelIdeal.main_arg1)
      ∧ r.2.mem ((c.tc : Thread Cert.WPleKernelIdeal.nD Cert.WPleKernelIdeal.τ).loc Cert.WPleKernelIdeal.main_arg2) = m ((c.tc : Thread Cert.WPleKernelIdeal.nD Cert.WPleKernelIdeal.τ).loc Cert.WPleKernelIdeal.main_arg2))
      ∧ r.2.sem = fun _ => 0)

def quiescent_WPleReferenceIdeal [hWPleReferenceIdeal : Cert.WPleReferenceIdeal.Facts] : Prop :=
  ∀ (m : (ℓ : Loc Cert.WPleReferenceIdeal.nD Cert.WPleReferenceIdeal.τ Cert.WPleReferenceIdeal.sig) → Buf (Elt Ideal) ℓ) (g : Dev Cert.WPleReferenceIdeal.nD → PrngReg), Pre_WPleReferenceIdeal m →
    θ_run (Cert.WPleReferenceIdeal.defs (F := Ideal)) (onTc (τ := Cert.WPleReferenceIdeal.τ) (Cert.WPleReferenceIdeal.main (F := Ideal))) ⟨m, fun _ => 0, g⟩ (fun r => (∀ c : Dev Cert.WPleReferenceIdeal.nD,
      r.2.mem ((c.tc : Thread Cert.WPleReferenceIdeal.nD Cert.WPleReferenceIdeal.τ).loc Cert.WPleReferenceIdeal.main_arg0) = m ((c.tc : Thread Cert.WPleReferenceIdeal.nD Cert.WPleReferenceIdeal.τ).loc Cert.WPleReferenceIdeal.main_arg0)
      ∧ r.2.mem ((c.tc : Thread Cert.WPleReferenceIdeal.nD Cert.WPleReferenceIdeal.τ).loc Cert.WPleReferenceIdeal.main_arg1) = m ((c.tc : Thread Cert.WPleReferenceIdeal.nD Cert.WPleReferenceIdeal.τ).loc Cert.WPleReferenceIdeal.main_arg1)
      ∧ r.2.mem ((c.tc : Thread Cert.WPleReferenceIdeal.nD Cert.WPleReferenceIdeal.τ).loc Cert.WPleReferenceIdeal.main_arg2) = m ((c.tc : Thread Cert.WPleReferenceIdeal.nD Cert.WPleReferenceIdeal.τ).loc Cert.WPleReferenceIdeal.main_arg2))
      ∧ r.2.sem = fun _ => 0)

def quiescent_WOKernel [hWOKernel : Cert.WOKernel.Facts] : Prop :=
  ∀ (m : (ℓ : Loc Cert.WOKernel.nD Cert.WOKernel.τ Cert.WOKernel.sig) → Buf (Elt Bits) ℓ) (g : Dev Cert.WOKernel.nD → PrngReg), Pre_WOKernel m →
    θ_run (Cert.WOKernel.defs (F := Bits)) (onTc (τ := Cert.WOKernel.τ) (Cert.WOKernel.main (F := Bits))) ⟨m, fun _ => 0, g⟩ (fun r => (∀ c : Dev Cert.WOKernel.nD,
      r.2.mem ((c.tc : Thread Cert.WOKernel.nD Cert.WOKernel.τ).loc Cert.WOKernel.main_arg0) = m ((c.tc : Thread Cert.WOKernel.nD Cert.WOKernel.τ).loc Cert.WOKernel.main_arg0)
      ∧ r.2.mem ((c.tc : Thread Cert.WOKernel.nD Cert.WOKernel.τ).loc Cert.WOKernel.main_arg1) = m ((c.tc : Thread Cert.WOKernel.nD Cert.WOKernel.τ).loc Cert.WOKernel.main_arg1)
      ∧ r.2.mem ((c.tc : Thread Cert.WOKernel.nD Cert.WOKernel.τ).loc Cert.WOKernel.main_arg2) = m ((c.tc : Thread Cert.WOKernel.nD Cert.WOKernel.τ).loc Cert.WOKernel.main_arg2))
      ∧ r.2.sem = fun _ => 0)

def quiescent_WOKernelIdeal [hWOKernelIdeal : Cert.WOKernelIdeal.Facts] : Prop :=
  ∀ (m : (ℓ : Loc Cert.WOKernelIdeal.nD Cert.WOKernelIdeal.τ Cert.WOKernelIdeal.sig) → Buf (Elt Ideal) ℓ) (g : Dev Cert.WOKernelIdeal.nD → PrngReg), Pre_WOKernelIdeal m →
    θ_run (Cert.WOKernelIdeal.defs (F := Ideal)) (onTc (τ := Cert.WOKernelIdeal.τ) (Cert.WOKernelIdeal.main (F := Ideal))) ⟨m, fun _ => 0, g⟩ (fun r => (∀ c : Dev Cert.WOKernelIdeal.nD,
      r.2.mem ((c.tc : Thread Cert.WOKernelIdeal.nD Cert.WOKernelIdeal.τ).loc Cert.WOKernelIdeal.main_arg0) = m ((c.tc : Thread Cert.WOKernelIdeal.nD Cert.WOKernelIdeal.τ).loc Cert.WOKernelIdeal.main_arg0)
      ∧ r.2.mem ((c.tc : Thread Cert.WOKernelIdeal.nD Cert.WOKernelIdeal.τ).loc Cert.WOKernelIdeal.main_arg1) = m ((c.tc : Thread Cert.WOKernelIdeal.nD Cert.WOKernelIdeal.τ).loc Cert.WOKernelIdeal.main_arg1)
      ∧ r.2.mem ((c.tc : Thread Cert.WOKernelIdeal.nD Cert.WOKernelIdeal.τ).loc Cert.WOKernelIdeal.main_arg2) = m ((c.tc : Thread Cert.WOKernelIdeal.nD Cert.WOKernelIdeal.τ).loc Cert.WOKernelIdeal.main_arg2))
      ∧ r.2.sem = fun _ => 0)

def quiescent_WOReferenceIdeal [hWOReferenceIdeal : Cert.WOReferenceIdeal.Facts] : Prop :=
  ∀ (m : (ℓ : Loc Cert.WOReferenceIdeal.nD Cert.WOReferenceIdeal.τ Cert.WOReferenceIdeal.sig) → Buf (Elt Ideal) ℓ) (g : Dev Cert.WOReferenceIdeal.nD → PrngReg), Pre_WOReferenceIdeal m →
    θ_run (Cert.WOReferenceIdeal.defs (F := Ideal)) (onTc (τ := Cert.WOReferenceIdeal.τ) (Cert.WOReferenceIdeal.main (F := Ideal))) ⟨m, fun _ => 0, g⟩ (fun r => (∀ c : Dev Cert.WOReferenceIdeal.nD,
      r.2.mem ((c.tc : Thread Cert.WOReferenceIdeal.nD Cert.WOReferenceIdeal.τ).loc Cert.WOReferenceIdeal.main_arg0) = m ((c.tc : Thread Cert.WOReferenceIdeal.nD Cert.WOReferenceIdeal.τ).loc Cert.WOReferenceIdeal.main_arg0)
      ∧ r.2.mem ((c.tc : Thread Cert.WOReferenceIdeal.nD Cert.WOReferenceIdeal.τ).loc Cert.WOReferenceIdeal.main_arg1) = m ((c.tc : Thread Cert.WOReferenceIdeal.nD Cert.WOReferenceIdeal.τ).loc Cert.WOReferenceIdeal.main_arg1)
      ∧ r.2.mem ((c.tc : Thread Cert.WOReferenceIdeal.nD Cert.WOReferenceIdeal.τ).loc Cert.WOReferenceIdeal.main_arg2) = m ((c.tc : Thread Cert.WOReferenceIdeal.nD Cert.WOReferenceIdeal.τ).loc Cert.WOReferenceIdeal.main_arg2))
      ∧ r.2.sem = fun _ => 0)

def quiescent_WQkvKernel [hWQkvKernel : Cert.WQkvKernel.Facts] : Prop :=
  ∀ (m : (ℓ : Loc Cert.WQkvKernel.nD Cert.WQkvKernel.τ Cert.WQkvKernel.sig) → Buf (Elt Bits) ℓ) (g : Dev Cert.WQkvKernel.nD → PrngReg), Pre_WQkvKernel m →
    θ_run (Cert.WQkvKernel.defs (F := Bits)) (onTc (τ := Cert.WQkvKernel.τ) (Cert.WQkvKernel.main (F := Bits))) ⟨m, fun _ => 0, g⟩ (fun r => (∀ c : Dev Cert.WQkvKernel.nD,
      r.2.mem ((c.tc : Thread Cert.WQkvKernel.nD Cert.WQkvKernel.τ).loc Cert.WQkvKernel.main_arg0) = m ((c.tc : Thread Cert.WQkvKernel.nD Cert.WQkvKernel.τ).loc Cert.WQkvKernel.main_arg0)
      ∧ r.2.mem ((c.tc : Thread Cert.WQkvKernel.nD Cert.WQkvKernel.τ).loc Cert.WQkvKernel.main_arg1) = m ((c.tc : Thread Cert.WQkvKernel.nD Cert.WQkvKernel.τ).loc Cert.WQkvKernel.main_arg1)
      ∧ r.2.mem ((c.tc : Thread Cert.WQkvKernel.nD Cert.WQkvKernel.τ).loc Cert.WQkvKernel.main_arg2) = m ((c.tc : Thread Cert.WQkvKernel.nD Cert.WQkvKernel.τ).loc Cert.WQkvKernel.main_arg2))
      ∧ r.2.sem = fun _ => 0)

def quiescent_WQkvKernelIdeal [hWQkvKernelIdeal : Cert.WQkvKernelIdeal.Facts] : Prop :=
  ∀ (m : (ℓ : Loc Cert.WQkvKernelIdeal.nD Cert.WQkvKernelIdeal.τ Cert.WQkvKernelIdeal.sig) → Buf (Elt Ideal) ℓ) (g : Dev Cert.WQkvKernelIdeal.nD → PrngReg), Pre_WQkvKernelIdeal m →
    θ_run (Cert.WQkvKernelIdeal.defs (F := Ideal)) (onTc (τ := Cert.WQkvKernelIdeal.τ) (Cert.WQkvKernelIdeal.main (F := Ideal))) ⟨m, fun _ => 0, g⟩ (fun r => (∀ c : Dev Cert.WQkvKernelIdeal.nD,
      r.2.mem ((c.tc : Thread Cert.WQkvKernelIdeal.nD Cert.WQkvKernelIdeal.τ).loc Cert.WQkvKernelIdeal.main_arg0) = m ((c.tc : Thread Cert.WQkvKernelIdeal.nD Cert.WQkvKernelIdeal.τ).loc Cert.WQkvKernelIdeal.main_arg0)
      ∧ r.2.mem ((c.tc : Thread Cert.WQkvKernelIdeal.nD Cert.WQkvKernelIdeal.τ).loc Cert.WQkvKernelIdeal.main_arg1) = m ((c.tc : Thread Cert.WQkvKernelIdeal.nD Cert.WQkvKernelIdeal.τ).loc Cert.WQkvKernelIdeal.main_arg1)
      ∧ r.2.mem ((c.tc : Thread Cert.WQkvKernelIdeal.nD Cert.WQkvKernelIdeal.τ).loc Cert.WQkvKernelIdeal.main_arg2) = m ((c.tc : Thread Cert.WQkvKernelIdeal.nD Cert.WQkvKernelIdeal.τ).loc Cert.WQkvKernelIdeal.main_arg2))
      ∧ r.2.sem = fun _ => 0)

def quiescent_WQkvReferenceIdeal [hWQkvReferenceIdeal : Cert.WQkvReferenceIdeal.Facts] : Prop :=
  ∀ (m : (ℓ : Loc Cert.WQkvReferenceIdeal.nD Cert.WQkvReferenceIdeal.τ Cert.WQkvReferenceIdeal.sig) → Buf (Elt Ideal) ℓ) (g : Dev Cert.WQkvReferenceIdeal.nD → PrngReg), Pre_WQkvReferenceIdeal m →
    θ_run (Cert.WQkvReferenceIdeal.defs (F := Ideal)) (onTc (τ := Cert.WQkvReferenceIdeal.τ) (Cert.WQkvReferenceIdeal.main (F := Ideal))) ⟨m, fun _ => 0, g⟩ (fun r => (∀ c : Dev Cert.WQkvReferenceIdeal.nD,
      r.2.mem ((c.tc : Thread Cert.WQkvReferenceIdeal.nD Cert.WQkvReferenceIdeal.τ).loc Cert.WQkvReferenceIdeal.main_arg0) = m ((c.tc : Thread Cert.WQkvReferenceIdeal.nD Cert.WQkvReferenceIdeal.τ).loc Cert.WQkvReferenceIdeal.main_arg0)
      ∧ r.2.mem ((c.tc : Thread Cert.WQkvReferenceIdeal.nD Cert.WQkvReferenceIdeal.τ).loc Cert.WQkvReferenceIdeal.main_arg1) = m ((c.tc : Thread Cert.WQkvReferenceIdeal.nD Cert.WQkvReferenceIdeal.τ).loc Cert.WQkvReferenceIdeal.main_arg1)
      ∧ r.2.mem ((c.tc : Thread Cert.WQkvReferenceIdeal.nD Cert.WQkvReferenceIdeal.τ).loc Cert.WQkvReferenceIdeal.main_arg2) = m ((c.tc : Thread Cert.WQkvReferenceIdeal.nD Cert.WQkvReferenceIdeal.τ).loc Cert.WQkvReferenceIdeal.main_arg2))
      ∧ r.2.sem = fun _ => 0)

def quiescent_DYKernel [hDYKernel : Cert.DYKernel.Facts] : Prop :=
  ∀ (m : (ℓ : Loc Cert.DYKernel.nD Cert.DYKernel.τ Cert.DYKernel.sig) → Buf (Elt Bits) ℓ) (g : Dev Cert.DYKernel.nD → PrngReg), Pre_DYKernel m →
    θ_run (Cert.DYKernel.defs (F := Bits)) (onTc (τ := Cert.DYKernel.τ) (Cert.DYKernel.main (F := Bits))) ⟨m, fun _ => 0, g⟩ (fun r => (∀ c : Dev Cert.DYKernel.nD,
      r.2.mem ((c.tc : Thread Cert.DYKernel.nD Cert.DYKernel.τ).loc Cert.DYKernel.main_arg0) = m ((c.tc : Thread Cert.DYKernel.nD Cert.DYKernel.τ).loc Cert.DYKernel.main_arg0)
      ∧ r.2.mem ((c.tc : Thread Cert.DYKernel.nD Cert.DYKernel.τ).loc Cert.DYKernel.main_arg1) = m ((c.tc : Thread Cert.DYKernel.nD Cert.DYKernel.τ).loc Cert.DYKernel.main_arg1)
      ∧ r.2.mem ((c.tc : Thread Cert.DYKernel.nD Cert.DYKernel.τ).loc Cert.DYKernel.main_arg2) = m ((c.tc : Thread Cert.DYKernel.nD Cert.DYKernel.τ).loc Cert.DYKernel.main_arg2))
      ∧ r.2.sem = fun _ => 0)

def quiescent_DYKernelIdeal [hDYKernelIdeal : Cert.DYKernelIdeal.Facts] : Prop :=
  ∀ (m : (ℓ : Loc Cert.DYKernelIdeal.nD Cert.DYKernelIdeal.τ Cert.DYKernelIdeal.sig) → Buf (Elt Ideal) ℓ) (g : Dev Cert.DYKernelIdeal.nD → PrngReg), Pre_DYKernelIdeal m →
    θ_run (Cert.DYKernelIdeal.defs (F := Ideal)) (onTc (τ := Cert.DYKernelIdeal.τ) (Cert.DYKernelIdeal.main (F := Ideal))) ⟨m, fun _ => 0, g⟩ (fun r => (∀ c : Dev Cert.DYKernelIdeal.nD,
      r.2.mem ((c.tc : Thread Cert.DYKernelIdeal.nD Cert.DYKernelIdeal.τ).loc Cert.DYKernelIdeal.main_arg0) = m ((c.tc : Thread Cert.DYKernelIdeal.nD Cert.DYKernelIdeal.τ).loc Cert.DYKernelIdeal.main_arg0)
      ∧ r.2.mem ((c.tc : Thread Cert.DYKernelIdeal.nD Cert.DYKernelIdeal.τ).loc Cert.DYKernelIdeal.main_arg1) = m ((c.tc : Thread Cert.DYKernelIdeal.nD Cert.DYKernelIdeal.τ).loc Cert.DYKernelIdeal.main_arg1)
      ∧ r.2.mem ((c.tc : Thread Cert.DYKernelIdeal.nD Cert.DYKernelIdeal.τ).loc Cert.DYKernelIdeal.main_arg2) = m ((c.tc : Thread Cert.DYKernelIdeal.nD Cert.DYKernelIdeal.τ).loc Cert.DYKernelIdeal.main_arg2))
      ∧ r.2.sem = fun _ => 0)

def quiescent_DYReferenceIdeal [hDYReferenceIdeal : Cert.DYReferenceIdeal.Facts] : Prop :=
  ∀ (m : (ℓ : Loc Cert.DYReferenceIdeal.nD Cert.DYReferenceIdeal.τ Cert.DYReferenceIdeal.sig) → Buf (Elt Ideal) ℓ) (g : Dev Cert.DYReferenceIdeal.nD → PrngReg), Pre_DYReferenceIdeal m →
    θ_run (Cert.DYReferenceIdeal.defs (F := Ideal)) (onTc (τ := Cert.DYReferenceIdeal.τ) (Cert.DYReferenceIdeal.main (F := Ideal))) ⟨m, fun _ => 0, g⟩ (fun r => (∀ c : Dev Cert.DYReferenceIdeal.nD,
      r.2.mem ((c.tc : Thread Cert.DYReferenceIdeal.nD Cert.DYReferenceIdeal.τ).loc Cert.DYReferenceIdeal.main_arg0) = m ((c.tc : Thread Cert.DYReferenceIdeal.nD Cert.DYReferenceIdeal.τ).loc Cert.DYReferenceIdeal.main_arg0)
      ∧ r.2.mem ((c.tc : Thread Cert.DYReferenceIdeal.nD Cert.DYReferenceIdeal.τ).loc Cert.DYReferenceIdeal.main_arg1) = m ((c.tc : Thread Cert.DYReferenceIdeal.nD Cert.DYReferenceIdeal.τ).loc Cert.DYReferenceIdeal.main_arg1)
      ∧ r.2.mem ((c.tc : Thread Cert.DYReferenceIdeal.nD Cert.DYReferenceIdeal.τ).loc Cert.DYReferenceIdeal.main_arg2) = m ((c.tc : Thread Cert.DYReferenceIdeal.nD Cert.DYReferenceIdeal.τ).loc Cert.DYReferenceIdeal.main_arg2))
      ∧ r.2.sem = fun _ => 0)

def quiescent_DOmKernel [hDOmKernel : Cert.DOmKernel.Facts] : Prop :=
  ∀ (m : (ℓ : Loc Cert.DOmKernel.nD Cert.DOmKernel.τ Cert.DOmKernel.sig) → Buf (Elt Bits) ℓ) (g : Dev Cert.DOmKernel.nD → PrngReg), Pre_DOmKernel m →
    θ_run (Cert.DOmKernel.defs (F := Bits)) (onTc (τ := Cert.DOmKernel.τ) (Cert.DOmKernel.main (F := Bits))) ⟨m, fun _ => 0, g⟩ (fun r => (∀ c : Dev Cert.DOmKernel.nD,
      r.2.mem ((c.tc : Thread Cert.DOmKernel.nD Cert.DOmKernel.τ).loc Cert.DOmKernel.main_arg0) = m ((c.tc : Thread Cert.DOmKernel.nD Cert.DOmKernel.τ).loc Cert.DOmKernel.main_arg0)
      ∧ r.2.mem ((c.tc : Thread Cert.DOmKernel.nD Cert.DOmKernel.τ).loc Cert.DOmKernel.main_arg1) = m ((c.tc : Thread Cert.DOmKernel.nD Cert.DOmKernel.τ).loc Cert.DOmKernel.main_arg1)
      ∧ r.2.mem ((c.tc : Thread Cert.DOmKernel.nD Cert.DOmKernel.τ).loc Cert.DOmKernel.main_arg2) = m ((c.tc : Thread Cert.DOmKernel.nD Cert.DOmKernel.τ).loc Cert.DOmKernel.main_arg2))
      ∧ r.2.sem = fun _ => 0)

def quiescent_DOmKernelIdeal [hDOmKernelIdeal : Cert.DOmKernelIdeal.Facts] : Prop :=
  ∀ (m : (ℓ : Loc Cert.DOmKernelIdeal.nD Cert.DOmKernelIdeal.τ Cert.DOmKernelIdeal.sig) → Buf (Elt Ideal) ℓ) (g : Dev Cert.DOmKernelIdeal.nD → PrngReg), Pre_DOmKernelIdeal m →
    θ_run (Cert.DOmKernelIdeal.defs (F := Ideal)) (onTc (τ := Cert.DOmKernelIdeal.τ) (Cert.DOmKernelIdeal.main (F := Ideal))) ⟨m, fun _ => 0, g⟩ (fun r => (∀ c : Dev Cert.DOmKernelIdeal.nD,
      r.2.mem ((c.tc : Thread Cert.DOmKernelIdeal.nD Cert.DOmKernelIdeal.τ).loc Cert.DOmKernelIdeal.main_arg0) = m ((c.tc : Thread Cert.DOmKernelIdeal.nD Cert.DOmKernelIdeal.τ).loc Cert.DOmKernelIdeal.main_arg0)
      ∧ r.2.mem ((c.tc : Thread Cert.DOmKernelIdeal.nD Cert.DOmKernelIdeal.τ).loc Cert.DOmKernelIdeal.main_arg1) = m ((c.tc : Thread Cert.DOmKernelIdeal.nD Cert.DOmKernelIdeal.τ).loc Cert.DOmKernelIdeal.main_arg1)
      ∧ r.2.mem ((c.tc : Thread Cert.DOmKernelIdeal.nD Cert.DOmKernelIdeal.τ).loc Cert.DOmKernelIdeal.main_arg2) = m ((c.tc : Thread Cert.DOmKernelIdeal.nD Cert.DOmKernelIdeal.τ).loc Cert.DOmKernelIdeal.main_arg2))
      ∧ r.2.sem = fun _ => 0)

def quiescent_DOmReferenceIdeal [hDOmReferenceIdeal : Cert.DOmReferenceIdeal.Facts] : Prop :=
  ∀ (m : (ℓ : Loc Cert.DOmReferenceIdeal.nD Cert.DOmReferenceIdeal.τ Cert.DOmReferenceIdeal.sig) → Buf (Elt Ideal) ℓ) (g : Dev Cert.DOmReferenceIdeal.nD → PrngReg), Pre_DOmReferenceIdeal m →
    θ_run (Cert.DOmReferenceIdeal.defs (F := Ideal)) (onTc (τ := Cert.DOmReferenceIdeal.τ) (Cert.DOmReferenceIdeal.main (F := Ideal))) ⟨m, fun _ => 0, g⟩ (fun r => (∀ c : Dev Cert.DOmReferenceIdeal.nD,
      r.2.mem ((c.tc : Thread Cert.DOmReferenceIdeal.nD Cert.DOmReferenceIdeal.τ).loc Cert.DOmReferenceIdeal.main_arg0) = m ((c.tc : Thread Cert.DOmReferenceIdeal.nD Cert.DOmReferenceIdeal.τ).loc Cert.DOmReferenceIdeal.main_arg0)
      ∧ r.2.mem ((c.tc : Thread Cert.DOmReferenceIdeal.nD Cert.DOmReferenceIdeal.τ).loc Cert.DOmReferenceIdeal.main_arg1) = m ((c.tc : Thread Cert.DOmReferenceIdeal.nD Cert.DOmReferenceIdeal.τ).loc Cert.DOmReferenceIdeal.main_arg1)
      ∧ r.2.mem ((c.tc : Thread Cert.DOmReferenceIdeal.nD Cert.DOmReferenceIdeal.τ).loc Cert.DOmReferenceIdeal.main_arg2) = m ((c.tc : Thread Cert.DOmReferenceIdeal.nD Cert.DOmReferenceIdeal.τ).loc Cert.DOmReferenceIdeal.main_arg2))
      ∧ r.2.sem = fun _ => 0)

def quiescent_DH0Kernel [hDH0Kernel : Cert.DH0Kernel.Facts] : Prop :=
  ∀ (m : (ℓ : Loc Cert.DH0Kernel.nD Cert.DH0Kernel.τ Cert.DH0Kernel.sig) → Buf (Elt Bits) ℓ) (g : Dev Cert.DH0Kernel.nD → PrngReg), Pre_DH0Kernel m →
    θ_run (Cert.DH0Kernel.defs (F := Bits)) (onTc (τ := Cert.DH0Kernel.τ) (Cert.DH0Kernel.main (F := Bits))) ⟨m, fun _ => 0, g⟩ (fun r => (∀ c : Dev Cert.DH0Kernel.nD,
      r.2.mem ((c.tc : Thread Cert.DH0Kernel.nD Cert.DH0Kernel.τ).loc Cert.DH0Kernel.main_arg0) = m ((c.tc : Thread Cert.DH0Kernel.nD Cert.DH0Kernel.τ).loc Cert.DH0Kernel.main_arg0)
      ∧ r.2.mem ((c.tc : Thread Cert.DH0Kernel.nD Cert.DH0Kernel.τ).loc Cert.DH0Kernel.main_arg1) = m ((c.tc : Thread Cert.DH0Kernel.nD Cert.DH0Kernel.τ).loc Cert.DH0Kernel.main_arg1)
      ∧ r.2.mem ((c.tc : Thread Cert.DH0Kernel.nD Cert.DH0Kernel.τ).loc Cert.DH0Kernel.main_arg2) = m ((c.tc : Thread Cert.DH0Kernel.nD Cert.DH0Kernel.τ).loc Cert.DH0Kernel.main_arg2))
      ∧ r.2.sem = fun _ => 0)

def quiescent_DH0KernelIdeal [hDH0KernelIdeal : Cert.DH0KernelIdeal.Facts] : Prop :=
  ∀ (m : (ℓ : Loc Cert.DH0KernelIdeal.nD Cert.DH0KernelIdeal.τ Cert.DH0KernelIdeal.sig) → Buf (Elt Ideal) ℓ) (g : Dev Cert.DH0KernelIdeal.nD → PrngReg), Pre_DH0KernelIdeal m →
    θ_run (Cert.DH0KernelIdeal.defs (F := Ideal)) (onTc (τ := Cert.DH0KernelIdeal.τ) (Cert.DH0KernelIdeal.main (F := Ideal))) ⟨m, fun _ => 0, g⟩ (fun r => (∀ c : Dev Cert.DH0KernelIdeal.nD,
      r.2.mem ((c.tc : Thread Cert.DH0KernelIdeal.nD Cert.DH0KernelIdeal.τ).loc Cert.DH0KernelIdeal.main_arg0) = m ((c.tc : Thread Cert.DH0KernelIdeal.nD Cert.DH0KernelIdeal.τ).loc Cert.DH0KernelIdeal.main_arg0)
      ∧ r.2.mem ((c.tc : Thread Cert.DH0KernelIdeal.nD Cert.DH0KernelIdeal.τ).loc Cert.DH0KernelIdeal.main_arg1) = m ((c.tc : Thread Cert.DH0KernelIdeal.nD Cert.DH0KernelIdeal.τ).loc Cert.DH0KernelIdeal.main_arg1)
      ∧ r.2.mem ((c.tc : Thread Cert.DH0KernelIdeal.nD Cert.DH0KernelIdeal.τ).loc Cert.DH0KernelIdeal.main_arg2) = m ((c.tc : Thread Cert.DH0KernelIdeal.nD Cert.DH0KernelIdeal.τ).loc Cert.DH0KernelIdeal.main_arg2))
      ∧ r.2.sem = fun _ => 0)

def quiescent_DH0ReferenceIdeal [hDH0ReferenceIdeal : Cert.DH0ReferenceIdeal.Facts] : Prop :=
  ∀ (m : (ℓ : Loc Cert.DH0ReferenceIdeal.nD Cert.DH0ReferenceIdeal.τ Cert.DH0ReferenceIdeal.sig) → Buf (Elt Ideal) ℓ) (g : Dev Cert.DH0ReferenceIdeal.nD → PrngReg), Pre_DH0ReferenceIdeal m →
    θ_run (Cert.DH0ReferenceIdeal.defs (F := Ideal)) (onTc (τ := Cert.DH0ReferenceIdeal.τ) (Cert.DH0ReferenceIdeal.main (F := Ideal))) ⟨m, fun _ => 0, g⟩ (fun r => (∀ c : Dev Cert.DH0ReferenceIdeal.nD,
      r.2.mem ((c.tc : Thread Cert.DH0ReferenceIdeal.nD Cert.DH0ReferenceIdeal.τ).loc Cert.DH0ReferenceIdeal.main_arg0) = m ((c.tc : Thread Cert.DH0ReferenceIdeal.nD Cert.DH0ReferenceIdeal.τ).loc Cert.DH0ReferenceIdeal.main_arg0)
      ∧ r.2.mem ((c.tc : Thread Cert.DH0ReferenceIdeal.nD Cert.DH0ReferenceIdeal.τ).loc Cert.DH0ReferenceIdeal.main_arg1) = m ((c.tc : Thread Cert.DH0ReferenceIdeal.nD Cert.DH0ReferenceIdeal.τ).loc Cert.DH0ReferenceIdeal.main_arg1)
      ∧ r.2.mem ((c.tc : Thread Cert.DH0ReferenceIdeal.nD Cert.DH0ReferenceIdeal.τ).loc Cert.DH0ReferenceIdeal.main_arg2) = m ((c.tc : Thread Cert.DH0ReferenceIdeal.nD Cert.DH0ReferenceIdeal.τ).loc Cert.DH0ReferenceIdeal.main_arg2))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DHKernel [hDHKernel : Cert.DHKernel.Facts] : Prop :=
  ∀ (m : (ℓ : Loc Cert.DHKernel.nD Cert.DHKernel.τ Cert.DHKernel.sig) → Buf (Elt Bits) ℓ) (g : Dev Cert.DHKernel.nD → PrngReg), Pre_DHKernel m →
    θ_run (Cert.DHKernel.defs (F := Bits)) (onTc (τ := Cert.DHKernel.τ) (Cert.DHKernel.main (F := Bits))) ⟨m, fun _ => 0, g⟩ (fun r => (∀ c : Dev Cert.DHKernel.nD,
      r.2.mem ((c.tc : Thread Cert.DHKernel.nD Cert.DHKernel.τ).loc Cert.DHKernel.main_arg0) = m ((c.tc : Thread Cert.DHKernel.nD Cert.DHKernel.τ).loc Cert.DHKernel.main_arg0)
      ∧ r.2.mem ((c.tc : Thread Cert.DHKernel.nD Cert.DHKernel.τ).loc Cert.DHKernel.main_arg1) = m ((c.tc : Thread Cert.DHKernel.nD Cert.DHKernel.τ).loc Cert.DHKernel.main_arg1)
      ∧ r.2.mem ((c.tc : Thread Cert.DHKernel.nD Cert.DHKernel.τ).loc Cert.DHKernel.main_arg2) = m ((c.tc : Thread Cert.DHKernel.nD Cert.DHKernel.τ).loc Cert.DHKernel.main_arg2)
      ∧ r.2.mem ((c.tc : Thread Cert.DHKernel.nD Cert.DHKernel.τ).loc Cert.DHKernel.main_arg3) = m ((c.tc : Thread Cert.DHKernel.nD Cert.DHKernel.τ).loc Cert.DHKernel.main_arg3)
      ∧ r.2.mem ((c.tc : Thread Cert.DHKernel.nD Cert.DHKernel.τ).loc Cert.DHKernel.main_arg4) = m ((c.tc : Thread Cert.DHKernel.nD Cert.DHKernel.τ).loc Cert.DHKernel.main_arg4))
      ∧ r.2.sem = fun _ => 0)

def quiescent_DHKernelIdeal [hDHKernelIdeal : Cert.DHKernelIdeal.Facts] : Prop :=
  ∀ (m : (ℓ : Loc Cert.DHKernelIdeal.nD Cert.DHKernelIdeal.τ Cert.DHKernelIdeal.sig) → Buf (Elt Ideal) ℓ) (g : Dev Cert.DHKernelIdeal.nD → PrngReg), Pre_DHKernelIdeal m →
    θ_run (Cert.DHKernelIdeal.defs (F := Ideal)) (onTc (τ := Cert.DHKernelIdeal.τ) (Cert.DHKernelIdeal.main (F := Ideal))) ⟨m, fun _ => 0, g⟩ (fun r => (∀ c : Dev Cert.DHKernelIdeal.nD,
      r.2.mem ((c.tc : Thread Cert.DHKernelIdeal.nD Cert.DHKernelIdeal.τ).loc Cert.DHKernelIdeal.main_arg0) = m ((c.tc : Thread Cert.DHKernelIdeal.nD Cert.DHKernelIdeal.τ).loc Cert.DHKernelIdeal.main_arg0)
      ∧ r.2.mem ((c.tc : Thread Cert.DHKernelIdeal.nD Cert.DHKernelIdeal.τ).loc Cert.DHKernelIdeal.main_arg1) = m ((c.tc : Thread Cert.DHKernelIdeal.nD Cert.DHKernelIdeal.τ).loc Cert.DHKernelIdeal.main_arg1)
      ∧ r.2.mem ((c.tc : Thread Cert.DHKernelIdeal.nD Cert.DHKernelIdeal.τ).loc Cert.DHKernelIdeal.main_arg2) = m ((c.tc : Thread Cert.DHKernelIdeal.nD Cert.DHKernelIdeal.τ).loc Cert.DHKernelIdeal.main_arg2)
      ∧ r.2.mem ((c.tc : Thread Cert.DHKernelIdeal.nD Cert.DHKernelIdeal.τ).loc Cert.DHKernelIdeal.main_arg3) = m ((c.tc : Thread Cert.DHKernelIdeal.nD Cert.DHKernelIdeal.τ).loc Cert.DHKernelIdeal.main_arg3)
      ∧ r.2.mem ((c.tc : Thread Cert.DHKernelIdeal.nD Cert.DHKernelIdeal.τ).loc Cert.DHKernelIdeal.main_arg4) = m ((c.tc : Thread Cert.DHKernelIdeal.nD Cert.DHKernelIdeal.τ).loc Cert.DHKernelIdeal.main_arg4))
      ∧ r.2.sem = fun _ => 0)

def quiescent_DHReferenceIdeal [hDHReferenceIdeal : Cert.DHReferenceIdeal.Facts] : Prop :=
  ∀ (m : (ℓ : Loc Cert.DHReferenceIdeal.nD Cert.DHReferenceIdeal.τ Cert.DHReferenceIdeal.sig) → Buf (Elt Ideal) ℓ) (g : Dev Cert.DHReferenceIdeal.nD → PrngReg), Pre_DHReferenceIdeal m →
    θ_run (Cert.DHReferenceIdeal.defs (F := Ideal)) (onTc (τ := Cert.DHReferenceIdeal.τ) (Cert.DHReferenceIdeal.main (F := Ideal))) ⟨m, fun _ => 0, g⟩ (fun r => (∀ c : Dev Cert.DHReferenceIdeal.nD,
      r.2.mem ((c.tc : Thread Cert.DHReferenceIdeal.nD Cert.DHReferenceIdeal.τ).loc Cert.DHReferenceIdeal.main_arg0) = m ((c.tc : Thread Cert.DHReferenceIdeal.nD Cert.DHReferenceIdeal.τ).loc Cert.DHReferenceIdeal.main_arg0)
      ∧ r.2.mem ((c.tc : Thread Cert.DHReferenceIdeal.nD Cert.DHReferenceIdeal.τ).loc Cert.DHReferenceIdeal.main_arg1) = m ((c.tc : Thread Cert.DHReferenceIdeal.nD Cert.DHReferenceIdeal.τ).loc Cert.DHReferenceIdeal.main_arg1)
      ∧ r.2.mem ((c.tc : Thread Cert.DHReferenceIdeal.nD Cert.DHReferenceIdeal.τ).loc Cert.DHReferenceIdeal.main_arg2) = m ((c.tc : Thread Cert.DHReferenceIdeal.nD Cert.DHReferenceIdeal.τ).loc Cert.DHReferenceIdeal.main_arg2)
      ∧ r.2.mem ((c.tc : Thread Cert.DHReferenceIdeal.nD Cert.DHReferenceIdeal.τ).loc Cert.DHReferenceIdeal.main_arg3) = m ((c.tc : Thread Cert.DHReferenceIdeal.nD Cert.DHReferenceIdeal.τ).loc Cert.DHReferenceIdeal.main_arg3)
      ∧ r.2.mem ((c.tc : Thread Cert.DHReferenceIdeal.nD Cert.DHReferenceIdeal.τ).loc Cert.DHReferenceIdeal.main_arg4) = m ((c.tc : Thread Cert.DHReferenceIdeal.nD Cert.DHReferenceIdeal.τ).loc Cert.DHReferenceIdeal.main_arg4))
      ∧ r.2.sem = fun _ => 0)

def quiescent_DHgKernel [hDHgKernel : Cert.DHgKernel.Facts] : Prop :=
  ∀ (m : (ℓ : Loc Cert.DHgKernel.nD Cert.DHgKernel.τ Cert.DHgKernel.sig) → Buf (Elt Bits) ℓ) (g : Dev Cert.DHgKernel.nD → PrngReg), Pre_DHgKernel m →
    θ_run (Cert.DHgKernel.defs (F := Bits)) (onTc (τ := Cert.DHgKernel.τ) (Cert.DHgKernel.main (F := Bits))) ⟨m, fun _ => 0, g⟩ (fun r => (∀ c : Dev Cert.DHgKernel.nD,
      r.2.mem ((c.tc : Thread Cert.DHgKernel.nD Cert.DHgKernel.τ).loc Cert.DHgKernel.main_arg0) = m ((c.tc : Thread Cert.DHgKernel.nD Cert.DHgKernel.τ).loc Cert.DHgKernel.main_arg0)
      ∧ r.2.mem ((c.tc : Thread Cert.DHgKernel.nD Cert.DHgKernel.τ).loc Cert.DHgKernel.main_arg1) = m ((c.tc : Thread Cert.DHgKernel.nD Cert.DHgKernel.τ).loc Cert.DHgKernel.main_arg1)
      ∧ r.2.mem ((c.tc : Thread Cert.DHgKernel.nD Cert.DHgKernel.τ).loc Cert.DHgKernel.main_arg2) = m ((c.tc : Thread Cert.DHgKernel.nD Cert.DHgKernel.τ).loc Cert.DHgKernel.main_arg2)
      ∧ r.2.mem ((c.tc : Thread Cert.DHgKernel.nD Cert.DHgKernel.τ).loc Cert.DHgKernel.main_arg3) = m ((c.tc : Thread Cert.DHgKernel.nD Cert.DHgKernel.τ).loc Cert.DHgKernel.main_arg3)
      ∧ r.2.mem ((c.tc : Thread Cert.DHgKernel.nD Cert.DHgKernel.τ).loc Cert.DHgKernel.main_arg4) = m ((c.tc : Thread Cert.DHgKernel.nD Cert.DHgKernel.τ).loc Cert.DHgKernel.main_arg4))
      ∧ r.2.sem = fun _ => 0)

def quiescent_DHgKernelIdeal [hDHgKernelIdeal : Cert.DHgKernelIdeal.Facts] : Prop :=
  ∀ (m : (ℓ : Loc Cert.DHgKernelIdeal.nD Cert.DHgKernelIdeal.τ Cert.DHgKernelIdeal.sig) → Buf (Elt Ideal) ℓ) (g : Dev Cert.DHgKernelIdeal.nD → PrngReg), Pre_DHgKernelIdeal m →
    θ_run (Cert.DHgKernelIdeal.defs (F := Ideal)) (onTc (τ := Cert.DHgKernelIdeal.τ) (Cert.DHgKernelIdeal.main (F := Ideal))) ⟨m, fun _ => 0, g⟩ (fun r => (∀ c : Dev Cert.DHgKernelIdeal.nD,
      r.2.mem ((c.tc : Thread Cert.DHgKernelIdeal.nD Cert.DHgKernelIdeal.τ).loc Cert.DHgKernelIdeal.main_arg0) = m ((c.tc : Thread Cert.DHgKernelIdeal.nD Cert.DHgKernelIdeal.τ).loc Cert.DHgKernelIdeal.main_arg0)
      ∧ r.2.mem ((c.tc : Thread Cert.DHgKernelIdeal.nD Cert.DHgKernelIdeal.τ).loc Cert.DHgKernelIdeal.main_arg1) = m ((c.tc : Thread Cert.DHgKernelIdeal.nD Cert.DHgKernelIdeal.τ).loc Cert.DHgKernelIdeal.main_arg1)
      ∧ r.2.mem ((c.tc : Thread Cert.DHgKernelIdeal.nD Cert.DHgKernelIdeal.τ).loc Cert.DHgKernelIdeal.main_arg2) = m ((c.tc : Thread Cert.DHgKernelIdeal.nD Cert.DHgKernelIdeal.τ).loc Cert.DHgKernelIdeal.main_arg2)
      ∧ r.2.mem ((c.tc : Thread Cert.DHgKernelIdeal.nD Cert.DHgKernelIdeal.τ).loc Cert.DHgKernelIdeal.main_arg3) = m ((c.tc : Thread Cert.DHgKernelIdeal.nD Cert.DHgKernelIdeal.τ).loc Cert.DHgKernelIdeal.main_arg3)
      ∧ r.2.mem ((c.tc : Thread Cert.DHgKernelIdeal.nD Cert.DHgKernelIdeal.τ).loc Cert.DHgKernelIdeal.main_arg4) = m ((c.tc : Thread Cert.DHgKernelIdeal.nD Cert.DHgKernelIdeal.τ).loc Cert.DHgKernelIdeal.main_arg4))
      ∧ r.2.sem = fun _ => 0)

def quiescent_DHgReferenceIdeal [hDHgReferenceIdeal : Cert.DHgReferenceIdeal.Facts] : Prop :=
  ∀ (m : (ℓ : Loc Cert.DHgReferenceIdeal.nD Cert.DHgReferenceIdeal.τ Cert.DHgReferenceIdeal.sig) → Buf (Elt Ideal) ℓ) (g : Dev Cert.DHgReferenceIdeal.nD → PrngReg), Pre_DHgReferenceIdeal m →
    θ_run (Cert.DHgReferenceIdeal.defs (F := Ideal)) (onTc (τ := Cert.DHgReferenceIdeal.τ) (Cert.DHgReferenceIdeal.main (F := Ideal))) ⟨m, fun _ => 0, g⟩ (fun r => (∀ c : Dev Cert.DHgReferenceIdeal.nD,
      r.2.mem ((c.tc : Thread Cert.DHgReferenceIdeal.nD Cert.DHgReferenceIdeal.τ).loc Cert.DHgReferenceIdeal.main_arg0) = m ((c.tc : Thread Cert.DHgReferenceIdeal.nD Cert.DHgReferenceIdeal.τ).loc Cert.DHgReferenceIdeal.main_arg0)
      ∧ r.2.mem ((c.tc : Thread Cert.DHgReferenceIdeal.nD Cert.DHgReferenceIdeal.τ).loc Cert.DHgReferenceIdeal.main_arg1) = m ((c.tc : Thread Cert.DHgReferenceIdeal.nD Cert.DHgReferenceIdeal.τ).loc Cert.DHgReferenceIdeal.main_arg1)
      ∧ r.2.mem ((c.tc : Thread Cert.DHgReferenceIdeal.nD Cert.DHgReferenceIdeal.τ).loc Cert.DHgReferenceIdeal.main_arg2) = m ((c.tc : Thread Cert.DHgReferenceIdeal.nD Cert.DHgReferenceIdeal.τ).loc Cert.DHgReferenceIdeal.main_arg2)
      ∧ r.2.mem ((c.tc : Thread Cert.DHgReferenceIdeal.nD Cert.DHgReferenceIdeal.τ).loc Cert.DHgReferenceIdeal.main_arg3) = m ((c.tc : Thread Cert.DHgReferenceIdeal.nD Cert.DHgReferenceIdeal.τ).loc Cert.DHgReferenceIdeal.main_arg3)
      ∧ r.2.mem ((c.tc : Thread Cert.DHgReferenceIdeal.nD Cert.DHgReferenceIdeal.τ).loc Cert.DHgReferenceIdeal.main_arg4) = m ((c.tc : Thread Cert.DHgReferenceIdeal.nD Cert.DHgReferenceIdeal.τ).loc Cert.DHgReferenceIdeal.main_arg4))
      ∧ r.2.sem = fun _ => 0)

def quiescent_DHInKernel [hDHInKernel : Cert.DHInKernel.Facts] : Prop :=
  ∀ (m : (ℓ : Loc Cert.DHInKernel.nD Cert.DHInKernel.τ Cert.DHInKernel.sig) → Buf (Elt Bits) ℓ) (g : Dev Cert.DHInKernel.nD → PrngReg), Pre_DHInKernel m →
    θ_run (Cert.DHInKernel.defs (F := Bits)) (onTc (τ := Cert.DHInKernel.τ) (Cert.DHInKernel.main (F := Bits))) ⟨m, fun _ => 0, g⟩ (fun r => (∀ c : Dev Cert.DHInKernel.nD,
      r.2.mem ((c.tc : Thread Cert.DHInKernel.nD Cert.DHInKernel.τ).loc Cert.DHInKernel.main_arg0) = m ((c.tc : Thread Cert.DHInKernel.nD Cert.DHInKernel.τ).loc Cert.DHInKernel.main_arg0)
      ∧ r.2.mem ((c.tc : Thread Cert.DHInKernel.nD Cert.DHInKernel.τ).loc Cert.DHInKernel.main_arg1) = m ((c.tc : Thread Cert.DHInKernel.nD Cert.DHInKernel.τ).loc Cert.DHInKernel.main_arg1)
      ∧ r.2.mem ((c.tc : Thread Cert.DHInKernel.nD Cert.DHInKernel.τ).loc Cert.DHInKernel.main_arg2) = m ((c.tc : Thread Cert.DHInKernel.nD Cert.DHInKernel.τ).loc Cert.DHInKernel.main_arg2)
      ∧ r.2.mem ((c.tc : Thread Cert.DHInKernel.nD Cert.DHInKernel.τ).loc Cert.DHInKernel.main_arg3) = m ((c.tc : Thread Cert.DHInKernel.nD Cert.DHInKernel.τ).loc Cert.DHInKernel.main_arg3)
      ∧ r.2.mem ((c.tc : Thread Cert.DHInKernel.nD Cert.DHInKernel.τ).loc Cert.DHInKernel.main_arg4) = m ((c.tc : Thread Cert.DHInKernel.nD Cert.DHInKernel.τ).loc Cert.DHInKernel.main_arg4))
      ∧ r.2.sem = fun _ => 0)

def quiescent_DHInKernelIdeal [hDHInKernelIdeal : Cert.DHInKernelIdeal.Facts] : Prop :=
  ∀ (m : (ℓ : Loc Cert.DHInKernelIdeal.nD Cert.DHInKernelIdeal.τ Cert.DHInKernelIdeal.sig) → Buf (Elt Ideal) ℓ) (g : Dev Cert.DHInKernelIdeal.nD → PrngReg), Pre_DHInKernelIdeal m →
    θ_run (Cert.DHInKernelIdeal.defs (F := Ideal)) (onTc (τ := Cert.DHInKernelIdeal.τ) (Cert.DHInKernelIdeal.main (F := Ideal))) ⟨m, fun _ => 0, g⟩ (fun r => (∀ c : Dev Cert.DHInKernelIdeal.nD,
      r.2.mem ((c.tc : Thread Cert.DHInKernelIdeal.nD Cert.DHInKernelIdeal.τ).loc Cert.DHInKernelIdeal.main_arg0) = m ((c.tc : Thread Cert.DHInKernelIdeal.nD Cert.DHInKernelIdeal.τ).loc Cert.DHInKernelIdeal.main_arg0)
      ∧ r.2.mem ((c.tc : Thread Cert.DHInKernelIdeal.nD Cert.DHInKernelIdeal.τ).loc Cert.DHInKernelIdeal.main_arg1) = m ((c.tc : Thread Cert.DHInKernelIdeal.nD Cert.DHInKernelIdeal.τ).loc Cert.DHInKernelIdeal.main_arg1)
      ∧ r.2.mem ((c.tc : Thread Cert.DHInKernelIdeal.nD Cert.DHInKernelIdeal.τ).loc Cert.DHInKernelIdeal.main_arg2) = m ((c.tc : Thread Cert.DHInKernelIdeal.nD Cert.DHInKernelIdeal.τ).loc Cert.DHInKernelIdeal.main_arg2)
      ∧ r.2.mem ((c.tc : Thread Cert.DHInKernelIdeal.nD Cert.DHInKernelIdeal.τ).loc Cert.DHInKernelIdeal.main_arg3) = m ((c.tc : Thread Cert.DHInKernelIdeal.nD Cert.DHInKernelIdeal.τ).loc Cert.DHInKernelIdeal.main_arg3)
      ∧ r.2.mem ((c.tc : Thread Cert.DHInKernelIdeal.nD Cert.DHInKernelIdeal.τ).loc Cert.DHInKernelIdeal.main_arg4) = m ((c.tc : Thread Cert.DHInKernelIdeal.nD Cert.DHInKernelIdeal.τ).loc Cert.DHInKernelIdeal.main_arg4))
      ∧ r.2.sem = fun _ => 0)

def quiescent_DHInReferenceIdeal [hDHInReferenceIdeal : Cert.DHInReferenceIdeal.Facts] : Prop :=
  ∀ (m : (ℓ : Loc Cert.DHInReferenceIdeal.nD Cert.DHInReferenceIdeal.τ Cert.DHInReferenceIdeal.sig) → Buf (Elt Ideal) ℓ) (g : Dev Cert.DHInReferenceIdeal.nD → PrngReg), Pre_DHInReferenceIdeal m →
    θ_run (Cert.DHInReferenceIdeal.defs (F := Ideal)) (onTc (τ := Cert.DHInReferenceIdeal.τ) (Cert.DHInReferenceIdeal.main (F := Ideal))) ⟨m, fun _ => 0, g⟩ (fun r => (∀ c : Dev Cert.DHInReferenceIdeal.nD,
      r.2.mem ((c.tc : Thread Cert.DHInReferenceIdeal.nD Cert.DHInReferenceIdeal.τ).loc Cert.DHInReferenceIdeal.main_arg0) = m ((c.tc : Thread Cert.DHInReferenceIdeal.nD Cert.DHInReferenceIdeal.τ).loc Cert.DHInReferenceIdeal.main_arg0)
      ∧ r.2.mem ((c.tc : Thread Cert.DHInReferenceIdeal.nD Cert.DHInReferenceIdeal.τ).loc Cert.DHInReferenceIdeal.main_arg1) = m ((c.tc : Thread Cert.DHInReferenceIdeal.nD Cert.DHInReferenceIdeal.τ).loc Cert.DHInReferenceIdeal.main_arg1)
      ∧ r.2.mem ((c.tc : Thread Cert.DHInReferenceIdeal.nD Cert.DHInReferenceIdeal.τ).loc Cert.DHInReferenceIdeal.main_arg2) = m ((c.tc : Thread Cert.DHInReferenceIdeal.nD Cert.DHInReferenceIdeal.τ).loc Cert.DHInReferenceIdeal.main_arg2)
      ∧ r.2.mem ((c.tc : Thread Cert.DHInReferenceIdeal.nD Cert.DHInReferenceIdeal.τ).loc Cert.DHInReferenceIdeal.main_arg3) = m ((c.tc : Thread Cert.DHInReferenceIdeal.nD Cert.DHInReferenceIdeal.τ).loc Cert.DHInReferenceIdeal.main_arg3)
      ∧ r.2.mem ((c.tc : Thread Cert.DHInReferenceIdeal.nD Cert.DHInReferenceIdeal.τ).loc Cert.DHInReferenceIdeal.main_arg4) = m ((c.tc : Thread Cert.DHInReferenceIdeal.nD Cert.DHInReferenceIdeal.τ).loc Cert.DHInReferenceIdeal.main_arg4))
      ∧ r.2.sem = fun _ => 0)

def quiescent_WInKernel [hWInKernel : Cert.WInKernel.Facts] : Prop :=
  ∀ (m : (ℓ : Loc Cert.WInKernel.nD Cert.WInKernel.τ Cert.WInKernel.sig) → Buf (Elt Bits) ℓ) (g : Dev Cert.WInKernel.nD → PrngReg), Pre_WInKernel m →
    θ_run (Cert.WInKernel.defs (F := Bits)) (onTc (τ := Cert.WInKernel.τ) (Cert.WInKernel.main (F := Bits))) ⟨m, fun _ => 0, g⟩ (fun r => (∀ c : Dev Cert.WInKernel.nD,
      r.2.mem ((c.tc : Thread Cert.WInKernel.nD Cert.WInKernel.τ).loc Cert.WInKernel.main_arg0) = m ((c.tc : Thread Cert.WInKernel.nD Cert.WInKernel.τ).loc Cert.WInKernel.main_arg0)
      ∧ r.2.mem ((c.tc : Thread Cert.WInKernel.nD Cert.WInKernel.τ).loc Cert.WInKernel.main_arg1) = m ((c.tc : Thread Cert.WInKernel.nD Cert.WInKernel.τ).loc Cert.WInKernel.main_arg1)
      ∧ r.2.mem ((c.tc : Thread Cert.WInKernel.nD Cert.WInKernel.τ).loc Cert.WInKernel.main_arg2) = m ((c.tc : Thread Cert.WInKernel.nD Cert.WInKernel.τ).loc Cert.WInKernel.main_arg2))
      ∧ r.2.sem = fun _ => 0)

def quiescent_WInKernelIdeal [hWInKernelIdeal : Cert.WInKernelIdeal.Facts] : Prop :=
  ∀ (m : (ℓ : Loc Cert.WInKernelIdeal.nD Cert.WInKernelIdeal.τ Cert.WInKernelIdeal.sig) → Buf (Elt Ideal) ℓ) (g : Dev Cert.WInKernelIdeal.nD → PrngReg), Pre_WInKernelIdeal m →
    θ_run (Cert.WInKernelIdeal.defs (F := Ideal)) (onTc (τ := Cert.WInKernelIdeal.τ) (Cert.WInKernelIdeal.main (F := Ideal))) ⟨m, fun _ => 0, g⟩ (fun r => (∀ c : Dev Cert.WInKernelIdeal.nD,
      r.2.mem ((c.tc : Thread Cert.WInKernelIdeal.nD Cert.WInKernelIdeal.τ).loc Cert.WInKernelIdeal.main_arg0) = m ((c.tc : Thread Cert.WInKernelIdeal.nD Cert.WInKernelIdeal.τ).loc Cert.WInKernelIdeal.main_arg0)
      ∧ r.2.mem ((c.tc : Thread Cert.WInKernelIdeal.nD Cert.WInKernelIdeal.τ).loc Cert.WInKernelIdeal.main_arg1) = m ((c.tc : Thread Cert.WInKernelIdeal.nD Cert.WInKernelIdeal.τ).loc Cert.WInKernelIdeal.main_arg1)
      ∧ r.2.mem ((c.tc : Thread Cert.WInKernelIdeal.nD Cert.WInKernelIdeal.τ).loc Cert.WInKernelIdeal.main_arg2) = m ((c.tc : Thread Cert.WInKernelIdeal.nD Cert.WInKernelIdeal.τ).loc Cert.WInKernelIdeal.main_arg2))
      ∧ r.2.sem = fun _ => 0)

def quiescent_WInReferenceIdeal [hWInReferenceIdeal : Cert.WInReferenceIdeal.Facts] : Prop :=
  ∀ (m : (ℓ : Loc Cert.WInReferenceIdeal.nD Cert.WInReferenceIdeal.τ Cert.WInReferenceIdeal.sig) → Buf (Elt Ideal) ℓ) (g : Dev Cert.WInReferenceIdeal.nD → PrngReg), Pre_WInReferenceIdeal m →
    θ_run (Cert.WInReferenceIdeal.defs (F := Ideal)) (onTc (τ := Cert.WInReferenceIdeal.τ) (Cert.WInReferenceIdeal.main (F := Ideal))) ⟨m, fun _ => 0, g⟩ (fun r => (∀ c : Dev Cert.WInReferenceIdeal.nD,
      r.2.mem ((c.tc : Thread Cert.WInReferenceIdeal.nD Cert.WInReferenceIdeal.τ).loc Cert.WInReferenceIdeal.main_arg0) = m ((c.tc : Thread Cert.WInReferenceIdeal.nD Cert.WInReferenceIdeal.τ).loc Cert.WInReferenceIdeal.main_arg0)
      ∧ r.2.mem ((c.tc : Thread Cert.WInReferenceIdeal.nD Cert.WInReferenceIdeal.τ).loc Cert.WInReferenceIdeal.main_arg1) = m ((c.tc : Thread Cert.WInReferenceIdeal.nD Cert.WInReferenceIdeal.τ).loc Cert.WInReferenceIdeal.main_arg1)
      ∧ r.2.mem ((c.tc : Thread Cert.WInReferenceIdeal.nD Cert.WInReferenceIdeal.τ).loc Cert.WInReferenceIdeal.main_arg2) = m ((c.tc : Thread Cert.WInReferenceIdeal.nD Cert.WInReferenceIdeal.τ).loc Cert.WInReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_AOutKernel [hAOutKernel : Cert.AOutKernel.Facts] : Prop :=
  ∀ (m : (ℓ : Loc Cert.AOutKernel.nD Cert.AOutKernel.τ Cert.AOutKernel.sig) → Buf (Elt Bits) ℓ) (g : Dev Cert.AOutKernel.nD → PrngReg), Pre_AOutKernel m →
    θ_run (Cert.AOutKernel.defs (F := Bits)) (onTc (τ := Cert.AOutKernel.τ) (Cert.AOutKernel.main (F := Bits))) ⟨m, fun _ => 0, g⟩ (fun r => (∀ c : Dev Cert.AOutKernel.nD,
      r.2.mem ((c.tc : Thread Cert.AOutKernel.nD Cert.AOutKernel.τ).loc Cert.AOutKernel.main_arg0) = m ((c.tc : Thread Cert.AOutKernel.nD Cert.AOutKernel.τ).loc Cert.AOutKernel.main_arg0)
      ∧ r.2.mem ((c.tc : Thread Cert.AOutKernel.nD Cert.AOutKernel.τ).loc Cert.AOutKernel.main_arg1) = m ((c.tc : Thread Cert.AOutKernel.nD Cert.AOutKernel.τ).loc Cert.AOutKernel.main_arg1)
      ∧ r.2.mem ((c.tc : Thread Cert.AOutKernel.nD Cert.AOutKernel.τ).loc Cert.AOutKernel.main_arg2) = m ((c.tc : Thread Cert.AOutKernel.nD Cert.AOutKernel.τ).loc Cert.AOutKernel.main_arg2)
      ∧ r.2.mem ((c.tc : Thread Cert.AOutKernel.nD Cert.AOutKernel.τ).loc Cert.AOutKernel.main_arg3) = m ((c.tc : Thread Cert.AOutKernel.nD Cert.AOutKernel.τ).loc Cert.AOutKernel.main_arg3))
      ∧ r.2.sem = fun _ => 0)

def quiescent_AOutKernelIdeal [hAOutKernelIdeal : Cert.AOutKernelIdeal.Facts] : Prop :=
  ∀ (m : (ℓ : Loc Cert.AOutKernelIdeal.nD Cert.AOutKernelIdeal.τ Cert.AOutKernelIdeal.sig) → Buf (Elt Ideal) ℓ) (g : Dev Cert.AOutKernelIdeal.nD → PrngReg), Pre_AOutKernelIdeal m →
    θ_run (Cert.AOutKernelIdeal.defs (F := Ideal)) (onTc (τ := Cert.AOutKernelIdeal.τ) (Cert.AOutKernelIdeal.main (F := Ideal))) ⟨m, fun _ => 0, g⟩ (fun r => (∀ c : Dev Cert.AOutKernelIdeal.nD,
      r.2.mem ((c.tc : Thread Cert.AOutKernelIdeal.nD Cert.AOutKernelIdeal.τ).loc Cert.AOutKernelIdeal.main_arg0) = m ((c.tc : Thread Cert.AOutKernelIdeal.nD Cert.AOutKernelIdeal.τ).loc Cert.AOutKernelIdeal.main_arg0)
      ∧ r.2.mem ((c.tc : Thread Cert.AOutKernelIdeal.nD Cert.AOutKernelIdeal.τ).loc Cert.AOutKernelIdeal.main_arg1) = m ((c.tc : Thread Cert.AOutKernelIdeal.nD Cert.AOutKernelIdeal.τ).loc Cert.AOutKernelIdeal.main_arg1)
      ∧ r.2.mem ((c.tc : Thread Cert.AOutKernelIdeal.nD Cert.AOutKernelIdeal.τ).loc Cert.AOutKernelIdeal.main_arg2) = m ((c.tc : Thread Cert.AOutKernelIdeal.nD Cert.AOutKernelIdeal.τ).loc Cert.AOutKernelIdeal.main_arg2)
      ∧ r.2.mem ((c.tc : Thread Cert.AOutKernelIdeal.nD Cert.AOutKernelIdeal.τ).loc Cert.AOutKernelIdeal.main_arg3) = m ((c.tc : Thread Cert.AOutKernelIdeal.nD Cert.AOutKernelIdeal.τ).loc Cert.AOutKernelIdeal.main_arg3))
      ∧ r.2.sem = fun _ => 0)

def quiescent_AOutReferenceIdeal [hAOutReferenceIdeal : Cert.AOutReferenceIdeal.Facts] : Prop :=
  ∀ (m : (ℓ : Loc Cert.AOutReferenceIdeal.nD Cert.AOutReferenceIdeal.τ Cert.AOutReferenceIdeal.sig) → Buf (Elt Ideal) ℓ) (g : Dev Cert.AOutReferenceIdeal.nD → PrngReg), Pre_AOutReferenceIdeal m →
    θ_run (Cert.AOutReferenceIdeal.defs (F := Ideal)) (onTc (τ := Cert.AOutReferenceIdeal.τ) (Cert.AOutReferenceIdeal.main (F := Ideal))) ⟨m, fun _ => 0, g⟩ (fun r => (∀ c : Dev Cert.AOutReferenceIdeal.nD,
      r.2.mem ((c.tc : Thread Cert.AOutReferenceIdeal.nD Cert.AOutReferenceIdeal.τ).loc Cert.AOutReferenceIdeal.main_arg0) = m ((c.tc : Thread Cert.AOutReferenceIdeal.nD Cert.AOutReferenceIdeal.τ).loc Cert.AOutReferenceIdeal.main_arg0)
      ∧ r.2.mem ((c.tc : Thread Cert.AOutReferenceIdeal.nD Cert.AOutReferenceIdeal.τ).loc Cert.AOutReferenceIdeal.main_arg1) = m ((c.tc : Thread Cert.AOutReferenceIdeal.nD Cert.AOutReferenceIdeal.τ).loc Cert.AOutReferenceIdeal.main_arg1)
      ∧ r.2.mem ((c.tc : Thread Cert.AOutReferenceIdeal.nD Cert.AOutReferenceIdeal.τ).loc Cert.AOutReferenceIdeal.main_arg2) = m ((c.tc : Thread Cert.AOutReferenceIdeal.nD Cert.AOutReferenceIdeal.τ).loc Cert.AOutReferenceIdeal.main_arg2)
      ∧ r.2.mem ((c.tc : Thread Cert.AOutReferenceIdeal.nD Cert.AOutReferenceIdeal.τ).loc Cert.AOutReferenceIdeal.main_arg3) = m ((c.tc : Thread Cert.AOutReferenceIdeal.nD Cert.AOutReferenceIdeal.τ).loc Cert.AOutReferenceIdeal.main_arg3))
      ∧ r.2.sem = fun _ => 0)

def quiescent_DOutKernel [hDOutKernel : Cert.DOutKernel.Facts] : Prop :=
  ∀ (m : (ℓ : Loc Cert.DOutKernel.nD Cert.DOutKernel.τ Cert.DOutKernel.sig) → Buf (Elt Bits) ℓ) (g : Dev Cert.DOutKernel.nD → PrngReg), Pre_DOutKernel m →
    θ_run (Cert.DOutKernel.defs (F := Bits)) (onTc (τ := Cert.DOutKernel.τ) (Cert.DOutKernel.main (F := Bits))) ⟨m, fun _ => 0, g⟩ (fun r => (∀ c : Dev Cert.DOutKernel.nD,
      r.2.mem ((c.tc : Thread Cert.DOutKernel.nD Cert.DOutKernel.τ).loc Cert.DOutKernel.main_arg0) = m ((c.tc : Thread Cert.DOutKernel.nD Cert.DOutKernel.τ).loc Cert.DOutKernel.main_arg0)
      ∧ r.2.mem ((c.tc : Thread Cert.DOutKernel.nD Cert.DOutKernel.τ).loc Cert.DOutKernel.main_arg1) = m ((c.tc : Thread Cert.DOutKernel.nD Cert.DOutKernel.τ).loc Cert.DOutKernel.main_arg1)
      ∧ r.2.mem ((c.tc : Thread Cert.DOutKernel.nD Cert.DOutKernel.τ).loc Cert.DOutKernel.main_arg2) = m ((c.tc : Thread Cert.DOutKernel.nD Cert.DOutKernel.τ).loc Cert.DOutKernel.main_arg2)
      ∧ r.2.mem ((c.tc : Thread Cert.DOutKernel.nD Cert.DOutKernel.τ).loc Cert.DOutKernel.main_arg3) = m ((c.tc : Thread Cert.DOutKernel.nD Cert.DOutKernel.τ).loc Cert.DOutKernel.main_arg3))
      ∧ r.2.sem = fun _ => 0)

def quiescent_DOutKernelIdeal [hDOutKernelIdeal : Cert.DOutKernelIdeal.Facts] : Prop :=
  ∀ (m : (ℓ : Loc Cert.DOutKernelIdeal.nD Cert.DOutKernelIdeal.τ Cert.DOutKernelIdeal.sig) → Buf (Elt Ideal) ℓ) (g : Dev Cert.DOutKernelIdeal.nD → PrngReg), Pre_DOutKernelIdeal m →
    θ_run (Cert.DOutKernelIdeal.defs (F := Ideal)) (onTc (τ := Cert.DOutKernelIdeal.τ) (Cert.DOutKernelIdeal.main (F := Ideal))) ⟨m, fun _ => 0, g⟩ (fun r => (∀ c : Dev Cert.DOutKernelIdeal.nD,
      r.2.mem ((c.tc : Thread Cert.DOutKernelIdeal.nD Cert.DOutKernelIdeal.τ).loc Cert.DOutKernelIdeal.main_arg0) = m ((c.tc : Thread Cert.DOutKernelIdeal.nD Cert.DOutKernelIdeal.τ).loc Cert.DOutKernelIdeal.main_arg0)
      ∧ r.2.mem ((c.tc : Thread Cert.DOutKernelIdeal.nD Cert.DOutKernelIdeal.τ).loc Cert.DOutKernelIdeal.main_arg1) = m ((c.tc : Thread Cert.DOutKernelIdeal.nD Cert.DOutKernelIdeal.τ).loc Cert.DOutKernelIdeal.main_arg1)
      ∧ r.2.mem ((c.tc : Thread Cert.DOutKernelIdeal.nD Cert.DOutKernelIdeal.τ).loc Cert.DOutKernelIdeal.main_arg2) = m ((c.tc : Thread Cert.DOutKernelIdeal.nD Cert.DOutKernelIdeal.τ).loc Cert.DOutKernelIdeal.main_arg2)
      ∧ r.2.mem ((c.tc : Thread Cert.DOutKernelIdeal.nD Cert.DOutKernelIdeal.τ).loc Cert.DOutKernelIdeal.main_arg3) = m ((c.tc : Thread Cert.DOutKernelIdeal.nD Cert.DOutKernelIdeal.τ).loc Cert.DOutKernelIdeal.main_arg3))
      ∧ r.2.sem = fun _ => 0)

def quiescent_DOutReferenceIdeal [hDOutReferenceIdeal : Cert.DOutReferenceIdeal.Facts] : Prop :=
  ∀ (m : (ℓ : Loc Cert.DOutReferenceIdeal.nD Cert.DOutReferenceIdeal.τ Cert.DOutReferenceIdeal.sig) → Buf (Elt Ideal) ℓ) (g : Dev Cert.DOutReferenceIdeal.nD → PrngReg), Pre_DOutReferenceIdeal m →
    θ_run (Cert.DOutReferenceIdeal.defs (F := Ideal)) (onTc (τ := Cert.DOutReferenceIdeal.τ) (Cert.DOutReferenceIdeal.main (F := Ideal))) ⟨m, fun _ => 0, g⟩ (fun r => (∀ c : Dev Cert.DOutReferenceIdeal.nD,
      r.2.mem ((c.tc : Thread Cert.DOutReferenceIdeal.nD Cert.DOutReferenceIdeal.τ).loc Cert.DOutReferenceIdeal.main_arg0) = m ((c.tc : Thread Cert.DOutReferenceIdeal.nD Cert.DOutReferenceIdeal.τ).loc Cert.DOutReferenceIdeal.main_arg0)
      ∧ r.2.mem ((c.tc : Thread Cert.DOutReferenceIdeal.nD Cert.DOutReferenceIdeal.τ).loc Cert.DOutReferenceIdeal.main_arg1) = m ((c.tc : Thread Cert.DOutReferenceIdeal.nD Cert.DOutReferenceIdeal.τ).loc Cert.DOutReferenceIdeal.main_arg1)
      ∧ r.2.mem ((c.tc : Thread Cert.DOutReferenceIdeal.nD Cert.DOutReferenceIdeal.τ).loc Cert.DOutReferenceIdeal.main_arg2) = m ((c.tc : Thread Cert.DOutReferenceIdeal.nD Cert.DOutReferenceIdeal.τ).loc Cert.DOutReferenceIdeal.main_arg2)
      ∧ r.2.mem ((c.tc : Thread Cert.DOutReferenceIdeal.nD Cert.DOutReferenceIdeal.τ).loc Cert.DOutReferenceIdeal.main_arg3) = m ((c.tc : Thread Cert.DOutReferenceIdeal.nD Cert.DOutReferenceIdeal.τ).loc Cert.DOutReferenceIdeal.main_arg3))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnBKernel [hAttnBKernel : Cert.AttnBKernel.Facts] : Prop :=
  ∀ (m : (ℓ : Loc Cert.AttnBKernel.nD Cert.AttnBKernel.τ Cert.AttnBKernel.sig) → Buf (Elt Bits) ℓ) (g : Dev Cert.AttnBKernel.nD → PrngReg), Pre_AttnBKernel m →
    θ_run (Cert.AttnBKernel.defs (F := Bits)) (onTc (τ := Cert.AttnBKernel.τ) (Cert.AttnBKernel.main (F := Bits))) ⟨m, fun _ => 0, g⟩ (fun r => (∀ c : Dev Cert.AttnBKernel.nD,
      r.2.mem ((c.tc : Thread Cert.AttnBKernel.nD Cert.AttnBKernel.τ).loc Cert.AttnBKernel.main_arg0) = m ((c.tc : Thread Cert.AttnBKernel.nD Cert.AttnBKernel.τ).loc Cert.AttnBKernel.main_arg0)
      ∧ r.2.mem ((c.tc : Thread Cert.AttnBKernel.nD Cert.AttnBKernel.τ).loc Cert.AttnBKernel.main_arg1) = m ((c.tc : Thread Cert.AttnBKernel.nD Cert.AttnBKernel.τ).loc Cert.AttnBKernel.main_arg1)
      ∧ r.2.mem ((c.tc : Thread Cert.AttnBKernel.nD Cert.AttnBKernel.τ).loc Cert.AttnBKernel.main_arg2) = m ((c.tc : Thread Cert.AttnBKernel.nD Cert.AttnBKernel.τ).loc Cert.AttnBKernel.main_arg2)
      ∧ r.2.mem ((c.tc : Thread Cert.AttnBKernel.nD Cert.AttnBKernel.τ).loc Cert.AttnBKernel.main_arg3) = m ((c.tc : Thread Cert.AttnBKernel.nD Cert.AttnBKernel.τ).loc Cert.AttnBKernel.main_arg3)
      ∧ r.2.mem ((c.tc : Thread Cert.AttnBKernel.nD Cert.AttnBKernel.τ).loc Cert.AttnBKernel.main_arg4) = m ((c.tc : Thread Cert.AttnBKernel.nD Cert.AttnBKernel.τ).loc Cert.AttnBKernel.main_arg4))
      ∧ r.2.sem = fun _ => 0)

def quiescent_AttnBKernelIdeal [hAttnBKernelIdeal : Cert.AttnBKernelIdeal.Facts] : Prop :=
  ∀ (m : (ℓ : Loc Cert.AttnBKernelIdeal.nD Cert.AttnBKernelIdeal.τ Cert.AttnBKernelIdeal.sig) → Buf (Elt Ideal) ℓ) (g : Dev Cert.AttnBKernelIdeal.nD → PrngReg), Pre_AttnBKernelIdeal m →
    θ_run (Cert.AttnBKernelIdeal.defs (F := Ideal)) (onTc (τ := Cert.AttnBKernelIdeal.τ) (Cert.AttnBKernelIdeal.main (F := Ideal))) ⟨m, fun _ => 0, g⟩ (fun r => (∀ c : Dev Cert.AttnBKernelIdeal.nD,
      r.2.mem ((c.tc : Thread Cert.AttnBKernelIdeal.nD Cert.AttnBKernelIdeal.τ).loc Cert.AttnBKernelIdeal.main_arg0) = m ((c.tc : Thread Cert.AttnBKernelIdeal.nD Cert.AttnBKernelIdeal.τ).loc Cert.AttnBKernelIdeal.main_arg0)
      ∧ r.2.mem ((c.tc : Thread Cert.AttnBKernelIdeal.nD Cert.AttnBKernelIdeal.τ).loc Cert.AttnBKernelIdeal.main_arg1) = m ((c.tc : Thread Cert.AttnBKernelIdeal.nD Cert.AttnBKernelIdeal.τ).loc Cert.AttnBKernelIdeal.main_arg1)
      ∧ r.2.mem ((c.tc : Thread Cert.AttnBKernelIdeal.nD Cert.AttnBKernelIdeal.τ).loc Cert.AttnBKernelIdeal.main_arg2) = m ((c.tc : Thread Cert.AttnBKernelIdeal.nD Cert.AttnBKernelIdeal.τ).loc Cert.AttnBKernelIdeal.main_arg2)
      ∧ r.2.mem ((c.tc : Thread Cert.AttnBKernelIdeal.nD Cert.AttnBKernelIdeal.τ).loc Cert.AttnBKernelIdeal.main_arg3) = m ((c.tc : Thread Cert.AttnBKernelIdeal.nD Cert.AttnBKernelIdeal.τ).loc Cert.AttnBKernelIdeal.main_arg3)
      ∧ r.2.mem ((c.tc : Thread Cert.AttnBKernelIdeal.nD Cert.AttnBKernelIdeal.τ).loc Cert.AttnBKernelIdeal.main_arg4) = m ((c.tc : Thread Cert.AttnBKernelIdeal.nD Cert.AttnBKernelIdeal.τ).loc Cert.AttnBKernelIdeal.main_arg4))
      ∧ r.2.sem = fun _ => 0)

def quiescent_AttnBKernelIdeal_pre_finite [hAttnBKernelIdeal : Cert.AttnBKernelIdeal.Facts] [hPre_finite : Cert.Pre_finite.Facts] : Prop :=
  ∀ (m : (ℓ : Loc Cert.AttnBKernelIdeal.nD Cert.AttnBKernelIdeal.τ Cert.AttnBKernelIdeal.sig) → Buf (Elt Ideal) ℓ) (g : Dev Cert.AttnBKernelIdeal.nD → PrngReg), Pre_AttnBKernelIdeal_finite m →
    θ_run (Cert.AttnBKernelIdeal.defs (F := Ideal)) (onTc (τ := Cert.AttnBKernelIdeal.τ) (Cert.AttnBKernelIdeal.main (F := Ideal))) ⟨m, fun _ => 0, g⟩ (fun r => (∀ c : Dev Cert.AttnBKernelIdeal.nD,
      r.2.mem ((c.tc : Thread Cert.AttnBKernelIdeal.nD Cert.AttnBKernelIdeal.τ).loc Cert.AttnBKernelIdeal.main_arg0) = m ((c.tc : Thread Cert.AttnBKernelIdeal.nD Cert.AttnBKernelIdeal.τ).loc Cert.AttnBKernelIdeal.main_arg0)
      ∧ r.2.mem ((c.tc : Thread Cert.AttnBKernelIdeal.nD Cert.AttnBKernelIdeal.τ).loc Cert.AttnBKernelIdeal.main_arg1) = m ((c.tc : Thread Cert.AttnBKernelIdeal.nD Cert.AttnBKernelIdeal.τ).loc Cert.AttnBKernelIdeal.main_arg1)
      ∧ r.2.mem ((c.tc : Thread Cert.AttnBKernelIdeal.nD Cert.AttnBKernelIdeal.τ).loc Cert.AttnBKernelIdeal.main_arg2) = m ((c.tc : Thread Cert.AttnBKernelIdeal.nD Cert.AttnBKernelIdeal.τ).loc Cert.AttnBKernelIdeal.main_arg2)
      ∧ r.2.mem ((c.tc : Thread Cert.AttnBKernelIdeal.nD Cert.AttnBKernelIdeal.τ).loc Cert.AttnBKernelIdeal.main_arg3) = m ((c.tc : Thread Cert.AttnBKernelIdeal.nD Cert.AttnBKernelIdeal.τ).loc Cert.AttnBKernelIdeal.main_arg3)
      ∧ r.2.mem ((c.tc : Thread Cert.AttnBKernelIdeal.nD Cert.AttnBKernelIdeal.τ).loc Cert.AttnBKernelIdeal.main_arg4) = m ((c.tc : Thread Cert.AttnBKernelIdeal.nD Cert.AttnBKernelIdeal.τ).loc Cert.AttnBKernelIdeal.main_arg4))
      ∧ r.2.sem = fun _ => 0)

def quiescent_AttnBReferenceIdeal [hAttnBReferenceIdeal : Cert.AttnBReferenceIdeal.Facts] : Prop :=
  ∀ (m : (ℓ : Loc Cert.AttnBReferenceIdeal.nD Cert.AttnBReferenceIdeal.τ Cert.AttnBReferenceIdeal.sig) → Buf (Elt Ideal) ℓ) (g : Dev Cert.AttnBReferenceIdeal.nD → PrngReg), Pre_AttnBReferenceIdeal m →
    θ_run (Cert.AttnBReferenceIdeal.defs (F := Ideal)) (onTc (τ := Cert.AttnBReferenceIdeal.τ) (Cert.AttnBReferenceIdeal.main (F := Ideal))) ⟨m, fun _ => 0, g⟩ (fun r => (∀ c : Dev Cert.AttnBReferenceIdeal.nD,
      r.2.mem ((c.tc : Thread Cert.AttnBReferenceIdeal.nD Cert.AttnBReferenceIdeal.τ).loc Cert.AttnBReferenceIdeal.main_arg0) = m ((c.tc : Thread Cert.AttnBReferenceIdeal.nD Cert.AttnBReferenceIdeal.τ).loc Cert.AttnBReferenceIdeal.main_arg0)
      ∧ r.2.mem ((c.tc : Thread Cert.AttnBReferenceIdeal.nD Cert.AttnBReferenceIdeal.τ).loc Cert.AttnBReferenceIdeal.main_arg1) = m ((c.tc : Thread Cert.AttnBReferenceIdeal.nD Cert.AttnBReferenceIdeal.τ).loc Cert.AttnBReferenceIdeal.main_arg1)
      ∧ r.2.mem ((c.tc : Thread Cert.AttnBReferenceIdeal.nD Cert.AttnBReferenceIdeal.τ).loc Cert.AttnBReferenceIdeal.main_arg2) = m ((c.tc : Thread Cert.AttnBReferenceIdeal.nD Cert.AttnBReferenceIdeal.τ).loc Cert.AttnBReferenceIdeal.main_arg2)
      ∧ r.2.mem ((c.tc : Thread Cert.AttnBReferenceIdeal.nD Cert.AttnBReferenceIdeal.τ).loc Cert.AttnBReferenceIdeal.main_arg3) = m ((c.tc : Thread Cert.AttnBReferenceIdeal.nD Cert.AttnBReferenceIdeal.τ).loc Cert.AttnBReferenceIdeal.main_arg3)
      ∧ r.2.mem ((c.tc : Thread Cert.AttnBReferenceIdeal.nD Cert.AttnBReferenceIdeal.τ).loc Cert.AttnBReferenceIdeal.main_arg4) = m ((c.tc : Thread Cert.AttnBReferenceIdeal.nD Cert.AttnBReferenceIdeal.τ).loc Cert.AttnBReferenceIdeal.main_arg4))
      ∧ r.2.sem = fun _ => 0)

def quiescent_AttnBReferenceIdeal_pre_finite [hAttnBReferenceIdeal : Cert.AttnBReferenceIdeal.Facts] [hPre_finite : Cert.Pre_finite.Facts] : Prop :=
  ∀ (m : (ℓ : Loc Cert.AttnBReferenceIdeal.nD Cert.AttnBReferenceIdeal.τ Cert.AttnBReferenceIdeal.sig) → Buf (Elt Ideal) ℓ) (g : Dev Cert.AttnBReferenceIdeal.nD → PrngReg), Pre_AttnBReferenceIdeal_finite m →
    θ_run (Cert.AttnBReferenceIdeal.defs (F := Ideal)) (onTc (τ := Cert.AttnBReferenceIdeal.τ) (Cert.AttnBReferenceIdeal.main (F := Ideal))) ⟨m, fun _ => 0, g⟩ (fun r => (∀ c : Dev Cert.AttnBReferenceIdeal.nD,
      r.2.mem ((c.tc : Thread Cert.AttnBReferenceIdeal.nD Cert.AttnBReferenceIdeal.τ).loc Cert.AttnBReferenceIdeal.main_arg0) = m ((c.tc : Thread Cert.AttnBReferenceIdeal.nD Cert.AttnBReferenceIdeal.τ).loc Cert.AttnBReferenceIdeal.main_arg0)
      ∧ r.2.mem ((c.tc : Thread Cert.AttnBReferenceIdeal.nD Cert.AttnBReferenceIdeal.τ).loc Cert.AttnBReferenceIdeal.main_arg1) = m ((c.tc : Thread Cert.AttnBReferenceIdeal.nD Cert.AttnBReferenceIdeal.τ).loc Cert.AttnBReferenceIdeal.main_arg1)
      ∧ r.2.mem ((c.tc : Thread Cert.AttnBReferenceIdeal.nD Cert.AttnBReferenceIdeal.τ).loc Cert.AttnBReferenceIdeal.main_arg2) = m ((c.tc : Thread Cert.AttnBReferenceIdeal.nD Cert.AttnBReferenceIdeal.τ).loc Cert.AttnBReferenceIdeal.main_arg2)
      ∧ r.2.mem ((c.tc : Thread Cert.AttnBReferenceIdeal.nD Cert.AttnBReferenceIdeal.τ).loc Cert.AttnBReferenceIdeal.main_arg3) = m ((c.tc : Thread Cert.AttnBReferenceIdeal.nD Cert.AttnBReferenceIdeal.τ).loc Cert.AttnBReferenceIdeal.main_arg3)
      ∧ r.2.mem ((c.tc : Thread Cert.AttnBReferenceIdeal.nD Cert.AttnBReferenceIdeal.τ).loc Cert.AttnBReferenceIdeal.main_arg4) = m ((c.tc : Thread Cert.AttnBReferenceIdeal.nD Cert.AttnBReferenceIdeal.τ).loc Cert.AttnBReferenceIdeal.main_arg4))
      ∧ r.2.sem = fun _ => 0)

def preserves_UKernel_UKernelIdeal : Prop :=
  True

def algebraic_UKernelIdeal_UReferenceIdeal [hUKernelIdeal : Cert.UKernelIdeal.Facts] [hUReferenceIdeal : Cert.UReferenceIdeal.Facts] : Prop :=
  ∀ (m : (ℓ : Loc Cert.UKernelIdeal.nD Cert.UKernelIdeal.τ Cert.UKernelIdeal.sig) → Buf (Elt Ideal) ℓ) (g : Dev Cert.UKernelIdeal.nD → PrngReg)
    (m' : (ℓ : Loc Cert.UReferenceIdeal.nD Cert.UReferenceIdeal.τ Cert.UReferenceIdeal.sig) → Buf (Elt Ideal) ℓ) (g' : Dev Cert.UReferenceIdeal.nD → PrngReg), Pre_UKernelIdeal m →
    (∀ c : Dev Cert.UKernelIdeal.nD,
      m' ((c.tc : Thread Cert.UReferenceIdeal.nD Cert.UReferenceIdeal.τ).loc Cert.UReferenceIdeal.main_arg0) = m ((c.tc : Thread Cert.UKernelIdeal.nD Cert.UKernelIdeal.τ).loc Cert.UKernelIdeal.main_arg0)
      ∧ m' ((c.tc : Thread Cert.UReferenceIdeal.nD Cert.UReferenceIdeal.τ).loc Cert.UReferenceIdeal.main_arg1) = m ((c.tc : Thread Cert.UKernelIdeal.nD Cert.UKernelIdeal.τ).loc Cert.UKernelIdeal.main_arg1)
      ∧ m' ((c.tc : Thread Cert.UReferenceIdeal.nD Cert.UReferenceIdeal.τ).loc Cert.UReferenceIdeal.main_arg2) = m ((c.tc : Thread Cert.UKernelIdeal.nD Cert.UKernelIdeal.τ).loc Cert.UKernelIdeal.main_arg2)) →
    ∃ (v0 : (c : Dev Cert.UKernelIdeal.nD) → Buf (Elt Ideal) ((c.tc : Thread Cert.UKernelIdeal.nD Cert.UKernelIdeal.τ).loc Cert.UKernelIdeal.main_v5)),
      θ_run (Cert.UKernelIdeal.defs (F := Ideal)) (onTc (τ := Cert.UKernelIdeal.τ) (Cert.UKernelIdeal.main (F := Ideal))) ⟨m, fun _ => 0, g⟩ (fun r => ∀ c : Dev Cert.UKernelIdeal.nD,
          r.2.mem ((c.tc : Thread Cert.UKernelIdeal.nD Cert.UKernelIdeal.τ).loc Cert.UKernelIdeal.main_v5) = v0 c
          ∧ r.2.mem ((c.tc : Thread Cert.UKernelIdeal.nD Cert.UKernelIdeal.τ).loc Cert.UKernelIdeal.main_arg0) = m ((c.tc : Thread Cert.UKernelIdeal.nD Cert.UKernelIdeal.τ).loc Cert.UKernelIdeal.main_arg0)
          ∧ r.2.mem ((c.tc : Thread Cert.UKernelIdeal.nD Cert.UKernelIdeal.τ).loc Cert.UKernelIdeal.main_arg1) = m ((c.tc : Thread Cert.UKernelIdeal.nD Cert.UKernelIdeal.τ).loc Cert.UKernelIdeal.main_arg1)
          ∧ r.2.mem ((c.tc : Thread Cert.UKernelIdeal.nD Cert.UKernelIdeal.τ).loc Cert.UKernelIdeal.main_arg2) = m ((c.tc : Thread Cert.UKernelIdeal.nD Cert.UKernelIdeal.τ).loc Cert.UKernelIdeal.main_arg2))
      ∧ θ_run (Cert.UReferenceIdeal.defs (F := Ideal)) (onTc (τ := Cert.UReferenceIdeal.τ) (Cert.UReferenceIdeal.main (F := Ideal))) ⟨m', fun _ => 0, g'⟩ (fun r => ∀ c : Dev Cert.UReferenceIdeal.nD,
          r.2.mem ((c.tc : Thread Cert.UReferenceIdeal.nD Cert.UReferenceIdeal.τ).loc Cert.UReferenceIdeal.main_v12) = v0 c
          ∧ r.2.mem ((c.tc : Thread Cert.UReferenceIdeal.nD Cert.UReferenceIdeal.τ).loc Cert.UReferenceIdeal.main_arg0) = m' ((c.tc : Thread Cert.UReferenceIdeal.nD Cert.UReferenceIdeal.τ).loc Cert.UReferenceIdeal.main_arg0)
          ∧ r.2.mem ((c.tc : Thread Cert.UReferenceIdeal.nD Cert.UReferenceIdeal.τ).loc Cert.UReferenceIdeal.main_arg1) = m' ((c.tc : Thread Cert.UReferenceIdeal.nD Cert.UReferenceIdeal.τ).loc Cert.UReferenceIdeal.main_arg1)
          ∧ r.2.mem ((c.tc : Thread Cert.UReferenceIdeal.nD Cert.UReferenceIdeal.τ).loc Cert.UReferenceIdeal.main_arg2) = m' ((c.tc : Thread Cert.UReferenceIdeal.nD Cert.UReferenceIdeal.τ).loc Cert.UReferenceIdeal.main_arg2))

def preserves_DKernel_DKernelIdeal : Prop :=
  True

def algebraic_DKernelIdeal_DReferenceIdeal [hDKernelIdeal : Cert.DKernelIdeal.Facts] [hDReferenceIdeal : Cert.DReferenceIdeal.Facts] : Prop :=
  ∀ (m : (ℓ : Loc Cert.DKernelIdeal.nD Cert.DKernelIdeal.τ Cert.DKernelIdeal.sig) → Buf (Elt Ideal) ℓ) (g : Dev Cert.DKernelIdeal.nD → PrngReg)
    (m' : (ℓ : Loc Cert.DReferenceIdeal.nD Cert.DReferenceIdeal.τ Cert.DReferenceIdeal.sig) → Buf (Elt Ideal) ℓ) (g' : Dev Cert.DReferenceIdeal.nD → PrngReg), Pre_DKernelIdeal m →
    (∀ c : Dev Cert.DKernelIdeal.nD,
      m' ((c.tc : Thread Cert.DReferenceIdeal.nD Cert.DReferenceIdeal.τ).loc Cert.DReferenceIdeal.main_arg0) = m ((c.tc : Thread Cert.DKernelIdeal.nD Cert.DKernelIdeal.τ).loc Cert.DKernelIdeal.main_arg0)
      ∧ m' ((c.tc : Thread Cert.DReferenceIdeal.nD Cert.DReferenceIdeal.τ).loc Cert.DReferenceIdeal.main_arg1) = m ((c.tc : Thread Cert.DKernelIdeal.nD Cert.DKernelIdeal.τ).loc Cert.DKernelIdeal.main_arg1)
      ∧ m' ((c.tc : Thread Cert.DReferenceIdeal.nD Cert.DReferenceIdeal.τ).loc Cert.DReferenceIdeal.main_arg2) = m ((c.tc : Thread Cert.DKernelIdeal.nD Cert.DKernelIdeal.τ).loc Cert.DKernelIdeal.main_arg2)) →
    ∃ (v0 : (c : Dev Cert.DKernelIdeal.nD) → Buf (Elt Ideal) ((c.tc : Thread Cert.DKernelIdeal.nD Cert.DKernelIdeal.τ).loc Cert.DKernelIdeal.main_v4)),
      θ_run (Cert.DKernelIdeal.defs (F := Ideal)) (onTc (τ := Cert.DKernelIdeal.τ) (Cert.DKernelIdeal.main (F := Ideal))) ⟨m, fun _ => 0, g⟩ (fun r => ∀ c : Dev Cert.DKernelIdeal.nD,
          r.2.mem ((c.tc : Thread Cert.DKernelIdeal.nD Cert.DKernelIdeal.τ).loc Cert.DKernelIdeal.main_v4) = v0 c
          ∧ r.2.mem ((c.tc : Thread Cert.DKernelIdeal.nD Cert.DKernelIdeal.τ).loc Cert.DKernelIdeal.main_arg0) = m ((c.tc : Thread Cert.DKernelIdeal.nD Cert.DKernelIdeal.τ).loc Cert.DKernelIdeal.main_arg0)
          ∧ r.2.mem ((c.tc : Thread Cert.DKernelIdeal.nD Cert.DKernelIdeal.τ).loc Cert.DKernelIdeal.main_arg1) = m ((c.tc : Thread Cert.DKernelIdeal.nD Cert.DKernelIdeal.τ).loc Cert.DKernelIdeal.main_arg1)
          ∧ r.2.mem ((c.tc : Thread Cert.DKernelIdeal.nD Cert.DKernelIdeal.τ).loc Cert.DKernelIdeal.main_arg2) = m ((c.tc : Thread Cert.DKernelIdeal.nD Cert.DKernelIdeal.τ).loc Cert.DKernelIdeal.main_arg2))
      ∧ θ_run (Cert.DReferenceIdeal.defs (F := Ideal)) (onTc (τ := Cert.DReferenceIdeal.τ) (Cert.DReferenceIdeal.main (F := Ideal))) ⟨m', fun _ => 0, g'⟩ (fun r => ∀ c : Dev Cert.DReferenceIdeal.nD,
          r.2.mem ((c.tc : Thread Cert.DReferenceIdeal.nD Cert.DReferenceIdeal.τ).loc Cert.DReferenceIdeal.main_v5) = v0 c
          ∧ r.2.mem ((c.tc : Thread Cert.DReferenceIdeal.nD Cert.DReferenceIdeal.τ).loc Cert.DReferenceIdeal.main_arg0) = m' ((c.tc : Thread Cert.DReferenceIdeal.nD Cert.DReferenceIdeal.τ).loc Cert.DReferenceIdeal.main_arg0)
          ∧ r.2.mem ((c.tc : Thread Cert.DReferenceIdeal.nD Cert.DReferenceIdeal.τ).loc Cert.DReferenceIdeal.main_arg1) = m' ((c.tc : Thread Cert.DReferenceIdeal.nD Cert.DReferenceIdeal.τ).loc Cert.DReferenceIdeal.main_arg1)
          ∧ r.2.mem ((c.tc : Thread Cert.DReferenceIdeal.nD Cert.DReferenceIdeal.τ).loc Cert.DReferenceIdeal.main_arg2) = m' ((c.tc : Thread Cert.DReferenceIdeal.nD Cert.DReferenceIdeal.τ).loc Cert.DReferenceIdeal.main_arg2))

def preserves_WUpKernel_WUpKernelIdeal : Prop :=
  True

def algebraic_WUpKernelIdeal_WUpReferenceIdeal [hWUpKernelIdeal : Cert.WUpKernelIdeal.Facts] [hWUpReferenceIdeal : Cert.WUpReferenceIdeal.Facts] : Prop :=
  ∀ (m : (ℓ : Loc Cert.WUpKernelIdeal.nD Cert.WUpKernelIdeal.τ Cert.WUpKernelIdeal.sig) → Buf (Elt Ideal) ℓ) (g : Dev Cert.WUpKernelIdeal.nD → PrngReg)
    (m' : (ℓ : Loc Cert.WUpReferenceIdeal.nD Cert.WUpReferenceIdeal.τ Cert.WUpReferenceIdeal.sig) → Buf (Elt Ideal) ℓ) (g' : Dev Cert.WUpReferenceIdeal.nD → PrngReg), Pre_WUpKernelIdeal m →
    (∀ c : Dev Cert.WUpKernelIdeal.nD,
      m' ((c.tc : Thread Cert.WUpReferenceIdeal.nD Cert.WUpReferenceIdeal.τ).loc Cert.WUpReferenceIdeal.main_arg0) = m ((c.tc : Thread Cert.WUpKernelIdeal.nD Cert.WUpKernelIdeal.τ).loc Cert.WUpKernelIdeal.main_arg0)
      ∧ m' ((c.tc : Thread Cert.WUpReferenceIdeal.nD Cert.WUpReferenceIdeal.τ).loc Cert.WUpReferenceIdeal.main_arg1) = m ((c.tc : Thread Cert.WUpKernelIdeal.nD Cert.WUpKernelIdeal.τ).loc Cert.WUpKernelIdeal.main_arg1)
      ∧ m' ((c.tc : Thread Cert.WUpReferenceIdeal.nD Cert.WUpReferenceIdeal.τ).loc Cert.WUpReferenceIdeal.main_arg2) = m ((c.tc : Thread Cert.WUpKernelIdeal.nD Cert.WUpKernelIdeal.τ).loc Cert.WUpKernelIdeal.main_arg2)) →
    ∃ (v0 : (c : Dev Cert.WUpKernelIdeal.nD) → Buf (Elt Ideal) ((c.tc : Thread Cert.WUpKernelIdeal.nD Cert.WUpKernelIdeal.τ).loc Cert.WUpKernelIdeal.main_v2)),
      θ_run (Cert.WUpKernelIdeal.defs (F := Ideal)) (onTc (τ := Cert.WUpKernelIdeal.τ) (Cert.WUpKernelIdeal.main (F := Ideal))) ⟨m, fun _ => 0, g⟩ (fun r => ∀ c : Dev Cert.WUpKernelIdeal.nD,
          r.2.mem ((c.tc : Thread Cert.WUpKernelIdeal.nD Cert.WUpKernelIdeal.τ).loc Cert.WUpKernelIdeal.main_v2) = v0 c
          ∧ r.2.mem ((c.tc : Thread Cert.WUpKernelIdeal.nD Cert.WUpKernelIdeal.τ).loc Cert.WUpKernelIdeal.main_arg0) = m ((c.tc : Thread Cert.WUpKernelIdeal.nD Cert.WUpKernelIdeal.τ).loc Cert.WUpKernelIdeal.main_arg0)
          ∧ r.2.mem ((c.tc : Thread Cert.WUpKernelIdeal.nD Cert.WUpKernelIdeal.τ).loc Cert.WUpKernelIdeal.main_arg1) = m ((c.tc : Thread Cert.WUpKernelIdeal.nD Cert.WUpKernelIdeal.τ).loc Cert.WUpKernelIdeal.main_arg1)
          ∧ r.2.mem ((c.tc : Thread Cert.WUpKernelIdeal.nD Cert.WUpKernelIdeal.τ).loc Cert.WUpKernelIdeal.main_arg2) = m ((c.tc : Thread Cert.WUpKernelIdeal.nD Cert.WUpKernelIdeal.τ).loc Cert.WUpKernelIdeal.main_arg2))
      ∧ θ_run (Cert.WUpReferenceIdeal.defs (F := Ideal)) (onTc (τ := Cert.WUpReferenceIdeal.τ) (Cert.WUpReferenceIdeal.main (F := Ideal))) ⟨m', fun _ => 0, g'⟩ (fun r => ∀ c : Dev Cert.WUpReferenceIdeal.nD,
          r.2.mem ((c.tc : Thread Cert.WUpReferenceIdeal.nD Cert.WUpReferenceIdeal.τ).loc Cert.WUpReferenceIdeal.main_v3) = v0 c
          ∧ r.2.mem ((c.tc : Thread Cert.WUpReferenceIdeal.nD Cert.WUpReferenceIdeal.τ).loc Cert.WUpReferenceIdeal.main_arg0) = m' ((c.tc : Thread Cert.WUpReferenceIdeal.nD Cert.WUpReferenceIdeal.τ).loc Cert.WUpReferenceIdeal.main_arg0)
          ∧ r.2.mem ((c.tc : Thread Cert.WUpReferenceIdeal.nD Cert.WUpReferenceIdeal.τ).loc Cert.WUpReferenceIdeal.main_arg1) = m' ((c.tc : Thread Cert.WUpReferenceIdeal.nD Cert.WUpReferenceIdeal.τ).loc Cert.WUpReferenceIdeal.main_arg1)
          ∧ r.2.mem ((c.tc : Thread Cert.WUpReferenceIdeal.nD Cert.WUpReferenceIdeal.τ).loc Cert.WUpReferenceIdeal.main_arg2) = m' ((c.tc : Thread Cert.WUpReferenceIdeal.nD Cert.WUpReferenceIdeal.τ).loc Cert.WUpReferenceIdeal.main_arg2))

def preserves_WGateKernel_WGateKernelIdeal : Prop :=
  True

def algebraic_WGateKernelIdeal_WGateReferenceIdeal [hWGateKernelIdeal : Cert.WGateKernelIdeal.Facts] [hWGateReferenceIdeal : Cert.WGateReferenceIdeal.Facts] : Prop :=
  ∀ (m : (ℓ : Loc Cert.WGateKernelIdeal.nD Cert.WGateKernelIdeal.τ Cert.WGateKernelIdeal.sig) → Buf (Elt Ideal) ℓ) (g : Dev Cert.WGateKernelIdeal.nD → PrngReg)
    (m' : (ℓ : Loc Cert.WGateReferenceIdeal.nD Cert.WGateReferenceIdeal.τ Cert.WGateReferenceIdeal.sig) → Buf (Elt Ideal) ℓ) (g' : Dev Cert.WGateReferenceIdeal.nD → PrngReg), Pre_WGateKernelIdeal m →
    (∀ c : Dev Cert.WGateKernelIdeal.nD,
      m' ((c.tc : Thread Cert.WGateReferenceIdeal.nD Cert.WGateReferenceIdeal.τ).loc Cert.WGateReferenceIdeal.main_arg0) = m ((c.tc : Thread Cert.WGateKernelIdeal.nD Cert.WGateKernelIdeal.τ).loc Cert.WGateKernelIdeal.main_arg0)
      ∧ m' ((c.tc : Thread Cert.WGateReferenceIdeal.nD Cert.WGateReferenceIdeal.τ).loc Cert.WGateReferenceIdeal.main_arg1) = m ((c.tc : Thread Cert.WGateKernelIdeal.nD Cert.WGateKernelIdeal.τ).loc Cert.WGateKernelIdeal.main_arg1)
      ∧ m' ((c.tc : Thread Cert.WGateReferenceIdeal.nD Cert.WGateReferenceIdeal.τ).loc Cert.WGateReferenceIdeal.main_arg2) = m ((c.tc : Thread Cert.WGateKernelIdeal.nD Cert.WGateKernelIdeal.τ).loc Cert.WGateKernelIdeal.main_arg2)) →
    ∃ (v0 : (c : Dev Cert.WGateKernelIdeal.nD) → Buf (Elt Ideal) ((c.tc : Thread Cert.WGateKernelIdeal.nD Cert.WGateKernelIdeal.τ).loc Cert.WGateKernelIdeal.main_v2)),
      θ_run (Cert.WGateKernelIdeal.defs (F := Ideal)) (onTc (τ := Cert.WGateKernelIdeal.τ) (Cert.WGateKernelIdeal.main (F := Ideal))) ⟨m, fun _ => 0, g⟩ (fun r => ∀ c : Dev Cert.WGateKernelIdeal.nD,
          r.2.mem ((c.tc : Thread Cert.WGateKernelIdeal.nD Cert.WGateKernelIdeal.τ).loc Cert.WGateKernelIdeal.main_v2) = v0 c
          ∧ r.2.mem ((c.tc : Thread Cert.WGateKernelIdeal.nD Cert.WGateKernelIdeal.τ).loc Cert.WGateKernelIdeal.main_arg0) = m ((c.tc : Thread Cert.WGateKernelIdeal.nD Cert.WGateKernelIdeal.τ).loc Cert.WGateKernelIdeal.main_arg0)
          ∧ r.2.mem ((c.tc : Thread Cert.WGateKernelIdeal.nD Cert.WGateKernelIdeal.τ).loc Cert.WGateKernelIdeal.main_arg1) = m ((c.tc : Thread Cert.WGateKernelIdeal.nD Cert.WGateKernelIdeal.τ).loc Cert.WGateKernelIdeal.main_arg1)
          ∧ r.2.mem ((c.tc : Thread Cert.WGateKernelIdeal.nD Cert.WGateKernelIdeal.τ).loc Cert.WGateKernelIdeal.main_arg2) = m ((c.tc : Thread Cert.WGateKernelIdeal.nD Cert.WGateKernelIdeal.τ).loc Cert.WGateKernelIdeal.main_arg2))
      ∧ θ_run (Cert.WGateReferenceIdeal.defs (F := Ideal)) (onTc (τ := Cert.WGateReferenceIdeal.τ) (Cert.WGateReferenceIdeal.main (F := Ideal))) ⟨m', fun _ => 0, g'⟩ (fun r => ∀ c : Dev Cert.WGateReferenceIdeal.nD,
          r.2.mem ((c.tc : Thread Cert.WGateReferenceIdeal.nD Cert.WGateReferenceIdeal.τ).loc Cert.WGateReferenceIdeal.main_v3) = v0 c
          ∧ r.2.mem ((c.tc : Thread Cert.WGateReferenceIdeal.nD Cert.WGateReferenceIdeal.τ).loc Cert.WGateReferenceIdeal.main_arg0) = m' ((c.tc : Thread Cert.WGateReferenceIdeal.nD Cert.WGateReferenceIdeal.τ).loc Cert.WGateReferenceIdeal.main_arg0)
          ∧ r.2.mem ((c.tc : Thread Cert.WGateReferenceIdeal.nD Cert.WGateReferenceIdeal.τ).loc Cert.WGateReferenceIdeal.main_arg1) = m' ((c.tc : Thread Cert.WGateReferenceIdeal.nD Cert.WGateReferenceIdeal.τ).loc Cert.WGateReferenceIdeal.main_arg1)
          ∧ r.2.mem ((c.tc : Thread Cert.WGateReferenceIdeal.nD Cert.WGateReferenceIdeal.τ).loc Cert.WGateReferenceIdeal.main_arg2) = m' ((c.tc : Thread Cert.WGateReferenceIdeal.nD Cert.WGateReferenceIdeal.τ).loc Cert.WGateReferenceIdeal.main_arg2))

def preserves_WPleKernel_WPleKernelIdeal : Prop :=
  True

def algebraic_WPleKernelIdeal_WPleReferenceIdeal [hWPleKernelIdeal : Cert.WPleKernelIdeal.Facts] [hWPleReferenceIdeal : Cert.WPleReferenceIdeal.Facts] : Prop :=
  ∀ (m : (ℓ : Loc Cert.WPleKernelIdeal.nD Cert.WPleKernelIdeal.τ Cert.WPleKernelIdeal.sig) → Buf (Elt Ideal) ℓ) (g : Dev Cert.WPleKernelIdeal.nD → PrngReg)
    (m' : (ℓ : Loc Cert.WPleReferenceIdeal.nD Cert.WPleReferenceIdeal.τ Cert.WPleReferenceIdeal.sig) → Buf (Elt Ideal) ℓ) (g' : Dev Cert.WPleReferenceIdeal.nD → PrngReg), Pre_WPleKernelIdeal m →
    (∀ c : Dev Cert.WPleKernelIdeal.nD,
      m' ((c.tc : Thread Cert.WPleReferenceIdeal.nD Cert.WPleReferenceIdeal.τ).loc Cert.WPleReferenceIdeal.main_arg0) = m ((c.tc : Thread Cert.WPleKernelIdeal.nD Cert.WPleKernelIdeal.τ).loc Cert.WPleKernelIdeal.main_arg0)
      ∧ m' ((c.tc : Thread Cert.WPleReferenceIdeal.nD Cert.WPleReferenceIdeal.τ).loc Cert.WPleReferenceIdeal.main_arg1) = m ((c.tc : Thread Cert.WPleKernelIdeal.nD Cert.WPleKernelIdeal.τ).loc Cert.WPleKernelIdeal.main_arg1)
      ∧ m' ((c.tc : Thread Cert.WPleReferenceIdeal.nD Cert.WPleReferenceIdeal.τ).loc Cert.WPleReferenceIdeal.main_arg2) = m ((c.tc : Thread Cert.WPleKernelIdeal.nD Cert.WPleKernelIdeal.τ).loc Cert.WPleKernelIdeal.main_arg2)) →
    ∃ (v0 : (c : Dev Cert.WPleKernelIdeal.nD) → Buf (Elt Ideal) ((c.tc : Thread Cert.WPleKernelIdeal.nD Cert.WPleKernelIdeal.τ).loc Cert.WPleKernelIdeal.main_v1)),
      θ_run (Cert.WPleKernelIdeal.defs (F := Ideal)) (onTc (τ := Cert.WPleKernelIdeal.τ) (Cert.WPleKernelIdeal.main (F := Ideal))) ⟨m, fun _ => 0, g⟩ (fun r => ∀ c : Dev Cert.WPleKernelIdeal.nD,
          r.2.mem ((c.tc : Thread Cert.WPleKernelIdeal.nD Cert.WPleKernelIdeal.τ).loc Cert.WPleKernelIdeal.main_v1) = v0 c
          ∧ r.2.mem ((c.tc : Thread Cert.WPleKernelIdeal.nD Cert.WPleKernelIdeal.τ).loc Cert.WPleKernelIdeal.main_arg0) = m ((c.tc : Thread Cert.WPleKernelIdeal.nD Cert.WPleKernelIdeal.τ).loc Cert.WPleKernelIdeal.main_arg0)
          ∧ r.2.mem ((c.tc : Thread Cert.WPleKernelIdeal.nD Cert.WPleKernelIdeal.τ).loc Cert.WPleKernelIdeal.main_arg1) = m ((c.tc : Thread Cert.WPleKernelIdeal.nD Cert.WPleKernelIdeal.τ).loc Cert.WPleKernelIdeal.main_arg1)
          ∧ r.2.mem ((c.tc : Thread Cert.WPleKernelIdeal.nD Cert.WPleKernelIdeal.τ).loc Cert.WPleKernelIdeal.main_arg2) = m ((c.tc : Thread Cert.WPleKernelIdeal.nD Cert.WPleKernelIdeal.τ).loc Cert.WPleKernelIdeal.main_arg2))
      ∧ θ_run (Cert.WPleReferenceIdeal.defs (F := Ideal)) (onTc (τ := Cert.WPleReferenceIdeal.τ) (Cert.WPleReferenceIdeal.main (F := Ideal))) ⟨m', fun _ => 0, g'⟩ (fun r => ∀ c : Dev Cert.WPleReferenceIdeal.nD,
          r.2.mem ((c.tc : Thread Cert.WPleReferenceIdeal.nD Cert.WPleReferenceIdeal.τ).loc Cert.WPleReferenceIdeal.main_v3) = v0 c
          ∧ r.2.mem ((c.tc : Thread Cert.WPleReferenceIdeal.nD Cert.WPleReferenceIdeal.τ).loc Cert.WPleReferenceIdeal.main_arg0) = m' ((c.tc : Thread Cert.WPleReferenceIdeal.nD Cert.WPleReferenceIdeal.τ).loc Cert.WPleReferenceIdeal.main_arg0)
          ∧ r.2.mem ((c.tc : Thread Cert.WPleReferenceIdeal.nD Cert.WPleReferenceIdeal.τ).loc Cert.WPleReferenceIdeal.main_arg1) = m' ((c.tc : Thread Cert.WPleReferenceIdeal.nD Cert.WPleReferenceIdeal.τ).loc Cert.WPleReferenceIdeal.main_arg1)
          ∧ r.2.mem ((c.tc : Thread Cert.WPleReferenceIdeal.nD Cert.WPleReferenceIdeal.τ).loc Cert.WPleReferenceIdeal.main_arg2) = m' ((c.tc : Thread Cert.WPleReferenceIdeal.nD Cert.WPleReferenceIdeal.τ).loc Cert.WPleReferenceIdeal.main_arg2))

def preserves_WOKernel_WOKernelIdeal : Prop :=
  True

def algebraic_WOKernelIdeal_WOReferenceIdeal [hWOKernelIdeal : Cert.WOKernelIdeal.Facts] [hWOReferenceIdeal : Cert.WOReferenceIdeal.Facts] : Prop :=
  ∀ (m : (ℓ : Loc Cert.WOKernelIdeal.nD Cert.WOKernelIdeal.τ Cert.WOKernelIdeal.sig) → Buf (Elt Ideal) ℓ) (g : Dev Cert.WOKernelIdeal.nD → PrngReg)
    (m' : (ℓ : Loc Cert.WOReferenceIdeal.nD Cert.WOReferenceIdeal.τ Cert.WOReferenceIdeal.sig) → Buf (Elt Ideal) ℓ) (g' : Dev Cert.WOReferenceIdeal.nD → PrngReg), Pre_WOKernelIdeal m →
    (∀ c : Dev Cert.WOKernelIdeal.nD,
      m' ((c.tc : Thread Cert.WOReferenceIdeal.nD Cert.WOReferenceIdeal.τ).loc Cert.WOReferenceIdeal.main_arg0) = m ((c.tc : Thread Cert.WOKernelIdeal.nD Cert.WOKernelIdeal.τ).loc Cert.WOKernelIdeal.main_arg0)
      ∧ m' ((c.tc : Thread Cert.WOReferenceIdeal.nD Cert.WOReferenceIdeal.τ).loc Cert.WOReferenceIdeal.main_arg1) = m ((c.tc : Thread Cert.WOKernelIdeal.nD Cert.WOKernelIdeal.τ).loc Cert.WOKernelIdeal.main_arg1)
      ∧ m' ((c.tc : Thread Cert.WOReferenceIdeal.nD Cert.WOReferenceIdeal.τ).loc Cert.WOReferenceIdeal.main_arg2) = m ((c.tc : Thread Cert.WOKernelIdeal.nD Cert.WOKernelIdeal.τ).loc Cert.WOKernelIdeal.main_arg2)) →
    ∃ (v0 : (c : Dev Cert.WOKernelIdeal.nD) → Buf (Elt Ideal) ((c.tc : Thread Cert.WOKernelIdeal.nD Cert.WOKernelIdeal.τ).loc Cert.WOKernelIdeal.main_v2)),
      θ_run (Cert.WOKernelIdeal.defs (F := Ideal)) (onTc (τ := Cert.WOKernelIdeal.τ) (Cert.WOKernelIdeal.main (F := Ideal))) ⟨m, fun _ => 0, g⟩ (fun r => ∀ c : Dev Cert.WOKernelIdeal.nD,
          r.2.mem ((c.tc : Thread Cert.WOKernelIdeal.nD Cert.WOKernelIdeal.τ).loc Cert.WOKernelIdeal.main_v2) = v0 c
          ∧ r.2.mem ((c.tc : Thread Cert.WOKernelIdeal.nD Cert.WOKernelIdeal.τ).loc Cert.WOKernelIdeal.main_arg0) = m ((c.tc : Thread Cert.WOKernelIdeal.nD Cert.WOKernelIdeal.τ).loc Cert.WOKernelIdeal.main_arg0)
          ∧ r.2.mem ((c.tc : Thread Cert.WOKernelIdeal.nD Cert.WOKernelIdeal.τ).loc Cert.WOKernelIdeal.main_arg1) = m ((c.tc : Thread Cert.WOKernelIdeal.nD Cert.WOKernelIdeal.τ).loc Cert.WOKernelIdeal.main_arg1)
          ∧ r.2.mem ((c.tc : Thread Cert.WOKernelIdeal.nD Cert.WOKernelIdeal.τ).loc Cert.WOKernelIdeal.main_arg2) = m ((c.tc : Thread Cert.WOKernelIdeal.nD Cert.WOKernelIdeal.τ).loc Cert.WOKernelIdeal.main_arg2))
      ∧ θ_run (Cert.WOReferenceIdeal.defs (F := Ideal)) (onTc (τ := Cert.WOReferenceIdeal.τ) (Cert.WOReferenceIdeal.main (F := Ideal))) ⟨m', fun _ => 0, g'⟩ (fun r => ∀ c : Dev Cert.WOReferenceIdeal.nD,
          r.2.mem ((c.tc : Thread Cert.WOReferenceIdeal.nD Cert.WOReferenceIdeal.τ).loc Cert.WOReferenceIdeal.main_v3) = v0 c
          ∧ r.2.mem ((c.tc : Thread Cert.WOReferenceIdeal.nD Cert.WOReferenceIdeal.τ).loc Cert.WOReferenceIdeal.main_arg0) = m' ((c.tc : Thread Cert.WOReferenceIdeal.nD Cert.WOReferenceIdeal.τ).loc Cert.WOReferenceIdeal.main_arg0)
          ∧ r.2.mem ((c.tc : Thread Cert.WOReferenceIdeal.nD Cert.WOReferenceIdeal.τ).loc Cert.WOReferenceIdeal.main_arg1) = m' ((c.tc : Thread Cert.WOReferenceIdeal.nD Cert.WOReferenceIdeal.τ).loc Cert.WOReferenceIdeal.main_arg1)
          ∧ r.2.mem ((c.tc : Thread Cert.WOReferenceIdeal.nD Cert.WOReferenceIdeal.τ).loc Cert.WOReferenceIdeal.main_arg2) = m' ((c.tc : Thread Cert.WOReferenceIdeal.nD Cert.WOReferenceIdeal.τ).loc Cert.WOReferenceIdeal.main_arg2))

def preserves_WQkvKernel_WQkvKernelIdeal : Prop :=
  True

def algebraic_WQkvKernelIdeal_WQkvReferenceIdeal [hWQkvKernelIdeal : Cert.WQkvKernelIdeal.Facts] [hWQkvReferenceIdeal : Cert.WQkvReferenceIdeal.Facts] : Prop :=
  ∀ (m : (ℓ : Loc Cert.WQkvKernelIdeal.nD Cert.WQkvKernelIdeal.τ Cert.WQkvKernelIdeal.sig) → Buf (Elt Ideal) ℓ) (g : Dev Cert.WQkvKernelIdeal.nD → PrngReg)
    (m' : (ℓ : Loc Cert.WQkvReferenceIdeal.nD Cert.WQkvReferenceIdeal.τ Cert.WQkvReferenceIdeal.sig) → Buf (Elt Ideal) ℓ) (g' : Dev Cert.WQkvReferenceIdeal.nD → PrngReg), Pre_WQkvKernelIdeal m →
    (∀ c : Dev Cert.WQkvKernelIdeal.nD,
      m' ((c.tc : Thread Cert.WQkvReferenceIdeal.nD Cert.WQkvReferenceIdeal.τ).loc Cert.WQkvReferenceIdeal.main_arg0) = m ((c.tc : Thread Cert.WQkvKernelIdeal.nD Cert.WQkvKernelIdeal.τ).loc Cert.WQkvKernelIdeal.main_arg0)
      ∧ m' ((c.tc : Thread Cert.WQkvReferenceIdeal.nD Cert.WQkvReferenceIdeal.τ).loc Cert.WQkvReferenceIdeal.main_arg1) = m ((c.tc : Thread Cert.WQkvKernelIdeal.nD Cert.WQkvKernelIdeal.τ).loc Cert.WQkvKernelIdeal.main_arg1)
      ∧ m' ((c.tc : Thread Cert.WQkvReferenceIdeal.nD Cert.WQkvReferenceIdeal.τ).loc Cert.WQkvReferenceIdeal.main_arg2) = m ((c.tc : Thread Cert.WQkvKernelIdeal.nD Cert.WQkvKernelIdeal.τ).loc Cert.WQkvKernelIdeal.main_arg2)) →
    ∃ (v0 : (c : Dev Cert.WQkvKernelIdeal.nD) → Buf (Elt Ideal) ((c.tc : Thread Cert.WQkvKernelIdeal.nD Cert.WQkvKernelIdeal.τ).loc Cert.WQkvKernelIdeal.main_v2)),
      θ_run (Cert.WQkvKernelIdeal.defs (F := Ideal)) (onTc (τ := Cert.WQkvKernelIdeal.τ) (Cert.WQkvKernelIdeal.main (F := Ideal))) ⟨m, fun _ => 0, g⟩ (fun r => ∀ c : Dev Cert.WQkvKernelIdeal.nD,
          r.2.mem ((c.tc : Thread Cert.WQkvKernelIdeal.nD Cert.WQkvKernelIdeal.τ).loc Cert.WQkvKernelIdeal.main_v2) = v0 c
          ∧ r.2.mem ((c.tc : Thread Cert.WQkvKernelIdeal.nD Cert.WQkvKernelIdeal.τ).loc Cert.WQkvKernelIdeal.main_arg0) = m ((c.tc : Thread Cert.WQkvKernelIdeal.nD Cert.WQkvKernelIdeal.τ).loc Cert.WQkvKernelIdeal.main_arg0)
          ∧ r.2.mem ((c.tc : Thread Cert.WQkvKernelIdeal.nD Cert.WQkvKernelIdeal.τ).loc Cert.WQkvKernelIdeal.main_arg1) = m ((c.tc : Thread Cert.WQkvKernelIdeal.nD Cert.WQkvKernelIdeal.τ).loc Cert.WQkvKernelIdeal.main_arg1)
          ∧ r.2.mem ((c.tc : Thread Cert.WQkvKernelIdeal.nD Cert.WQkvKernelIdeal.τ).loc Cert.WQkvKernelIdeal.main_arg2) = m ((c.tc : Thread Cert.WQkvKernelIdeal.nD Cert.WQkvKernelIdeal.τ).loc Cert.WQkvKernelIdeal.main_arg2))
      ∧ θ_run (Cert.WQkvReferenceIdeal.defs (F := Ideal)) (onTc (τ := Cert.WQkvReferenceIdeal.τ) (Cert.WQkvReferenceIdeal.main (F := Ideal))) ⟨m', fun _ => 0, g'⟩ (fun r => ∀ c : Dev Cert.WQkvReferenceIdeal.nD,
          r.2.mem ((c.tc : Thread Cert.WQkvReferenceIdeal.nD Cert.WQkvReferenceIdeal.τ).loc Cert.WQkvReferenceIdeal.main_v3) = v0 c
          ∧ r.2.mem ((c.tc : Thread Cert.WQkvReferenceIdeal.nD Cert.WQkvReferenceIdeal.τ).loc Cert.WQkvReferenceIdeal.main_arg0) = m' ((c.tc : Thread Cert.WQkvReferenceIdeal.nD Cert.WQkvReferenceIdeal.τ).loc Cert.WQkvReferenceIdeal.main_arg0)
          ∧ r.2.mem ((c.tc : Thread Cert.WQkvReferenceIdeal.nD Cert.WQkvReferenceIdeal.τ).loc Cert.WQkvReferenceIdeal.main_arg1) = m' ((c.tc : Thread Cert.WQkvReferenceIdeal.nD Cert.WQkvReferenceIdeal.τ).loc Cert.WQkvReferenceIdeal.main_arg1)
          ∧ r.2.mem ((c.tc : Thread Cert.WQkvReferenceIdeal.nD Cert.WQkvReferenceIdeal.τ).loc Cert.WQkvReferenceIdeal.main_arg2) = m' ((c.tc : Thread Cert.WQkvReferenceIdeal.nD Cert.WQkvReferenceIdeal.τ).loc Cert.WQkvReferenceIdeal.main_arg2))

def preserves_DYKernel_DYKernelIdeal : Prop :=
  True

def algebraic_DYKernelIdeal_DYReferenceIdeal [hDYKernelIdeal : Cert.DYKernelIdeal.Facts] [hDYReferenceIdeal : Cert.DYReferenceIdeal.Facts] : Prop :=
  ∀ (m : (ℓ : Loc Cert.DYKernelIdeal.nD Cert.DYKernelIdeal.τ Cert.DYKernelIdeal.sig) → Buf (Elt Ideal) ℓ) (g : Dev Cert.DYKernelIdeal.nD → PrngReg)
    (m' : (ℓ : Loc Cert.DYReferenceIdeal.nD Cert.DYReferenceIdeal.τ Cert.DYReferenceIdeal.sig) → Buf (Elt Ideal) ℓ) (g' : Dev Cert.DYReferenceIdeal.nD → PrngReg), Pre_DYKernelIdeal m →
    (∀ c : Dev Cert.DYKernelIdeal.nD,
      m' ((c.tc : Thread Cert.DYReferenceIdeal.nD Cert.DYReferenceIdeal.τ).loc Cert.DYReferenceIdeal.main_arg0) = m ((c.tc : Thread Cert.DYKernelIdeal.nD Cert.DYKernelIdeal.τ).loc Cert.DYKernelIdeal.main_arg0)
      ∧ m' ((c.tc : Thread Cert.DYReferenceIdeal.nD Cert.DYReferenceIdeal.τ).loc Cert.DYReferenceIdeal.main_arg1) = m ((c.tc : Thread Cert.DYKernelIdeal.nD Cert.DYKernelIdeal.τ).loc Cert.DYKernelIdeal.main_arg1)
      ∧ m' ((c.tc : Thread Cert.DYReferenceIdeal.nD Cert.DYReferenceIdeal.τ).loc Cert.DYReferenceIdeal.main_arg2) = m ((c.tc : Thread Cert.DYKernelIdeal.nD Cert.DYKernelIdeal.τ).loc Cert.DYKernelIdeal.main_arg2)) →
    ∃ (v0 : (c : Dev Cert.DYKernelIdeal.nD) → Buf (Elt Ideal) ((c.tc : Thread Cert.DYKernelIdeal.nD Cert.DYKernelIdeal.τ).loc Cert.DYKernelIdeal.main_v2)),
      θ_run (Cert.DYKernelIdeal.defs (F := Ideal)) (onTc (τ := Cert.DYKernelIdeal.τ) (Cert.DYKernelIdeal.main (F := Ideal))) ⟨m, fun _ => 0, g⟩ (fun r => ∀ c : Dev Cert.DYKernelIdeal.nD,
          r.2.mem ((c.tc : Thread Cert.DYKernelIdeal.nD Cert.DYKernelIdeal.τ).loc Cert.DYKernelIdeal.main_v2) = v0 c
          ∧ r.2.mem ((c.tc : Thread Cert.DYKernelIdeal.nD Cert.DYKernelIdeal.τ).loc Cert.DYKernelIdeal.main_arg0) = m ((c.tc : Thread Cert.DYKernelIdeal.nD Cert.DYKernelIdeal.τ).loc Cert.DYKernelIdeal.main_arg0)
          ∧ r.2.mem ((c.tc : Thread Cert.DYKernelIdeal.nD Cert.DYKernelIdeal.τ).loc Cert.DYKernelIdeal.main_arg1) = m ((c.tc : Thread Cert.DYKernelIdeal.nD Cert.DYKernelIdeal.τ).loc Cert.DYKernelIdeal.main_arg1)
          ∧ r.2.mem ((c.tc : Thread Cert.DYKernelIdeal.nD Cert.DYKernelIdeal.τ).loc Cert.DYKernelIdeal.main_arg2) = m ((c.tc : Thread Cert.DYKernelIdeal.nD Cert.DYKernelIdeal.τ).loc Cert.DYKernelIdeal.main_arg2))
      ∧ θ_run (Cert.DYReferenceIdeal.defs (F := Ideal)) (onTc (τ := Cert.DYReferenceIdeal.τ) (Cert.DYReferenceIdeal.main (F := Ideal))) ⟨m', fun _ => 0, g'⟩ (fun r => ∀ c : Dev Cert.DYReferenceIdeal.nD,
          r.2.mem ((c.tc : Thread Cert.DYReferenceIdeal.nD Cert.DYReferenceIdeal.τ).loc Cert.DYReferenceIdeal.main_v1) = v0 c
          ∧ r.2.mem ((c.tc : Thread Cert.DYReferenceIdeal.nD Cert.DYReferenceIdeal.τ).loc Cert.DYReferenceIdeal.main_arg0) = m' ((c.tc : Thread Cert.DYReferenceIdeal.nD Cert.DYReferenceIdeal.τ).loc Cert.DYReferenceIdeal.main_arg0)
          ∧ r.2.mem ((c.tc : Thread Cert.DYReferenceIdeal.nD Cert.DYReferenceIdeal.τ).loc Cert.DYReferenceIdeal.main_arg1) = m' ((c.tc : Thread Cert.DYReferenceIdeal.nD Cert.DYReferenceIdeal.τ).loc Cert.DYReferenceIdeal.main_arg1)
          ∧ r.2.mem ((c.tc : Thread Cert.DYReferenceIdeal.nD Cert.DYReferenceIdeal.τ).loc Cert.DYReferenceIdeal.main_arg2) = m' ((c.tc : Thread Cert.DYReferenceIdeal.nD Cert.DYReferenceIdeal.τ).loc Cert.DYReferenceIdeal.main_arg2))

def preserves_DOmKernel_DOmKernelIdeal : Prop :=
  True

def algebraic_DOmKernelIdeal_DOmReferenceIdeal [hDOmKernelIdeal : Cert.DOmKernelIdeal.Facts] [hDOmReferenceIdeal : Cert.DOmReferenceIdeal.Facts] : Prop :=
  ∀ (m : (ℓ : Loc Cert.DOmKernelIdeal.nD Cert.DOmKernelIdeal.τ Cert.DOmKernelIdeal.sig) → Buf (Elt Ideal) ℓ) (g : Dev Cert.DOmKernelIdeal.nD → PrngReg)
    (m' : (ℓ : Loc Cert.DOmReferenceIdeal.nD Cert.DOmReferenceIdeal.τ Cert.DOmReferenceIdeal.sig) → Buf (Elt Ideal) ℓ) (g' : Dev Cert.DOmReferenceIdeal.nD → PrngReg), Pre_DOmKernelIdeal m →
    (∀ c : Dev Cert.DOmKernelIdeal.nD,
      m' ((c.tc : Thread Cert.DOmReferenceIdeal.nD Cert.DOmReferenceIdeal.τ).loc Cert.DOmReferenceIdeal.main_arg0) = m ((c.tc : Thread Cert.DOmKernelIdeal.nD Cert.DOmKernelIdeal.τ).loc Cert.DOmKernelIdeal.main_arg0)
      ∧ m' ((c.tc : Thread Cert.DOmReferenceIdeal.nD Cert.DOmReferenceIdeal.τ).loc Cert.DOmReferenceIdeal.main_arg1) = m ((c.tc : Thread Cert.DOmKernelIdeal.nD Cert.DOmKernelIdeal.τ).loc Cert.DOmKernelIdeal.main_arg1)
      ∧ m' ((c.tc : Thread Cert.DOmReferenceIdeal.nD Cert.DOmReferenceIdeal.τ).loc Cert.DOmReferenceIdeal.main_arg2) = m ((c.tc : Thread Cert.DOmKernelIdeal.nD Cert.DOmKernelIdeal.τ).loc Cert.DOmKernelIdeal.main_arg2)) →
    ∃ (v0 : (c : Dev Cert.DOmKernelIdeal.nD) → Buf (Elt Ideal) ((c.tc : Thread Cert.DOmKernelIdeal.nD Cert.DOmKernelIdeal.τ).loc Cert.DOmKernelIdeal.main_v2)),
      θ_run (Cert.DOmKernelIdeal.defs (F := Ideal)) (onTc (τ := Cert.DOmKernelIdeal.τ) (Cert.DOmKernelIdeal.main (F := Ideal))) ⟨m, fun _ => 0, g⟩ (fun r => ∀ c : Dev Cert.DOmKernelIdeal.nD,
          r.2.mem ((c.tc : Thread Cert.DOmKernelIdeal.nD Cert.DOmKernelIdeal.τ).loc Cert.DOmKernelIdeal.main_v2) = v0 c
          ∧ r.2.mem ((c.tc : Thread Cert.DOmKernelIdeal.nD Cert.DOmKernelIdeal.τ).loc Cert.DOmKernelIdeal.main_arg0) = m ((c.tc : Thread Cert.DOmKernelIdeal.nD Cert.DOmKernelIdeal.τ).loc Cert.DOmKernelIdeal.main_arg0)
          ∧ r.2.mem ((c.tc : Thread Cert.DOmKernelIdeal.nD Cert.DOmKernelIdeal.τ).loc Cert.DOmKernelIdeal.main_arg1) = m ((c.tc : Thread Cert.DOmKernelIdeal.nD Cert.DOmKernelIdeal.τ).loc Cert.DOmKernelIdeal.main_arg1)
          ∧ r.2.mem ((c.tc : Thread Cert.DOmKernelIdeal.nD Cert.DOmKernelIdeal.τ).loc Cert.DOmKernelIdeal.main_arg2) = m ((c.tc : Thread Cert.DOmKernelIdeal.nD Cert.DOmKernelIdeal.τ).loc Cert.DOmKernelIdeal.main_arg2))
      ∧ θ_run (Cert.DOmReferenceIdeal.defs (F := Ideal)) (onTc (τ := Cert.DOmReferenceIdeal.τ) (Cert.DOmReferenceIdeal.main (F := Ideal))) ⟨m', fun _ => 0, g'⟩ (fun r => ∀ c : Dev Cert.DOmReferenceIdeal.nD,
          r.2.mem ((c.tc : Thread Cert.DOmReferenceIdeal.nD Cert.DOmReferenceIdeal.τ).loc Cert.DOmReferenceIdeal.main_v1) = v0 c
          ∧ r.2.mem ((c.tc : Thread Cert.DOmReferenceIdeal.nD Cert.DOmReferenceIdeal.τ).loc Cert.DOmReferenceIdeal.main_arg0) = m' ((c.tc : Thread Cert.DOmReferenceIdeal.nD Cert.DOmReferenceIdeal.τ).loc Cert.DOmReferenceIdeal.main_arg0)
          ∧ r.2.mem ((c.tc : Thread Cert.DOmReferenceIdeal.nD Cert.DOmReferenceIdeal.τ).loc Cert.DOmReferenceIdeal.main_arg1) = m' ((c.tc : Thread Cert.DOmReferenceIdeal.nD Cert.DOmReferenceIdeal.τ).loc Cert.DOmReferenceIdeal.main_arg1)
          ∧ r.2.mem ((c.tc : Thread Cert.DOmReferenceIdeal.nD Cert.DOmReferenceIdeal.τ).loc Cert.DOmReferenceIdeal.main_arg2) = m' ((c.tc : Thread Cert.DOmReferenceIdeal.nD Cert.DOmReferenceIdeal.τ).loc Cert.DOmReferenceIdeal.main_arg2))

def preserves_DH0Kernel_DH0KernelIdeal : Prop :=
  True

def algebraic_DH0KernelIdeal_DH0ReferenceIdeal [hDH0KernelIdeal : Cert.DH0KernelIdeal.Facts] [hDH0ReferenceIdeal : Cert.DH0ReferenceIdeal.Facts] : Prop :=
  ∀ (m : (ℓ : Loc Cert.DH0KernelIdeal.nD Cert.DH0KernelIdeal.τ Cert.DH0KernelIdeal.sig) → Buf (Elt Ideal) ℓ) (g : Dev Cert.DH0KernelIdeal.nD → PrngReg)
    (m' : (ℓ : Loc Cert.DH0ReferenceIdeal.nD Cert.DH0ReferenceIdeal.τ Cert.DH0ReferenceIdeal.sig) → Buf (Elt Ideal) ℓ) (g' : Dev Cert.DH0ReferenceIdeal.nD → PrngReg), Pre_DH0KernelIdeal m →
    (∀ c : Dev Cert.DH0KernelIdeal.nD,
      m' ((c.tc : Thread Cert.DH0ReferenceIdeal.nD Cert.DH0ReferenceIdeal.τ).loc Cert.DH0ReferenceIdeal.main_arg0) = m ((c.tc : Thread Cert.DH0KernelIdeal.nD Cert.DH0KernelIdeal.τ).loc Cert.DH0KernelIdeal.main_arg0)
      ∧ m' ((c.tc : Thread Cert.DH0ReferenceIdeal.nD Cert.DH0ReferenceIdeal.τ).loc Cert.DH0ReferenceIdeal.main_arg1) = m ((c.tc : Thread Cert.DH0KernelIdeal.nD Cert.DH0KernelIdeal.τ).loc Cert.DH0KernelIdeal.main_arg1)
      ∧ m' ((c.tc : Thread Cert.DH0ReferenceIdeal.nD Cert.DH0ReferenceIdeal.τ).loc Cert.DH0ReferenceIdeal.main_arg2) = m ((c.tc : Thread Cert.DH0KernelIdeal.nD Cert.DH0KernelIdeal.τ).loc Cert.DH0KernelIdeal.main_arg2)) →
    ∃ (v0 : (c : Dev Cert.DH0KernelIdeal.nD) → Buf (Elt Ideal) ((c.tc : Thread Cert.DH0KernelIdeal.nD Cert.DH0KernelIdeal.τ).loc Cert.DH0KernelIdeal.main_v2)),
      θ_run (Cert.DH0KernelIdeal.defs (F := Ideal)) (onTc (τ := Cert.DH0KernelIdeal.τ) (Cert.DH0KernelIdeal.main (F := Ideal))) ⟨m, fun _ => 0, g⟩ (fun r => ∀ c : Dev Cert.DH0KernelIdeal.nD,
          r.2.mem ((c.tc : Thread Cert.DH0KernelIdeal.nD Cert.DH0KernelIdeal.τ).loc Cert.DH0KernelIdeal.main_v2) = v0 c
          ∧ r.2.mem ((c.tc : Thread Cert.DH0KernelIdeal.nD Cert.DH0KernelIdeal.τ).loc Cert.DH0KernelIdeal.main_arg0) = m ((c.tc : Thread Cert.DH0KernelIdeal.nD Cert.DH0KernelIdeal.τ).loc Cert.DH0KernelIdeal.main_arg0)
          ∧ r.2.mem ((c.tc : Thread Cert.DH0KernelIdeal.nD Cert.DH0KernelIdeal.τ).loc Cert.DH0KernelIdeal.main_arg1) = m ((c.tc : Thread Cert.DH0KernelIdeal.nD Cert.DH0KernelIdeal.τ).loc Cert.DH0KernelIdeal.main_arg1)
          ∧ r.2.mem ((c.tc : Thread Cert.DH0KernelIdeal.nD Cert.DH0KernelIdeal.τ).loc Cert.DH0KernelIdeal.main_arg2) = m ((c.tc : Thread Cert.DH0KernelIdeal.nD Cert.DH0KernelIdeal.τ).loc Cert.DH0KernelIdeal.main_arg2))
      ∧ θ_run (Cert.DH0ReferenceIdeal.defs (F := Ideal)) (onTc (τ := Cert.DH0ReferenceIdeal.τ) (Cert.DH0ReferenceIdeal.main (F := Ideal))) ⟨m', fun _ => 0, g'⟩ (fun r => ∀ c : Dev Cert.DH0ReferenceIdeal.nD,
          r.2.mem ((c.tc : Thread Cert.DH0ReferenceIdeal.nD Cert.DH0ReferenceIdeal.τ).loc Cert.DH0ReferenceIdeal.main_v1) = v0 c
          ∧ r.2.mem ((c.tc : Thread Cert.DH0ReferenceIdeal.nD Cert.DH0ReferenceIdeal.τ).loc Cert.DH0ReferenceIdeal.main_arg0) = m' ((c.tc : Thread Cert.DH0ReferenceIdeal.nD Cert.DH0ReferenceIdeal.τ).loc Cert.DH0ReferenceIdeal.main_arg0)
          ∧ r.2.mem ((c.tc : Thread Cert.DH0ReferenceIdeal.nD Cert.DH0ReferenceIdeal.τ).loc Cert.DH0ReferenceIdeal.main_arg1) = m' ((c.tc : Thread Cert.DH0ReferenceIdeal.nD Cert.DH0ReferenceIdeal.τ).loc Cert.DH0ReferenceIdeal.main_arg1)
          ∧ r.2.mem ((c.tc : Thread Cert.DH0ReferenceIdeal.nD Cert.DH0ReferenceIdeal.τ).loc Cert.DH0ReferenceIdeal.main_arg2) = m' ((c.tc : Thread Cert.DH0ReferenceIdeal.nD Cert.DH0ReferenceIdeal.τ).loc Cert.DH0ReferenceIdeal.main_arg2))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)) →
    ∃ (v0 : (c : Dev Cert.GateKernelIdeal.nD) → Buf (Elt Ideal) ((c.tc : Thread Cert.GateKernelIdeal.nD Cert.GateKernelIdeal.τ).loc Cert.GateKernelIdeal.main_v2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v2) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v0) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)) →
    ∃ (v0 : (c : Dev Cert.PleKernelIdeal.nD) → Buf (Elt Ideal) ((c.tc : Thread Cert.PleKernelIdeal.nD Cert.PleKernelIdeal.τ).loc Cert.PleKernelIdeal.main_v1)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v1) = v0 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v0) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)) →
    ∃ (v0 : (c : Dev Cert.QkvKernelIdeal.nD) → Buf (Elt Ideal) ((c.tc : Thread Cert.QkvKernelIdeal.nD Cert.QkvKernelIdeal.τ).loc Cert.QkvKernelIdeal.main_v2)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v2) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v0) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v2) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DHKernel_DHKernelIdeal : Prop :=
  True

def algebraic_DHKernelIdeal_DHReferenceIdeal [hDHKernelIdeal : Cert.DHKernelIdeal.Facts] [hDHReferenceIdeal : Cert.DHReferenceIdeal.Facts] : Prop :=
  ∀ (m : (ℓ : Loc Cert.DHKernelIdeal.nD Cert.DHKernelIdeal.τ Cert.DHKernelIdeal.sig) → Buf (Elt Ideal) ℓ) (g : Dev Cert.DHKernelIdeal.nD → PrngReg)
    (m' : (ℓ : Loc Cert.DHReferenceIdeal.nD Cert.DHReferenceIdeal.τ Cert.DHReferenceIdeal.sig) → Buf (Elt Ideal) ℓ) (g' : Dev Cert.DHReferenceIdeal.nD → PrngReg), Pre_DHKernelIdeal m →
    (∀ c : Dev Cert.DHKernelIdeal.nD,
      m' ((c.tc : Thread Cert.DHReferenceIdeal.nD Cert.DHReferenceIdeal.τ).loc Cert.DHReferenceIdeal.main_arg0) = m ((c.tc : Thread Cert.DHKernelIdeal.nD Cert.DHKernelIdeal.τ).loc Cert.DHKernelIdeal.main_arg0)
      ∧ m' ((c.tc : Thread Cert.DHReferenceIdeal.nD Cert.DHReferenceIdeal.τ).loc Cert.DHReferenceIdeal.main_arg1) = m ((c.tc : Thread Cert.DHKernelIdeal.nD Cert.DHKernelIdeal.τ).loc Cert.DHKernelIdeal.main_arg1)
      ∧ m' ((c.tc : Thread Cert.DHReferenceIdeal.nD Cert.DHReferenceIdeal.τ).loc Cert.DHReferenceIdeal.main_arg2) = m ((c.tc : Thread Cert.DHKernelIdeal.nD Cert.DHKernelIdeal.τ).loc Cert.DHKernelIdeal.main_arg2)
      ∧ m' ((c.tc : Thread Cert.DHReferenceIdeal.nD Cert.DHReferenceIdeal.τ).loc Cert.DHReferenceIdeal.main_arg3) = m ((c.tc : Thread Cert.DHKernelIdeal.nD Cert.DHKernelIdeal.τ).loc Cert.DHKernelIdeal.main_arg3)
      ∧ m' ((c.tc : Thread Cert.DHReferenceIdeal.nD Cert.DHReferenceIdeal.τ).loc Cert.DHReferenceIdeal.main_arg4) = m ((c.tc : Thread Cert.DHKernelIdeal.nD Cert.DHKernelIdeal.τ).loc Cert.DHKernelIdeal.main_arg4)) →
    ∃ (v0 : (c : Dev Cert.DHKernelIdeal.nD) → Buf (Elt Ideal) ((c.tc : Thread Cert.DHKernelIdeal.nD Cert.DHKernelIdeal.τ).loc Cert.DHKernelIdeal.main_v3_0)) (v1 : (c : Dev Cert.DHKernelIdeal.nD) → Buf (Elt Ideal) ((c.tc : Thread Cert.DHKernelIdeal.nD Cert.DHKernelIdeal.τ).loc Cert.DHKernelIdeal.main_v3_1)) (v2 : (c : Dev Cert.DHKernelIdeal.nD) → Buf (Elt Ideal) ((c.tc : Thread Cert.DHKernelIdeal.nD Cert.DHKernelIdeal.τ).loc Cert.DHKernelIdeal.main_v3_2)),
      θ_run (Cert.DHKernelIdeal.defs (F := Ideal)) (onTc (τ := Cert.DHKernelIdeal.τ) (Cert.DHKernelIdeal.main (F := Ideal))) ⟨m, fun _ => 0, g⟩ (fun r => ∀ c : Dev Cert.DHKernelIdeal.nD,
          r.2.mem ((c.tc : Thread Cert.DHKernelIdeal.nD Cert.DHKernelIdeal.τ).loc Cert.DHKernelIdeal.main_v3_0) = v0 c
          ∧ r.2.mem ((c.tc : Thread Cert.DHKernelIdeal.nD Cert.DHKernelIdeal.τ).loc Cert.DHKernelIdeal.main_v3_1) = v1 c
          ∧ r.2.mem ((c.tc : Thread Cert.DHKernelIdeal.nD Cert.DHKernelIdeal.τ).loc Cert.DHKernelIdeal.main_v3_2) = v2 c
          ∧ r.2.mem ((c.tc : Thread Cert.DHKernelIdeal.nD Cert.DHKernelIdeal.τ).loc Cert.DHKernelIdeal.main_arg0) = m ((c.tc : Thread Cert.DHKernelIdeal.nD Cert.DHKernelIdeal.τ).loc Cert.DHKernelIdeal.main_arg0)
          ∧ r.2.mem ((c.tc : Thread Cert.DHKernelIdeal.nD Cert.DHKernelIdeal.τ).loc Cert.DHKernelIdeal.main_arg1) = m ((c.tc : Thread Cert.DHKernelIdeal.nD Cert.DHKernelIdeal.τ).loc Cert.DHKernelIdeal.main_arg1)
          ∧ r.2.mem ((c.tc : Thread Cert.DHKernelIdeal.nD Cert.DHKernelIdeal.τ).loc Cert.DHKernelIdeal.main_arg2) = m ((c.tc : Thread Cert.DHKernelIdeal.nD Cert.DHKernelIdeal.τ).loc Cert.DHKernelIdeal.main_arg2)
          ∧ r.2.mem ((c.tc : Thread Cert.DHKernelIdeal.nD Cert.DHKernelIdeal.τ).loc Cert.DHKernelIdeal.main_arg3) = m ((c.tc : Thread Cert.DHKernelIdeal.nD Cert.DHKernelIdeal.τ).loc Cert.DHKernelIdeal.main_arg3)
          ∧ r.2.mem ((c.tc : Thread Cert.DHKernelIdeal.nD Cert.DHKernelIdeal.τ).loc Cert.DHKernelIdeal.main_arg4) = m ((c.tc : Thread Cert.DHKernelIdeal.nD Cert.DHKernelIdeal.τ).loc Cert.DHKernelIdeal.main_arg4))
      ∧ θ_run (Cert.DHReferenceIdeal.defs (F := Ideal)) (onTc (τ := Cert.DHReferenceIdeal.τ) (Cert.DHReferenceIdeal.main (F := Ideal))) ⟨m', fun _ => 0, g'⟩ (fun r => ∀ c : Dev Cert.DHReferenceIdeal.nD,
          r.2.mem ((c.tc : Thread Cert.DHReferenceIdeal.nD Cert.DHReferenceIdeal.τ).loc Cert.DHReferenceIdeal.main_v38) = v0 c
          ∧ r.2.mem ((c.tc : Thread Cert.DHReferenceIdeal.nD Cert.DHReferenceIdeal.τ).loc Cert.DHReferenceIdeal.main_v40) = v1 c
          ∧ r.2.mem ((c.tc : Thread Cert.DHReferenceIdeal.nD Cert.DHReferenceIdeal.τ).loc Cert.DHReferenceIdeal.main_v39) = v2 c
          ∧ r.2.mem ((c.tc : Thread Cert.DHReferenceIdeal.nD Cert.DHReferenceIdeal.τ).loc Cert.DHReferenceIdeal.main_arg0) = m' ((c.tc : Thread Cert.DHReferenceIdeal.nD Cert.DHReferenceIdeal.τ).loc Cert.DHReferenceIdeal.main_arg0)
          ∧ r.2.mem ((c.tc : Thread Cert.DHReferenceIdeal.nD Cert.DHReferenceIdeal.τ).loc Cert.DHReferenceIdeal.main_arg1) = m' ((c.tc : Thread Cert.DHReferenceIdeal.nD Cert.DHReferenceIdeal.τ).loc Cert.DHReferenceIdeal.main_arg1)
          ∧ r.2.mem ((c.tc : Thread Cert.DHReferenceIdeal.nD Cert.DHReferenceIdeal.τ).loc Cert.DHReferenceIdeal.main_arg2) = m' ((c.tc : Thread Cert.DHReferenceIdeal.nD Cert.DHReferenceIdeal.τ).loc Cert.DHReferenceIdeal.main_arg2)
          ∧ r.2.mem ((c.tc : Thread Cert.DHReferenceIdeal.nD Cert.DHReferenceIdeal.τ).loc Cert.DHReferenceIdeal.main_arg3) = m' ((c.tc : Thread Cert.DHReferenceIdeal.nD Cert.DHReferenceIdeal.τ).loc Cert.DHReferenceIdeal.main_arg3)
          ∧ r.2.mem ((c.tc : Thread Cert.DHReferenceIdeal.nD Cert.DHReferenceIdeal.τ).loc Cert.DHReferenceIdeal.main_arg4) = m' ((c.tc : Thread Cert.DHReferenceIdeal.nD Cert.DHReferenceIdeal.τ).loc Cert.DHReferenceIdeal.main_arg4))

def preserves_DHgKernel_DHgKernelIdeal : Prop :=
  True

def algebraic_DHgKernelIdeal_DHgReferenceIdeal [hDHgKernelIdeal : Cert.DHgKernelIdeal.Facts] [hDHgReferenceIdeal : Cert.DHgReferenceIdeal.Facts] : Prop :=
  ∀ (m : (ℓ : Loc Cert.DHgKernelIdeal.nD Cert.DHgKernelIdeal.τ Cert.DHgKernelIdeal.sig) → Buf (Elt Ideal) ℓ) (g : Dev Cert.DHgKernelIdeal.nD → PrngReg)
    (m' : (ℓ : Loc Cert.DHgReferenceIdeal.nD Cert.DHgReferenceIdeal.τ Cert.DHgReferenceIdeal.sig) → Buf (Elt Ideal) ℓ) (g' : Dev Cert.DHgReferenceIdeal.nD → PrngReg), Pre_DHgKernelIdeal m →
    (∀ c : Dev Cert.DHgKernelIdeal.nD,
      m' ((c.tc : Thread Cert.DHgReferenceIdeal.nD Cert.DHgReferenceIdeal.τ).loc Cert.DHgReferenceIdeal.main_arg0) = m ((c.tc : Thread Cert.DHgKernelIdeal.nD Cert.DHgKernelIdeal.τ).loc Cert.DHgKernelIdeal.main_arg0)
      ∧ m' ((c.tc : Thread Cert.DHgReferenceIdeal.nD Cert.DHgReferenceIdeal.τ).loc Cert.DHgReferenceIdeal.main_arg1) = m ((c.tc : Thread Cert.DHgKernelIdeal.nD Cert.DHgKernelIdeal.τ).loc Cert.DHgKernelIdeal.main_arg1)
      ∧ m' ((c.tc : Thread Cert.DHgReferenceIdeal.nD Cert.DHgReferenceIdeal.τ).loc Cert.DHgReferenceIdeal.main_arg2) = m ((c.tc : Thread Cert.DHgKernelIdeal.nD Cert.DHgKernelIdeal.τ).loc Cert.DHgKernelIdeal.main_arg2)
      ∧ m' ((c.tc : Thread Cert.DHgReferenceIdeal.nD Cert.DHgReferenceIdeal.τ).loc Cert.DHgReferenceIdeal.main_arg3) = m ((c.tc : Thread Cert.DHgKernelIdeal.nD Cert.DHgKernelIdeal.τ).loc Cert.DHgKernelIdeal.main_arg3)
      ∧ m' ((c.tc : Thread Cert.DHgReferenceIdeal.nD Cert.DHgReferenceIdeal.τ).loc Cert.DHgReferenceIdeal.main_arg4) = m ((c.tc : Thread Cert.DHgKernelIdeal.nD Cert.DHgKernelIdeal.τ).loc Cert.DHgKernelIdeal.main_arg4)) →
    ∃ (v0 : (c : Dev Cert.DHgKernelIdeal.nD) → Buf (Elt Ideal) ((c.tc : Thread Cert.DHgKernelIdeal.nD Cert.DHgKernelIdeal.τ).loc Cert.DHgKernelIdeal.main_v3_0)) (v1 : (c : Dev Cert.DHgKernelIdeal.nD) → Buf (Elt Ideal) ((c.tc : Thread Cert.DHgKernelIdeal.nD Cert.DHgKernelIdeal.τ).loc Cert.DHgKernelIdeal.main_v3_1)) (v2 : (c : Dev Cert.DHgKernelIdeal.nD) → Buf (Elt Ideal) ((c.tc : Thread Cert.DHgKernelIdeal.nD Cert.DHgKernelIdeal.τ).loc Cert.DHgKernelIdeal.main_v3_2)),
      θ_run (Cert.DHgKernelIdeal.defs (F := Ideal)) (onTc (τ := Cert.DHgKernelIdeal.τ) (Cert.DHgKernelIdeal.main (F := Ideal))) ⟨m, fun _ => 0, g⟩ (fun r => ∀ c : Dev Cert.DHgKernelIdeal.nD,
          r.2.mem ((c.tc : Thread Cert.DHgKernelIdeal.nD Cert.DHgKernelIdeal.τ).loc Cert.DHgKernelIdeal.main_v3_0) = v0 c
          ∧ r.2.mem ((c.tc : Thread Cert.DHgKernelIdeal.nD Cert.DHgKernelIdeal.τ).loc Cert.DHgKernelIdeal.main_v3_1) = v1 c
          ∧ r.2.mem ((c.tc : Thread Cert.DHgKernelIdeal.nD Cert.DHgKernelIdeal.τ).loc Cert.DHgKernelIdeal.main_v3_2) = v2 c
          ∧ r.2.mem ((c.tc : Thread Cert.DHgKernelIdeal.nD Cert.DHgKernelIdeal.τ).loc Cert.DHgKernelIdeal.main_arg0) = m ((c.tc : Thread Cert.DHgKernelIdeal.nD Cert.DHgKernelIdeal.τ).loc Cert.DHgKernelIdeal.main_arg0)
          ∧ r.2.mem ((c.tc : Thread Cert.DHgKernelIdeal.nD Cert.DHgKernelIdeal.τ).loc Cert.DHgKernelIdeal.main_arg1) = m ((c.tc : Thread Cert.DHgKernelIdeal.nD Cert.DHgKernelIdeal.τ).loc Cert.DHgKernelIdeal.main_arg1)
          ∧ r.2.mem ((c.tc : Thread Cert.DHgKernelIdeal.nD Cert.DHgKernelIdeal.τ).loc Cert.DHgKernelIdeal.main_arg2) = m ((c.tc : Thread Cert.DHgKernelIdeal.nD Cert.DHgKernelIdeal.τ).loc Cert.DHgKernelIdeal.main_arg2)
          ∧ r.2.mem ((c.tc : Thread Cert.DHgKernelIdeal.nD Cert.DHgKernelIdeal.τ).loc Cert.DHgKernelIdeal.main_arg3) = m ((c.tc : Thread Cert.DHgKernelIdeal.nD Cert.DHgKernelIdeal.τ).loc Cert.DHgKernelIdeal.main_arg3)
          ∧ r.2.mem ((c.tc : Thread Cert.DHgKernelIdeal.nD Cert.DHgKernelIdeal.τ).loc Cert.DHgKernelIdeal.main_arg4) = m ((c.tc : Thread Cert.DHgKernelIdeal.nD Cert.DHgKernelIdeal.τ).loc Cert.DHgKernelIdeal.main_arg4))
      ∧ θ_run (Cert.DHgReferenceIdeal.defs (F := Ideal)) (onTc (τ := Cert.DHgReferenceIdeal.τ) (Cert.DHgReferenceIdeal.main (F := Ideal))) ⟨m', fun _ => 0, g'⟩ (fun r => ∀ c : Dev Cert.DHgReferenceIdeal.nD,
          r.2.mem ((c.tc : Thread Cert.DHgReferenceIdeal.nD Cert.DHgReferenceIdeal.τ).loc Cert.DHgReferenceIdeal.main_v38) = v0 c
          ∧ r.2.mem ((c.tc : Thread Cert.DHgReferenceIdeal.nD Cert.DHgReferenceIdeal.τ).loc Cert.DHgReferenceIdeal.main_v40) = v1 c
          ∧ r.2.mem ((c.tc : Thread Cert.DHgReferenceIdeal.nD Cert.DHgReferenceIdeal.τ).loc Cert.DHgReferenceIdeal.main_v39) = v2 c
          ∧ r.2.mem ((c.tc : Thread Cert.DHgReferenceIdeal.nD Cert.DHgReferenceIdeal.τ).loc Cert.DHgReferenceIdeal.main_arg0) = m' ((c.tc : Thread Cert.DHgReferenceIdeal.nD Cert.DHgReferenceIdeal.τ).loc Cert.DHgReferenceIdeal.main_arg0)
          ∧ r.2.mem ((c.tc : Thread Cert.DHgReferenceIdeal.nD Cert.DHgReferenceIdeal.τ).loc Cert.DHgReferenceIdeal.main_arg1) = m' ((c.tc : Thread Cert.DHgReferenceIdeal.nD Cert.DHgReferenceIdeal.τ).loc Cert.DHgReferenceIdeal.main_arg1)
          ∧ r.2.mem ((c.tc : Thread Cert.DHgReferenceIdeal.nD Cert.DHgReferenceIdeal.τ).loc Cert.DHgReferenceIdeal.main_arg2) = m' ((c.tc : Thread Cert.DHgReferenceIdeal.nD Cert.DHgReferenceIdeal.τ).loc Cert.DHgReferenceIdeal.main_arg2)
          ∧ r.2.mem ((c.tc : Thread Cert.DHgReferenceIdeal.nD Cert.DHgReferenceIdeal.τ).loc Cert.DHgReferenceIdeal.main_arg3) = m' ((c.tc : Thread Cert.DHgReferenceIdeal.nD Cert.DHgReferenceIdeal.τ).loc Cert.DHgReferenceIdeal.main_arg3)
          ∧ r.2.mem ((c.tc : Thread Cert.DHgReferenceIdeal.nD Cert.DHgReferenceIdeal.τ).loc Cert.DHgReferenceIdeal.main_arg4) = m' ((c.tc : Thread Cert.DHgReferenceIdeal.nD Cert.DHgReferenceIdeal.τ).loc Cert.DHgReferenceIdeal.main_arg4))

def preserves_DHInKernel_DHInKernelIdeal : Prop :=
  True

def algebraic_DHInKernelIdeal_DHInReferenceIdeal [hDHInKernelIdeal : Cert.DHInKernelIdeal.Facts] [hDHInReferenceIdeal : Cert.DHInReferenceIdeal.Facts] : Prop :=
  ∀ (m : (ℓ : Loc Cert.DHInKernelIdeal.nD Cert.DHInKernelIdeal.τ Cert.DHInKernelIdeal.sig) → Buf (Elt Ideal) ℓ) (g : Dev Cert.DHInKernelIdeal.nD → PrngReg)
    (m' : (ℓ : Loc Cert.DHInReferenceIdeal.nD Cert.DHInReferenceIdeal.τ Cert.DHInReferenceIdeal.sig) → Buf (Elt Ideal) ℓ) (g' : Dev Cert.DHInReferenceIdeal.nD → PrngReg), Pre_DHInKernelIdeal m →
    (∀ c : Dev Cert.DHInKernelIdeal.nD,
      m' ((c.tc : Thread Cert.DHInReferenceIdeal.nD Cert.DHInReferenceIdeal.τ).loc Cert.DHInReferenceIdeal.main_arg0) = m ((c.tc : Thread Cert.DHInKernelIdeal.nD Cert.DHInKernelIdeal.τ).loc Cert.DHInKernelIdeal.main_arg0)
      ∧ m' ((c.tc : Thread Cert.DHInReferenceIdeal.nD Cert.DHInReferenceIdeal.τ).loc Cert.DHInReferenceIdeal.main_arg1) = m ((c.tc : Thread Cert.DHInKernelIdeal.nD Cert.DHInKernelIdeal.τ).loc Cert.DHInKernelIdeal.main_arg1)
      ∧ m' ((c.tc : Thread Cert.DHInReferenceIdeal.nD Cert.DHInReferenceIdeal.τ).loc Cert.DHInReferenceIdeal.main_arg2) = m ((c.tc : Thread Cert.DHInKernelIdeal.nD Cert.DHInKernelIdeal.τ).loc Cert.DHInKernelIdeal.main_arg2)
      ∧ m' ((c.tc : Thread Cert.DHInReferenceIdeal.nD Cert.DHInReferenceIdeal.τ).loc Cert.DHInReferenceIdeal.main_arg3) = m ((c.tc : Thread Cert.DHInKernelIdeal.nD Cert.DHInKernelIdeal.τ).loc Cert.DHInKernelIdeal.main_arg3)
      ∧ m' ((c.tc : Thread Cert.DHInReferenceIdeal.nD Cert.DHInReferenceIdeal.τ).loc Cert.DHInReferenceIdeal.main_arg4) = m ((c.tc : Thread Cert.DHInKernelIdeal.nD Cert.DHInKernelIdeal.τ).loc Cert.DHInKernelIdeal.main_arg4)) →
    ∃ (v0 : (c : Dev Cert.DHInKernelIdeal.nD) → Buf (Elt Ideal) ((c.tc : Thread Cert.DHInKernelIdeal.nD Cert.DHInKernelIdeal.τ).loc Cert.DHInKernelIdeal.main_v11_0)) (v1 : (c : Dev Cert.DHInKernelIdeal.nD) → Buf (Elt Ideal) ((c.tc : Thread Cert.DHInKernelIdeal.nD Cert.DHInKernelIdeal.τ).loc Cert.DHInKernelIdeal.main_v11_1)),
      θ_run (Cert.DHInKernelIdeal.defs (F := Ideal)) (onTc (τ := Cert.DHInKernelIdeal.τ) (Cert.DHInKernelIdeal.main (F := Ideal))) ⟨m, fun _ => 0, g⟩ (fun r => ∀ c : Dev Cert.DHInKernelIdeal.nD,
          r.2.mem ((c.tc : Thread Cert.DHInKernelIdeal.nD Cert.DHInKernelIdeal.τ).loc Cert.DHInKernelIdeal.main_v11_0) = v0 c
          ∧ r.2.mem ((c.tc : Thread Cert.DHInKernelIdeal.nD Cert.DHInKernelIdeal.τ).loc Cert.DHInKernelIdeal.main_v11_1) = v1 c
          ∧ r.2.mem ((c.tc : Thread Cert.DHInKernelIdeal.nD Cert.DHInKernelIdeal.τ).loc Cert.DHInKernelIdeal.main_arg0) = m ((c.tc : Thread Cert.DHInKernelIdeal.nD Cert.DHInKernelIdeal.τ).loc Cert.DHInKernelIdeal.main_arg0)
          ∧ r.2.mem ((c.tc : Thread Cert.DHInKernelIdeal.nD Cert.DHInKernelIdeal.τ).loc Cert.DHInKernelIdeal.main_arg1) = m ((c.tc : Thread Cert.DHInKernelIdeal.nD Cert.DHInKernelIdeal.τ).loc Cert.DHInKernelIdeal.main_arg1)
          ∧ r.2.mem ((c.tc : Thread Cert.DHInKernelIdeal.nD Cert.DHInKernelIdeal.τ).loc Cert.DHInKernelIdeal.main_arg2) = m ((c.tc : Thread Cert.DHInKernelIdeal.nD Cert.DHInKernelIdeal.τ).loc Cert.DHInKernelIdeal.main_arg2)
          ∧ r.2.mem ((c.tc : Thread Cert.DHInKernelIdeal.nD Cert.DHInKernelIdeal.τ).loc Cert.DHInKernelIdeal.main_arg3) = m ((c.tc : Thread Cert.DHInKernelIdeal.nD Cert.DHInKernelIdeal.τ).loc Cert.DHInKernelIdeal.main_arg3)
          ∧ r.2.mem ((c.tc : Thread Cert.DHInKernelIdeal.nD Cert.DHInKernelIdeal.τ).loc Cert.DHInKernelIdeal.main_arg4) = m ((c.tc : Thread Cert.DHInKernelIdeal.nD Cert.DHInKernelIdeal.τ).loc Cert.DHInKernelIdeal.main_arg4))
      ∧ θ_run (Cert.DHInReferenceIdeal.defs (F := Ideal)) (onTc (τ := Cert.DHInReferenceIdeal.τ) (Cert.DHInReferenceIdeal.main (F := Ideal))) ⟨m', fun _ => 0, g'⟩ (fun r => ∀ c : Dev Cert.DHInReferenceIdeal.nD,
          r.2.mem ((c.tc : Thread Cert.DHInReferenceIdeal.nD Cert.DHInReferenceIdeal.τ).loc Cert.DHInReferenceIdeal.main_v38) = v0 c
          ∧ r.2.mem ((c.tc : Thread Cert.DHInReferenceIdeal.nD Cert.DHInReferenceIdeal.τ).loc Cert.DHInReferenceIdeal.main_v39) = v1 c
          ∧ r.2.mem ((c.tc : Thread Cert.DHInReferenceIdeal.nD Cert.DHInReferenceIdeal.τ).loc Cert.DHInReferenceIdeal.main_arg0) = m' ((c.tc : Thread Cert.DHInReferenceIdeal.nD Cert.DHInReferenceIdeal.τ).loc Cert.DHInReferenceIdeal.main_arg0)
          ∧ r.2.mem ((c.tc : Thread Cert.DHInReferenceIdeal.nD Cert.DHInReferenceIdeal.τ).loc Cert.DHInReferenceIdeal.main_arg1) = m' ((c.tc : Thread Cert.DHInReferenceIdeal.nD Cert.DHInReferenceIdeal.τ).loc Cert.DHInReferenceIdeal.main_arg1)
          ∧ r.2.mem ((c.tc : Thread Cert.DHInReferenceIdeal.nD Cert.DHInReferenceIdeal.τ).loc Cert.DHInReferenceIdeal.main_arg2) = m' ((c.tc : Thread Cert.DHInReferenceIdeal.nD Cert.DHInReferenceIdeal.τ).loc Cert.DHInReferenceIdeal.main_arg2)
          ∧ r.2.mem ((c.tc : Thread Cert.DHInReferenceIdeal.nD Cert.DHInReferenceIdeal.τ).loc Cert.DHInReferenceIdeal.main_arg3) = m' ((c.tc : Thread Cert.DHInReferenceIdeal.nD Cert.DHInReferenceIdeal.τ).loc Cert.DHInReferenceIdeal.main_arg3)
          ∧ r.2.mem ((c.tc : Thread Cert.DHInReferenceIdeal.nD Cert.DHInReferenceIdeal.τ).loc Cert.DHInReferenceIdeal.main_arg4) = m' ((c.tc : Thread Cert.DHInReferenceIdeal.nD Cert.DHInReferenceIdeal.τ).loc Cert.DHInReferenceIdeal.main_arg4))

def preserves_WInKernel_WInKernelIdeal : Prop :=
  True

def algebraic_WInKernelIdeal_WInReferenceIdeal [hWInKernelIdeal : Cert.WInKernelIdeal.Facts] [hWInReferenceIdeal : Cert.WInReferenceIdeal.Facts] : Prop :=
  ∀ (m : (ℓ : Loc Cert.WInKernelIdeal.nD Cert.WInKernelIdeal.τ Cert.WInKernelIdeal.sig) → Buf (Elt Ideal) ℓ) (g : Dev Cert.WInKernelIdeal.nD → PrngReg)
    (m' : (ℓ : Loc Cert.WInReferenceIdeal.nD Cert.WInReferenceIdeal.τ Cert.WInReferenceIdeal.sig) → Buf (Elt Ideal) ℓ) (g' : Dev Cert.WInReferenceIdeal.nD → PrngReg), Pre_WInKernelIdeal m →
    (∀ c : Dev Cert.WInKernelIdeal.nD,
      m' ((c.tc : Thread Cert.WInReferenceIdeal.nD Cert.WInReferenceIdeal.τ).loc Cert.WInReferenceIdeal.main_arg0) = m ((c.tc : Thread Cert.WInKernelIdeal.nD Cert.WInKernelIdeal.τ).loc Cert.WInKernelIdeal.main_arg0)
      ∧ m' ((c.tc : Thread Cert.WInReferenceIdeal.nD Cert.WInReferenceIdeal.τ).loc Cert.WInReferenceIdeal.main_arg1) = m ((c.tc : Thread Cert.WInKernelIdeal.nD Cert.WInKernelIdeal.τ).loc Cert.WInKernelIdeal.main_arg1)
      ∧ m' ((c.tc : Thread Cert.WInReferenceIdeal.nD Cert.WInReferenceIdeal.τ).loc Cert.WInReferenceIdeal.main_arg2) = m ((c.tc : Thread Cert.WInKernelIdeal.nD Cert.WInKernelIdeal.τ).loc Cert.WInKernelIdeal.main_arg2)) →
    ∃ (v0 : (c : Dev Cert.WInKernelIdeal.nD) → Buf (Elt Ideal) ((c.tc : Thread Cert.WInKernelIdeal.nD Cert.WInKernelIdeal.τ).loc Cert.WInKernelIdeal.main_v6)),
      θ_run (Cert.WInKernelIdeal.defs (F := Ideal)) (onTc (τ := Cert.WInKernelIdeal.τ) (Cert.WInKernelIdeal.main (F := Ideal))) ⟨m, fun _ => 0, g⟩ (fun r => ∀ c : Dev Cert.WInKernelIdeal.nD,
          r.2.mem ((c.tc : Thread Cert.WInKernelIdeal.nD Cert.WInKernelIdeal.τ).loc Cert.WInKernelIdeal.main_v6) = v0 c
          ∧ r.2.mem ((c.tc : Thread Cert.WInKernelIdeal.nD Cert.WInKernelIdeal.τ).loc Cert.WInKernelIdeal.main_arg0) = m ((c.tc : Thread Cert.WInKernelIdeal.nD Cert.WInKernelIdeal.τ).loc Cert.WInKernelIdeal.main_arg0)
          ∧ r.2.mem ((c.tc : Thread Cert.WInKernelIdeal.nD Cert.WInKernelIdeal.τ).loc Cert.WInKernelIdeal.main_arg1) = m ((c.tc : Thread Cert.WInKernelIdeal.nD Cert.WInKernelIdeal.τ).loc Cert.WInKernelIdeal.main_arg1)
          ∧ r.2.mem ((c.tc : Thread Cert.WInKernelIdeal.nD Cert.WInKernelIdeal.τ).loc Cert.WInKernelIdeal.main_arg2) = m ((c.tc : Thread Cert.WInKernelIdeal.nD Cert.WInKernelIdeal.τ).loc Cert.WInKernelIdeal.main_arg2))
      ∧ θ_run (Cert.WInReferenceIdeal.defs (F := Ideal)) (onTc (τ := Cert.WInReferenceIdeal.τ) (Cert.WInReferenceIdeal.main (F := Ideal))) ⟨m', fun _ => 0, g'⟩ (fun r => ∀ c : Dev Cert.WInReferenceIdeal.nD,
          r.2.mem ((c.tc : Thread Cert.WInReferenceIdeal.nD Cert.WInReferenceIdeal.τ).loc Cert.WInReferenceIdeal.main_v7) = v0 c
          ∧ r.2.mem ((c.tc : Thread Cert.WInReferenceIdeal.nD Cert.WInReferenceIdeal.τ).loc Cert.WInReferenceIdeal.main_arg0) = m' ((c.tc : Thread Cert.WInReferenceIdeal.nD Cert.WInReferenceIdeal.τ).loc Cert.WInReferenceIdeal.main_arg0)
          ∧ r.2.mem ((c.tc : Thread Cert.WInReferenceIdeal.nD Cert.WInReferenceIdeal.τ).loc Cert.WInReferenceIdeal.main_arg1) = m' ((c.tc : Thread Cert.WInReferenceIdeal.nD Cert.WInReferenceIdeal.τ).loc Cert.WInReferenceIdeal.main_arg1)
          ∧ r.2.mem ((c.tc : Thread Cert.WInReferenceIdeal.nD Cert.WInReferenceIdeal.τ).loc Cert.WInReferenceIdeal.main_arg2) = m' ((c.tc : Thread Cert.WInReferenceIdeal.nD Cert.WInReferenceIdeal.τ).loc Cert.WInReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v6)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v6) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v4) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v3_0)) (v1 : (c : Dev Cert.DownKernelIdeal.nD) → Buf (Elt Ideal) ((c.tc : Thread Cert.DownKernelIdeal.nD Cert.DownKernelIdeal.τ).loc Cert.DownKernelIdeal.main_v3_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v3_0) = v0 c
          ∧ r.2.mem ((c.tc : Thread Cert.DownKernelIdeal.nD Cert.DownKernelIdeal.τ).loc Cert.DownKernelIdeal.main_v3_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_v15) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_AOutKernel_AOutKernelIdeal : Prop :=
  True

def algebraic_AOutKernelIdeal_AOutReferenceIdeal [hAOutKernelIdeal : Cert.AOutKernelIdeal.Facts] [hAOutReferenceIdeal : Cert.AOutReferenceIdeal.Facts] : Prop :=
  ∀ (m : (ℓ : Loc Cert.AOutKernelIdeal.nD Cert.AOutKernelIdeal.τ Cert.AOutKernelIdeal.sig) → Buf (Elt Ideal) ℓ) (g : Dev Cert.AOutKernelIdeal.nD → PrngReg)
    (m' : (ℓ : Loc Cert.AOutReferenceIdeal.nD Cert.AOutReferenceIdeal.τ Cert.AOutReferenceIdeal.sig) → Buf (Elt Ideal) ℓ) (g' : Dev Cert.AOutReferenceIdeal.nD → PrngReg), Pre_AOutKernelIdeal m →
    (∀ c : Dev Cert.AOutKernelIdeal.nD,
      m' ((c.tc : Thread Cert.AOutReferenceIdeal.nD Cert.AOutReferenceIdeal.τ).loc Cert.AOutReferenceIdeal.main_arg0) = m ((c.tc : Thread Cert.AOutKernelIdeal.nD Cert.AOutKernelIdeal.τ).loc Cert.AOutKernelIdeal.main_arg0)
      ∧ m' ((c.tc : Thread Cert.AOutReferenceIdeal.nD Cert.AOutReferenceIdeal.τ).loc Cert.AOutReferenceIdeal.main_arg1) = m ((c.tc : Thread Cert.AOutKernelIdeal.nD Cert.AOutKernelIdeal.τ).loc Cert.AOutKernelIdeal.main_arg1)
      ∧ m' ((c.tc : Thread Cert.AOutReferenceIdeal.nD Cert.AOutReferenceIdeal.τ).loc Cert.AOutReferenceIdeal.main_arg2) = m ((c.tc : Thread Cert.AOutKernelIdeal.nD Cert.AOutKernelIdeal.τ).loc Cert.AOutKernelIdeal.main_arg2)
      ∧ m' ((c.tc : Thread Cert.AOutReferenceIdeal.nD Cert.AOutReferenceIdeal.τ).loc Cert.AOutReferenceIdeal.main_arg3) = m ((c.tc : Thread Cert.AOutKernelIdeal.nD Cert.AOutKernelIdeal.τ).loc Cert.AOutKernelIdeal.main_arg3)) →
    ∃ (v0 : (c : Dev Cert.AOutKernelIdeal.nD) → Buf (Elt Ideal) ((c.tc : Thread Cert.AOutKernelIdeal.nD Cert.AOutKernelIdeal.τ).loc Cert.AOutKernelIdeal.main_v3_0)) (v1 : (c : Dev Cert.AOutKernelIdeal.nD) → Buf (Elt Ideal) ((c.tc : Thread Cert.AOutKernelIdeal.nD Cert.AOutKernelIdeal.τ).loc Cert.AOutKernelIdeal.main_v3_1)),
      θ_run (Cert.AOutKernelIdeal.defs (F := Ideal)) (onTc (τ := Cert.AOutKernelIdeal.τ) (Cert.AOutKernelIdeal.main (F := Ideal))) ⟨m, fun _ => 0, g⟩ (fun r => ∀ c : Dev Cert.AOutKernelIdeal.nD,
          r.2.mem ((c.tc : Thread Cert.AOutKernelIdeal.nD Cert.AOutKernelIdeal.τ).loc Cert.AOutKernelIdeal.main_v3_0) = v0 c
          ∧ r.2.mem ((c.tc : Thread Cert.AOutKernelIdeal.nD Cert.AOutKernelIdeal.τ).loc Cert.AOutKernelIdeal.main_v3_1) = v1 c
          ∧ r.2.mem ((c.tc : Thread Cert.AOutKernelIdeal.nD Cert.AOutKernelIdeal.τ).loc Cert.AOutKernelIdeal.main_arg0) = m ((c.tc : Thread Cert.AOutKernelIdeal.nD Cert.AOutKernelIdeal.τ).loc Cert.AOutKernelIdeal.main_arg0)
          ∧ r.2.mem ((c.tc : Thread Cert.AOutKernelIdeal.nD Cert.AOutKernelIdeal.τ).loc Cert.AOutKernelIdeal.main_arg1) = m ((c.tc : Thread Cert.AOutKernelIdeal.nD Cert.AOutKernelIdeal.τ).loc Cert.AOutKernelIdeal.main_arg1)
          ∧ r.2.mem ((c.tc : Thread Cert.AOutKernelIdeal.nD Cert.AOutKernelIdeal.τ).loc Cert.AOutKernelIdeal.main_arg2) = m ((c.tc : Thread Cert.AOutKernelIdeal.nD Cert.AOutKernelIdeal.τ).loc Cert.AOutKernelIdeal.main_arg2)
          ∧ r.2.mem ((c.tc : Thread Cert.AOutKernelIdeal.nD Cert.AOutKernelIdeal.τ).loc Cert.AOutKernelIdeal.main_arg3) = m ((c.tc : Thread Cert.AOutKernelIdeal.nD Cert.AOutKernelIdeal.τ).loc Cert.AOutKernelIdeal.main_arg3))
      ∧ θ_run (Cert.AOutReferenceIdeal.defs (F := Ideal)) (onTc (τ := Cert.AOutReferenceIdeal.τ) (Cert.AOutReferenceIdeal.main (F := Ideal))) ⟨m', fun _ => 0, g'⟩ (fun r => ∀ c : Dev Cert.AOutReferenceIdeal.nD,
          r.2.mem ((c.tc : Thread Cert.AOutReferenceIdeal.nD Cert.AOutReferenceIdeal.τ).loc Cert.AOutReferenceIdeal.main_v1) = v0 c
          ∧ r.2.mem ((c.tc : Thread Cert.AOutReferenceIdeal.nD Cert.AOutReferenceIdeal.τ).loc Cert.AOutReferenceIdeal.main_v15) = v1 c
          ∧ r.2.mem ((c.tc : Thread Cert.AOutReferenceIdeal.nD Cert.AOutReferenceIdeal.τ).loc Cert.AOutReferenceIdeal.main_arg0) = m' ((c.tc : Thread Cert.AOutReferenceIdeal.nD Cert.AOutReferenceIdeal.τ).loc Cert.AOutReferenceIdeal.main_arg0)
          ∧ r.2.mem ((c.tc : Thread Cert.AOutReferenceIdeal.nD Cert.AOutReferenceIdeal.τ).loc Cert.AOutReferenceIdeal.main_arg1) = m' ((c.tc : Thread Cert.AOutReferenceIdeal.nD Cert.AOutReferenceIdeal.τ).loc Cert.AOutReferenceIdeal.main_arg1)
          ∧ r.2.mem ((c.tc : Thread Cert.AOutReferenceIdeal.nD Cert.AOutReferenceIdeal.τ).loc Cert.AOutReferenceIdeal.main_arg2) = m' ((c.tc : Thread Cert.AOutReferenceIdeal.nD Cert.AOutReferenceIdeal.τ).loc Cert.AOutReferenceIdeal.main_arg2)
          ∧ r.2.mem ((c.tc : Thread Cert.AOutReferenceIdeal.nD Cert.AOutReferenceIdeal.τ).loc Cert.AOutReferenceIdeal.main_arg3) = m' ((c.tc : Thread Cert.AOutReferenceIdeal.nD Cert.AOutReferenceIdeal.τ).loc Cert.AOutReferenceIdeal.main_arg3))

def preserves_DOutKernel_DOutKernelIdeal : Prop :=
  True

def algebraic_DOutKernelIdeal_DOutReferenceIdeal [hDOutKernelIdeal : Cert.DOutKernelIdeal.Facts] [hDOutReferenceIdeal : Cert.DOutReferenceIdeal.Facts] : Prop :=
  ∀ (m : (ℓ : Loc Cert.DOutKernelIdeal.nD Cert.DOutKernelIdeal.τ Cert.DOutKernelIdeal.sig) → Buf (Elt Ideal) ℓ) (g : Dev Cert.DOutKernelIdeal.nD → PrngReg)
    (m' : (ℓ : Loc Cert.DOutReferenceIdeal.nD Cert.DOutReferenceIdeal.τ Cert.DOutReferenceIdeal.sig) → Buf (Elt Ideal) ℓ) (g' : Dev Cert.DOutReferenceIdeal.nD → PrngReg), Pre_DOutKernelIdeal m →
    (∀ c : Dev Cert.DOutKernelIdeal.nD,
      m' ((c.tc : Thread Cert.DOutReferenceIdeal.nD Cert.DOutReferenceIdeal.τ).loc Cert.DOutReferenceIdeal.main_arg0) = m ((c.tc : Thread Cert.DOutKernelIdeal.nD Cert.DOutKernelIdeal.τ).loc Cert.DOutKernelIdeal.main_arg0)
      ∧ m' ((c.tc : Thread Cert.DOutReferenceIdeal.nD Cert.DOutReferenceIdeal.τ).loc Cert.DOutReferenceIdeal.main_arg1) = m ((c.tc : Thread Cert.DOutKernelIdeal.nD Cert.DOutKernelIdeal.τ).loc Cert.DOutKernelIdeal.main_arg1)
      ∧ m' ((c.tc : Thread Cert.DOutReferenceIdeal.nD Cert.DOutReferenceIdeal.τ).loc Cert.DOutReferenceIdeal.main_arg2) = m ((c.tc : Thread Cert.DOutKernelIdeal.nD Cert.DOutKernelIdeal.τ).loc Cert.DOutKernelIdeal.main_arg2)
      ∧ m' ((c.tc : Thread Cert.DOutReferenceIdeal.nD Cert.DOutReferenceIdeal.τ).loc Cert.DOutReferenceIdeal.main_arg3) = m ((c.tc : Thread Cert.DOutKernelIdeal.nD Cert.DOutKernelIdeal.τ).loc Cert.DOutKernelIdeal.main_arg3)) →
    ∃ (v0 : (c : Dev Cert.DOutKernelIdeal.nD) → Buf (Elt Ideal) ((c.tc : Thread Cert.DOutKernelIdeal.nD Cert.DOutKernelIdeal.τ).loc Cert.DOutKernelIdeal.main_v3_0)) (v1 : (c : Dev Cert.DOutKernelIdeal.nD) → Buf (Elt Ideal) ((c.tc : Thread Cert.DOutKernelIdeal.nD Cert.DOutKernelIdeal.τ).loc Cert.DOutKernelIdeal.main_v3_1)),
      θ_run (Cert.DOutKernelIdeal.defs (F := Ideal)) (onTc (τ := Cert.DOutKernelIdeal.τ) (Cert.DOutKernelIdeal.main (F := Ideal))) ⟨m, fun _ => 0, g⟩ (fun r => ∀ c : Dev Cert.DOutKernelIdeal.nD,
          r.2.mem ((c.tc : Thread Cert.DOutKernelIdeal.nD Cert.DOutKernelIdeal.τ).loc Cert.DOutKernelIdeal.main_v3_0) = v0 c
          ∧ r.2.mem ((c.tc : Thread Cert.DOutKernelIdeal.nD Cert.DOutKernelIdeal.τ).loc Cert.DOutKernelIdeal.main_v3_1) = v1 c
          ∧ r.2.mem ((c.tc : Thread Cert.DOutKernelIdeal.nD Cert.DOutKernelIdeal.τ).loc Cert.DOutKernelIdeal.main_arg0) = m ((c.tc : Thread Cert.DOutKernelIdeal.nD Cert.DOutKernelIdeal.τ).loc Cert.DOutKernelIdeal.main_arg0)
          ∧ r.2.mem ((c.tc : Thread Cert.DOutKernelIdeal.nD Cert.DOutKernelIdeal.τ).loc Cert.DOutKernelIdeal.main_arg1) = m ((c.tc : Thread Cert.DOutKernelIdeal.nD Cert.DOutKernelIdeal.τ).loc Cert.DOutKernelIdeal.main_arg1)
          ∧ r.2.mem ((c.tc : Thread Cert.DOutKernelIdeal.nD Cert.DOutKernelIdeal.τ).loc Cert.DOutKernelIdeal.main_arg2) = m ((c.tc : Thread Cert.DOutKernelIdeal.nD Cert.DOutKernelIdeal.τ).loc Cert.DOutKernelIdeal.main_arg2)
          ∧ r.2.mem ((c.tc : Thread Cert.DOutKernelIdeal.nD Cert.DOutKernelIdeal.τ).loc Cert.DOutKernelIdeal.main_arg3) = m ((c.tc : Thread Cert.DOutKernelIdeal.nD Cert.DOutKernelIdeal.τ).loc Cert.DOutKernelIdeal.main_arg3))
      ∧ θ_run (Cert.DOutReferenceIdeal.defs (F := Ideal)) (onTc (τ := Cert.DOutReferenceIdeal.τ) (Cert.DOutReferenceIdeal.main (F := Ideal))) ⟨m', fun _ => 0, g'⟩ (fun r => ∀ c : Dev Cert.DOutReferenceIdeal.nD,
          r.2.mem ((c.tc : Thread Cert.DOutReferenceIdeal.nD Cert.DOutReferenceIdeal.τ).loc Cert.DOutReferenceIdeal.main_v1) = v0 c
          ∧ r.2.mem ((c.tc : Thread Cert.DOutReferenceIdeal.nD Cert.DOutReferenceIdeal.τ).loc Cert.DOutReferenceIdeal.main_v15) = v1 c
          ∧ r.2.mem ((c.tc : Thread Cert.DOutReferenceIdeal.nD Cert.DOutReferenceIdeal.τ).loc Cert.DOutReferenceIdeal.main_arg0) = m' ((c.tc : Thread Cert.DOutReferenceIdeal.nD Cert.DOutReferenceIdeal.τ).loc Cert.DOutReferenceIdeal.main_arg0)
          ∧ r.2.mem ((c.tc : Thread Cert.DOutReferenceIdeal.nD Cert.DOutReferenceIdeal.τ).loc Cert.DOutReferenceIdeal.main_arg1) = m' ((c.tc : Thread Cert.DOutReferenceIdeal.nD Cert.DOutReferenceIdeal.τ).loc Cert.DOutReferenceIdeal.main_arg1)
          ∧ r.2.mem ((c.tc : Thread Cert.DOutReferenceIdeal.nD Cert.DOutReferenceIdeal.τ).loc Cert.DOutReferenceIdeal.main_arg2) = m' ((c.tc : Thread Cert.DOutReferenceIdeal.nD Cert.DOutReferenceIdeal.τ).loc Cert.DOutReferenceIdeal.main_arg2)
          ∧ r.2.mem ((c.tc : Thread Cert.DOutReferenceIdeal.nD Cert.DOutReferenceIdeal.τ).loc Cert.DOutReferenceIdeal.main_arg3) = m' ((c.tc : Thread Cert.DOutReferenceIdeal.nD Cert.DOutReferenceIdeal.τ).loc Cert.DOutReferenceIdeal.main_arg3))

def preserves_AttnKernel_AttnKernelIdeal : Prop :=
  True

def algebraic_AttnKernelIdeal_AttnReferenceIdeal [hAttnKernelIdeal : Cert.AttnKernelIdeal.Facts] [hAttnReferenceIdeal : Cert.AttnReferenceIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)) →
    ∃ (v0 : (c : Dev Cert.AttnKernelIdeal.nD) → Buf (Elt Ideal) ((c.tc : Thread Cert.AttnKernelIdeal.nD Cert.AttnKernelIdeal.τ).loc Cert.AttnKernelIdeal.main_v3_0)) (v1 : (c : Dev Cert.AttnKernelIdeal.nD) → Buf (Elt Ideal) ((c.tc : Thread Cert.AttnKernelIdeal.nD Cert.AttnKernelIdeal.τ).loc Cert.AttnKernelIdeal.main_v3_1)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v3_0) = v0 c
          ∧ r.2.mem ((c.tc : Thread Cert.AttnKernelIdeal.nD Cert.AttnKernelIdeal.τ).loc Cert.AttnKernelIdeal.main_v3_1) = v1 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v81) = v0 c
          ∧ r.2.mem ((c.tc : Thread Cert.AttnReferenceIdeal.nD Cert.AttnReferenceIdeal.τ).loc Cert.AttnReferenceIdeal.main_v85) = v1 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_AttnBKernel_AttnBKernelIdeal : Prop :=
  True

def algebraic_AttnBKernelIdeal_AttnBReferenceIdeal_pre_finite [hAttnBKernelIdeal : Cert.AttnBKernelIdeal.Facts] [hAttnBReferenceIdeal : Cert.AttnBReferenceIdeal.Facts] [hPre_finite : Cert.Pre_finite.Facts] : Prop :=
  ∀ (m : (ℓ : Loc Cert.AttnBKernelIdeal.nD Cert.AttnBKernelIdeal.τ Cert.AttnBKernelIdeal.sig) → Buf (Elt Ideal) ℓ) (g : Dev Cert.AttnBKernelIdeal.nD → PrngReg)
    (m' : (ℓ : Loc Cert.AttnBReferenceIdeal.nD Cert.AttnBReferenceIdeal.τ Cert.AttnBReferenceIdeal.sig) → Buf (Elt Ideal) ℓ) (g' : Dev Cert.AttnBReferenceIdeal.nD → PrngReg), Pre_AttnBKernelIdeal_finite m →
    (∀ c : Dev Cert.AttnBKernelIdeal.nD,
      m' ((c.tc : Thread Cert.AttnBReferenceIdeal.nD Cert.AttnBReferenceIdeal.τ).loc Cert.AttnBReferenceIdeal.main_arg0) = m ((c.tc : Thread Cert.AttnBKernelIdeal.nD Cert.AttnBKernelIdeal.τ).loc Cert.AttnBKernelIdeal.main_arg0)
      ∧ m' ((c.tc : Thread Cert.AttnBReferenceIdeal.nD Cert.AttnBReferenceIdeal.τ).loc Cert.AttnBReferenceIdeal.main_arg1) = m ((c.tc : Thread Cert.AttnBKernelIdeal.nD Cert.AttnBKernelIdeal.τ).loc Cert.AttnBKernelIdeal.main_arg1)
      ∧ m' ((c.tc : Thread Cert.AttnBReferenceIdeal.nD Cert.AttnBReferenceIdeal.τ).loc Cert.AttnBReferenceIdeal.main_arg2) = m ((c.tc : Thread Cert.AttnBKernelIdeal.nD Cert.AttnBKernelIdeal.τ).loc Cert.AttnBKernelIdeal.main_arg2)
      ∧ m' ((c.tc : Thread Cert.AttnBReferenceIdeal.nD Cert.AttnBReferenceIdeal.τ).loc Cert.AttnBReferenceIdeal.main_arg3) = m ((c.tc : Thread Cert.AttnBKernelIdeal.nD Cert.AttnBKernelIdeal.τ).loc Cert.AttnBKernelIdeal.main_arg3)
      ∧ m' ((c.tc : Thread Cert.AttnBReferenceIdeal.nD Cert.AttnBReferenceIdeal.τ).loc Cert.AttnBReferenceIdeal.main_arg4) = m ((c.tc : Thread Cert.AttnBKernelIdeal.nD Cert.AttnBKernelIdeal.τ).loc Cert.AttnBKernelIdeal.main_arg4)) →
    ∃ (v0 : (c : Dev Cert.AttnBKernelIdeal.nD) → Buf (Elt Ideal) ((c.tc : Thread Cert.AttnBKernelIdeal.nD Cert.AttnBKernelIdeal.τ).loc Cert.AttnBKernelIdeal.main_v89_0)) (v1 : (c : Dev Cert.AttnBKernelIdeal.nD) → Buf (Elt Ideal) ((c.tc : Thread Cert.AttnBKernelIdeal.nD Cert.AttnBKernelIdeal.τ).loc Cert.AttnBKernelIdeal.main_v89_1)) (v2 : (c : Dev Cert.AttnBKernelIdeal.nD) → Buf (Elt Ideal) ((c.tc : Thread Cert.AttnBKernelIdeal.nD Cert.AttnBKernelIdeal.τ).loc Cert.AttnBKernelIdeal.main_v89_2)),
      θ_run (Cert.AttnBKernelIdeal.defs (F := Ideal)) (onTc (τ := Cert.AttnBKernelIdeal.τ) (Cert.AttnBKernelIdeal.main (F := Ideal))) ⟨m, fun _ => 0, g⟩ (fun r => ∀ c : Dev Cert.AttnBKernelIdeal.nD,
          r.2.mem ((c.tc : Thread Cert.AttnBKernelIdeal.nD Cert.AttnBKernelIdeal.τ).loc Cert.AttnBKernelIdeal.main_v89_0) = v0 c
          ∧ r.2.mem ((c.tc : Thread Cert.AttnBKernelIdeal.nD Cert.AttnBKernelIdeal.τ).loc Cert.AttnBKernelIdeal.main_v89_1) = v1 c
          ∧ r.2.mem ((c.tc : Thread Cert.AttnBKernelIdeal.nD Cert.AttnBKernelIdeal.τ).loc Cert.AttnBKernelIdeal.main_v89_2) = v2 c
          ∧ r.2.mem ((c.tc : Thread Cert.AttnBKernelIdeal.nD Cert.AttnBKernelIdeal.τ).loc Cert.AttnBKernelIdeal.main_arg0) = m ((c.tc : Thread Cert.AttnBKernelIdeal.nD Cert.AttnBKernelIdeal.τ).loc Cert.AttnBKernelIdeal.main_arg0)
          ∧ r.2.mem ((c.tc : Thread Cert.AttnBKernelIdeal.nD Cert.AttnBKernelIdeal.τ).loc Cert.AttnBKernelIdeal.main_arg1) = m ((c.tc : Thread Cert.AttnBKernelIdeal.nD Cert.AttnBKernelIdeal.τ).loc Cert.AttnBKernelIdeal.main_arg1)
          ∧ r.2.mem ((c.tc : Thread Cert.AttnBKernelIdeal.nD Cert.AttnBKernelIdeal.τ).loc Cert.AttnBKernelIdeal.main_arg2) = m ((c.tc : Thread Cert.AttnBKernelIdeal.nD Cert.AttnBKernelIdeal.τ).loc Cert.AttnBKernelIdeal.main_arg2)
          ∧ r.2.mem ((c.tc : Thread Cert.AttnBKernelIdeal.nD Cert.AttnBKernelIdeal.τ).loc Cert.AttnBKernelIdeal.main_arg3) = m ((c.tc : Thread Cert.AttnBKernelIdeal.nD Cert.AttnBKernelIdeal.τ).loc Cert.AttnBKernelIdeal.main_arg3)
          ∧ r.2.mem ((c.tc : Thread Cert.AttnBKernelIdeal.nD Cert.AttnBKernelIdeal.τ).loc Cert.AttnBKernelIdeal.main_arg4) = m ((c.tc : Thread Cert.AttnBKernelIdeal.nD Cert.AttnBKernelIdeal.τ).loc Cert.AttnBKernelIdeal.main_arg4))
      ∧ θ_run (Cert.AttnBReferenceIdeal.defs (F := Ideal)) (onTc (τ := Cert.AttnBReferenceIdeal.τ) (Cert.AttnBReferenceIdeal.main (F := Ideal))) ⟨m', fun _ => 0, g'⟩ (fun r => ∀ c : Dev Cert.AttnBReferenceIdeal.nD,
          r.2.mem ((c.tc : Thread Cert.AttnBReferenceIdeal.nD Cert.AttnBReferenceIdeal.τ).loc Cert.AttnBReferenceIdeal.main_v163) = v0 c
          ∧ r.2.mem ((c.tc : Thread Cert.AttnBReferenceIdeal.nD Cert.AttnBReferenceIdeal.τ).loc Cert.AttnBReferenceIdeal.main_v162) = v1 c
          ∧ r.2.mem ((c.tc : Thread Cert.AttnBReferenceIdeal.nD Cert.AttnBReferenceIdeal.τ).loc Cert.AttnBReferenceIdeal.main_v161) = v2 c
          ∧ r.2.mem ((c.tc : Thread Cert.AttnBReferenceIdeal.nD Cert.AttnBReferenceIdeal.τ).loc Cert.AttnBReferenceIdeal.main_arg0) = m' ((c.tc : Thread Cert.AttnBReferenceIdeal.nD Cert.AttnBReferenceIdeal.τ).loc Cert.AttnBReferenceIdeal.main_arg0)
          ∧ r.2.mem ((c.tc : Thread Cert.AttnBReferenceIdeal.nD Cert.AttnBReferenceIdeal.τ).loc Cert.AttnBReferenceIdeal.main_arg1) = m' ((c.tc : Thread Cert.AttnBReferenceIdeal.nD Cert.AttnBReferenceIdeal.τ).loc Cert.AttnBReferenceIdeal.main_arg1)
          ∧ r.2.mem ((c.tc : Thread Cert.AttnBReferenceIdeal.nD Cert.AttnBReferenceIdeal.τ).loc Cert.AttnBReferenceIdeal.main_arg2) = m' ((c.tc : Thread Cert.AttnBReferenceIdeal.nD Cert.AttnBReferenceIdeal.τ).loc Cert.AttnBReferenceIdeal.main_arg2)
          ∧ r.2.mem ((c.tc : Thread Cert.AttnBReferenceIdeal.nD Cert.AttnBReferenceIdeal.τ).loc Cert.AttnBReferenceIdeal.main_arg3) = m' ((c.tc : Thread Cert.AttnBReferenceIdeal.nD Cert.AttnBReferenceIdeal.τ).loc Cert.AttnBReferenceIdeal.main_arg3)
          ∧ r.2.mem ((c.tc : Thread Cert.AttnBReferenceIdeal.nD Cert.AttnBReferenceIdeal.τ).loc Cert.AttnBReferenceIdeal.main_arg4) = m' ((c.tc : Thread Cert.AttnBReferenceIdeal.nD Cert.AttnBReferenceIdeal.τ).loc Cert.AttnBReferenceIdeal.main_arg4))

def Claim : Prop :=
  ∃ (hUKernel : Cert.UKernel.Facts) (hUKernelIdeal : Cert.UKernelIdeal.Facts) (hUReferenceIdeal : Cert.UReferenceIdeal.Facts) (hDKernel : Cert.DKernel.Facts) (hDKernelIdeal : Cert.DKernelIdeal.Facts) (hDReferenceIdeal : Cert.DReferenceIdeal.Facts) (hWUpKernel : Cert.WUpKernel.Facts) (hWUpKernelIdeal : Cert.WUpKernelIdeal.Facts) (hWUpReferenceIdeal : Cert.WUpReferenceIdeal.Facts) (hWGateKernel : Cert.WGateKernel.Facts) (hWGateKernelIdeal : Cert.WGateKernelIdeal.Facts) (hWGateReferenceIdeal : Cert.WGateReferenceIdeal.Facts) (hWPleKernel : Cert.WPleKernel.Facts) (hWPleKernelIdeal : Cert.WPleKernelIdeal.Facts) (hWPleReferenceIdeal : Cert.WPleReferenceIdeal.Facts) (hWOKernel : Cert.WOKernel.Facts) (hWOKernelIdeal : Cert.WOKernelIdeal.Facts) (hWOReferenceIdeal : Cert.WOReferenceIdeal.Facts) (hWQkvKernel : Cert.WQkvKernel.Facts) (hWQkvKernelIdeal : Cert.WQkvKernelIdeal.Facts) (hWQkvReferenceIdeal : Cert.WQkvReferenceIdeal.Facts) (hDYKernel : Cert.DYKernel.Facts) (hDYKernelIdeal : Cert.DYKernelIdeal.Facts) (hDYReferenceIdeal : Cert.DYReferenceIdeal.Facts) (hDOmKernel : Cert.DOmKernel.Facts) (hDOmKernelIdeal : Cert.DOmKernelIdeal.Facts) (hDOmReferenceIdeal : Cert.DOmReferenceIdeal.Facts) (hDH0Kernel : Cert.DH0Kernel.Facts) (hDH0KernelIdeal : Cert.DH0KernelIdeal.Facts) (hDH0ReferenceIdeal : Cert.DH0ReferenceIdeal.Facts) (hGateKernel : Cert.GateKernel.Facts) (hGateKernelIdeal : Cert.GateKernelIdeal.Facts) (hGateReferenceIdeal : Cert.GateReferenceIdeal.Facts) (hPleKernel : Cert.PleKernel.Facts) (hPleKernelIdeal : Cert.PleKernelIdeal.Facts) (hPleReferenceIdeal : Cert.PleReferenceIdeal.Facts) (hQkvKernel : Cert.QkvKernel.Facts) (hQkvKernelIdeal : Cert.QkvKernelIdeal.Facts) (hQkvReferenceIdeal : Cert.QkvReferenceIdeal.Facts) (hUpKernel : Cert.UpKernel.Facts) (hUpKernelIdeal : Cert.UpKernelIdeal.Facts) (hUpReferenceIdeal : Cert.UpReferenceIdeal.Facts) (hDHKernel : Cert.DHKernel.Facts) (hDHKernelIdeal : Cert.DHKernelIdeal.Facts) (hDHReferenceIdeal : Cert.DHReferenceIdeal.Facts) (hDHgKernel : Cert.DHgKernel.Facts) (hDHgKernelIdeal : Cert.DHgKernelIdeal.Facts) (hDHgReferenceIdeal : Cert.DHgReferenceIdeal.Facts) (hDHInKernel : Cert.DHInKernel.Facts) (hDHInKernelIdeal : Cert.DHInKernelIdeal.Facts) (hDHInReferenceIdeal : Cert.DHInReferenceIdeal.Facts) (hWInKernel : Cert.WInKernel.Facts) (hWInKernelIdeal : Cert.WInKernelIdeal.Facts) (hWInReferenceIdeal : Cert.WInReferenceIdeal.Facts) (hInKernel : Cert.InKernel.Facts) (hInKernelIdeal : Cert.InKernelIdeal.Facts) (hInReferenceIdeal : Cert.InReferenceIdeal.Facts) (hDownKernel : Cert.DownKernel.Facts) (hDownKernelIdeal : Cert.DownKernelIdeal.Facts) (hDownReferenceIdeal : Cert.DownReferenceIdeal.Facts) (hAOutKernel : Cert.AOutKernel.Facts) (hAOutKernelIdeal : Cert.AOutKernelIdeal.Facts) (hAOutReferenceIdeal : Cert.AOutReferenceIdeal.Facts) (hDOutKernel : Cert.DOutKernel.Facts) (hDOutKernelIdeal : Cert.DOutKernelIdeal.Facts) (hDOutReferenceIdeal : Cert.DOutReferenceIdeal.Facts) (hAttnKernel : Cert.AttnKernel.Facts) (hAttnKernelIdeal : Cert.AttnKernelIdeal.Facts) (hAttnReferenceIdeal : Cert.AttnReferenceIdeal.Facts) (hAttnBKernel : Cert.AttnBKernel.Facts) (hAttnBKernelIdeal : Cert.AttnBKernelIdeal.Facts) (hAttnBReferenceIdeal : Cert.AttnBReferenceIdeal.Facts) (hPre_finite : Cert.Pre_finite.Facts),
    quiescent_UKernel (hUKernel := hUKernel)
    ∧ quiescent_UKernelIdeal (hUKernelIdeal := hUKernelIdeal)
    ∧ quiescent_UReferenceIdeal (hUReferenceIdeal := hUReferenceIdeal)
    ∧ quiescent_DKernel (hDKernel := hDKernel)
    ∧ quiescent_DKernelIdeal (hDKernelIdeal := hDKernelIdeal)
    ∧ quiescent_DReferenceIdeal (hDReferenceIdeal := hDReferenceIdeal)
    ∧ quiescent_WUpKernel (hWUpKernel := hWUpKernel)
    ∧ quiescent_WUpKernelIdeal (hWUpKernelIdeal := hWUpKernelIdeal)
    ∧ quiescent_WUpReferenceIdeal (hWUpReferenceIdeal := hWUpReferenceIdeal)
    ∧ quiescent_WGateKernel (hWGateKernel := hWGateKernel)
    ∧ quiescent_WGateKernelIdeal (hWGateKernelIdeal := hWGateKernelIdeal)
    ∧ quiescent_WGateReferenceIdeal (hWGateReferenceIdeal := hWGateReferenceIdeal)
    ∧ quiescent_WPleKernel (hWPleKernel := hWPleKernel)
    ∧ quiescent_WPleKernelIdeal (hWPleKernelIdeal := hWPleKernelIdeal)
    ∧ quiescent_WPleReferenceIdeal (hWPleReferenceIdeal := hWPleReferenceIdeal)
    ∧ quiescent_WOKernel (hWOKernel := hWOKernel)
    ∧ quiescent_WOKernelIdeal (hWOKernelIdeal := hWOKernelIdeal)
    ∧ quiescent_WOReferenceIdeal (hWOReferenceIdeal := hWOReferenceIdeal)
    ∧ quiescent_WQkvKernel (hWQkvKernel := hWQkvKernel)
    ∧ quiescent_WQkvKernelIdeal (hWQkvKernelIdeal := hWQkvKernelIdeal)
    ∧ quiescent_WQkvReferenceIdeal (hWQkvReferenceIdeal := hWQkvReferenceIdeal)
    ∧ quiescent_DYKernel (hDYKernel := hDYKernel)
    ∧ quiescent_DYKernelIdeal (hDYKernelIdeal := hDYKernelIdeal)
    ∧ quiescent_DYReferenceIdeal (hDYReferenceIdeal := hDYReferenceIdeal)
    ∧ quiescent_DOmKernel (hDOmKernel := hDOmKernel)
    ∧ quiescent_DOmKernelIdeal (hDOmKernelIdeal := hDOmKernelIdeal)
    ∧ quiescent_DOmReferenceIdeal (hDOmReferenceIdeal := hDOmReferenceIdeal)
    ∧ quiescent_DH0Kernel (hDH0Kernel := hDH0Kernel)
    ∧ quiescent_DH0KernelIdeal (hDH0KernelIdeal := hDH0KernelIdeal)
    ∧ quiescent_DH0ReferenceIdeal (hDH0ReferenceIdeal := hDH0ReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DHKernel (hDHKernel := hDHKernel)
    ∧ quiescent_DHKernelIdeal (hDHKernelIdeal := hDHKernelIdeal)
    ∧ quiescent_DHReferenceIdeal (hDHReferenceIdeal := hDHReferenceIdeal)
    ∧ quiescent_DHgKernel (hDHgKernel := hDHgKernel)
    ∧ quiescent_DHgKernelIdeal (hDHgKernelIdeal := hDHgKernelIdeal)
    ∧ quiescent_DHgReferenceIdeal (hDHgReferenceIdeal := hDHgReferenceIdeal)
    ∧ quiescent_DHInKernel (hDHInKernel := hDHInKernel)
    ∧ quiescent_DHInKernelIdeal (hDHInKernelIdeal := hDHInKernelIdeal)
    ∧ quiescent_DHInReferenceIdeal (hDHInReferenceIdeal := hDHInReferenceIdeal)
    ∧ quiescent_WInKernel (hWInKernel := hWInKernel)
    ∧ quiescent_WInKernelIdeal (hWInKernelIdeal := hWInKernelIdeal)
    ∧ quiescent_WInReferenceIdeal (hWInReferenceIdeal := hWInReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_AOutKernel (hAOutKernel := hAOutKernel)
    ∧ quiescent_AOutKernelIdeal (hAOutKernelIdeal := hAOutKernelIdeal)
    ∧ quiescent_AOutReferenceIdeal (hAOutReferenceIdeal := hAOutReferenceIdeal)
    ∧ quiescent_DOutKernel (hDOutKernel := hDOutKernel)
    ∧ quiescent_DOutKernelIdeal (hDOutKernelIdeal := hDOutKernelIdeal)
    ∧ quiescent_DOutReferenceIdeal (hDOutReferenceIdeal := hDOutReferenceIdeal)
    ∧ quiescent_AttnKernel (hAttnKernel := hAttnKernel)
    ∧ quiescent_AttnKernelIdeal (hAttnKernelIdeal := hAttnKernelIdeal)
    ∧ quiescent_AttnReferenceIdeal (hAttnReferenceIdeal := hAttnReferenceIdeal)
    ∧ quiescent_AttnBKernel (hAttnBKernel := hAttnBKernel)
    ∧ quiescent_AttnBKernelIdeal (hAttnBKernelIdeal := hAttnBKernelIdeal)
    ∧ quiescent_AttnBKernelIdeal_pre_finite (hAttnBKernelIdeal := hAttnBKernelIdeal) (hPre_finite := hPre_finite)
    ∧ quiescent_AttnBReferenceIdeal (hAttnBReferenceIdeal := hAttnBReferenceIdeal)
    ∧ quiescent_AttnBReferenceIdeal_pre_finite (hAttnBReferenceIdeal := hAttnBReferenceIdeal) (hPre_finite := hPre_finite)
    ∧ preserves_UKernel_UKernelIdeal
    ∧ algebraic_UKernelIdeal_UReferenceIdeal (hUKernelIdeal := hUKernelIdeal) (hUReferenceIdeal := hUReferenceIdeal)
    ∧ preserves_DKernel_DKernelIdeal
    ∧ algebraic_DKernelIdeal_DReferenceIdeal (hDKernelIdeal := hDKernelIdeal) (hDReferenceIdeal := hDReferenceIdeal)
    ∧ preserves_WUpKernel_WUpKernelIdeal
    ∧ algebraic_WUpKernelIdeal_WUpReferenceIdeal (hWUpKernelIdeal := hWUpKernelIdeal) (hWUpReferenceIdeal := hWUpReferenceIdeal)
    ∧ preserves_WGateKernel_WGateKernelIdeal
    ∧ algebraic_WGateKernelIdeal_WGateReferenceIdeal (hWGateKernelIdeal := hWGateKernelIdeal) (hWGateReferenceIdeal := hWGateReferenceIdeal)
    ∧ preserves_WPleKernel_WPleKernelIdeal
    ∧ algebraic_WPleKernelIdeal_WPleReferenceIdeal (hWPleKernelIdeal := hWPleKernelIdeal) (hWPleReferenceIdeal := hWPleReferenceIdeal)
    ∧ preserves_WOKernel_WOKernelIdeal
    ∧ algebraic_WOKernelIdeal_WOReferenceIdeal (hWOKernelIdeal := hWOKernelIdeal) (hWOReferenceIdeal := hWOReferenceIdeal)
    ∧ preserves_WQkvKernel_WQkvKernelIdeal
    ∧ algebraic_WQkvKernelIdeal_WQkvReferenceIdeal (hWQkvKernelIdeal := hWQkvKernelIdeal) (hWQkvReferenceIdeal := hWQkvReferenceIdeal)
    ∧ preserves_DYKernel_DYKernelIdeal
    ∧ algebraic_DYKernelIdeal_DYReferenceIdeal (hDYKernelIdeal := hDYKernelIdeal) (hDYReferenceIdeal := hDYReferenceIdeal)
    ∧ preserves_DOmKernel_DOmKernelIdeal
    ∧ algebraic_DOmKernelIdeal_DOmReferenceIdeal (hDOmKernelIdeal := hDOmKernelIdeal) (hDOmReferenceIdeal := hDOmReferenceIdeal)
    ∧ preserves_DH0Kernel_DH0KernelIdeal
    ∧ algebraic_DH0KernelIdeal_DH0ReferenceIdeal (hDH0KernelIdeal := hDH0KernelIdeal) (hDH0ReferenceIdeal := hDH0ReferenceIdeal)
    ∧ preserves_GateKernel_GateKernelIdeal
    ∧ algebraic_GateKernelIdeal_GateReferenceIdeal (hGateKernelIdeal := hGateKernelIdeal) (hGateReferenceIdeal := hGateReferenceIdeal)
    ∧ preserves_PleKernel_PleKernelIdeal
    ∧ algebraic_PleKernelIdeal_PleReferenceIdeal (hPleKernelIdeal := hPleKernelIdeal) (hPleReferenceIdeal := hPleReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_UpKernel_UpKernelIdeal
    ∧ algebraic_UpKernelIdeal_UpReferenceIdeal (hUpKernelIdeal := hUpKernelIdeal) (hUpReferenceIdeal := hUpReferenceIdeal)
    ∧ preserves_DHKernel_DHKernelIdeal
    ∧ algebraic_DHKernelIdeal_DHReferenceIdeal (hDHKernelIdeal := hDHKernelIdeal) (hDHReferenceIdeal := hDHReferenceIdeal)
    ∧ preserves_DHgKernel_DHgKernelIdeal
    ∧ algebraic_DHgKernelIdeal_DHgReferenceIdeal (hDHgKernelIdeal := hDHgKernelIdeal) (hDHgReferenceIdeal := hDHgReferenceIdeal)
    ∧ preserves_DHInKernel_DHInKernelIdeal
    ∧ algebraic_DHInKernelIdeal_DHInReferenceIdeal (hDHInKernelIdeal := hDHInKernelIdeal) (hDHInReferenceIdeal := hDHInReferenceIdeal)
    ∧ preserves_WInKernel_WInKernelIdeal
    ∧ algebraic_WInKernelIdeal_WInReferenceIdeal (hWInKernelIdeal := hWInKernelIdeal) (hWInReferenceIdeal := hWInReferenceIdeal)
    ∧ preserves_InKernel_InKernelIdeal
    ∧ algebraic_InKernelIdeal_InReferenceIdeal (hInKernelIdeal := hInKernelIdeal) (hInReferenceIdeal := hInReferenceIdeal)
    ∧ preserves_DownKernel_DownKernelIdeal
    ∧ algebraic_DownKernelIdeal_DownReferenceIdeal (hDownKernelIdeal := hDownKernelIdeal) (hDownReferenceIdeal := hDownReferenceIdeal)
    ∧ preserves_AOutKernel_AOutKernelIdeal
    ∧ algebraic_AOutKernelIdeal_AOutReferenceIdeal (hAOutKernelIdeal := hAOutKernelIdeal) (hAOutReferenceIdeal := hAOutReferenceIdeal)
    ∧ preserves_DOutKernel_DOutKernelIdeal
    ∧ algebraic_DOutKernelIdeal_DOutReferenceIdeal (hDOutKernelIdeal := hDOutKernelIdeal) (hDOutReferenceIdeal := hDOutReferenceIdeal)
    ∧ preserves_AttnKernel_AttnKernelIdeal
    ∧ algebraic_AttnKernelIdeal_AttnReferenceIdeal (hAttnKernelIdeal := hAttnKernelIdeal) (hAttnReferenceIdeal := hAttnReferenceIdeal)
    ∧ preserves_AttnBKernel_AttnBKernelIdeal
    ∧ algebraic_AttnBKernelIdeal_AttnBReferenceIdeal_pre_finite (hAttnBKernelIdeal := hAttnBKernelIdeal) (hAttnBReferenceIdeal := hAttnBReferenceIdeal) (hPre_finite := hPre_finite)
-- ==== Pre_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn_part1 {F : FTy → Type} [FloatOps F] (main_arg4 : FVec F S8192x512 .f32) (main_v3 : IVec S_ 1) (main_v7 : IVec S_ 1) (main_v11 : IVec S_ 1) (main_v15 : IVec S_ 1) : IVec S_ 1 :=
  let main_v16 : FVec F S8192x512 .f32 := Host.absf main_arg4
  let main_cst_6 : FVec F S_ .f32 := constant S_ .f32 0x7F800000#32
  let main_v17 : FVec F S8192x512 .f32 := broadcastInDim S8192x512 ![] bcast_S_S8192x512 main_cst_6
  let main_v18 : IVec S8192x512 1 := cmpf .olt main_v16 main_v17
  let main_c_7 : IVec S_ 1 := constantI S_ 1 1#1
  let main_v19 : IVec S_ 1 := (fun x v => Host.reduce IntOp.andi x v reducesTo_S8192x512_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_arg4 main_v3 main_v7 main_v11 main_v15
-- ==== UKernel.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .bf16⟩
  | .hbm, ⟨4, _⟩ => ⟨S4096x1024, .bf16⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UReferenceIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DKernel.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x1024, .bf16⟩
  | .hbm, ⟨9, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DReferenceIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== WUpKernel.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x1024, .bf16⟩
  | .hbm, ⟨4, _⟩ => ⟨S8192x4096, .bf16⟩
  | .hbm, ⟨5, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WUpKernelIdeal.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x1024, .bf16⟩
  | .hbm, ⟨4, _⟩ => ⟨S8192x4096, .bf16⟩
  | .hbm, ⟨5, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WUpReferenceIdeal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | .hbm, ⟨6, _⟩ => ⟨S1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WGateKernel.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WGateKernelIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WGateReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WPleKernel.lean ====
abbrev S8192x256 : Shape := ⟨2, ![8192, 256]⟩
abbrev S256x1024 : Shape := ⟨2, ![256, 1024]⟩
abbrev S8192x1024 : Shape := ⟨2, ![8192, 1024]⟩
abbrev S2048x256 : Shape := ⟨2, ![2048, 256]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .bf16⟩
  | .hbm, ⟨4, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WPleKernelIdeal.lean ====
abbrev S8192x256 : Shape := ⟨2, ![8192, 256]⟩
abbrev S256x1024 : Shape := ⟨2, ![256, 1024]⟩
abbrev S8192x1024 : Shape := ⟨2, ![8192, 1024]⟩
abbrev S2048x256 : Shape := ⟨2, ![2048, 256]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .bf16⟩
  | .hbm, ⟨4, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WPleReferenceIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .f32⟩
  | .hbm, ⟨4, _⟩ => ⟨S1024x256, .f32⟩
  | .hbm, ⟨5, _⟩ => ⟨S256x1024, .f32⟩
  | .hbm, ⟨6, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WOKernel.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WOKernelIdeal.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WOReferenceIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WQkvKernel.lean ====
abbrev S8192x1024 : Shape := ⟨2, ![8192, 1024]⟩
abbrev S1024x1536 : Shape := ⟨2, ![1024, 1536]⟩
abbrev S8192x1536 : Shape := ⟨2, ![8192, 1536]⟩
abbrev S2048x1024 : Shape := ⟨2, ![2048, 1024]⟩
abbrev S2048x1536 : Shape := ⟨2, ![2048, 1536]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1024, .bf16⟩
  | .hbm, ⟨4, _⟩ => ⟨S8192x1536, .bf16⟩
  | .hbm, ⟨5, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WQkvKernelIdeal.lean ====
abbrev S8192x1024 : Shape := ⟨2, ![8192, 1024]⟩
abbrev S1024x1536 : Shape := ⟨2, ![1024, 1536]⟩
abbrev S8192x1536 : Shape := ⟨2, ![8192, 1536]⟩
abbrev S2048x1024 : Shape := ⟨2, ![2048, 1024]⟩
abbrev S2048x1536 : Shape := ⟨2, ![2048, 1536]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1024, .bf16⟩
  | .hbm, ⟨4, _⟩ => ⟨S8192x1536, .bf16⟩
  | .hbm, ⟨5, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WQkvReferenceIdeal.lean ====
abbrev S8192x1024 : Shape := ⟨2, ![8192, 1024]⟩
abbrev S1024x1536 : Shape := ⟨2, ![1024, 1536]⟩
abbrev S8192x1536 : Shape := ⟨2, ![8192, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1536, .f32⟩
  | .hbm, ⟨4, _⟩ => ⟨S1536x1024, .f32⟩
  | .hbm, ⟨5, _⟩ => ⟨S1024x1536, .f32⟩
  | .hbm, ⟨6, _⟩ => ⟨S1024x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DYKernel.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYKernelIdeal.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DOmKernel.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOmKernelIdeal.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOmReferenceIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DH0Kernel.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1536, .bf16⟩
  | .hbm, ⟨4, _⟩ => ⟨S1024x1536, .bf16⟩
  | .hbm, ⟨5, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH0KernelIdeal.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1536, .bf16⟩
  | .hbm, ⟨4, _⟩ => ⟨S1024x1536, .bf16⟩
  | .hbm, ⟨5, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH0ReferenceIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1536, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== GateKernel.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateKernelIdeal.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleKernel.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S256x1024, .bf16⟩
  | .hbm, ⟨3, _⟩ => ⟨S8192x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleKernelIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S256x1024, .bf16⟩
  | .hbm, ⟨3, _⟩ => ⟨S8192x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleReferenceIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QkvKernel.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1024, .bf16⟩
  | .hbm, ⟨3, _⟩ => ⟨S1024x1536, .bf16⟩
  | .hbm, ⟨4, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .f32⟩
  | .local _ .vmem, ⟨4, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvKernelIdeal.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1024, .bf16⟩
  | .hbm, ⟨3, _⟩ => ⟨S1024x1536, .bf16⟩
  | .hbm, ⟨4, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .f32⟩
  | .local _ .vmem, ⟨4, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvReferenceIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpKernel.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpKernelIdeal.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DHKernel.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S1024x4096, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_20 : BitVec 32 := 0#32
  let v42 : BitVec 1 := Scalar.cmpi .ne v41 c0_i32_20
  v42

def k0_cond2 (i : grid0.Coords) : BitVec 1 :=
  let arg0 : BitVec 32 := BitVec.ofNat 32 (i 0).val
  let c0_i32_21 : BitVec 32 := 0#32
  let v43 : BitVec 1 := Scalar.cmpi .sgt arg0 c0_i32_21
  let v44 : BitVec 32 := Scalar.extui v43
  let c0_i32_22 : BitVec 32 := 0#32
  let v45 : BitVec 1 := Scalar.cmpi .ne v44 c0_i32_22
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== DHKernelIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S1024x4096, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_20 : BitVec 32 := 0#32
  let v42 : BitVec 1 := Scalar.cmpi .ne v41 c0_i32_20
  v42

def k0_cond2 (i : grid0.Coords) : BitVec 1 :=
  let arg0 : BitVec 32 := BitVec.ofNat 32 (i 0).val
  let c0_i32_21 : BitVec 32 := 0#32
  let v43 : BitVec 1 := Scalar.cmpi .sgt arg0 c0_i32_21
  let v44 : BitVec 32 := Scalar.extui v43
  let c0_i32_22 : BitVec 32 := 0#32
  let v45 : BitVec 1 := Scalar.cmpi .ne v44 c0_i32_22
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== DHReferenceIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DHgKernel.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_20 : BitVec 32 := 0#32
  let v42 : BitVec 1 := Scalar.cmpi .ne v41 c0_i32_20
  v42

def k0_cond2 (i : grid0.Coords) : BitVec 1 :=
  let arg0 : BitVec 32 := BitVec.ofNat 32 (i 0).val
  let c0_i32_21 : BitVec 32 := 0#32
  let v43 : BitVec 1 := Scalar.cmpi .sgt arg0 c0_i32_21
  let v44 : BitVec 32 := Scalar.extui v43
  let c0_i32_22 : BitVec 32 := 0#32
  let v45 : BitVec 1 := Scalar.cmpi .ne v44 c0_i32_22
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== DHgKernelIdeal.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_20 : BitVec 32 := 0#32
  let v42 : BitVec 1 := Scalar.cmpi .ne v41 c0_i32_20
  v42

def k0_cond2 (i : grid0.Coords) : BitVec 1 :=
  let arg0 : BitVec 32 := BitVec.ofNat 32 (i 0).val
  let c0_i32_21 : BitVec 32 := 0#32
  let v43 : BitVec 1 := Scalar.cmpi .sgt arg0 c0_i32_21
  let v44 : BitVec 32 := Scalar.extui v43
  let c0_i32_22 : BitVec 32 := 0#32
  let v45 : BitVec 1 := Scalar.cmpi .ne v44 c0_i32_22
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== DHgReferenceIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DHInKernel.lean ====
abbrev S8192x1024 : Shape := ⟨2, ![8192, 1024]⟩
abbrev S1024 : Shape := ⟨1, ![1024]⟩
abbrev S1024x4112 : Shape := ⟨2, ![1024, 4112]⟩
abbrev S8192x4112 : Shape := ⟨2, ![8192, 4112]⟩
abbrev S8192x3088 : Shape := ⟨2, ![8192, 3088]⟩
abbrev S_ : Shape := ⟨0, ![]⟩
abbrev S8192x112 : Shape := ⟨2, ![8192, 112]⟩
abbrev S8192x4224 : Shape := ⟨2, ![8192, 4224]⟩
abbrev S1024x1024 : Shape := ⟨2, ![1024, 1024]⟩
abbrev S1024x3088 : Shape := ⟨2, ![1024, 3088]⟩
abbrev S1024x112 : Shape := ⟨2, ![1024, 112]⟩
abbrev S1024x4224 : Shape := ⟨2, ![1024, 4224]⟩
abbrev S1x1024 : Shape := ⟨2, ![1, 1024]⟩
abbrev S512x4224 : Shape := ⟨2, ![512, 4224]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4112, .f32⟩
  | .hbm, ⟨3, _⟩ => ⟨S8192x4112, .f32⟩
  | .hbm, ⟨4, _⟩ => ⟨S8192x1024, .f32⟩
  | .hbm, ⟨5, _⟩ => ⟨S8192x4112, .bf16⟩
  | .hbm, ⟨6, _⟩ => ⟨S8192x1024, .bf16⟩
  | .hbm, ⟨7, _⟩ => ⟨S8192x3088, .bf16⟩
  | .hbm, ⟨8, _⟩ => ⟨S_, .bf16⟩
  | .hbm, ⟨9, _⟩ => ⟨S8192x112, .bf16⟩
  | .hbm, ⟨10, _⟩ => ⟨S8192x4224, .bf16⟩
  | .hbm, ⟨11, _⟩ => ⟨S1024x4112, .bf16⟩
  | .hbm, ⟨12, _⟩ => ⟨S1024x1024, .bf16⟩
  | .hbm, ⟨13, _⟩ => ⟨S1024x3088, .bf16⟩
  | .hbm, ⟨14, _⟩ => ⟨S_, .bf16⟩
  | .hbm, ⟨15, _⟩ => ⟨S1024x112, .bf16⟩
  | .hbm, ⟨16, _⟩ => ⟨S1024x4224, .bf16⟩
  | .hbm, ⟨17, _⟩ => ⟨S1x1024, .f32⟩
  | .hbm, ⟨18, _⟩ => ⟨S8192x1024, .f32⟩
  | .hbm, ⟨19, _⟩ => ⟨S1x1024, .f32⟩
  | .local _ .vmem, ⟨0, _⟩ => ⟨S512x4224, .bf16⟩
  | .local _ .vmem, ⟨1, _⟩ => ⟨S512x4224, .bf16⟩
  | .local _ .vmem, ⟨2, _⟩ => ⟨S1024x4224, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_18 : BitVec 32 := 0#32
  let v40 : BitVec 1 := Scalar.cmpi .ne v39 c0_i32_18
  v40

def k0_cond2 (i : grid0.Coords) : BitVec 1 :=
  let arg0 : BitVec 32 := BitVec.ofNat 32 (i 0).val
  let c0_i32_19 : BitVec 32 := 0#32
  let v41 : BitVec 1 := Scalar.cmpi .sgt arg0 c0_i32_19
  let v42 : BitVec 32 := Scalar.extui v41
  let c0_i32_20 : BitVec 32 := 0#32
  let v43 : BitVec 1 := Scalar.cmpi .ne v42 c0_i32_20
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== DHInReferenceIdeal.lean ====
abbrev S8192x1024 : Shape := ⟨2, ![8192, 1024]⟩
abbrev S1024 : Shape := ⟨1, ![1024]⟩
abbrev S1024x4112 : Shape := ⟨2, ![1024, 4112]⟩
abbrev S8192x4112 : Shape := ⟨2, ![8192, 4112]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4112, .f32⟩
  | .hbm, ⟨3, _⟩ => ⟨S8192x4112, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4112, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== WInKernel.lean ====
abbrev S8192x1024 : Shape := ⟨2, ![8192, 1024]⟩
abbrev S1024x4112 : Shape := ⟨2, ![1024, 4112]⟩
abbrev S8192x4112 : Shape := ⟨2, ![8192, 4112]⟩
abbrev S8192x3088 : Shape := ⟨2, ![8192, 3088]⟩
abbrev S_ : Shape := ⟨0, ![]⟩
abbrev S8192x112 : Shape := ⟨2, ![8192, 112]⟩
abbrev S8192x4224 : Shape := ⟨2, ![8192, 4224]⟩
abbrev S1024x4224 : Shape := ⟨2, ![1024, 4224]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 11
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4112, .f32⟩
  | .hbm, ⟨2, _⟩ => ⟨S8192x4112, .f32⟩
  | .hbm, ⟨3, _⟩ => ⟨S8192x1024, .bf16⟩
  | .hbm, ⟨4, _⟩ => ⟨S8192x4112, .bf16⟩
  | .hbm, ⟨5, _⟩ => ⟨S8192x1024, .bf16⟩
  | .hbm, ⟨6, _⟩ => ⟨S8192x3088, .bf16⟩
  | .hbm, ⟨7, _⟩ => ⟨S_, .bf16⟩
  | .hbm, ⟨8, _⟩ => ⟨S8192x112, .bf16⟩
  | .hbm, ⟨9, _⟩ => ⟨S8192x4224, .bf16⟩
  | .hbm, ⟨10, _⟩ => ⟨S1024x4224, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInReferenceIdeal.lean ====
abbrev S8192x1024 : Shape := ⟨2, ![8192, 1024]⟩
abbrev S1024x4112 : Shape := ⟨2, ![1024, 4112]⟩
abbrev S8192x4112 : Shape := ⟨2, ![8192, 4112]⟩
abbrev S4112x1024 : Shape := ⟨2, ![4112, 1024]⟩
abbrev S1024x1024 : Shape := ⟨2, ![1024, 1024]⟩
abbrev S1024x3088 : Shape := ⟨2, ![1024, 3088]⟩
abbrev S_ : Shape := ⟨0, ![]⟩
abbrev S1024x112 : Shape := ⟨2, ![1024, 112]⟩
abbrev S1024x4224 : Shape := ⟨2, ![1024, 4224]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4112, .f32⟩
  | .hbm, ⟨2, _⟩ => ⟨S8192x4112, .f32⟩
  | .hbm, ⟨3, _⟩ => ⟨S8192x4112, .f32⟩
  | .hbm, ⟨4, _⟩ => ⟨S4112x1024, .f32⟩
  | .hbm, ⟨5, _⟩ => ⟨S1024x4112, .f32⟩
  | .hbm, ⟨6, _⟩ => ⟨S1024x4112, .bf16⟩
  | .hbm, ⟨7, _⟩ => ⟨S1024x1024, .bf16⟩
  | .hbm, ⟨8, _⟩ => ⟨S1024x3088, .bf16⟩
  | .hbm, ⟨9, _⟩ => ⟨S_, .bf16⟩
  | .hbm, ⟨10, _⟩ => ⟨S1024x112, .bf16⟩
  | .hbm, ⟨11, _⟩ => ⟨S1024x4224, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InKernel.lean ====
abbrev S8192x1024 : Shape := ⟨2, ![8192, 1024]⟩
abbrev S1024x4112 : Shape := ⟨2, ![1024, 4112]⟩
abbrev S1024x1024 : Shape := ⟨2, ![1024, 1024]⟩
abbrev S1024x3088 : Shape := ⟨2, ![1024, 3088]⟩
abbrev S_ : Shape := ⟨0, ![]⟩
abbrev S1024x112 : Shape := ⟨2, ![1024, 112]⟩
abbrev S1024x4224 : Shape := ⟨2, ![1024, 4224]⟩
abbrev S8192x4224 : Shape := ⟨2, ![8192, 4224]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 10
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4112, .f32⟩
  | .hbm, ⟨2, _⟩ => ⟨S8192x1024, .bf16⟩
  | .hbm, ⟨3, _⟩ => ⟨S1024x4112, .bf16⟩
  | .hbm, ⟨4, _⟩ => ⟨S1024x1024, .bf16⟩
  | .hbm, ⟨5, _⟩ => ⟨S1024x3088, .bf16⟩
  | .hbm, ⟨6, _⟩ => ⟨S_, .bf16⟩
  | .hbm, ⟨7, _⟩ => ⟨S1024x112, .bf16⟩
  | .hbm, ⟨8, _⟩ => ⟨S1024x4224, .bf16⟩
  | .hbm, ⟨9, _⟩ => ⟨S8192x4224, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S8192x1024 : Shape := ⟨2, ![8192, 1024]⟩
abbrev S1024x4112 : Shape := ⟨2, ![1024, 4112]⟩
abbrev S8192x4112 : Shape := ⟨2, ![8192, 4112]⟩
abbrev S8192x3088 : Shape := ⟨2, ![8192, 3088]⟩
abbrev S_ : Shape := ⟨0, ![]⟩
abbrev S8192x112 : Shape := ⟨2, ![8192, 112]⟩
abbrev S8192x4224 : Shape := ⟨2, ![8192, 4224]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4112, .f32⟩
  | .hbm, ⟨2, _⟩ => ⟨S8192x4112, .f32⟩
  | .hbm, ⟨3, _⟩ => ⟨S8192x1024, .f32⟩
  | .hbm, ⟨4, _⟩ => ⟨S8192x3088, .f32⟩
  | .hbm, ⟨5, _⟩ => ⟨S_, .f32⟩
  | .hbm, ⟨6, _⟩ => ⟨S8192x112, .f32⟩
  | .hbm, ⟨7, _⟩ => ⟨S8192x4224, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownKernel.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x4096, .bf16⟩
  | .hbm, ⟨5, _⟩ => ⟨S4096x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownKernelIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x4096, .bf16⟩
  | .hbm, ⟨5, _⟩ => ⟨S4096x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownReferenceIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== AOutKernel.lean ====
abbrev S8192x512 : Shape := ⟨2, ![8192, 512]⟩
abbrev S512x1024 : Shape := ⟨2, ![512, 1024]⟩
abbrev S8192x1024 : Shape := ⟨2, ![8192, 1024]⟩
abbrev S1024 : Shape := ⟨1, ![1024]⟩
abbrev S1x1024 : Shape := ⟨2, ![1, 1024]⟩
abbrev S1024x512 : Shape := ⟨2, ![1024, 512]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S1024, .f32⟩
  | .hbm, ⟨4, _⟩ => ⟨S8192x512, .bf16⟩
  | .hbm, ⟨5, _⟩ => ⟨S512x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== AOutKernelIdeal.lean ====
abbrev S8192x512 : Shape := ⟨2, ![8192, 512]⟩
abbrev S512x1024 : Shape := ⟨2, ![512, 1024]⟩
abbrev S8192x1024 : Shape := ⟨2, ![8192, 1024]⟩
abbrev S1024 : Shape := ⟨1, ![1024]⟩
abbrev S1x1024 : Shape := ⟨2, ![1, 1024]⟩
abbrev S1024x512 : Shape := ⟨2, ![1024, 512]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S1024, .f32⟩
  | .hbm, ⟨4, _⟩ => ⟨S8192x512, .bf16⟩
  | .hbm, ⟨5, _⟩ => ⟨S512x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== AOutReferenceIdeal.lean ====
abbrev S8192x512 : Shape := ⟨2, ![8192, 512]⟩
abbrev S512x1024 : Shape := ⟨2, ![512, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== DOutKernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S8192x1024, .bf16⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DOutReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== AttnKernel.lean ====
abbrev S8192x512 : Shape := ⟨2, ![8192, 512]⟩
abbrev S128x512 : Shape := ⟨2, ![128, 512]⟩
abbrev S128x128 : Shape := ⟨2, ![128, 128]⟩
abbrev S128x64 : Shape := ⟨2, ![128, 64]⟩
abbrev S1x128x64 : Shape := ⟨3, ![1, 128, 64]⟩
abbrev S8x128x64 : Shape := ⟨3, ![8, 128, 64]⟩
abbrev S1x128x128 : Shape := ⟨3, ![1, 128, 128]⟩
abbrev S8x128x128 : Shape := ⟨3, ![8, 128, 128]⟩
abbrev S8x128 : Shape := ⟨2, ![8, 128]⟩
abbrev S8x128x1 : Shape := ⟨3, ![8, 128, 1]⟩
abbrev S1x128x1 : Shape := ⟨3, ![1, 128, 1]⟩
abbrev S128x1 : Shape := ⟨2, ![128, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .f32⟩
  | .hbm, ⟨7, _⟩ => ⟨S8192x512, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnReferenceIdeal.lean ====
abbrev S8192x512 : Shape := ⟨2, ![8192, 512]⟩
abbrev S1x8192x8x64 : Shape := ⟨4, ![1, 8192, 8, 64]⟩
abbrev S1x8192x1x8x64 : Shape := ⟨5, ![1, 8192, 1, 8, 64]⟩
abbrev S1x1x8192x8x64 : Shape := ⟨5, ![1, 1, 8192, 8, 64]⟩
abbrev S1x1x64x128x8x64 : Shape := ⟨6, ![1, 1, 64, 128, 8, 64]⟩
abbrev S1x1x1x128x8x64 : Shape := ⟨6, ![1, 1, 1, 128, 8, 64]⟩
abbrev S_ : Shape := ⟨0, ![]⟩
abbrev S1x1x65x128x8x64 : Shape := ⟨6, ![1, 1, 65, 128, 8, 64]⟩
abbrev S1x1x64x256x8x64 : Shape := ⟨6, ![1, 1, 64, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x1x64x8x128x256 : Shape := ⟨6, ![1, 1, 64, 8, 128, 256]⟩
abbrev S1x1x64x1x128x256 : Shape := ⟨6, ![1, 1, 64, 1, 128, 256]⟩
abbrev S1x1x64x8x128 : Shape := ⟨5, ![1, 1, 64, 8, 128]⟩
abbrev S1x1x64x8x128x1 : Shape := ⟨6, ![1, 1, 64, 8, 128, 1]⟩
abbrev S1x1x64x8x64x128 : Shape := ⟨6, ![1, 1, 64, 8, 64, 128]⟩
abbrev S1x1x64x128x8 : Shape := ⟨5, ![1, 1, 64, 128, 8]⟩
abbrev S1x1x8192x8 : Shape := ⟨4, ![1, 1, 8192, 8]⟩
abbrev S1x8192x1x8 : Shape := ⟨4, ![1, 8192, 1, 8]⟩
abbrev S1x8192x8 : Shape := ⟨3, ![1, 8192, 8]⟩
abbrev S8192x8 : Shape := ⟨2, ![8192, 8]⟩
abbrev S8192x8x1 : Shape := ⟨3, ![8192, 8, 1]⟩
abbrev S8192x8x64 : Shape := ⟨3, ![8192, 8, 64]⟩

abbrev nBuf : Space → Nat
  | .hbm => 104
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S1x8192x8x64, .f32⟩
  | .hbm, ⟨4, _⟩ => ⟨S1x8192x8x64, .f32⟩
  | .hbm, ⟨5, _⟩ => ⟨S1x8192x8x64, .f32⟩
  | .hbm, ⟨6, _⟩ => ⟨S1x8192x1x8x64, .f32⟩
  | .hbm, ⟨7, _⟩ => ⟨S1x1x8192x8x64, .f32⟩
  | .hbm, ⟨8, _⟩ => ⟨S1x1x64x128x8x64, .f32⟩
  | .hbm, ⟨9, _⟩ => ⟨S1x8192x1x8x64, .f32⟩
  | .hbm, ⟨10, _⟩ => ⟨S1x1x8192x8x64, .f32⟩
  | .hbm, ⟨11, _⟩ => ⟨S1x1x64x128x8x64, .f32⟩
  | .hbm, ⟨12, _⟩ => ⟨S1x1x1x128x8x64, .f32⟩
  | .hbm, ⟨13, _⟩ => ⟨S_, .f32⟩
  | .hbm, ⟨14, _⟩ => ⟨S1x1x1x128x8x64, .f32⟩
  | .hbm, ⟨15, _⟩ => ⟨S1x1x65x128x8x64, .f32⟩
  | .hbm, ⟨16, _⟩ => ⟨S1x1x64x128x8x64, .f32⟩
  | .hbm, ⟨17, _⟩ => ⟨S1x1x64x128x8x64, .f32⟩
  | .hbm, ⟨18, _⟩ => ⟨S1x1x64x256x8x64, .f32⟩
  | .hbm, ⟨19, _⟩ => ⟨S1x8192x1x8x64, .f32⟩
  | .hbm, ⟨20, _⟩ => ⟨S1x1x8192x8x64, .f32⟩
  | .hbm, ⟨21, _⟩ => ⟨S1x1x64x128x8x64, .f32⟩
  | .hbm, ⟨22, _⟩ => ⟨S1x1x1x128x8x64, .f32⟩
  | .hbm, ⟨23, _⟩ => ⟨S_, .f32⟩
  | .hbm, ⟨24, _⟩ => ⟨S1x1x1x128x8x64, .f32⟩
  | .hbm, ⟨25, _⟩ => ⟨S1x1x65x128x8x64, .f32⟩
  | .hbm, ⟨26, _⟩ => ⟨S1x1x64x128x8x64, .f32⟩
  | .hbm, ⟨27, _⟩ => ⟨S1x1x64x128x8x64, .f32⟩
  | .hbm, ⟨28, _⟩ => ⟨S1x1x64x256x8x64, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S64, .i32⟩
  | .hbm, ⟨40, _⟩ => ⟨S64x1x1, .i32⟩
  | .hbm, ⟨41, _⟩ => ⟨S_, .i32⟩
  | .hbm, ⟨42, _⟩ => ⟨S64x1x1, .i32⟩
  | .hbm, ⟨43, _⟩ => ⟨S64x1x1, .i32⟩
  | .hbm, ⟨44, _⟩ => ⟨S_, .i32⟩
  | .hbm, ⟨45, _⟩ => ⟨S64x1x1, .i32⟩
  | .hbm, ⟨46, _⟩ => ⟨S64x1x1, .i32⟩
  | .hbm, ⟨47, _⟩ => ⟨S1x1x256, .i32⟩
  | .hbm, ⟨48, _⟩ => ⟨S64x1x256, .i32⟩
  | .hbm, ⟨49, _⟩ => ⟨S64x1x256, .i32⟩
  | .hbm, ⟨50, _⟩ => ⟨S64x1x256, .i32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S1x128x256, .i1⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S1x128x256, .i1⟩
  | .hbm, ⟨59, _⟩ => ⟨S1x128x256, .i1⟩
  | .hbm, ⟨60, _⟩ => ⟨S_, .i32⟩
  | .hbm, ⟨61, _⟩ => ⟨S64x1x256, .i32⟩
  | .hbm, ⟨62, _⟩ => ⟨S64x1x256, .i1⟩
  | .hbm, ⟨63, _⟩ => ⟨S64x128x256, .i1⟩
  | .hbm, ⟨64, _⟩ => ⟨S64x128x256, .i1⟩
  | .hbm, ⟨65, _⟩ => ⟨S64x128x256, .i1⟩
  | .hbm, ⟨66, _⟩ => ⟨S1x1x64x8x128x256, .f32⟩
  | .hbm, ⟨67, _⟩ => ⟨S_, .f32⟩
  | .hbm, ⟨68, _⟩ => ⟨S1x1x64x8x128x256, .f32⟩
  | .hbm, ⟨69, _⟩ => ⟨S1x1x64x8x128x256, .f32⟩
  | .hbm, ⟨70, _⟩ => ⟨S1x1x64x1x128x256, .i1⟩
  | .hbm, ⟨71, _⟩ => ⟨S_, .f32⟩
  | .hbm, ⟨72, _⟩ => ⟨S_, .f32⟩
  | .hbm, ⟨73, _⟩ => ⟨S1x1x64x8x128x256, .i1⟩
  | .hbm, ⟨74, _⟩ => ⟨S1x1x64x8x128x256, .f32⟩
  | .hbm, ⟨75, _⟩ => ⟨S1x1x64x8x128x256, .f32⟩
  | .hbm, ⟨76, _⟩ => ⟨S_, .f32⟩
  | .hbm, ⟨77, _⟩ => ⟨S1x1x64x8x128, .f32⟩
  | .hbm, ⟨78, _⟩ => ⟨S1x1x64x8x128x1, .f32⟩
  | .hbm, ⟨79, _⟩ => ⟨S1x1x64x8x128x256, .f32⟩
  | .hbm, ⟨80, _⟩ => ⟨S1x1x64x8x128x256, .f32⟩
  | .hbm, ⟨81, _⟩ => ⟨S1x1x64x8x128x256, .f32⟩
  | .hbm, ⟨82, _⟩ => ⟨S_, .f32⟩
  | .hbm, ⟨83, _⟩ => ⟨S1x1x64x8x128, .f32⟩
  | .hbm, ⟨84, _⟩ => ⟨S1x1x64x8x128x1, .f32⟩
  | .hbm, ⟨85, _⟩ => ⟨S1x1x64x8x128x256, .f32⟩
  | .hbm, ⟨86, _⟩ => ⟨S1x1x64x8x128x256, .f32⟩
  | .hbm, ⟨87, _⟩ => ⟨S1x1x64x8x64x128, .f32⟩
  | .hbm, ⟨88, _⟩ => ⟨S1x1x64x128x8x64, .f32⟩
  | .hbm, ⟨89, _⟩ => ⟨S1x1x64x8x128x1, .f32⟩
  | .hbm, ⟨90, _⟩ => ⟨S1x1x64x8x128x1, .f32⟩
  | .hbm, ⟨91, _⟩ => ⟨S1x1x64x8x128, .f32⟩
  | .hbm, ⟨92, _⟩ => ⟨S1x1x8192x8x64, .f32⟩
  | .hbm, ⟨93, _⟩ => ⟨S1x8192x1x8x64, .f32⟩
  | .hbm, ⟨94, _⟩ => ⟨S1x8192x8x64, .f32⟩
  | .hbm, ⟨95, _⟩ => ⟨S1x1x64x128x8, .f32⟩
  | .hbm, ⟨96, _⟩ => ⟨S1x1x8192x8, .f32⟩
  | .hbm, ⟨97, _⟩ => ⟨S1x8192x1x8, .f32⟩
  | .hbm, ⟨98, _⟩ => ⟨S1x8192x8, .f32⟩
  | .hbm, ⟨99, _⟩ => ⟨S8192x512, .f32⟩
  | .hbm, ⟨100, _⟩ => ⟨S8192x8, .f32⟩
  | .hbm, ⟨101, _⟩ => ⟨S8192x8x1, .f32⟩
  | .hbm, ⟨102, _⟩ => ⟨S8192x8x64, .f32⟩
  | .hbm, ⟨103, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c_1 : Ref sig .tc := ⟨.hbm, 41, rfl⟩
abbrev main_v35 : Ref sig .tc := ⟨.hbm, 42, rfl⟩
abbrev main_v36 : Ref sig .tc := ⟨.hbm, 43, rfl⟩
abbrev main_c_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c_3 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_c_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩

abbrev nD : Nat := 1
abbrev τ : Topo := Topo.v7x

variable {F : FTy → Type} [FloatOps F]
-- ==== AttnBKernel.lean ====
abbrev S8192x512 : Shape := ⟨2, ![8192, 512]⟩
abbrev S1x8192x8x64 : Shape := ⟨4, ![1, 8192, 8, 64]⟩
abbrev S1x8192x1x8x64 : Shape := ⟨5, ![1, 8192, 1, 8, 64]⟩
abbrev S1x1x8192x8x64 : Shape := ⟨5, ![1, 1, 8192, 8, 64]⟩
abbrev S1x1x64x128x8x64 : Shape := ⟨6, ![1, 1, 64, 128, 8, 64]⟩
abbrev S1x1x1x128x8x64 : Shape := ⟨6, ![1, 1, 1, 128, 8, 64]⟩
abbrev S_ : Shape := ⟨0, ![]⟩
abbrev S1x1x65x128x8x64 : Shape := ⟨6, ![1, 1, 65, 128, 8, 64]⟩
abbrev S1x1x64x256x8x64 : Shape := ⟨6, ![1, 1, 64, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x1x64x8x128x256 : Shape := ⟨6, ![1, 1, 64, 8, 128, 256]⟩
abbrev S1x1x64x1x128x256 : Shape := ⟨6, ![1, 1, 64, 1, 128, 256]⟩
abbrev S1x1x64x8x128 : Shape := ⟨5, ![1, 1, 64, 8, 128]⟩
abbrev S1x1x64x8x128x1 : Shape := ⟨6, ![1, 1, 64, 8, 128, 1]⟩
abbrev S1x1x64x8x64x128 : Shape := ⟨6, ![1, 1, 64, 8, 64, 128]⟩
abbrev S1x1x64x128x8 : Shape := ⟨5, ![1, 1, 64, 128, 8]⟩
abbrev S1x1x8192x8 : Shape := ⟨4, ![1, 1, 8192, 8]⟩
abbrev S1x8192x1x8 : Shape := ⟨4, ![1, 8192, 1, 8]⟩
abbrev S1x8192x8 : Shape := ⟨3, ![1, 8192, 8]⟩
abbrev S8192x8 : Shape := ⟨2, ![8192, 8]⟩
abbrev S8192x8x1 : Shape := ⟨3, ![8192, 8, 1]⟩
abbrev S8192x8x64 : Shape := ⟨3, ![8192, 8, 64]⟩
abbrev S128x512 : Shape := ⟨2, ![128, 512]⟩
abbrev S128x128 : Shape := ⟨2, ![128, 128]⟩
abbrev S128x64 : Shape := ⟨2, ![128, 64]⟩
abbrev S1x128x64 : Shape := ⟨3, ![1, 128, 64]⟩
abbrev S8x128x64 : Shape := ⟨3, ![8, 128, 64]⟩
abbrev S8x128 : Shape := ⟨2, ![8, 128]⟩
abbrev S8x128x1 : Shape := ⟨3, ![8, 128, 1]⟩
abbrev S1x128x128 : Shape := ⟨3, ![1, 128, 128]⟩
abbrev S8x128x128 : Shape := ⟨3, ![8, 128, 128]⟩

abbrev nBuf : Space → Nat
  | .hbm => 112
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x8192x8x64, .f32⟩
  | .hbm, ⟨6, _⟩ => ⟨S1x8192x8x64, .f32⟩
  | .hbm, ⟨7, _⟩ => ⟨S1x8192x8x64, .f32⟩
  | .hbm, ⟨8, _⟩ => ⟨S1x8192x1x8x64, .f32⟩
  | .hbm, ⟨9, _⟩ => ⟨S1x1x8192x8x64, .f32⟩
  | .hbm, ⟨10, _⟩ => ⟨S1x1x64x128x8x64, .f32⟩
  | .hbm, ⟨11, _⟩ => ⟨S1x8192x1x8x64, .f32⟩
  | .hbm, ⟨12, _⟩ => ⟨S1x1x8192x8x64, .f32⟩
  | .hbm, ⟨13, _⟩ => ⟨S1x1x64x128x8x64, .f32⟩
  | .hbm, ⟨14, _⟩ => ⟨S1x1x1x128x8x64, .f32⟩
  | .hbm, ⟨15, _⟩ => ⟨S_, .f32⟩
  | .hbm, ⟨16, _⟩ => ⟨S1x1x1x128x8x64, .f32⟩
  | .hbm, ⟨17, _⟩ => ⟨S1x1x65x128x8x64, .f32⟩
  | .hbm, ⟨18, _⟩ => ⟨S1x1x64x128x8x64, .f32⟩
  | .hbm, ⟨19, _⟩ => ⟨S1x1x64x128x8x64, .f32⟩
  | .hbm, ⟨20, _⟩ => ⟨S1x1x64x256x8x64, .f32⟩
  | .hbm, ⟨21, _⟩ => ⟨S1x8192x1x8x64, .f32⟩
  | .hbm, ⟨22, _⟩ => ⟨S1x1x8192x8x64, .f32⟩
  | .hbm, ⟨23, _⟩ => ⟨S1x1x64x128x8x64, .f32⟩
  | .hbm, ⟨24, _⟩ => ⟨S1x1x1x128x8x64, .f32⟩
  | .hbm, ⟨25, _⟩ => ⟨S_, .f32⟩
  | .hbm, ⟨26, _⟩ => ⟨S1x1x1x128x8x64, .f32⟩
  | .hbm, ⟨27, _⟩ => ⟨S1x1x65x128x8x64, .f32⟩
  | .hbm, ⟨28, _⟩ => ⟨S1x1x64x128x8x64, .f32⟩
  | .hbm, ⟨29, _⟩ => ⟨S1x1x64x128x8x64, .f32⟩
  | .hbm, ⟨30, _⟩ => ⟨S1x1x64x256x8x64, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S64, .i32⟩
  | .hbm, ⟨42, _⟩ => ⟨S64x1x1, .i32⟩
  | .hbm, ⟨43, _⟩ => ⟨S_, .i32⟩
  | .hbm, ⟨44, _⟩ => ⟨S64x1x1, .i32⟩
  | .hbm, ⟨45, _⟩ => ⟨S64x1x1, .i32⟩
  | .hbm, ⟨46, _⟩ => ⟨S_, .i32⟩
  | .hbm, ⟨47, _⟩ => ⟨S64x1x1, .i32⟩
  | .hbm, ⟨48, _⟩ => ⟨S64x1x1, .i32⟩
  | .hbm, ⟨49, _⟩ => ⟨S1x1x256, .i32⟩
  | .hbm, ⟨50, _⟩ => ⟨S64x1x256, .i32⟩
  | .hbm, ⟨51, _⟩ => ⟨S64x1x256, .i32⟩
  | .hbm, ⟨52, _⟩ => ⟨S64x1x256, .i32⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S1x128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S1x128x256, .i1⟩
  | .hbm, ⟨61, _⟩ => ⟨S1x128x256, .i1⟩
  | .hbm, ⟨62, _⟩ => ⟨S_, .i32⟩
  | .hbm, ⟨63, _⟩ => ⟨S64x1x256, .i32⟩
  | .hbm, ⟨64, _⟩ => ⟨S64x1x256, .i1⟩
  | .hbm, ⟨65, _⟩ => ⟨S64x128x256, .i1⟩
  | .hbm, ⟨66, _⟩ => ⟨S64x128x256, .i1⟩
  | .hbm, ⟨67, _⟩ => ⟨S64x128x256, .i1⟩
  | .hbm, ⟨68, _⟩ => ⟨S1x1x64x8x128x256, .f32⟩
  | .hbm, ⟨69, _⟩ => ⟨S_, .f32⟩
  | .hbm, ⟨70, _⟩ => ⟨S1x1x64x8x128x256, .f32⟩
  | .hbm, ⟨71, _⟩ => ⟨S1x1x64x8x128x256, .f32⟩
  | .hbm, ⟨72, _⟩ => ⟨S1x1x64x1x128x256, .i1⟩
  | .hbm, ⟨73, _⟩ => ⟨S_, .f32⟩
  | .hbm, ⟨74, _⟩ => ⟨S_, .f32⟩
  | .hbm, ⟨75, _⟩ => ⟨S1x1x64x8x128x256, .i1⟩
  | .hbm, ⟨76, _⟩ => ⟨S1x1x64x8x128x256, .f32⟩
  | .hbm, ⟨77, _⟩ => ⟨S1x1x64x8x128x256, .f32⟩
  | .hbm, ⟨78, _⟩ => ⟨S_, .f32⟩
  | .hbm, ⟨79, _⟩ => ⟨S1x1x64x8x128, .f32⟩
  | .hbm, ⟨80, _⟩ => ⟨S1x1x64x8x128x1, .f32⟩
  | .hbm, ⟨81, _⟩ => ⟨S1x1x64x8x128x256, .f32⟩
  | .hbm, ⟨82, _⟩ => ⟨S1x1x64x8x128x256, .f32⟩
  | .hbm, ⟨83, _⟩ => ⟨S1x1x64x8x128x256, .f32⟩
  | .hbm, ⟨84, _⟩ => ⟨S_, .f32⟩
  | .hbm, ⟨85, _⟩ => ⟨S1x1x64x8x128, .f32⟩
  | .hbm, ⟨86, _⟩ => ⟨S1x1x64x8x128x1, .f32⟩
  | .hbm, ⟨87, _⟩ => ⟨S1x1x64x8x128x256, .f32⟩
  | .hbm, ⟨88, _⟩ => ⟨S1x1x64x8x128x256, .f32⟩
  | .hbm, ⟨89, _⟩ => ⟨S1x1x64x8x64x128, .f32⟩
  | .hbm, ⟨90, _⟩ => ⟨S1x1x64x128x8x64, .f32⟩
  | .hbm, ⟨91, _⟩ => ⟨S1x1x64x8x128x1, .f32⟩
  | .hbm, ⟨92, _⟩ => ⟨S1x1x64x8x128x1, .f32⟩
  | .hbm, ⟨93, _⟩ => ⟨S1x1x64x8x128, .f32⟩
  | .hbm, ⟨94, _⟩ => ⟨S1x1x8192x8x64, .f32⟩
  | .hbm, ⟨95, _⟩ => ⟨S1x8192x1x8x64, .f32⟩
  | .hbm, ⟨96, _⟩ => ⟨S1x8192x8x64, .f32⟩
  | .hbm, ⟨97, _⟩ => ⟨S1x1x64x128x8, .f32⟩
  | .hbm, ⟨98, _⟩ => ⟨S1x1x8192x8, .f32⟩
  | .hbm, ⟨99, _⟩ => ⟨S1x8192x1x8, .f32⟩
  | .hbm, ⟨100, _⟩ => ⟨S1x8192x8, .f32⟩
  | .hbm, ⟨101, _⟩ => ⟨S8192x512, .f32⟩
  | .hbm, ⟨102, _⟩ => ⟨S8192x8, .f32⟩
  | .hbm, ⟨103, _⟩ => ⟨S8192x8x1, .f32⟩
  | .hbm, ⟨104, _⟩ => ⟨S8192x8x64, .f32⟩
  | .hbm, ⟨105, _⟩ => ⟨S8192x512, .f32⟩
  | .hbm, ⟨106, _⟩ => ⟨S8192x512, .bf16⟩
  | .hbm, ⟨107, _⟩ => ⟨S8192x512, .bf16⟩
  | .hbm, ⟨108, _⟩ => ⟨S8192x512, .bf16⟩
  | .hbm, ⟨109, _⟩ => ⟨S8192x512, .f32⟩
  | .hbm, ⟨110, _⟩ => ⟨S8192x512, .f32⟩
  | .hbm, ⟨111, _⟩ => ⟨S8192x512, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_1 : Ref sig .tc := ⟨.hbm, 43, rfl⟩
abbrev main_v35 : Ref sig .tc := ⟨.hbm, 44, rfl⟩
abbrev main_v36 : Ref sig .tc := ⟨.hbm, 45, rfl⟩
abbrev main_c_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89_0 : Ref sig .tc := ⟨.hbm, 109, rfl⟩
abbrev main_v89_1 : Ref sig .tc := ⟨.hbm, 110, rfl⟩
abbrev main_v89_2 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c64_i32_2 : BitVec 32 := 64#32
  let v6 : BitVec 1 := Scalar.cmpi .slt arg0 c64_i32_2
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c64_i32 : BitVec 32 := 64#32
  let v3 : BitVec 1 := Scalar.cmpi .eq arg0 c64_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c63_i32 : BitVec 32 := 63#32
  let v2 : BitVec 32 := Scalar.minsi v1 c63_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c63_i32 : BitVec 32 := 63#32
  let v2 : BitVec 32 := Scalar.minsi v1 c63_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c63_i32 : BitVec 32 := 63#32
  let v2 : BitVec 32 := Scalar.minsi v1 c63_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c63_i32 : BitVec 32 := 63#32
  let v2 : BitVec 32 := Scalar.minsi v1 c63_i32
  let c0_i32_0 : BitVec 32 := 0#32
  let c0_i32_1 : BitVec 32 := 0#32
  ![v2.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnBReferenceIdeal.lean ====
abbrev S8192x512 : Shape := ⟨2, ![8192, 512]⟩
abbrev S1x8192x8x64 : Shape := ⟨4, ![1, 8192, 8, 64]⟩
abbrev S1x8192x1x8x64 : Shape := ⟨5, ![1, 8192, 1, 8, 64]⟩
abbrev S1x1x8192x8x64 : Shape := ⟨5, ![1, 1, 8192, 8, 64]⟩
abbrev S1x1x64x128x8x64 : Shape := ⟨6, ![1, 1, 64, 128, 8, 64]⟩
abbrev S1x1x1x128x8x64 : Shape := ⟨6, ![1, 1, 1, 128, 8, 64]⟩
abbrev S_ : Shape := ⟨0, ![]⟩
abbrev S1x1x65x128x8x64 : Shape := ⟨6, ![1, 1, 65, 128, 8, 64]⟩
abbrev S1x1x64x256x8x64 : Shape := ⟨6, ![1, 1, 64, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x1x64x8x128x256 : Shape := ⟨6, ![1, 1, 64, 8, 128, 256]⟩
abbrev S1x1x64x1x128x256 : Shape := ⟨6, ![1, 1, 64, 1, 128, 256]⟩
abbrev S1x1x64x8x128 : Shape := ⟨5, ![1, 1, 64, 8, 128]⟩
abbrev S1x1x64x8x128x1 : Shape := ⟨6, ![1, 1, 64, 8, 128, 1]⟩
abbrev S1x1x64x8x64x128 : Shape := ⟨6, ![1, 1, 64, 8, 64, 128]⟩
abbrev S1x1x64x128x8 : Shape := ⟨5, ![1, 1, 64, 128, 8]⟩
abbrev S1x1x8192x8 : Shape := ⟨4, ![1, 1, 8192, 8]⟩
abbrev S1x8192x1x8 : Shape := ⟨4, ![1, 8192, 1, 8]⟩
abbrev S1x8192x8 : Shape := ⟨3, ![1, 8192, 8]⟩
abbrev S1x1x64x8x64x256 : Shape := ⟨6, ![1, 1, 64, 8, 64, 256]⟩
abbrev S64x8x128 : Shape := ⟨3, ![64, 8, 128]⟩
abbrev S1x1x64x8x256x64 : Shape := ⟨6, ![1, 1, 64, 8, 256, 64]⟩
abbrev S1x1x64x8x128x64 : Shape := ⟨6, ![1, 1, 64, 8, 128, 64]⟩

abbrev nBuf : Space → Nat
  | .hbm => 202
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S1x8192x8x64, .f32⟩
  | 6 => ⟨S1x8192x8x64, .f32⟩
  | 7 => ⟨S1x8192x8x64, .f32⟩
  | 8 => ⟨S1x8192x1x8x64, .f32⟩
  | 9 => ⟨S1x1x8192x8x64, .f32⟩
  | 10 => ⟨S1x1x64x128x8x64, .f32⟩
  | 11 => ⟨S1x8192x1x8x64, .f32⟩
  | 12 => ⟨S1x1x8192x8x64, .f32⟩
  | 13 => ⟨S1x1x64x128x8x64, .f32⟩
  | 14 => ⟨S1x1x1x128x8x64, .f32⟩
  | 15 => ⟨S_, .f32⟩
  | 16 => ⟨S1x1x1x128x8x64, .f32⟩
  | 17 => ⟨S1x1x65x128x8x64, .f32⟩
  | 18 => ⟨S_, .f32⟩
  | 19 => ⟨S1x1x1x128x8x64, .f32⟩
  | 20 => ⟨S1x1x64x128x8x64, .f32⟩
  | 21 => ⟨S1x1x64x128x8x64, .f32⟩
  | 22 => ⟨S1x1x64x256x8x64, .f32⟩
  | 23 => ⟨S128, .i32⟩
  | 24 => ⟨S128x1, .i32⟩
  | 25 => ⟨S1x8192x1x8x64, .f32⟩
  | 26 => ⟨S1x1x8192x8x64, .f32⟩
  | 27 => ⟨S1x1x64x128x8x64, .f32⟩
  | 28 => ⟨S1x1x1x128x8x64, .f32⟩
  | 29 => ⟨S_, .f32⟩
  | 30 => ⟨S1x1x1x128x8x64, .f32⟩
  | 31 => ⟨S1x1x65x128x8x64, .f32⟩
  | 32 => ⟨S_, .f32⟩
  | 33 => ⟨S1x1x1x128x8x64, .f32⟩
  | 34 => ⟨S1x1x64x128x8x64, .f32⟩
  | 35 => ⟨S1x1x64x128x8x64, .f32⟩
  | 36 => ⟨S1x1x64x256x8x64, .f32⟩
  | 37 => ⟨S256, .i32⟩
  | 38 => ⟨S1x256, .i32⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i32⟩
  | 45 => ⟨S64, .i32⟩
  | 46 => ⟨S64x1x1, .i32⟩
  | 47 => ⟨S_, .i32⟩
  | 48 => ⟨S64x1x1, .i32⟩
  | 49 => ⟨S64x1x1, .i32⟩
  | 50 => ⟨S_, .i32⟩
  | 51 => ⟨S64x1x1, .i32⟩
  | 52 => ⟨S64x1x1, .i32⟩
  | 53 => ⟨S1x1x256, .i32⟩
  | 54 => ⟨S64x1x256, .i32⟩
  | 55 => ⟨S64x1x256, .i32⟩
  | 56 => ⟨S64x1x256, .i32⟩
  | 57 => ⟨S_, .i32⟩
  | 58 => ⟨S128x256, .i32⟩
  | 59 => ⟨S128x256, .i1⟩
  | 60 => ⟨S1x128x256, .i1⟩
  | 61 => ⟨S_, .i32⟩
  | 62 => ⟨S128x256, .i32⟩
  | 63 => ⟨S128x256, .i1⟩
  | 64 => ⟨S1x128x256, .i1⟩
  | 65 => ⟨S1x128x256, .i1⟩
  | 66 => ⟨S_, .i32⟩
  | 67 => ⟨S64x1x256, .i32⟩
  | 68 => ⟨S64x1x256, .i1⟩
  | 69 => ⟨S64x128x256, .i1⟩
  | 70 => ⟨S64x128x256, .i1⟩
  | 71 => ⟨S64x128x256, .i1⟩
  | 72 => ⟨S1x1x64x8x128x256, .f32⟩
  | 73 => ⟨S_, .f32⟩
  | 74 => ⟨S1x1x64x8x128x256, .f32⟩
  | 75 => ⟨S1x1x64x8x128x256, .f32⟩
  | 76 => ⟨S1x1x64x1x128x256, .i1⟩
  | 77 => ⟨S_, .f32⟩
  | 78 => ⟨S_, .f32⟩
  | 79 => ⟨S1x1x64x8x128x256, .i1⟩
  | 80 => ⟨S1x1x64x8x128x256, .f32⟩
  | 81 => ⟨S1x1x64x8x128x256, .f32⟩
  | 82 => ⟨S_, .f32⟩
  | 83 => ⟨S1x1x64x8x128x256, .f32⟩
  | 84 => ⟨S_, .f32⟩
  | 85 => ⟨S1x1x64x8x128, .f32⟩
  | 86 => ⟨S1x1x64x8x128x1, .f32⟩
  | 87 => ⟨S1x1x64x8x128x256, .f32⟩
  | 88 => ⟨S1x1x64x8x128x256, .i1⟩
  | 89 => ⟨S1x1x64x8x128x256, .f32⟩
  | 90 => ⟨S_, .f32⟩
  | 91 => ⟨S1x1x64x8x128, .f32⟩
  | 92 => ⟨S1x1x64x8x128x1, .f32⟩
  | 93 => ⟨S1x1x64x8x128x256, .f32⟩
  | 94 => ⟨S1x1x64x8x128x256, .f32⟩
  | 95 => ⟨S1x1x64x8x128x256, .f32⟩
  | 96 => ⟨S_, .f32⟩
  | 97 => ⟨S1x1x64x8x128, .f32⟩
  | 98 => ⟨S1x1x64x8x128x1, .f32⟩
  | 99 => ⟨S1x1x64x8x128x256, .f32⟩
  | 100 => ⟨S1x1x64x8x128x256, .f32⟩
  | 101 => ⟨S1x1x64x8x128x1, .f32⟩
  | 102 => ⟨S_, .f32⟩
  | 103 => ⟨S1x1x64x8x128x1, .f32⟩
  | 104 => ⟨S1x1x64x8x128x1, .f32⟩
  | 105 => ⟨S1x1x64x8x64x128, .f32⟩
  | 106 => ⟨S1x1x64x128x8x64, .f32⟩
  | 107 => ⟨S1x1x64x8x128x1, .f32⟩
  | 108 => ⟨S1x1x64x8x128x1, .f32⟩
  | 109 => ⟨S1x1x64x8x128, .f32⟩
  | 110 => ⟨S1x1x8192x8x64, .f32⟩
  | 111 => ⟨S1x8192x1x8x64, .f32⟩
  | 112 => ⟨S1x8192x8x64, .f32⟩
  | 113 => ⟨S1x1x64x128x8, .f32⟩
  | 114 => ⟨S1x1x8192x8, .f32⟩
  | 115 => ⟨S1x8192x1x8, .f32⟩
  | 116 => ⟨S1x8192x8, .f32⟩
  | 117 => ⟨S1x8192x8x64, .f32⟩
  | 118 => ⟨S1x8192x8x64, .f32⟩
  | 119 => ⟨S_, .f32⟩
  | 120 => ⟨S1x8192x8, .f32⟩
  | 121 => ⟨S1x8192x1x8, .f32⟩
  | 122 => ⟨S1x1x8192x8, .f32⟩
  | 123 => ⟨S1x1x64x128x8, .f32⟩
  | 124 => ⟨S1x1x64x8x128, .f32⟩
  | 125 => ⟨S1x8192x1x8x64, .f32⟩
  | 126 => ⟨S1x1x8192x8x64, .f32⟩
  | 127 => ⟨S1x1x64x128x8x64, .f32⟩
  | _ => ⟨S8192x512, .f32⟩

abbrev hbmTy0_1 (i : Nat) : BufTy := match i % 128 with
  | 0 => ⟨S1x1x64x8x128x1, .f32⟩
  | 1 => ⟨S1x1x64x8x128x1, .f32⟩
  | 2 => ⟨S1x1x64x8x64x128, .f32⟩
  | 3 => ⟨S1x1x64x8x128x256, .f32⟩
  | 4 => ⟨S1x1x64x8x64x256, .f32⟩
  | 5 => ⟨S1x1x64x256x8x64, .f32⟩
  | 6 => ⟨S1x1x64x8x128x256, .f32⟩
  | 7 => ⟨S1x1x64x8x128x256, .f32⟩
  | 8 => ⟨S1x1x64x8x128x256, .f32⟩
  | 9 => ⟨S_, .f32⟩
  | 10 => ⟨S1x1x64x8x128, .f32⟩
  | 11 => ⟨S1x1x64x8x128x1, .f32⟩
  | 12 => ⟨S1x1x64x8x128x1, .f32⟩
  | 13 => ⟨S1x1x64x8x128x1, .f32⟩
  | 14 => ⟨S1x1x64x8x128x256, .f32⟩
  | 15 => ⟨S1x1x64x8x128x256, .f32⟩
  | 16 => ⟨S_, .f32⟩
  | 17 => ⟨S64x8x128, .f32⟩
  | 18 => ⟨S1x1x64x8x128, .f32⟩
  | 19 => ⟨S1x1x64x8x128x256, .f32⟩
  | 20 => ⟨S1x1x64x8x128x256, .f32⟩
  | 21 => ⟨S1x1x64x8x128x256, .f32⟩
  | 22 => ⟨S1x1x64x8x128x256, .f32⟩
  | 23 => ⟨S_, .f32⟩
  | 24 => ⟨S1x1x64x8x128, .f32⟩
  | 25 => ⟨S1x1x64x8x128x1, .f32⟩
  | 26 => ⟨S1x1x64x8x128x1, .f32⟩
  | 27 => ⟨S_, .f32⟩
  | 28 => ⟨S64x8x128, .f32⟩
  | 29 => ⟨S1x1x64x8x128, .f32⟩
  | 30 => ⟨S1x1x64x8x128, .f32⟩
  | 31 => ⟨S1x1x64x8x128x256, .f32⟩
  | 32 => ⟨S1x1x64x8x128x256, .f32⟩
  | 33 => ⟨S1x1x64x8x128x256, .f32⟩
  | 34 => ⟨S_, .f32⟩
  | 35 => ⟨S1x1x64x8x128x256, .f32⟩
  | 36 => ⟨S1x1x64x8x128x256, .f32⟩
  | 37 => ⟨S_, .f32⟩
  | 38 => ⟨S1x1x64x8x128x256, .f32⟩
  | 39 => ⟨S1x1x64x8x128x256, .f32⟩
  | 40 => ⟨S1x1x64x8x256x64, .f32⟩
  | 41 => ⟨S1x1x64x256x8x64, .f32⟩
  | 42 => ⟨S1x1x64x8x128x64, .f32⟩
  | 43 => ⟨S1x1x64x128x8x64, .f32⟩
  | 44 => ⟨S1x1x64x128x8x64, .f32⟩
  | 45 => ⟨S1x1x64x128x8x64, .f32⟩
  | 46 => ⟨S_, .f32⟩
  | 47 => ⟨S1x1x65x128x8x64, .f32⟩
  | 48 => ⟨S_, .f32⟩
  | 49 => ⟨S1x1x65x128x8x64, .f32⟩
  | 50 => ⟨S1x1x65x128x8x64, .f32⟩
  | 51 => ⟨S1x1x1x128x8x64, .f32⟩
  | 52 => ⟨S1x1x64x128x8x64, .f32⟩
  | 53 => ⟨S1x1x8192x8x64, .f32⟩
  | 54 => ⟨S1x8192x1x8x64, .f32⟩
  | 55 => ⟨S1x8192x8x64, .f32⟩
  | 56 => ⟨S1x1x64x128x8x64, .f32⟩
  | 57 => ⟨S1x1x64x128x8x64, .f32⟩
  | 58 => ⟨S_, .f32⟩
  | 59 => ⟨S1x1x65x128x8x64, .f32⟩
  | 60 => ⟨S_, .f32⟩
  | 61 => ⟨S1x1x65x128x8x64, .f32⟩
  | 62 => ⟨S1x1x65x128x8x64, .f32⟩
  | 63 => ⟨S1x1x1x128x8x64, .f32⟩
  | 64 => ⟨S1x1x64x128x8x64, .f32⟩
  | 65 => ⟨S1x1x8192x8x64, .f32⟩
  | 66 => ⟨S1x8192x1x8x64, .f32⟩
  | 67 => ⟨S1x8192x8x64, .f32⟩
  | 68 => ⟨S1x1x8192x8x64, .f32⟩
  | 69 => ⟨S1x8192x1x8x64, .f32⟩
  | 70 => ⟨S1x8192x8x64, .f32⟩
  | 71 => ⟨S8192x512, .f32⟩
  | 72 => ⟨S8192x512, .f32⟩
  | 73 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_3 : Ref sig .tc := ⟨.hbm, 47, rfl⟩
abbrev main_v37 : Ref sig .tc := ⟨.hbm, 48, rfl⟩
abbrev main_v38 : Ref sig .tc := ⟨.hbm, 49, rfl⟩
abbrev main_c_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_call0_v0 : Ref sig .tc := ⟨.hbm, 78, rfl⟩
abbrev main_v61_1 : Ref sig .tc := ⟨.hbm, 79, rfl⟩
abbrev main_call0_v2 : Ref sig .tc := ⟨.hbm, 80, rfl⟩
abbrev main_v61_0 : Ref sig .tc := ⟨.hbm, 81, rfl⟩
abbrev main_call0_cst : Ref sig .tc := ⟨.hbm, 82, rfl⟩
abbrev main_v61_2 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_13 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_14 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_15 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_16 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_17 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_18 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_call1_cst : Ref sig .tc := ⟨.hbm, 162, rfl⟩
abbrev main_call1_v0 : Ref sig .tc := ⟨.hbm, 163, rfl⟩
abbrev main_v131 : Ref sig .tc := ⟨.hbm, 164, rfl⟩
abbrev main_cst_19 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_20 : Ref sig .tc := ⟨.hbm, 174, rfl⟩
abbrev main_v140 : Ref sig .tc := ⟨.hbm, 175, rfl⟩
abbrev main_cst_21 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_cst_22 : Ref sig .tc := ⟨.hbm, 186, rfl⟩
abbrev main_v150 : Ref sig .tc := ⟨.hbm, 187, rfl⟩
abbrev main_cst_23 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩

abbrev nD : Nat := 1
abbrev τ : Topo := Topo.v7x

variable {F : FTy → Type} [FloatOps F]
-- ==== Proof.UpGrad.lean ====
/-
  The gradient that the squared-relu layer passes to its pre-activation, as the kernel's one product with an epilogue
  computes it: `(ct · w_downᵀ) · 2·√a` where `a = max(u, 0)²` is the layer's saved output. The reference is the
  derivative of `u ↦ max(u, 0)² · w_down`, which masks `(ct · w_downᵀ) · 2·max(u, 0)` by `u > 0`.
-/
module

public import proofs.«01_k».proof.Proof.Gen.UKernelIdeal.Value
public import proofs.«01_k».proof.Proof.Gen.UReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UKernelIdeal.Value

open Cert.UKernelIdeal Cert.UKernelIdeal.Gen

/-- The square root of the square of a number that is not negative. -/
theorem sqrt_sq (x : EReal) : Ideal.sqrt (max x 0 * max x 0) = max x 0 := by
  rcases le_total x 0 with h | h
  · rw [max_eq_right h, mul_zero, ← EReal.coe_zero, Ideal.sqrt_coe]; simp
  · rw [max_eq_left h]
    induction x with
    | bot => simp at h
    | top => simp
    | coe r => rw [← EReal.coe_mul, Ideal.sqrt_coe, if_neg (not_lt.2 (mul_self_nonneg _)), Real.sqrt_mul_self (by exact_mod_cast h)]

/-- One element: the epilogue's factor against the reference's mask. -/
theorem element (a u t : EReal) :
    a * (t * Ideal.sqrt (max u 0 * max u 0)) = if 0 < u then a * (t * max u 0) else 0 := by
  rw [sqrt_sq]
  split_ifs with h
  · rfl
  · rw [max_eq_right (not_lt.1 h), mul_zero, mul_zero]

variable (m : (ℓ : Loc nD τ sig) → Buf (Elt Ideal) ℓ)

/-- The reference's result over the three argument arrays. -/
abbrev REF (U : FVec Ideal S8192x4096 .f32) (W : FVec Ideal S4096x1024 .f32) (X : FVec Ideal S8192x1024 .f32) : FVec Ideal S8192x4096 .bf16 :=
  truncf .bf16 (select (cmpf .ogt U (broadcastInDim Cert.UReferenceIdeal.S8192x4096 ![] Cert.UReferenceIdeal.Gen.bcast_S_S8192x4096 (constant Cert.UReferenceIdeal.S_ .f32 0x00000000#32))) (mulf (Host.dotGeneral Cert.UReferenceIdeal.dot_S8192x1024_S4096x1024_S8192x4096_1_1_0_0_n_n none X W) (mulf (broadcastInDim Cert.UReferenceIdeal.S8192x4096 ![] Cert.UReferenceIdeal.Gen.bcast_S_S8192x4096 (constant Cert.UReferenceIdeal.S_ .f32 0x40000000#32)) (maximumf U (broadcastInDim Cert.UReferenceIdeal.S8192x4096 ![] Cert.UReferenceIdeal.Gen.bcast_S_S8192x4096 (constant Cert.UReferenceIdeal.S_ .f32 0x00000000#32))))) (broadcastInDim Cert.UReferenceIdeal.S8192x4096 ![] Cert.UReferenceIdeal.Gen.bcast_S_S8192x4096 (constant Cert.UReferenceIdeal.S_ .f32 0x00000000#32))) Cert.UReferenceIdeal.Gen.bitsLt_bf16_f32

/-- The windows' block indices at every point. -/
theorem idx : ∀ t : Fin cfg0.N, win0_0.index t = ![t.val / 4, 0] ∧ win0_1.index t = ![t.val % 4, 0] ∧ win0_2.index t = ![t.val / 4, t.val % 4]
    ∧ win0_3.index t = ![t.val / 4, t.val % 4] :=
  (by decide +kernel : ∀ t : Fin grid0.N, _)

/-- The layer's saved output, the square of the positive part. -/
abbrev SAVED (U : FVec Ideal S8192x4096 .f32) : FVec Ideal S8192x4096 .bf16 :=
  truncf .bf16 (mulf (maximumf U (broadcastInDim S8192x4096 ![] bcast_S_S8192x4096 (constant S_ .f32 0x00000000#32)))
    (maximumf U (broadcastInDim S8192x4096 ![] bcast_S_S8192x4096 (constant S_ .f32 0x00000000#32)))) bitsLt_bf16_f32

/-- The host prepares it for the kernel. -/
theorem saved_eq (c : Dev nD) : V m c main_v4 = SAVED (m ((c : Thread nD τ).loc main_arg0)) := by
  simp only [V, hostOps0, hostOps0_1, hostOps0_2, List.flatten_cons, List.flatten_nil, List.cons_append, List.nil_append, List.append_nil, StableHlo.TRef.nullary, StableHlo.TRef.unary, StableHlo.TRef.binary, StableHlo.TRef.toBuf, StableHlo.TRef.ofBuf, cast_eq]
  after_results

/-- What the body stores at an index of a point's block is the reference at the index's place in the array. -/
theorem point (c : Dev nD) (t : Fin cfg0.N) (y : S2048x1024.Idx) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  let U : FVec Ideal S8192x4096 .f32 := m ((c : Thread nD τ).loc main_arg0)
  pointwise [k0_pay1, REF]
  have h2 : (iblk m c 2 t y : EReal) = max (U (((cfg0.win 3).blk t).view.emb y)) 0 * max (U (((cfg0.win 3).blk t).view.emb y)) 0 := by
    have e : (iblk m c 2 t y : EReal) = V m c main_v4 (((cfg0.win 2).blk t).view.emb y) := rfl
    rw [e, saved_eq]; pointwise [SAVED]; blk_point [idx t]
  rw [h2, element]
  blk_point [iblk, V, idx t]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.UKernelIdeal.Value

end
-- ==== Proof.DownGrad.lean ====
/-
  The gradient of the down projection's weight, as the kernel's accumulating product computes it: `aᵀ · ct` where
  `a = max(u, 0)²`, over four blocks of 2048 rows each, the partial sum kept in a scratch buffer between them.
  The reference is the derivative of `w_down ↦ max(u, 0)² · w_down`, one contraction over the 8192 rows.
-/
module

public import proofs.«01_k».proof.Proof.Gen.DKernelIdeal.Value
public import proofs.«01_k».proof.Proof.Gen.DReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DKernelIdeal.Value

open Cert.DKernelIdeal Cert.DKernelIdeal.Gen

variable (m : (ℓ : Loc nD τ sig) → Buf (Elt Ideal) ℓ)

/-- The reference's result over the arrays it reads. -/
abbrev REF (U : FVec Ideal S8192x4096 .f32) (X : FVec Ideal S8192x1024 .f32) : FVec Ideal S4096x1024 .bf16 :=
  truncf .bf16 (transpose Cert.DReferenceIdeal.S4096x1024 [1, 0] (Host.dotGeneral Cert.DReferenceIdeal.dot_S8192x1024_S8192x4096_S1024x4096_0_0_1_1_n_n none X (mulf (maximumf U (broadcastInDim Cert.DReferenceIdeal.S8192x4096 ![] Cert.DReferenceIdeal.Gen.bcast_S_S8192x4096 (constant Cert.DReferenceIdeal.S_ .f32 0x00000000#32))) (maximumf U (broadcastInDim Cert.DReferenceIdeal.S8192x4096 ![] Cert.DReferenceIdeal.Gen.bcast_S_S8192x4096 (constant Cert.DReferenceIdeal.S_ .f32 0x00000000#32))))) Cert.DReferenceIdeal.Gen.transposes_S1024x4096_S4096x1024_1_0) Cert.DReferenceIdeal.Gen.bitsLt_bf16_f32

/-- The windows' block indices at every point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- One block's product at an index. -/
theorem part (x : Vec Ideal S2048x1024 .bf16) (g : Vec Ideal S2048x1024 .bf16) (j : S1024x1024.Idx) :
    k0_pay2 (F := Ideal) x g j = ∑ k : Fin 2048, (x (ix2 k (j 0)) : EReal) * g (ix2 k (j 1)) := by
  pointwise [k0_pay2, k0_pay1]

/-- The sum so far with one block's product added. -/
theorem step (x : Vec Ideal S2048x1024 .bf16) (g : Vec Ideal S2048x1024 .bf16) (a : Vec Ideal S1024x1024 .f32) (j : S1024x1024.Idx) :
    k0_pay3 (F := Ideal) x g a j = (a j : EReal) + ∑ k : Fin 2048, (x (ix2 k (j 0)) : EReal) * g (ix2 k (j 1)) := by
  pointwise [k0_pay3, k0_pay1]

theorem last (x : Vec Ideal S2048x1024 .bf16) (g : Vec Ideal S2048x1024 .bf16) (a : Vec Ideal S1024x1024 .f32) (j : S1024x1024.Idx) :
    k0_pay4 (F := Ideal) x g a j = k0_pay3 (F := Ideal) x g a j := by
  pointwise [k0_pay4, k0_pay3, k0_pay1]

/-- What a point leaves: the result block at the last point of the block's four, the scratch before. -/
def left (c : Dev nD) (n : ℕ) (h : n < cfg0.N) (j : S1024x1024.Idx) : EReal :=
  if n % 4 = 3 then (outsAt0 m c n h).1 j else (outsAt0 m c n h).2 j

/-- The first point of a block's four leaves its product. -/
theorem left_first (c : Dev nD) (t : Fin cfg0.N) (h : t.val % 4 = 0) (j : S1024x1024.Idx) :
    left m c t.val t.isLt j = ∑ k : Fin 2048, (show Vec Ideal S2048x1024 .bf16 from iblk m c 0 t) (ix2 k (j 0)) * (show Vec Ideal S2048x1024 .bf16 from iblk m c 1 t) (ix2 k (j 1)) := by
  rw [left, if_neg (by omega), outsAt0_A m c t h (by omega) (by omega)]
  frame_out
  rw [part]

/-- A later point adds its product to what the point before left. -/
theorem left_next (c : Dev nD) (t : Fin cfg0.N) (h : ¬t.val % 4 = 0) (j : S1024x1024.Idx) :
    left m c t.val t.isLt j = left m c (t.val - 1) (Nat.lt_of_le_of_lt (Nat.sub_le _ _) t.isLt) j
      + ∑ k : Fin 2048, (show Vec Ideal S2048x1024 .bf16 from iblk m c 0 t) (ix2 k (j 0)) * (show Vec Ideal S2048x1024 .bf16 from iblk m c 1 t) (ix2 k (j 1)) := by
  unfold left
  rw [if_neg (show ¬(t.val - 1) % 4 = 3 by omega)]
  by_cases h3 : t.val % 4 = 3
  · rw [if_pos h3, outsAt0_C m c t h (by omega) h3]
    frame_out
    rw [last, step, read_unread_whole]
  · rw [if_neg h3, outsAt0_B m c t h (by omega) h3]
    frame_out
    rw [step, read_unread_whole]

/-- The host's operand: the square of the positive part. -/
abbrev SAVED (U : FVec Ideal S8192x4096 .f32) : FVec Ideal S8192x4096 .bf16 :=
  truncf .bf16 (mulf (maximumf U (broadcastInDim S8192x4096 ![] bcast_S_S8192x4096 (constant S_ .f32 0x00000000#32)))
    (maximumf U (broadcastInDim S8192x4096 ![] bcast_S_S8192x4096 (constant S_ .f32 0x00000000#32)))) bitsLt_bf16_f32

/-- The host prepares it for the kernel. -/
theorem saved_eq (c : Dev nD) : V m c main_v2 = SAVED (m ((c : Thread nD τ).loc main_arg0)) := by
  simp only [V, hostOps0, hostOps0_1, List.flatten_cons, List.flatten_nil, List.cons_append, List.nil_append, List.append_nil, StableHlo.TRef.nullary, StableHlo.TRef.unary, StableHlo.TRef.binary, StableHlo.TRef.toBuf, StableHlo.TRef.ofBuf, cast_eq]
  after_results

/-- The result array after the run. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  have h3 := (flush0_2 t).mp hf
  blk_simp
  rw [after0_2]
  have e : (outsAt0 m c t.val t.isLt).1 y = left m c t.val t.isLt y := by rw [left, if_pos h3]
  rw [e, Pipeline.eq_sum_fin_of_reset_step_apply_of_flush (fun n h => left m c n h) 4 (fun _ => 0) _
    (fun t h j => by rw [left_first m c t h, zero_add]) (fun t h j => by rw [left_next m c t h]) t h3 _, zero_add]
  pointwise [REF]
  refine Fin.sum_mul_add_congr fun s k hl => ?_
  rw [mul_comm]
  congr 1
  · blk_point [iblk, V, idx t, idx ⟨_, Pipeline.run_point_lt_of_flush t h3 s⟩]
  · refine (show _ = V m c main_v2 (((cfg0.win 0).blk ⟨_, Pipeline.run_point_lt_of_flush t h3 s⟩).view.emb (ix2 k (y 0))) from rfl).trans ?_
    rw [saved_eq]
    pointwise [SAVED]
    blk_point [idx t, idx ⟨_, Pipeline.run_point_lt_of_flush t h3 s⟩]

end Cert.DKernelIdeal.Value

end
-- ==== Proof.WeightUp.lean ====
/-
  The gradient of the up projection's weight, as the kernel's accumulating product computes it: the left array transposed
  against the cotangent, over four blocks of 2048 rows each, the partial sum kept in a scratch buffer between them. The
  reference is the derivative of the product in its right factor, one contraction over the 8192 rows.
-/
module

public import proofs.«01_k».proof.Proof.Gen.WUpKernelIdeal.Value
public import proofs.«01_k».proof.Proof.Gen.WUpReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.WUpReferenceIdeal.Value

open Cert.WUpReferenceIdeal Cert.WUpReferenceIdeal.Gen

/-- The reference's result over the arrays it reads. -/
abbrev REF (A0 : FVec Ideal S8192x1024 .f32) (A2 : FVec Ideal S8192x4096 .f32) : FVec Ideal S1024x4096 .bf16 :=
  truncf .bf16 (transpose S1024x4096 [1, 0] (Host.dotGeneral dot_S8192x4096_S8192x1024_S4096x1024_0_0_1_1_n_n none A2 A0) transposes_S4096x1024_S1024x4096_1_0) bitsLt_bf16_f32

end Cert.WUpReferenceIdeal.Value

namespace Cert.WUpKernelIdeal.Value

open Cert.WUpKernelIdeal Cert.WUpKernelIdeal.Gen

variable (m : (ℓ : Loc nD τ sig) → Buf (Elt Ideal) ℓ)

/-- The windows' block indices at every point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- One block's product at an index. -/
theorem part (x : Vec Ideal S2048x1024 .bf16) (g : Vec Ideal S2048x1024 .bf16) (j : S1024x1024.Idx) :
    k0_pay2 (F := Ideal) x g j = ∑ k : Fin 2048, (x (ix2 k (j 0)) : EReal) * g (ix2 k (j 1)) := by
  pointwise [k0_pay2, k0_pay1]

/-- The sum so far with one block's product added. -/
theorem step (x : Vec Ideal S2048x1024 .bf16) (g : Vec Ideal S2048x1024 .bf16) (a : Vec Ideal S1024x1024 .f32) (j : S1024x1024.Idx) :
    k0_pay3 (F := Ideal) x g a j = (a j : EReal) + ∑ k : Fin 2048, (x (ix2 k (j 0)) : EReal) * g (ix2 k (j 1)) := by
  pointwise [k0_pay3, k0_pay1]

theorem last (x : Vec Ideal S2048x1024 .bf16) (g : Vec Ideal S2048x1024 .bf16) (a : Vec Ideal S1024x1024 .f32) (j : S1024x1024.Idx) :
    k0_pay4 (F := Ideal) x g a j = k0_pay3 (F := Ideal) x g a j := by
  pointwise [k0_pay4, k0_pay3, k0_pay1]

/-- What a point leaves: the result block at the last point of the block's four, the scratch before. -/
def left (c : Dev nD) (n : ℕ) (h : n < cfg0.N) (j : S1024x1024.Idx) : EReal :=
  if n % 4 = 3 then (outsAt0 m c n h).1 j else (outsAt0 m c n h).2 j

/-- The first point of a block's four leaves its product. -/
theorem left_first (c : Dev nD) (t : Fin cfg0.N) (h : t.val % 4 = 0) (j : S1024x1024.Idx) :
    left m c t.val t.isLt j = ∑ k : Fin 2048, (show Vec Ideal S2048x1024 .bf16 from iblk m c 0 t) (ix2 k (j 0)) * (show Vec Ideal S2048x1024 .bf16 from iblk m c 1 t) (ix2 k (j 1)) := by
  rw [left, if_neg (by omega), outsAt0_A m c t h (by omega) (by omega)]
  frame_out
  rw [part]

/-- A later point adds its product to what the point before left. -/
theorem left_next (c : Dev nD) (t : Fin cfg0.N) (h : ¬t.val % 4 = 0) (j : S1024x1024.Idx) :
    left m c t.val t.isLt j = left m c (t.val - 1) (Nat.lt_of_le_of_lt (Nat.sub_le _ _) t.isLt) j
      + ∑ k : Fin 2048, (show Vec Ideal S2048x1024 .bf16 from iblk m c 0 t) (ix2 k (j 0)) * (show Vec Ideal S2048x1024 .bf16 from iblk m c 1 t) (ix2 k (j 1)) := by
  unfold left
  rw [if_neg (show ¬(t.val - 1) % 4 = 3 by omega)]
  by_cases h3 : t.val % 4 = 3
  · rw [if_pos h3, outsAt0_C m c t h (by omega) h3]
    frame_out
    rw [last, step, read_unread_whole]
  · rw [if_neg h3, outsAt0_B m c t h (by omega) h3]
    frame_out
    rw [step, read_unread_whole]

/-- The result array after the run. -/
theorem final (c : Dev nD) : (dats m 0 c).arrAt 2 (cfgs 0).N
    = Cert.WUpReferenceIdeal.Value.REF (m ((c : Thread nD τ).loc main_arg0)) (m ((c : Thread nD τ).loc main_arg2)) := by
  refine (dats m 0 c).arrAt_eq_of_covers 2 _ (by decide +kernel) fun t hf y => ?_
  have h3 := (flush0_2 t).mp hf
  blk_simp
  rw [after0_2]
  have e : (outsAt0 m c t.val t.isLt).1 y = left m c t.val t.isLt y := by rw [left, if_pos h3]
  rw [e, Pipeline.eq_sum_fin_of_reset_step_apply_of_flush (fun n h => left m c n h) 4 (fun _ => 0) _
    (fun t h j => by rw [left_first m c t h, zero_add]) (fun t h j => by rw [left_next m c t h]) t h3 _, zero_add]
  pointwise [Cert.WUpReferenceIdeal.Value.REF]
  refine Fin.sum_mul_add_congr fun s k hl => ?_
  rw [mul_comm]
  congr 1
  · blk_point [iblk, V, idx t, idx ⟨_, Pipeline.run_point_lt_of_flush t h3 s⟩]
  · blk_point [iblk, V, idx t, idx ⟨_, Pipeline.run_point_lt_of_flush t h3 s⟩]

end Cert.WUpKernelIdeal.Value

end
-- ==== Proof.WeightGate.lean ====
/-
  The gradient of a square projection's weight, as the kernel's accumulating product computes it: the left array transposed
  against the cotangent, over four blocks of 2048 rows each, the partial sum kept in a scratch buffer between them. The
  reference is the derivative of the product in its right factor, one contraction over the 8192 rows.
-/
module

public import proofs.«01_k».proof.Proof.Gen.WGateKernelIdeal.Value
public import proofs.«01_k».proof.Proof.Gen.WGateReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.WGateReferenceIdeal.Value

open Cert.WGateReferenceIdeal Cert.WGateReferenceIdeal.Gen

/-- The reference's result over the arrays it reads. -/
abbrev REF (A0 : FVec Ideal S8192x1024 .f32) (A2 : FVec Ideal S8192x1024 .f32) : FVec Ideal S1024x1024 .bf16 :=
  truncf .bf16 (transpose S1024x1024 [1, 0] (Host.dotGeneral dot_S8192x1024_S8192x1024_S1024x1024_0_0_1_1_n_n none A2 A0) transposes_S1024x1024_S1024x1024_1_0) bitsLt_bf16_f32

end Cert.WGateReferenceIdeal.Value

namespace Cert.WGateKernelIdeal.Value

open Cert.WGateKernelIdeal Cert.WGateKernelIdeal.Gen

variable (m : (ℓ : Loc nD τ sig) → Buf (Elt Ideal) ℓ)

/-- The windows' block indices at every point. -/
theorem idx : ∀ t : Fin cfg0.N, win0_0.index t = ![t.val % 4, 0] ∧ win0_1.index t = ![t.val % 4, 0] ∧ win0_2.index t = ![0, 0] :=
  (by decide +kernel : ∀ t : Fin grid0.N, _)

/-- One block's product at an index. -/
theorem part (x : Vec Ideal S2048x1024 .bf16) (g : Vec Ideal S2048x1024 .bf16) (j : S1024x1024.Idx) :
    k0_pay2 (F := Ideal) x g j = ∑ k : Fin 2048, (x (ix2 k (j 0)) : EReal) * g (ix2 k (j 1)) := by
  pointwise [k0_pay2, k0_pay1]

/-- The sum so far with one block's product added. -/
theorem step (x : Vec Ideal S2048x1024 .bf16) (g : Vec Ideal S2048x1024 .bf16) (a : Vec Ideal S1024x1024 .f32) (j : S1024x1024.Idx) :
    k0_pay3 (F := Ideal) x g a j = (a j : EReal) + ∑ k : Fin 2048, (x (ix2 k (j 0)) : EReal) * g (ix2 k (j 1)) := by
  pointwise [k0_pay3, k0_pay1]

theorem last (x : Vec Ideal S2048x1024 .bf16) (g : Vec Ideal S2048x1024 .bf16) (a : Vec Ideal S1024x1024 .f32) (j : S1024x1024.Idx) :
    k0_pay4 (F := Ideal) x g a j = k0_pay3 (F := Ideal) x g a j := by
  pointwise [k0_pay4, k0_pay3, k0_pay1]

/-- What a point leaves: the result block at the last point of the block's four, the scratch before. -/
def left (c : Dev nD) (n : ℕ) (h : n < cfg0.N) (j : S1024x1024.Idx) : EReal :=
  if n % 4 = 3 then (outsAt0 m c n h).1 j else (outsAt0 m c n h).2 j

/-- The first point of a block's four leaves its product. -/
theorem left_first (c : Dev nD) (t : Fin cfg0.N) (h : t.val % 4 = 0) (j : S1024x1024.Idx) :
    left m c t.val t.isLt j = ∑ k : Fin 2048, (show Vec Ideal S2048x1024 .bf16 from iblk m c 0 t) (ix2 k (j 0)) * (show Vec Ideal S2048x1024 .bf16 from iblk m c 1 t) (ix2 k (j 1)) := by
  rw [left, if_neg (by omega), outsAt0_A m c t h (by omega) (by omega)]
  frame_out
  rw [part]

/-- A later point adds its product to what the point before left. -/
theorem left_next (c : Dev nD) (t : Fin cfg0.N) (h : ¬t.val % 4 = 0) (j : S1024x1024.Idx) :
    left m c t.val t.isLt j = left m c (t.val - 1) (Nat.lt_of_le_of_lt (Nat.sub_le _ _) t.isLt) j
      + ∑ k : Fin 2048, (show Vec Ideal S2048x1024 .bf16 from iblk m c 0 t) (ix2 k (j 0)) * (show Vec Ideal S2048x1024 .bf16 from iblk m c 1 t) (ix2 k (j 1)) := by
  unfold left
  rw [if_neg (show ¬(t.val - 1) % 4 = 3 by omega)]
  by_cases h3 : t.val % 4 = 3
  · rw [if_pos h3, outsAt0_C m c t h (by omega) h3]
    frame_out
    rw [last, step, read_unread_whole]
  · rw [if_neg h3, outsAt0_B m c t h (by omega) h3]
    frame_out
    rw [step, read_unread_whole]

/-- The result array after the run. -/
theorem final (c : Dev nD) : (dats m 0 c).arrAt 2 (cfgs 0).N
    = Cert.WGateReferenceIdeal.Value.REF (m ((c : Thread nD τ).loc main_arg0)) (m ((c : Thread nD τ).loc main_arg2)) := by
  refine (dats m 0 c).arrAt_eq_of_covers 2 _ (by decide +kernel) fun t hf y => ?_
  have h3 := (flush0_2 t).mp hf
  blk_simp
  rw [after0_2]
  have e : (outsAt0 m c t.val t.isLt).1 y = left m c t.val t.isLt y := by rw [left, if_pos h3]
  rw [e, Pipeline.eq_sum_fin_of_reset_step_apply_of_flush (fun n h => left m c n h) 4 (fun _ => 0) _
    (fun t h j => by rw [left_first m c t h, zero_add]) (fun t h j => by rw [left_next m c t h]) t h3 _, zero_add]
  pointwise [Cert.WGateReferenceIdeal.Value.REF]
  refine Fin.sum_mul_add_congr fun s k hl => ?_
  rw [mul_comm]
  congr 1
  · blk_point [iblk, V, idx t, idx ⟨_, Pipeline.run_point_lt_of_flush t h3 s⟩]
  · blk_point [iblk, V, idx t, idx ⟨_, Pipeline.run_point_lt_of_flush t h3 s⟩]

end Cert.WGateKernelIdeal.Value

end
-- ==== Proof.WeightPle.lean ====
/-
  The gradient of the per-layer embedding projection's weight, as the kernel's accumulating product computes it: the left array transposed
  against the cotangent, over four blocks of 2048 rows each, the partial sum kept in a scratch buffer between them. The
  reference is the derivative of the product in its right factor, one contraction over the 8192 rows.
-/
module

public import proofs.«01_k».proof.Proof.Gen.WPleKernelIdeal.Value
public import proofs.«01_k».proof.Proof.Gen.WPleReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.WPleReferenceIdeal.Value

open Cert.WPleReferenceIdeal Cert.WPleReferenceIdeal.Gen

/-- The reference's result over the arrays it reads. -/
abbrev REF (A0 : FVec Ideal S8192x256 .f32) (A2 : FVec Ideal S8192x1024 .f32) : FVec Ideal S256x1024 .bf16 :=
  truncf .bf16 (transpose S256x1024 [1, 0] (Host.dotGeneral dot_S8192x1024_S8192x256_S1024x256_0_0_1_1_n_n none A2 A0) transposes_S1024x256_S256x1024_1_0) bitsLt_bf16_f32

end Cert.WPleReferenceIdeal.Value

namespace Cert.WPleKernelIdeal.Value

open Cert.WPleKernelIdeal Cert.WPleKernelIdeal.Gen

variable (m : (ℓ : Loc nD τ sig) → Buf (Elt Ideal) ℓ)

/-- The windows' block indices at every point. -/
theorem idx : ∀ t : Fin cfg0.N, win0_0.index t = ![t.val % 4, 0] ∧ win0_1.index t = ![t.val % 4, 0] ∧ win0_2.index t = ![0, 0] :=
  (by decide +kernel : ∀ t : Fin grid0.N, _)

/-- One block's product at an index. -/
theorem part (x : Vec Ideal S2048x256 .f32) (g : Vec Ideal S2048x1024 .bf16) (j : S256x1024.Idx) :
    k0_pay2 (F := Ideal) x g j = ∑ k : Fin 2048, (x (ix2 k (j 0)) : EReal) * g (ix2 k (j 1)) := by
  pointwise [k0_pay2, k0_pay1]

/-- The sum so far with one block's product added. -/
theorem step (x : Vec Ideal S2048x256 .f32) (g : Vec Ideal S2048x1024 .bf16) (a : Vec Ideal S256x1024 .f32) (j : S256x1024.Idx) :
    k0_pay3 (F := Ideal) x g a j = (a j : EReal) + ∑ k : Fin 2048, (x (ix2 k (j 0)) : EReal) * g (ix2 k (j 1)) := by
  pointwise [k0_pay3, k0_pay1]

theorem last (x : Vec Ideal S2048x256 .f32) (g : Vec Ideal S2048x1024 .bf16) (a : Vec Ideal S256x1024 .f32) (j : S256x1024.Idx) :
    k0_pay4 (F := Ideal) x g a j = k0_pay3 (F := Ideal) x g a j := by
  pointwise [k0_pay4, k0_pay3, k0_pay1]

/-- What a point leaves: the result block at the last point of the block's four, the scratch before. -/
def left (c : Dev nD) (n : ℕ) (h : n < cfg0.N) (j : S256x1024.Idx) : EReal :=
  if n % 4 = 3 then (outsAt0 m c n h).1 j else (outsAt0 m c n h).2 j

/-- The first point of a block's four leaves its product. -/
theorem left_first (c : Dev nD) (t : Fin cfg0.N) (h : t.val % 4 = 0) (j : S256x1024.Idx) :
    left m c t.val t.isLt j = ∑ k : Fin 2048, (show Vec Ideal S2048x256 .f32 from iblk m c 0 t) (ix2 k (j 0)) * (show Vec Ideal S2048x1024 .bf16 from iblk m c 1 t) (ix2 k (j 1)) := by
  rw [left, if_neg (by omega), outsAt0_A m c t h (by omega) (by omega)]
  frame_out
  rw [part]

/-- A later point adds its product to what the point before left. -/
theorem left_next (c : Dev nD) (t : Fin cfg0.N) (h : ¬t.val % 4 = 0) (j : S256x1024.Idx) :
    left m c t.val t.isLt j = left m c (t.val - 1) (Nat.lt_of_le_of_lt (Nat.sub_le _ _) t.isLt) j
      + ∑ k : Fin 2048, (show Vec Ideal S2048x256 .f32 from iblk m c 0 t) (ix2 k (j 0)) * (show Vec Ideal S2048x1024 .bf16 from iblk m c 1 t) (ix2 k (j 1)) := by
  unfold left
  rw [if_neg (show ¬(t.val - 1) % 4 = 3 by omega)]
  by_cases h3 : t.val % 4 = 3
  · rw [if_pos h3, outsAt0_C m c t h (by omega) h3]
    frame_out
    rw [last, step, read_unread_whole]
  · rw [if_neg h3, outsAt0_B m c t h (by omega) h3]
    frame_out
    rw [step, read_unread_whole]

/-- The result array after the run. -/
theorem final (c : Dev nD) : (dats m 0 c).arrAt 2 (cfgs 0).N
    = Cert.WPleReferenceIdeal.Value.REF (m ((c : Thread nD τ).loc main_arg0)) (m ((c : Thread nD τ).loc main_arg2)) := by
  refine (dats m 0 c).arrAt_eq_of_covers 2 _ (by decide +kernel) fun t hf y => ?_
  have h3 := (flush0_2 t).mp hf
  blk_simp
  rw [after0_2]
  have e : (outsAt0 m c t.val t.isLt).1 y = left m c t.val t.isLt y := by rw [left, if_pos h3]
  rw [e, Pipeline.eq_sum_fin_of_reset_step_apply_of_flush (fun n h => left m c n h) 4 (fun _ => 0) _
    (fun t h j => by rw [left_first m c t h, zero_add]) (fun t h j => by rw [left_next m c t h]) t h3 _, zero_add]
  pointwise [Cert.WPleReferenceIdeal.Value.REF]
  refine Fin.sum_mul_add_congr fun s k hl => ?_
  rw [mul_comm]
  congr 1
  · blk_point [iblk, V, idx t, idx ⟨_, Pipeline.run_point_lt_of_flush t h3 s⟩]
  · blk_point [iblk, V, idx t, idx ⟨_, Pipeline.run_point_lt_of_flush t h3 s⟩]

end Cert.WPleKernelIdeal.Value

end
-- ==== Proof.WeightOut.lean ====
/-
  The gradient of the attention output projection's weight, as the kernel's accumulating product computes it: the left array transposed
  against the cotangent, over four blocks of 2048 rows each, the partial sum kept in a scratch buffer between them. The
  reference is the derivative of the product in its right factor, one contraction over the 8192 rows.
-/
module

public import proofs.«01_k».proof.Proof.Gen.WOKernelIdeal.Value
public import proofs.«01_k».proof.Proof.Gen.WOReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.WOReferenceIdeal.Value

open Cert.WOReferenceIdeal Cert.WOReferenceIdeal.Gen

/-- The reference's result over the arrays it reads. -/
abbrev REF (A0 : FVec Ideal S8192x512 .f32) (A2 : FVec Ideal S8192x1024 .f32) : FVec Ideal S512x1024 .bf16 :=
  truncf .bf16 (transpose S512x1024 [1, 0] (Host.dotGeneral dot_S8192x1024_S8192x512_S1024x512_0_0_1_1_n_n none A2 A0) transposes_S1024x512_S512x1024_1_0) bitsLt_bf16_f32

end Cert.WOReferenceIdeal.Value

namespace Cert.WOKernelIdeal.Value

open Cert.WOKernelIdeal Cert.WOKernelIdeal.Gen

variable (m : (ℓ : Loc nD τ sig) → Buf (Elt Ideal) ℓ)

/-- The windows' block indices at every point. -/
theorem idx : ∀ t : Fin cfg0.N, win0_0.index t = ![t.val % 4, 0] ∧ win0_1.index t = ![t.val % 4, 0] ∧ win0_2.index t = ![0, 0] :=
  (by decide +kernel : ∀ t : Fin grid0.N, _)

/-- One block's product at an index. -/
theorem part (x : Vec Ideal S2048x512 .bf16) (g : Vec Ideal S2048x1024 .bf16) (j : S512x1024.Idx) :
    k0_pay2 (F := Ideal) x g j = ∑ k : Fin 2048, (x (ix2 k (j 0)) : EReal) * g (ix2 k (j 1)) := by
  pointwise [k0_pay2, k0_pay1]

/-- The sum so far with one block's product added. -/
theorem step (x : Vec Ideal S2048x512 .bf16) (g : Vec Ideal S2048x1024 .bf16) (a : Vec Ideal S512x1024 .f32) (j : S512x1024.Idx) :
    k0_pay3 (F := Ideal) x g a j = (a j : EReal) + ∑ k : Fin 2048, (x (ix2 k (j 0)) : EReal) * g (ix2 k (j 1)) := by
  pointwise [k0_pay3, k0_pay1]

theorem last (x : Vec Ideal S2048x512 .bf16) (g : Vec Ideal S2048x1024 .bf16) (a : Vec Ideal S512x1024 .f32) (j : S512x1024.Idx) :
    k0_pay4 (F := Ideal) x g a j = k0_pay3 (F := Ideal) x g a j := by
  pointwise [k0_pay4, k0_pay3, k0_pay1]

/-- What a point leaves: the result block at the last point of the block's four, the scratch before. -/
def left (c : Dev nD) (n : ℕ) (h : n < cfg0.N) (j : S512x1024.Idx) : EReal :=
  if n % 4 = 3 then (outsAt0 m c n h).1 j else (outsAt0 m c n h).2 j

/-- The first point of a block's four leaves its product. -/
theorem left_first (c : Dev nD) (t : Fin cfg0.N) (h : t.val % 4 = 0) (j : S512x1024.Idx) :
    left m c t.val t.isLt j = ∑ k : Fin 2048, (show Vec Ideal S2048x512 .bf16 from iblk m c 0 t) (ix2 k (j 0)) * (show Vec Ideal S2048x1024 .bf16 from iblk m c 1 t) (ix2 k (j 1)) := by
  rw [left, if_neg (by omega), outsAt0_A m c t h (by omega) (by omega)]
  frame_out
  rw [part]

/-- A later point adds its product to what the point before left. -/
theorem left_next (c : Dev nD) (t : Fin cfg0.N) (h : ¬t.val % 4 = 0) (j : S512x1024.Idx) :
    left m c t.val t.isLt j = left m c (t.val - 1) (Nat.lt_of_le_of_lt (Nat.sub_le _ _) t.isLt) j
      + ∑ k : Fin 2048, (show Vec Ideal S2048x512 .bf16 from iblk m c 0 t) (ix2 k (j 0)) * (show Vec Ideal S2048x1024 .bf16 from iblk m c 1 t) (ix2 k (j 1)) := by
  unfold left
  rw [if_neg (show ¬(t.val - 1) % 4 = 3 by omega)]
  by_cases h3 : t.val % 4 = 3
  · rw [if_pos h3, outsAt0_C m c t h (by omega) h3]
    frame_out
    rw [last, step, read_unread_whole]
  · rw [if_neg h3, outsAt0_B m c t h (by omega) h3]
    frame_out
    rw [step, read_unread_whole]

/-- The result array after the run. -/
theorem final (c : Dev nD) : (dats m 0 c).arrAt 2 (cfgs 0).N
    = Cert.WOReferenceIdeal.Value.REF (m ((c : Thread nD τ).loc main_arg0)) (m ((c : Thread nD τ).loc main_arg2)) := by
  refine (dats m 0 c).arrAt_eq_of_covers 2 _ (by decide +kernel) fun t hf y => ?_
  have h3 := (flush0_2 t).mp hf
  blk_simp
  rw [after0_2]
  have e : (outsAt0 m c t.val t.isLt).1 y = left m c t.val t.isLt y := by rw [left, if_pos h3]
  rw [e, Pipeline.eq_sum_fin_of_reset_step_apply_of_flush (fun n h => left m c n h) 4 (fun _ => 0) _
    (fun t h j => by rw [left_first m c t h, zero_add]) (fun t h j => by rw [left_next m c t h]) t h3 _, zero_add]
  pointwise [Cert.WOReferenceIdeal.Value.REF]
  refine Fin.sum_mul_add_congr fun s k hl => ?_
  rw [mul_comm]
  congr 1
  · blk_point [iblk, V, idx t, idx ⟨_, Pipeline.run_point_lt_of_flush t h3 s⟩]
  · blk_point [iblk, V, idx t, idx ⟨_, Pipeline.run_point_lt_of_flush t h3 s⟩]

end Cert.WOKernelIdeal.Value

end
-- ==== Proof.WeightQkv.lean ====
/-
  The gradient of one head group's query, key and value projection, as the kernel's accumulating product computes it: the left array transposed
  against the cotangent, over four blocks of 2048 rows each, the partial sum kept in a scratch buffer between them. The
  reference is the derivative of the product in its right factor, one contraction over the 8192 rows.
-/
module

public import proofs.«01_k».proof.Proof.Gen.WQkvKernelIdeal.Value
public import proofs.«01_k».proof.Proof.Gen.WQkvReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.WQkvReferenceIdeal.Value

open Cert.WQkvReferenceIdeal Cert.WQkvReferenceIdeal.Gen

/-- The reference's result over the arrays it reads. -/
abbrev REF (A0 : FVec Ideal S8192x1024 .f32) (A2 : FVec Ideal S8192x1536 .f32) : FVec Ideal S1024x1536 .bf16 :=
  truncf .bf16 (transpose S1024x1536 [1, 0] (Host.dotGeneral dot_S8192x1536_S8192x1024_S1536x1024_0_0_1_1_n_n none A2 A0) transposes_S1536x1024_S1024x1536_1_0) bitsLt_bf16_f32

end Cert.WQkvReferenceIdeal.Value

namespace Cert.WQkvKernelIdeal.Value

open Cert.WQkvKernelIdeal Cert.WQkvKernelIdeal.Gen

variable (m : (ℓ : Loc nD τ sig) → Buf (Elt Ideal) ℓ)

/-- The windows' block indices at every point. -/
theorem idx : ∀ t : Fin cfg0.N, win0_0.index t = ![t.val % 4, 0] ∧ win0_1.index t = ![t.val % 4, 0] ∧ win0_2.index t = ![0, 0] :=
  (by decide +kernel : ∀ t : Fin grid0.N, _)

/-- One block's product at an index. -/
theorem part (x : Vec Ideal S2048x1024 .bf16) (g : Vec Ideal S2048x1536 .bf16) (j : S1024x1536.Idx) :
    k0_pay2 (F := Ideal) x g j = ∑ k : Fin 2048, (x (ix2 k (j 0)) : EReal) * g (ix2 k (j 1)) := by
  pointwise [k0_pay2, k0_pay1]

/-- The sum so far with one block's product added. -/
theorem step (x : Vec Ideal S2048x1024 .bf16) (g : Vec Ideal S2048x1536 .bf16) (a : Vec Ideal S1024x1536 .f32) (j : S1024x1536.Idx) :
    k0_pay3 (F := Ideal) x g a j = (a j : EReal) + ∑ k : Fin 2048, (x (ix2 k (j 0)) : EReal) * g (ix2 k (j 1)) := by
  pointwise [k0_pay3, k0_pay1]

theorem last (x : Vec Ideal S2048x1024 .bf16) (g : Vec Ideal S2048x1536 .bf16) (a : Vec Ideal S1024x1536 .f32) (j : S1024x1536.Idx) :
    k0_pay4 (F := Ideal) x g a j = k0_pay3 (F := Ideal) x g a j := by
  pointwise [k0_pay4, k0_pay3, k0_pay1]

/-- What a point leaves: the result block at the last point of the block's four, the scratch before. -/
def left (c : Dev nD) (n : ℕ) (h : n < cfg0.N) (j : S1024x1536.Idx) : EReal :=
  if n % 4 = 3 then (outsAt0 m c n h).1 j else (outsAt0 m c n h).2 j

/-- The first point of a block's four leaves its product. -/
theorem left_first (c : Dev nD) (t : Fin cfg0.N) (h : t.val % 4 = 0) (j : S1024x1536.Idx) :
    left m c t.val t.isLt j = ∑ k : Fin 2048, (show Vec Ideal S2048x1024 .bf16 from iblk m c 0 t) (ix2 k (j 0)) * (show Vec Ideal S2048x1536 .bf16 from iblk m c 1 t) (ix2 k (j 1)) := by
  rw [left, if_neg (by omega), outsAt0_A m c t h (by omega) (by omega)]
  frame_out
  rw [part]

/-- A later point adds its product to what the point before left. -/
theorem left_next (c : Dev nD) (t : Fin cfg0.N) (h : ¬t.val % 4 = 0) (j : S1024x1536.Idx) :
    left m c t.val t.isLt j = left m c (t.val - 1) (Nat.lt_of_le_of_lt (Nat.sub_le _ _) t.isLt) j
      + ∑ k : Fin 2048, (show Vec Ideal S2048x1024 .bf16 from iblk m c 0 t) (ix2 k (j 0)) * (show Vec Ideal S2048x1536 .bf16 from iblk m c 1 t) (ix2 k (j 1)) := by
  unfold left
  rw [if_neg (show ¬(t.val - 1) % 4 = 3 by omega)]
  by_cases h3 : t.val % 4 = 3
  · rw [if_pos h3, outsAt0_C m c t h (by omega) h3]
    frame_out
    rw [last, step, read_unread_whole]
  · rw [if_neg h3, outsAt0_B m c t h (by omega) h3]
    frame_out
    rw [step, read_unread_whole]

/-- The result array after the run. -/
theorem final (c : Dev nD) : (dats m 0 c).arrAt 2 (cfgs 0).N
    = Cert.WQkvReferenceIdeal.Value.REF (m ((c : Thread nD τ).loc main_arg0)) (m ((c : Thread nD τ).loc main_arg2)) := by
  refine (dats m 0 c).arrAt_eq_of_covers 2 _ (by decide +kernel) fun t hf y => ?_
  have h3 := (flush0_2 t).mp hf
  blk_simp
  rw [after0_2]
  have e : (outsAt0 m c t.val t.isLt).1 y = left m c t.val t.isLt y := by rw [left, if_pos h3]
  rw [e, Pipeline.eq_sum_fin_of_reset_step_apply_of_flush (fun n h => left m c n h) 4 (fun _ => 0) _
    (fun t h j => by rw [left_first m c t h, zero_add]) (fun t h j => by rw [left_next m c t h]) t h3 _, zero_add]
  pointwise [Cert.WQkvReferenceIdeal.Value.REF]
  refine Fin.sum_mul_add_congr fun s k hl => ?_
  rw [mul_comm]
  congr 1
  · blk_point [iblk, V, idx t, idx ⟨_, Pipeline.run_point_lt_of_flush t h3 s⟩]
  · blk_point [iblk, V, idx t, idx ⟨_, Pipeline.run_point_lt_of_flush t h3 s⟩]

end Cert.WQkvKernelIdeal.Value

end
-- ==== Proof.InputDelta.lean ====
/-
  The gradient that a square projection passes to its input, as the kernel's product over blocks of rows computes it, beside the reference's one contraction.
-/
module

public import proofs.«01_k».proof.Proof.Gen.DYKernelIdeal.Value
public import proofs.«01_k».proof.Proof.Gen.DYReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DYReferenceIdeal.Value

open Cert.DYReferenceIdeal Cert.DYReferenceIdeal.Gen

/-- The reference's result over the arrays it reads. -/
abbrev REF (A1 : FVec Ideal S1024x1024 .f32) (A2 : FVec Ideal S8192x1024 .f32) : FVec Ideal S8192x1024 .f32 :=
  Host.dotGeneral dot_S8192x1024_S1024x1024_S8192x1024_1_1_0_0_n_n none A2 A1

end Cert.DYReferenceIdeal.Value

namespace Cert.DYKernelIdeal.Value

open Cert.DYKernelIdeal Cert.DYKernelIdeal.Gen

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] :=
  (by decide +kernel : ∀ t : Fin grid0.N, _)

/-- What the body stores at an index of a point's block is the reference at the index's place in the array. -/
theorem point (c : Dev nD) (t : Fin cfg0.N) (y : S1024x1024.Idx) : k0_pay1 (iblk m c 0 t) (iblk m c 1 t) y
    = Cert.DYReferenceIdeal.Value.REF (m ((c : Thread nD τ).loc main_arg1)) (m ((c : Thread nD τ).loc main_arg2)) (((cfg0.win 2).blk t).view.emb y) := by
  pointwise [k0_pay1, Cert.DYReferenceIdeal.Value.REF]
  blk_point [iblk, V, idx t]

/-- The result array after the run. -/
theorem final (c : Dev nD) : (dats m 0 c).arrAt 2 (cfgs 0).N
    = Cert.DYReferenceIdeal.Value.REF (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.DYKernelIdeal.Value

end
-- ==== Proof.InputOut.lean ====
/-
  The gradient that the attention output projection passes to its input, as the kernel's product over blocks of rows computes it, beside the reference's one contraction.
-/
module

public import proofs.«01_k».proof.Proof.Gen.DOmKernelIdeal.Value
public import proofs.«01_k».proof.Proof.Gen.DOmReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DOmReferenceIdeal.Value

open Cert.DOmReferenceIdeal Cert.DOmReferenceIdeal.Gen

/-- The reference's result over the arrays it reads. -/
abbrev REF (A1 : FVec Ideal S512x1024 .f32) (A2 : FVec Ideal S8192x1024 .f32) : FVec Ideal S8192x512 .f32 :=
  Host.dotGeneral dot_S8192x1024_S512x1024_S8192x512_1_1_0_0_n_n none A2 A1

end Cert.DOmReferenceIdeal.Value

namespace Cert.DOmKernelIdeal.Value

open Cert.DOmKernelIdeal Cert.DOmKernelIdeal.Gen

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] :=
  (by decide +kernel : ∀ t : Fin grid0.N, _)

/-- What the body stores at an index of a point's block is the reference at the index's place in the array. -/
theorem point (c : Dev nD) (t : Fin cfg0.N) (y : S1024x512.Idx) : k0_pay1 (iblk m c 0 t) (iblk m c 1 t) y
    = Cert.DOmReferenceIdeal.Value.REF (m ((c : Thread nD τ).loc main_arg1)) (m ((c : Thread nD τ).loc main_arg2)) (((cfg0.win 2).blk t).view.emb y) := by
  pointwise [k0_pay1, Cert.DOmReferenceIdeal.Value.REF]
  blk_point [iblk, V, idx t]

/-- The result array after the run. -/
theorem final (c : Dev nD) : (dats m 0 c).arrAt 2 (cfgs 0).N
    = Cert.DOmReferenceIdeal.Value.REF (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.DOmKernelIdeal.Value

end
-- ==== Proof.InputQkv.lean ====
/-
  The gradient that one head group's projection passes to its input, as the kernel's product over blocks of rows computes it, beside the reference's one contraction.
-/
module

public import proofs.«01_k».proof.Proof.Gen.DH0KernelIdeal.Value
public import proofs.«01_k».proof.Proof.Gen.DH0ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DH0ReferenceIdeal.Value

open Cert.DH0ReferenceIdeal Cert.DH0ReferenceIdeal.Gen

/-- The reference's result over the arrays it reads. -/
abbrev REF (A1 : FVec Ideal S1024x1536 .f32) (A2 : FVec Ideal S8192x1536 .f32) : FVec Ideal S8192x1024 .f32 :=
  Host.dotGeneral dot_S8192x1536_S1024x1536_S8192x1024_1_1_0_0_n_n none A2 A1

end Cert.DH0ReferenceIdeal.Value

namespace Cert.DH0KernelIdeal.Value

open Cert.DH0KernelIdeal Cert.DH0KernelIdeal.Gen

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] :=
  (by decide +kernel : ∀ t : Fin grid0.N, _)

/-- What the body stores at an index of a point's block is the reference at the index's place in the array. -/
theorem point (c : Dev nD) (t : Fin cfg0.N) (y : S1024x1024.Idx) : k0_pay1 (iblk m c 0 t) (iblk m c 1 t) y
    = Cert.DH0ReferenceIdeal.Value.REF (m ((c : Thread nD τ).loc main_arg1)) (m ((c : Thread nD τ).loc main_arg2)) (((cfg0.win 2).blk t).view.emb y) := by
  pointwise [k0_pay1, Cert.DH0ReferenceIdeal.Value.REF]
  blk_point [iblk, V, idx t]

/-- The result array after the run. -/
theorem final (c : Dev nD) : (dats m 0 c).arrAt 2 (cfgs 0).N
    = Cert.DH0ReferenceIdeal.Value.REF (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.DH0KernelIdeal.Value

end
-- ==== Proof.Gate.lean ====
/-
  The gate's pre-activation, as the kernel's product over blocks of rows computes it, beside the reference's one contraction.
-/
module

public import proofs.«01_k».proof.Proof.Gen.GateKernelIdeal.Value
public import proofs.«01_k».proof.Proof.Gen.GateReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateReferenceIdeal.Value

open Cert.GateReferenceIdeal Cert.GateReferenceIdeal.Gen

/-- The reference's result over the arrays it reads. -/
abbrev REF (A0 : FVec Ideal S8192x1024 .f32) (A1 : FVec Ideal S1024x1024 .f32) : FVec Ideal S8192x1024 .f32 :=
  Host.dotGeneral dot_S8192x1024_S1024x1024_S8192x1024_1_0_0_1_n_n none A0 A1

end Cert.GateReferenceIdeal.Value

namespace Cert.GateKernelIdeal.Value

open Cert.GateKernelIdeal Cert.GateKernelIdeal.Gen

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] :=
  (by decide +kernel : ∀ t : Fin grid0.N, _)

/-- What the body stores at an index of a point's block is the reference at the index's place in the array. -/
theorem point (c : Dev nD) (t : Fin cfg0.N) (y : S1024x1024.Idx) : k0_pay1 (iblk m c 0 t) (iblk m c 1 t) y
    = Cert.GateReferenceIdeal.Value.REF (m ((c : Thread nD τ).loc main_arg0)) (m ((c : Thread nD τ).loc main_arg1)) (((cfg0.win 2).blk t).view.emb y) := by
  pointwise [k0_pay1, Cert.GateReferenceIdeal.Value.REF]
  blk_point [iblk, V, idx t]

/-- The result array after the run. -/
theorem final (c : Dev nD) : (dats m 0 c).arrAt 2 (cfgs 0).N
    = Cert.GateReferenceIdeal.Value.REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GateKernelIdeal.Value

end
-- ==== Proof.Ple.lean ====
/-
  The projection of the per-layer embedding, as the kernel's product over blocks of rows computes it, beside the reference's one contraction.
-/
module

public import proofs.«01_k».proof.Proof.Gen.PleKernelIdeal.Value
public import proofs.«01_k».proof.Proof.Gen.PleReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PleReferenceIdeal.Value

open Cert.PleReferenceIdeal Cert.PleReferenceIdeal.Gen

/-- The reference's result over the arrays it reads. -/
abbrev REF (A0 : FVec Ideal S8192x256 .f32) (A1 : FVec Ideal S256x1024 .f32) : FVec Ideal S8192x1024 .f32 :=
  Host.dotGeneral dot_S8192x256_S256x1024_S8192x1024_1_0_0_1_n_n none A0 A1

end Cert.PleReferenceIdeal.Value

namespace Cert.PleKernelIdeal.Value

open Cert.PleKernelIdeal Cert.PleKernelIdeal.Gen

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] :=
  (by decide +kernel : ∀ t : Fin grid0.N, _)

/-- What the body stores at an index of a point's block is the reference at the index's place in the array. -/
theorem point (c : Dev nD) (t : Fin cfg0.N) (y : S1024x1024.Idx) : k0_pay1 (iblk m c 0 t) (iblk m c 1 t) y
    = Cert.PleReferenceIdeal.Value.REF (m ((c : Thread nD τ).loc main_arg0)) (m ((c : Thread nD τ).loc main_arg1)) (((cfg0.win 2).blk t).view.emb y) := by
  pointwise [k0_pay1, Cert.PleReferenceIdeal.Value.REF]
  blk_point [iblk, V, idx t]

/-- The result array after the run. -/
theorem final (c : Dev nD) : (dats m 0 c).arrAt 2 (cfgs 0).N
    = Cert.PleReferenceIdeal.Value.REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.PleKernelIdeal.Value

end
-- ==== Proof.Qkv.lean ====
/-
  One head group's queries, keys and values, as the kernel's product over blocks of rows computes it, beside the reference's one contraction.
-/
module

public import proofs.«01_k».proof.Proof.Gen.QkvKernelIdeal.Value
public import proofs.«01_k».proof.Proof.Gen.QkvReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QkvReferenceIdeal.Value

open Cert.QkvReferenceIdeal Cert.QkvReferenceIdeal.Gen

/-- The reference's result over the arrays it reads. -/
abbrev REF (A0 : FVec Ideal S8192x1024 .f32) (A1 : FVec Ideal S1024x1536 .f32) : FVec Ideal S8192x1536 .f32 :=
  Host.dotGeneral dot_S8192x1024_S1024x1536_S8192x1536_1_0_0_1_n_n none A0 A1

end Cert.QkvReferenceIdeal.Value

namespace Cert.QkvKernelIdeal.Value

open Cert.QkvKernelIdeal Cert.QkvKernelIdeal.Gen

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] :=
  (by decide +kernel : ∀ t : Fin grid0.N, _)

/-- What the body stores at an index of a point's block is the reference at the index's place in the array. -/
theorem point (c : Dev nD) (t : Fin cfg0.N) (y : S1024x1536.Idx) : k0_pay1 (iblk m c 0 t) (iblk m c 1 t) y
    = Cert.QkvReferenceIdeal.Value.REF (m ((c : Thread nD τ).loc main_arg0)) (m ((c : Thread nD τ).loc main_arg1)) (((cfg0.win 2).blk t).view.emb y) := by
  pointwise [k0_pay1, Cert.QkvReferenceIdeal.Value.REF]
  blk_point [iblk, V, idx t]

/-- The result array after the run. -/
theorem final (c : Dev nD) : (dats m 0 c).arrAt 2 (cfgs 0).N
    = Cert.QkvReferenceIdeal.Value.REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.QkvKernelIdeal.Value

end
-- ==== Proof.Up.lean ====
/-
  The squared-relu layer's saved output, as the kernel's product over blocks of rows computes it, beside the reference's one contraction.
-/
module

public import proofs.«01_k».proof.Proof.Gen.UpKernelIdeal.Value
public import proofs.«01_k».proof.Proof.Gen.UpReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpReferenceIdeal.Value

open Cert.UpReferenceIdeal Cert.UpReferenceIdeal.Gen

/-- The reference's result over the arrays it reads. -/
abbrev REF (A0 : FVec Ideal S8192x1024 .f32) (A1 : FVec Ideal S1024x4096 .f32) : FVec Ideal S8192x4096 .bf16 :=
  truncf .bf16 (mulf (maximumf (Host.dotGeneral dot_S8192x1024_S1024x4096_S8192x4096_1_0_0_1_n_n none A0 A1) (broadcastInDim S8192x4096 ![] bcast_S_S8192x4096 (constant S_ .f32 0x00000000#32))) (maximumf (Host.dotGeneral dot_S8192x1024_S1024x4096_S8192x4096_1_0_0_1_n_n none A0 A1) (broadcastInDim S8192x4096 ![] bcast_S_S8192x4096 (constant S_ .f32 0x00000000#32)))) bitsLt_bf16_f32

end Cert.UpReferenceIdeal.Value

namespace Cert.UpKernelIdeal.Value

open Cert.UpKernelIdeal Cert.UpKernelIdeal.Gen

variable (m : (ℓ : Loc nD τ sig) → Buf (Elt Ideal) ℓ)

/-- The windows' block indices at every point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- What the body stores at an index of a point's block is the reference at the index's place in the array. -/
theorem point (c : Dev nD) (t : Fin cfg0.N) (y : S2048x1024.Idx) : k0_pay1 (iblk m c 0 t) (iblk m c 1 t) y
    = Cert.UpReferenceIdeal.Value.REF (m ((c : Thread nD τ).loc main_arg0)) (m ((c : Thread nD τ).loc main_arg1)) (((cfg0.win 2).blk t).view.emb y) := by
  pointwise [k0_pay1, Cert.UpReferenceIdeal.Value.REF]
  blk_point [iblk, V, idx t]

/-- The result array after the run. -/
theorem final (c : Dev nD) : (dats m 0 c).arrAt 2 (cfgs 0).N
    = Cert.UpReferenceIdeal.Value.REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.UpKernelIdeal.Value

end
-- ==== Proof.RowNorm.lean ====
/-
  A row of the root-mean-square normalization over the extended reals.
-/
module

public import Idealize.ShloMosaic.Lib.Pipeline.ValueKit

@[expose] public section

noncomputable section

open Idealize.ShloMosaic

namespace RowNorm

/-- The factor that normalizes a row: one over the root of its mean square and the offset. -/
def factor (x : Fin 1024 → EReal) : EReal :=
  Ideal.rsqrt (Ideal.div (∑ j : Fin 1024, x j * x j) (Ideal.ofBits .f32 0x44800000#32) + Ideal.ofBits .f32 0x358637BD#32)

/-- The normalized row, each column by its gain. -/
def normed (x g : Fin 1024 → EReal) (j : Fin 1024) : EReal := x j * factor x * g j

end RowNorm

end
-- ==== Proof.RowGrad.lean ====
/-
  A row of the derivative of the root-mean-square normalization over the extended reals: the kernel's form, which takes
  the row's factor out of the difference, and the reference's form, which differentiates the factor, are equal for every
  row, finite or not, since the factor is always a real number.
-/
module

public import Idealize.ShloMosaic.Lib.Pipeline.ValueKit
public import proofs.«01_k».proof.Proof.RowNorm

@[expose] public section

noncomputable section

open Idealize.ShloMosaic

namespace RowGrad

/-- The mean square of a row and the offset. -/
def square (x : Fin 1024 → EReal) : EReal :=
  Ideal.div (∑ j : Fin 1024, x j * x j) (Ideal.ofBits .f32 0x44800000#32) + Ideal.ofBits .f32 0x358637BD#32

/-- A row's gradient as the kernel forms it. -/
def kernelRow (x e res : Fin 1024 → EReal) (j : Fin 1024) : EReal :=
  res j + RowNorm.factor x * (e j - x j * RowNorm.factor x *
    Ideal.div (∑ k : Fin 1024, e k * (x k * RowNorm.factor x)) (Ideal.ofBits .f32 0x44800000#32))

/-- The coefficient with which the reference's row adds to itself. -/
def coefficient (x e : Fin 1024 → EReal) : EReal :=
  Ideal.div ((∑ k : Fin 1024, x k * e k) * (Ideal.ofBits .f32 0xBF000000#32 * Ideal.div (RowNorm.factor x) (square x)))
    (Ideal.ofBits .f32 0x44800000#32)

/-- A row's gradient as the reference forms it. -/
def referenceRow (x e res : Fin 1024 → EReal) (j : Fin 1024) : EReal :=
  res j + e j * RowNorm.factor x + x j * coefficient x e + coefficient x e * x j

theorem width : Ideal.ofBits .f32 0x44800000#32 = ((1024 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul]; norm_num

theorem offset : ∃ ε : ℝ, 0 < ε ∧ Ideal.ofBits .f32 0x358637BD#32 = (ε : EReal) := by
  refine ⟨_, ?_, by simp [Ideal.ofBits, Ideal.ieee]; rfl⟩
  norm_num

theorem div_coe (a : EReal) (b : ℝ) (h : b ≠ 0) : Ideal.div a (b : EReal) = a * ((b⁻¹ : ℝ) : EReal) := by
  rw [Ideal.div, if_neg (by exact_mod_cast h), ← EReal.coe_inv]

theorem sq_nonneg' (a : EReal) : 0 ≤ a * a := by
  induction a with
  | bot => simp
  | top => simp
  | coe a => exact_mod_cast mul_self_nonneg a

/-- The mean square and the offset is the top or a positive number. -/
theorem square_cases (x : Fin 1024 → EReal) : square x = ⊤ ∨ ∃ v : ℝ, 0 < v ∧ square x = (v : EReal) := by
  obtain ⟨ε, hε, he⟩ := offset
  have h0 : (0 : EReal) ≤ ∑ j : Fin 1024, x j * x j := Finset.sum_nonneg fun j _ => sq_nonneg' (x j)
  unfold square
  rw [he, width, div_coe _ _ (by norm_num)]
  generalize (∑ j : Fin 1024, x j * x j : EReal) = s at h0
  induction s with
  | bot => simp at h0
  | top => left; rw [EReal.top_mul_coe_of_pos (by norm_num)]; rfl
  | coe s =>
    right
    have : 0 ≤ s := by exact_mod_cast h0
    exact ⟨s * 1024⁻¹ + ε, by positivity, by push_cast; rfl⟩

theorem sum_mul_coe {ι : Type*} (s : Finset ι) (f : ι → EReal) (r : ℝ) (h : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast h) (EReal.coe_ne_top r) _ _

theorem halves (a : EReal) : a * ((-(1 / 2) : ℝ) : EReal) + a * ((-(1 / 2) : ℝ) : EReal) = -a := by
  induction a with
  | bot => rw [EReal.bot_mul_coe_of_neg (by norm_num)]; rfl
  | top => rw [EReal.top_mul_coe_of_neg (by norm_num)]; rfl
  | coe a => norm_cast; ring

/-- The two forms are equal. -/
theorem row_eq (x e res : Fin 1024 → EReal) (j : Fin 1024) : kernelRow x e res j = referenceRow x e res j := by
  have hf : RowNorm.factor x = Ideal.rsqrt (square x) := rfl
  unfold kernelRow referenceRow coefficient
  rcases square_cases x with h | ⟨v, hv, h⟩
  · rw [hf, h, Ideal.rsqrt_top, show Ideal.div 0 ⊤ = 0 by simp [Ideal.div]]
    simp [width, div_coe]
  · have hr : RowNorm.factor x = (((Real.sqrt v)⁻¹ : ℝ) : EReal) := by
      rw [hf, h, Ideal.rsqrt_coe, if_neg (not_lt.mpr hv.le), if_neg hv.ne']
    have hρ : 0 ≤ (Real.sqrt v)⁻¹ := by positivity
    have h3 : v⁻¹ = (Real.sqrt v)⁻¹ * (Real.sqrt v)⁻¹ := by
      rw [← mul_inv, Real.mul_self_sqrt hv.le]
    rw [h, hr, width, minus_half, div_coe _ _ (by norm_num : (1024 : ℝ) ≠ 0), div_coe _ _ (by norm_num : (1024 : ℝ) ≠ 0), div_coe _ _ hv.ne', h3]
    generalize (Real.sqrt v)⁻¹ = ρ at hρ
    have hs : (∑ k : Fin 1024, e k * (x k * (ρ : EReal))) = (∑ k : Fin 1024, x k * e k) * (ρ : EReal) := by
      rw [sum_mul_coe _ _ _ hρ]
      exact Finset.sum_congr rfl fun k _ => by rw [← mul_assoc, mul_comm (e k)]
    rw [hs]
    generalize (∑ k : Fin 1024, x k * e k : EReal) = S
    have hT : (ρ : EReal) * (e j - x j * ρ * (S * ρ * ((1024⁻¹ : ℝ) : EReal))) = e j * ρ + -(x j * (S * ((ρ * (ρ * ρ) * 1024⁻¹ : ℝ) : EReal))) := by
      rw [sub_eq_add_neg, EReal.left_distrib_of_nonneg_of_ne_top (by exact_mod_cast hρ) (EReal.coe_ne_top ρ), mul_comm, mul_neg]
      congr 2
      push_cast
      ac_rfl
    rw [hT, ← halves]
    have hc : S * (((-(1 / 2) : ℝ) : EReal) * ((ρ : EReal) * ((ρ * ρ : ℝ) : EReal))) * ((1024⁻¹ : ℝ) : EReal)
        = S * ((ρ * (ρ * ρ) * 1024⁻¹ : ℝ) : EReal) * ((-(1 / 2) : ℝ) : EReal) := by
      push_cast
      ac_rfl
    rw [hc, mul_comm _ (x j), mul_assoc (x j), add_assoc (res j + _), ← add_assoc (res j)]

end RowGrad

end
-- ==== Proof.DownInput.lean ====
/-
  The gradient of the up projection's input, carried through the root-mean-square normalization: the gradient that reaches the normalized input is the
  product of the cotangent and the weight, its rows are put through the normalization's derivative, and the gain's
  gradient is added up over sixteen blocks of rows in the output block itself.
-/
module

public import proofs.«01_k».proof.Proof.Gen.DHKernelIdeal.Value
public import proofs.«01_k».proof.Proof.Gen.DHReferenceIdeal.Run
public import Idealize.ShloMosaic.Lib.Pipeline.ValueKit
public import Idealize.ShloMosaic.Lib.Pipeline.ReadBack
public import proofs.«01_k».proof.Proof.RowGrad

@[expose] public section

set_option maxRecDepth 16384

noncomputable section

open Idealize.ShloMosaic Idealize.ShloMosaic.TcCoe Idealize.SL.Sem
open Idealize.ShloMosaic.Pipeline (Dat)

namespace Cert.DHReferenceIdeal.Value

open Cert.DHReferenceIdeal Cert.DHReferenceIdeal.Gen

/-- The gradient that reaches the normalized input: the cotangent against the weight. -/
abbrev PROD (A2 : FVec Ideal S1024x4096 .f32) (A3 : FVec Ideal S8192x4096 .f32) : FVec Ideal S8192x1024 .f32 :=
  Host.dotGeneral dot_S8192x4096_S1024x4096_S8192x1024_1_1_0_0_n_n none A3 A2

/-- The normalization's derivative, as the reference spells it. -/
abbrev ROWS (D : FVec Ideal S8192x1024 .f32) (A0 : FVec Ideal S8192x1024 .f32) (A1 : FVec Ideal S1024 .f32) (A4 : FVec Ideal S8192x1024 .f32) : FVec Ideal S8192x1024 .f32 :=
  addf (addf (addf A4 (mulf (mulf D (broadcastInDim S8192x1024 ![0, 1] bcast_S1x1024_S8192x1024_0_1 (broadcastInDim S1x1024 ![1] bcast_S1024_S1x1024_1 A1))) (broadcastInDim S8192x1024 ![0, 1] bcast_S8192x1_S8192x1024_0_1 (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf A0 (broadcastInDim S8192x1024 ![0] bcast_S8192_S8192x1024_0 (Host.reduceAdd (Host.divf (mulf (shapeCast _ (Host.reduceAdd (mulf A0 (mulf D (broadcastInDim S8192x1024 ![0, 1] bcast_S1x1024_S8192x1024_0_1 (broadcastInDim S1x1024 ![1] bcast_S1024_S1x1024_1 A1)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf A0 (mulf D (broadcastInDim S8192x1024 ![0, 1] bcast_S1x1024_S8192x1024_0_1 (broadcastInDim S1x1024 ![1] bcast_S1024_S1x1024_1 A1)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) A0)

/-- The gain's gradient, as the reference spells it. -/
abbrev GAINROWS (D : FVec Ideal S8192x1024 .f32) (A0 : FVec Ideal S8192x1024 .f32) : FVec Ideal S1x1024 .f32 :=
  shapeCast S1x1024 (Host.reduceAdd (shapeCast S1x1024 (Host.reduceAdd (mulf (mulf A0 (broadcastInDim S8192x1024 ![0, 1] bcast_S8192x1_S8192x1024_0_1 (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) D) (constant S_ .f32 0x00000000#32) reducesTo_S8192x1024_S1024_d0 h_S_) shapeCasts_S1024_S1x1024) (constant S_ .f32 0x00000000#32) reducesTo_S1x1024_S1024_d0 h_S_) shapeCasts_S1024_S1x1024

/-- The reference's first result. -/
abbrev GRAD (A0 : FVec Ideal S8192x1024 .f32) (A1 : FVec Ideal S1024 .f32) (A2 : FVec Ideal S1024x4096 .f32) (A3 : FVec Ideal S8192x4096 .f32) (A4 : FVec Ideal S8192x1024 .f32) : FVec Ideal S8192x1024 .f32 :=
  ROWS (PROD A2 A3) A0 A1 A4

/-- The reference's second result: the first one rounded. -/
abbrev ROUNDED (A0 : FVec Ideal S8192x1024 .f32) (A1 : FVec Ideal S1024 .f32) (A2 : FVec Ideal S1024x4096 .f32) (A3 : FVec Ideal S8192x4096 .f32) (A4 : FVec Ideal S8192x1024 .f32) : FVec Ideal S8192x1024 .bf16 :=
  truncf .bf16 (GRAD A0 A1 A2 A3 A4) bitsLt_bf16_f32

/-- The reference's last result. -/
abbrev GAIN (A0 : FVec Ideal S8192x1024 .f32) (A2 : FVec Ideal S1024x4096 .f32) (A3 : FVec Ideal S8192x4096 .f32) : FVec Ideal S1x1024 .f32 :=
  GAINROWS (PROD A2 A3) A0

theorem rows_apply (D : FVec Ideal S8192x1024 .f32) (A0 : FVec Ideal S8192x1024 .f32) (A1 : FVec Ideal S1024 .f32) (A4 : FVec Ideal S8192x1024 .f32) (a : Fin 8192) (b : Fin 1024) :
    ROWS D A0 A1 A4 (ix2 a b) = RowGrad.referenceRow (fun j => (A0 (ix2 a j) : EReal)) (fun j => (D (ix2 a j) : EReal) * A1 (ix1 j)) (fun j => A4 (ix2 a j)) b := by
  pointwise [ROWS, RowGrad.referenceRow, RowGrad.coefficient, RowGrad.square, RowNorm.factor]
  simp only [Finset.univ_unique, Finset.sum_const, Finset.card_singleton, one_smul]

/-- What one row adds to the gain's gradient. -/
def share (D : FVec Ideal S8192x1024 .f32) (A0 : FVec Ideal S8192x1024 .f32) (r : Fin 8192) (l : Fin 1024) : EReal :=
  (A0 (ix2 r l) : EReal) * RowNorm.factor (fun j => (A0 (ix2 r j) : EReal)) * D (ix2 r l)

theorem gain_apply (D : FVec Ideal S8192x1024 .f32) (A0 : FVec Ideal S8192x1024 .f32) (i : S1x1024.Idx) :
    GAINROWS D A0 i = ∑ r : Fin 8192, share D A0 r (i 1) := by
  pointwise [GAINROWS, share, RowNorm.factor]
  exact Fin.sum_univ_one _

end Cert.DHReferenceIdeal.Value

namespace Cert.DHKernelIdeal.Value

open Cert.DHKernelIdeal Cert.DHKernelIdeal.Gen

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

/-- The kernel's product at an index of a point's block is the reference's at its place in the array. -/
theorem prod_point (c : Dev nD) (t : Fin cfg0.N) (y : S512x1024.Idx) : k0_pay3 (iblk m c 0 t) (iblk m c 1 t) y
    = Cert.DHReferenceIdeal.Value.PROD (m ((c : Thread nD τ).loc main_arg2)) (m ((c : Thread nD τ).loc main_arg3)) (((cfg0.win 5).blk t).view.emb y) := by
  pointwise [k0_pay3, Cert.DHReferenceIdeal.Value.PROD]
  blk_point [iblk, V, idx t]

/-- The kernel's row at an index of a block. -/
theorem rows_block (v0 : Vec Ideal S512x4096 .bf16) (v2 : Vec Ideal S1024x4096 .bf16) (v5 v6 : Vec Ideal S512x1024 .f32) (v7 : Vec Ideal S1x1024 .f32) (y : S512x1024.Idx) :
    k0_pay6 v0 v2 v5 v6 v7 y = RowGrad.kernelRow (fun j => (v5 (ix2 (y 0) j) : EReal)) (fun j => (k0_pay3 v0 v2 (ix2 (y 0) j) : EReal) * v7 (ix2 0 j)) (fun j => v6 (ix2 (y 0) j)) (y 1) := by
  unfold k0_pay6 k0_pay5 k0_pay4
  generalize k0_pay3 v0 v2 = D
  pointwise [RowGrad.kernelRow, RowNorm.factor]

/-- One block's share of the gain's gradient. -/
theorem gain_block (v0 : Vec Ideal S512x4096 .bf16) (v2 : Vec Ideal S1024x4096 .bf16) (v5 : Vec Ideal S512x1024 .f32) (j : S1x1024.Idx) :
    k0_pay7 v0 v2 v5 j = ∑ k : Fin 512, (k0_pay3 v0 v2 (ix2 k (j 1)) : EReal) * ((v5 (ix2 k (j 1)) : EReal) * RowNorm.factor (fun l => (v5 (ix2 k l) : EReal)) : EReal) := by
  unfold k0_pay7 k0_pay5 k0_pay4
  generalize k0_pay3 v0 v2 = D
  pointwise [RowNorm.factor]

theorem gain_step (a : FVec Ideal S1x1024 .f32) (b : Vec Ideal S1x1024 .f32) (j : S1x1024.Idx) : k0_pay2 a b j = (b j : EReal) + a j := by
  pointwise [k0_pay2]

/-- What the body stores of the gradient is the reference at its place in the array. -/
theorem rows_point (c : Dev nD) (t : Fin cfg0.N) (y : S512x1024.Idx) : k0_pay6 (iblk m c 0 t) (iblk m c 1 t) (iblk m c 2 t) (iblk m c 3 t) (iblk m c 4 t) y
    = Cert.DHReferenceIdeal.Value.GRAD (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [rows_block]
  refine (RowGrad.row_eq _ _ _ _).trans ?_
  have e1 : ((cfg0.win 5).blk t).view.emb y = ix2 ((((cfg0.win 5).blk t).view.emb y) 0) (y 1) := by blk_point [idx t]
  have e2 (j : Fin 1024) : ((cfg0.win 5).blk t).view.emb (ix2 (y 0) j) = ix2 ((((cfg0.win 5).blk t).view.emb y) 0) j := by
    blk_point [idx t]
  refine Eq.trans ?_ (congrArg (Cert.DHReferenceIdeal.Value.GRAD (m ((c : Thread nD τ).loc main_arg0)) (m ((c : Thread nD τ).loc main_arg1)) (m ((c : Thread nD τ).loc main_arg2)) (m ((c : Thread nD τ).loc main_arg3)) (m ((c : Thread nD τ).loc main_arg4))) e1.symm)
  refine Eq.trans ?_ (Cert.DHReferenceIdeal.Value.rows_apply _ _ _ _ _ _).symm
  congr 1
  · funext j
    blk_point [iblk, V, idx t]
  · funext j
    refine congrArg₂ (fun a b : EReal => a * b) ?_ ?_
    · rw [prod_point, e2]; rfl
    · blk_point [iblk, V, idx t]
  · funext j
    blk_point [iblk, V, idx t]

/-- The running sum of the gain's gradient after a point. -/
def left (c : Dev nD) (n : ℕ) (h : n < cfg0.N) (j : S1x1024.Idx) : EReal := (outsAt0 m c n h).2.2 j

theorem left_first (c : Dev nD) (t : Fin cfg0.N) (h : t.val % 16 = 0) (j : S1x1024.Idx) :
    left m c t.val t.isLt j = k0_pay7 (iblk m c 0 t) (iblk m c 1 t) (iblk m c 2 t) j := by
  have hN : t.val < 16 := t.isLt
  rw [left, outsAt0_A m c t h (by omega)]
  frame_out

theorem left_next (c : Dev nD) (t : Fin cfg0.N) (h : ¬t.val % 16 = 0) (j : S1x1024.Idx) :
    left m c t.val t.isLt j = left m c (t.val - 1) (Nat.lt_of_le_of_lt (Nat.sub_le _ _) t.isLt) j
      + k0_pay7 (iblk m c 0 t) (iblk m c 1 t) (iblk m c 2 t) j := by
  unfold left
  rw [outsAt0_B m c t h (by omega)]
  frame_out
  rw [gain_step]

/-- The first result array after the run. -/
theorem final5 (c : Dev nD) : (dats m 0 c).arrAt 5 (cfgs 0).N = Cert.DHReferenceIdeal.Value.GRAD (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine Eq.trans ?_ (rows_point m c t y)
  by_cases h : t.val % 16 = 0
  · have hN : t.val < 16 := t.isLt
    rw [outsAt0_A m c t h (by omega)]
    frame_out
  · rw [outsAt0_B m c t h (by omega)]
    frame_out

theorem round_block (v : FVec Ideal S512x1024 .f32) (y : S512x1024.Idx) : k0_pay1 v y = v y := by
  pointwise [k0_pay1]

/-- The second result array after the run. -/
theorem final6 (c : Dev nD) : (dats m 0 c).arrAt 6 (cfgs 0).N = Cert.DHReferenceIdeal.Value.ROUNDED (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  have e6 : ((cfg0.win 6).blk t).view.emb y = ix2 ((((cfg0.win 5).blk t).view.emb y) 0) (y 1) := by blk_point [idx t]
  have e5 : ((cfg0.win 5).blk t).view.emb y = ix2 ((((cfg0.win 5).blk t).view.emb y) 0) (y 1) := by blk_point [idx t]
  have e : ((cfg0.win 6).blk t).view.emb y = ((cfg0.win 5).blk t).view.emb y := e6.trans e5.symm
  refine Eq.trans ?_ ((rows_point m c t y).trans (congrArg (Cert.DHReferenceIdeal.Value.GRAD (m ((c : Thread nD τ).loc main_arg0)) (m ((c : Thread nD τ).loc main_arg1)) (m ((c : Thread nD τ).loc main_arg2)) (m ((c : Thread nD τ).loc main_arg3)) (m ((c : Thread nD τ).loc main_arg4))) e.symm))
  by_cases h : t.val % 16 = 0
  · have hN : t.val < 16 := t.isLt
    rw [outsAt0_A m c t h (by omega)]
    frame_out
    exact round_block _ y
  · rw [outsAt0_B m c t h (by omega)]
    frame_out
    exact round_block _ y

/-- The last result array after the run. -/
theorem final7 (c : Dev nD) : (dats m 0 c).arrAt 7 (cfgs 0).N = Cert.DHReferenceIdeal.Value.GAIN (m ((c : Thread nD τ).loc main_arg0)) (m ((c : Thread nD τ).loc main_arg2)) (m ((c : Thread nD τ).loc main_arg3)) := by
  refine (dats m 0 c).arrAt_eq_of_covers 7 _ (by decide +kernel) fun t hf y => ?_
  have h3 : t.val % 16 = 15 := (flush0_7 t).mp hf
  have hN : t.val < 16 := t.isLt
  blk_simp
  rw [after0_7]
  have e : (outsAt0 m c t.val t.isLt).2.2 y = left m c t.val t.isLt y := rfl
  rw [e, Pipeline.eq_sum_fin_of_reset_step_apply_of_flush (fun n h => left m c n h) 16 (fun _ => 0) _
    (fun t h j => by rw [left_first m c t h, zero_add]) (fun t h j => by rw [left_next m c t h]) t h3 _, zero_add]
  refine Eq.trans ?_ (Cert.DHReferenceIdeal.Value.gain_apply _ _ _).symm
  simp only [gain_block]
  refine Fin.sum_mul_add_congr fun s k hl => ?_
  rw [mul_comm]
  have e1 : ((cfg0.win 7).blk t).view.emb y = ix2 ((((cfg0.win 7).blk t).view.emb y) 0) (y 1) := by blk_point [idx t]
  have e0 : (((cfg0.win 7).blk t).view.emb y) 1 = y 1 := congrFun e1 1
  have e2 (l : Fin 1024) : ((cfg0.win 5).blk ⟨_, Pipeline.run_point_lt_of_flush t h3 s⟩).view.emb (ix2 k l) = ix2 ⟨s.val * 512 + k.val, hl⟩ l := by
    blk_point [idx ⟨_, Pipeline.run_point_lt_of_flush t h3 s⟩]
  have e3 (l : Fin 1024) : (show Vec Ideal S512x1024 .f32 from iblk m c 2 ⟨_, Pipeline.run_point_lt_of_flush t h3 s⟩) (ix2 k l)
      = (m ((c : Thread nD τ).loc main_arg0)) (ix2 ⟨s.val * 512 + k.val, hl⟩ l) := by
    blk_point [iblk, V, idx ⟨_, Pipeline.run_point_lt_of_flush t h3 s⟩]
  refine Eq.trans ?_ (congrArg (Cert.DHReferenceIdeal.Value.share (Cert.DHReferenceIdeal.Value.PROD (m ((c : Thread nD τ).loc main_arg2)) (m ((c : Thread nD τ).loc main_arg3))) (m ((c : Thread nD τ).loc main_arg0)) ⟨s.val * 512 + k.val, hl⟩) e0.symm)
  exact congrArg₂ (fun a b : EReal => a * b) (congrArg₂ (fun a b : EReal => a * b) (e3 (y 1)) (congrArg RowNorm.factor (funext e3)))
    ((prod_point m c _ _).trans (congrArg (Cert.DHReferenceIdeal.Value.PROD (m ((c : Thread nD τ).loc main_arg2)) (m ((c : Thread nD τ).loc main_arg3))) (e2 (y 1))))

end Cert.DHKernelIdeal.Value

end
-- ==== Proof.GateInput.lean ====
/-
  The gradient of the gate's input, carried through the root-mean-square normalization: the gradient that reaches the normalized input is the
  product of the cotangent and the weight, its rows are put through the normalization's derivative, and the gain's
  gradient is added up over sixteen blocks of rows in the output block itself.
-/
module

public import proofs.«01_k».proof.Proof.Gen.DHgKernelIdeal.Value
public import proofs.«01_k».proof.Proof.Gen.DHgReferenceIdeal.Run
public import Idealize.ShloMosaic.Lib.Pipeline.ValueKit
public import Idealize.ShloMosaic.Lib.Pipeline.ReadBack
public import proofs.«01_k».proof.Proof.RowGrad

@[expose] public section

set_option maxRecDepth 16384

noncomputable section

open Idealize.ShloMosaic Idealize.ShloMosaic.TcCoe Idealize.SL.Sem
open Idealize.ShloMosaic.Pipeline (Dat)

namespace Cert.DHgReferenceIdeal.Value

open Cert.DHgReferenceIdeal Cert.DHgReferenceIdeal.Gen

/-- The gradient that reaches the normalized input: the cotangent against the weight. -/
abbrev PROD (A2 : FVec Ideal S1024x1024 .f32) (A3 : FVec Ideal S8192x1024 .f32) : FVec Ideal S8192x1024 .f32 :=
  Host.dotGeneral dot_S8192x1024_S1024x1024_S8192x1024_1_1_0_0_n_n none A3 A2

/-- The normalization's derivative, as the reference spells it. -/
abbrev ROWS (D : FVec Ideal S8192x1024 .f32) (A0 : FVec Ideal S8192x1024 .f32) (A1 : FVec Ideal S1024 .f32) (A4 : FVec Ideal S8192x1024 .f32) : FVec Ideal S8192x1024 .f32 :=
  addf (addf (addf A4 (mulf (mulf D (broadcastInDim S8192x1024 ![0, 1] bcast_S1x1024_S8192x1024_0_1 (broadcastInDim S1x1024 ![1] bcast_S1024_S1x1024_1 A1))) (broadcastInDim S8192x1024 ![0, 1] bcast_S8192x1_S8192x1024_0_1 (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf A0 (broadcastInDim S8192x1024 ![0] bcast_S8192_S8192x1024_0 (Host.reduceAdd (Host.divf (mulf (shapeCast _ (Host.reduceAdd (mulf A0 (mulf D (broadcastInDim S8192x1024 ![0, 1] bcast_S1x1024_S8192x1024_0_1 (broadcastInDim S1x1024 ![1] bcast_S1024_S1x1024_1 A1)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf A0 (mulf D (broadcastInDim S8192x1024 ![0, 1] bcast_S1x1024_S8192x1024_0_1 (broadcastInDim S1x1024 ![1] bcast_S1024_S1x1024_1 A1)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) A0)

/-- The gain's gradient, as the reference spells it. -/
abbrev GAINROWS (D : FVec Ideal S8192x1024 .f32) (A0 : FVec Ideal S8192x1024 .f32) : FVec Ideal S1x1024 .f32 :=
  shapeCast S1x1024 (Host.reduceAdd (shapeCast S1x1024 (Host.reduceAdd (mulf (mulf A0 (broadcastInDim S8192x1024 ![0, 1] bcast_S8192x1_S8192x1024_0_1 (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) D) (constant S_ .f32 0x00000000#32) reducesTo_S8192x1024_S1024_d0 h_S_) shapeCasts_S1024_S1x1024) (constant S_ .f32 0x00000000#32) reducesTo_S1x1024_S1024_d0 h_S_) shapeCasts_S1024_S1x1024

/-- The reference's first result. -/
abbrev GRAD (A0 : FVec Ideal S8192x1024 .f32) (A1 : FVec Ideal S1024 .f32) (A2 : FVec Ideal S1024x1024 .f32) (A3 : FVec Ideal S8192x1024 .f32) (A4 : FVec Ideal S8192x1024 .f32) : FVec Ideal S8192x1024 .f32 :=
  ROWS (PROD A2 A3) A0 A1 A4

/-- The reference's second result: the first one rounded. -/
abbrev ROUNDED (A0 : FVec Ideal S8192x1024 .f32) (A1 : FVec Ideal S1024 .f32) (A2 : FVec Ideal S1024x1024 .f32) (A3 : FVec Ideal S8192x1024 .f32) (A4 : FVec Ideal S8192x1024 .f32) : FVec Ideal S8192x1024 .bf16 :=
  truncf .bf16 (GRAD A0 A1 A2 A3 A4) bitsLt_bf16_f32

/-- The reference's last result. -/
abbrev GAIN (A0 : FVec Ideal S8192x1024 .f32) (A2 : FVec Ideal S1024x1024 .f32) (A3 : FVec Ideal S8192x1024 .f32) : FVec Ideal S1x1024 .f32 :=
  GAINROWS (PROD A2 A3) A0

theorem rows_apply (D : FVec Ideal S8192x1024 .f32) (A0 : FVec Ideal S8192x1024 .f32) (A1 : FVec Ideal S1024 .f32) (A4 : FVec Ideal S8192x1024 .f32) (a : Fin 8192) (b : Fin 1024) :
    ROWS D A0 A1 A4 (ix2 a b) = RowGrad.referenceRow (fun j => (A0 (ix2 a j) : EReal)) (fun j => (D (ix2 a j) : EReal) * A1 (ix1 j)) (fun j => A4 (ix2 a j)) b := by
  pointwise [ROWS, RowGrad.referenceRow, RowGrad.coefficient, RowGrad.square, RowNorm.factor]
  simp only [Finset.univ_unique, Finset.sum_const, Finset.card_singleton, one_smul]

/-- What one row adds to the gain's gradient. -/
def share (D : FVec Ideal S8192x1024 .f32) (A0 : FVec Ideal S8192x1024 .f32) (r : Fin 8192) (l : Fin 1024) : EReal :=
  (A0 (ix2 r l) : EReal) * RowNorm.factor (fun j => (A0 (ix2 r j) : EReal)) * D (ix2 r l)

theorem gain_apply (D : FVec Ideal S8192x1024 .f32) (A0 : FVec Ideal S8192x1024 .f32) (i : S1x1024.Idx) :
    GAINROWS D A0 i = ∑ r : Fin 8192, share D A0 r (i 1) := by
  pointwise [GAINROWS, share, RowNorm.factor]
  exact Fin.sum_univ_one _

end Cert.DHgReferenceIdeal.Value

namespace Cert.DHgKernelIdeal.Value

open Cert.DHgKernelIdeal Cert.DHgKernelIdeal.Gen

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

/-- The kernel's product at an index of a point's block is the reference's at its place in the array. -/
theorem prod_point (c : Dev nD) (t : Fin cfg0.N) (y : S512x1024.Idx) : k0_pay3 (iblk m c 0 t) (iblk m c 1 t) y
    = Cert.DHgReferenceIdeal.Value.PROD (m ((c : Thread nD τ).loc main_arg2)) (m ((c : Thread nD τ).loc main_arg3)) (((cfg0.win 5).blk t).view.emb y) := by
  pointwise [k0_pay3, Cert.DHgReferenceIdeal.Value.PROD]
  blk_point [iblk, V, idx t]

/-- The kernel's row at an index of a block. -/
theorem rows_block (v0 : Vec Ideal S512x1024 .bf16) (v2 : Vec Ideal S1024x1024 .bf16) (v5 v6 : Vec Ideal S512x1024 .f32) (v7 : Vec Ideal S1x1024 .f32) (y : S512x1024.Idx) :
    k0_pay6 v0 v2 v5 v6 v7 y = RowGrad.kernelRow (fun j => (v5 (ix2 (y 0) j) : EReal)) (fun j => (k0_pay3 v0 v2 (ix2 (y 0) j) : EReal) * v7 (ix2 0 j)) (fun j => v6 (ix2 (y 0) j)) (y 1) := by
  unfold k0_pay6 k0_pay5 k0_pay4
  generalize k0_pay3 v0 v2 = D
  pointwise [RowGrad.kernelRow, RowNorm.factor]

/-- One block's share of the gain's gradient. -/
theorem gain_block (v0 : Vec Ideal S512x1024 .bf16) (v2 : Vec Ideal S1024x1024 .bf16) (v5 : Vec Ideal S512x1024 .f32) (j : S1x1024.Idx) :
    k0_pay7 v0 v2 v5 j = ∑ k : Fin 512, (k0_pay3 v0 v2 (ix2 k (j 1)) : EReal) * ((v5 (ix2 k (j 1)) : EReal) * RowNorm.factor (fun l => (v5 (ix2 k l) : EReal)) : EReal) := by
  unfold k0_pay7 k0_pay5 k0_pay4
  generalize k0_pay3 v0 v2 = D
  pointwise [RowNorm.factor]

theorem gain_step (a : FVec Ideal S1x1024 .f32) (b : Vec Ideal S1x1024 .f32) (j : S1x1024.Idx) : k0_pay2 a b j = (b j : EReal) + a j := by
  pointwise [k0_pay2]

/-- What the body stores of the gradient is the reference at its place in the array. -/
theorem rows_point (c : Dev nD) (t : Fin cfg0.N) (y : S512x1024.Idx) : k0_pay6 (iblk m c 0 t) (iblk m c 1 t) (iblk m c 2 t) (iblk m c 3 t) (iblk m c 4 t) y
    = Cert.DHgReferenceIdeal.Value.GRAD (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [rows_block]
  refine (RowGrad.row_eq _ _ _ _).trans ?_
  have e1 : ((cfg0.win 5).blk t).view.emb y = ix2 ((((cfg0.win 5).blk t).view.emb y) 0) (y 1) := by blk_point [idx t]
  have e2 (j : Fin 1024) : ((cfg0.win 5).blk t).view.emb (ix2 (y 0) j) = ix2 ((((cfg0.win 5).blk t).view.emb y) 0) j := by
    blk_point [idx t]
  refine Eq.trans ?_ (congrArg (Cert.DHgReferenceIdeal.Value.GRAD (m ((c : Thread nD τ).loc main_arg0)) (m ((c : Thread nD τ).loc main_arg1)) (m ((c : Thread nD τ).loc main_arg2)) (m ((c : Thread nD τ).loc main_arg3)) (m ((c : Thread nD τ).loc main_arg4))) e1.symm)
  refine Eq.trans ?_ (Cert.DHgReferenceIdeal.Value.rows_apply _ _ _ _ _ _).symm
  congr 1
  · funext j
    blk_point [iblk, V, idx t]
  · funext j
    refine congrArg₂ (fun a b : EReal => a * b) ?_ ?_
    · rw [prod_point, e2]; rfl
    · blk_point [iblk, V, idx t]
  · funext j
    blk_point [iblk, V, idx t]

/-- The running sum of the gain's gradient after a point. -/
def left (c : Dev nD) (n : ℕ) (h : n < cfg0.N) (j : S1x1024.Idx) : EReal := (outsAt0 m c n h).2.2 j

theorem left_first (c : Dev nD) (t : Fin cfg0.N) (h : t.val % 16 = 0) (j : S1x1024.Idx) :
    left m c t.val t.isLt j = k0_pay7 (iblk m c 0 t) (iblk m c 1 t) (iblk m c 2 t) j := by
  have hN : t.val < 16 := t.isLt
  rw [left, outsAt0_A m c t h (by omega)]
  frame_out

theorem left_next (c : Dev nD) (t : Fin cfg0.N) (h : ¬t.val % 16 = 0) (j : S1x1024.Idx) :
    left m c t.val t.isLt j = left m c (t.val - 1) (Nat.lt_of_le_of_lt (Nat.sub_le _ _) t.isLt) j
      + k0_pay7 (iblk m c 0 t) (iblk m c 1 t) (iblk m c 2 t) j := by
  unfold left
  rw [outsAt0_B m c t h (by omega)]
  frame_out
  rw [gain_step]

/-- The first result array after the run. -/
theorem final5 (c : Dev nD) : (dats m 0 c).arrAt 5 (cfgs 0).N = Cert.DHgReferenceIdeal.Value.GRAD (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine Eq.trans ?_ (rows_point m c t y)
  by_cases h : t.val % 16 = 0
  · have hN : t.val < 16 := t.isLt
    rw [outsAt0_A m c t h (by omega)]
    frame_out
  · rw [outsAt0_B m c t h (by omega)]
    frame_out

theorem round_block (v : FVec Ideal S512x1024 .f32) (y : S512x1024.Idx) : k0_pay1 v y = v y := by
  pointwise [k0_pay1]

/-- The second result array after the run. -/
theorem final6 (c : Dev nD) : (dats m 0 c).arrAt 6 (cfgs 0).N = Cert.DHgReferenceIdeal.Value.ROUNDED (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  have e6 : ((cfg0.win 6).blk t).view.emb y = ix2 ((((cfg0.win 5).blk t).view.emb y) 0) (y 1) := by blk_point [idx t]
  have e5 : ((cfg0.win 5).blk t).view.emb y = ix2 ((((cfg0.win 5).blk t).view.emb y) 0) (y 1) := by blk_point [idx t]
  have e : ((cfg0.win 6).blk t).view.emb y = ((cfg0.win 5).blk t).view.emb y := e6.trans e5.symm
  refine Eq.trans ?_ ((rows_point m c t y).trans (congrArg (Cert.DHgReferenceIdeal.Value.GRAD (m ((c : Thread nD τ).loc main_arg0)) (m ((c : Thread nD τ).loc main_arg1)) (m ((c : Thread nD τ).loc main_arg2)) (m ((c : Thread nD τ).loc main_arg3)) (m ((c : Thread nD τ).loc main_arg4))) e.symm))
  by_cases h : t.val % 16 = 0
  · have hN : t.val < 16 := t.isLt
    rw [outsAt0_A m c t h (by omega)]
    frame_out
    exact round_block _ y
  · rw [outsAt0_B m c t h (by omega)]
    frame_out
    exact round_block _ y

/-- The last result array after the run. -/
theorem final7 (c : Dev nD) : (dats m 0 c).arrAt 7 (cfgs 0).N = Cert.DHgReferenceIdeal.Value.GAIN (m ((c : Thread nD τ).loc main_arg0)) (m ((c : Thread nD τ).loc main_arg2)) (m ((c : Thread nD τ).loc main_arg3)) := by
  refine (dats m 0 c).arrAt_eq_of_covers 7 _ (by decide +kernel) fun t hf y => ?_
  have h3 : t.val % 16 = 15 := (flush0_7 t).mp hf
  have hN : t.val < 16 := t.isLt
  blk_simp
  rw [after0_7]
  have e : (outsAt0 m c t.val t.isLt).2.2 y = left m c t.val t.isLt y := rfl
  rw [e, Pipeline.eq_sum_fin_of_reset_step_apply_of_flush (fun n h => left m c n h) 16 (fun _ => 0) _
    (fun t h j => by rw [left_first m c t h, zero_add]) (fun t h j => by rw [left_next m c t h]) t h3 _, zero_add]
  refine Eq.trans ?_ (Cert.DHgReferenceIdeal.Value.gain_apply _ _ _).symm
  simp only [gain_block]
  refine Fin.sum_mul_add_congr fun s k hl => ?_
  rw [mul_comm]
  have e1 : ((cfg0.win 7).blk t).view.emb y = ix2 ((((cfg0.win 7).blk t).view.emb y) 0) (y 1) := by blk_point [idx t]
  have e0 : (((cfg0.win 7).blk t).view.emb y) 1 = y 1 := congrFun e1 1
  have e2 (l : Fin 1024) : ((cfg0.win 5).blk ⟨_, Pipeline.run_point_lt_of_flush t h3 s⟩).view.emb (ix2 k l) = ix2 ⟨s.val * 512 + k.val, hl⟩ l := by
    blk_point [idx ⟨_, Pipeline.run_point_lt_of_flush t h3 s⟩]
  have e3 (l : Fin 1024) : (show Vec Ideal S512x1024 .f32 from iblk m c 2 ⟨_, Pipeline.run_point_lt_of_flush t h3 s⟩) (ix2 k l)
      = (m ((c : Thread nD τ).loc main_arg0)) (ix2 ⟨s.val * 512 + k.val, hl⟩ l) := by
    blk_point [iblk, V, idx ⟨_, Pipeline.run_point_lt_of_flush t h3 s⟩]
  refine Eq.trans ?_ (congrArg (Cert.DHgReferenceIdeal.Value.share (Cert.DHgReferenceIdeal.Value.PROD (m ((c : Thread nD τ).loc main_arg2)) (m ((c : Thread nD τ).loc main_arg3))) (m ((c : Thread nD τ).loc main_arg0)) ⟨s.val * 512 + k.val, hl⟩) e0.symm)
  exact congrArg₂ (fun a b : EReal => a * b) (congrArg₂ (fun a b : EReal => a * b) (e3 (y 1)) (congrArg RowNorm.factor (funext e3)))
    ((prod_point m c _ _).trans (congrArg (Cert.DHgReferenceIdeal.Value.PROD (m ((c : Thread nD τ).loc main_arg2)) (m ((c : Thread nD τ).loc main_arg3))) (e2 (y 1))))

end Cert.DHgKernelIdeal.Value

end
-- ==== Proof.DeltaInput.lean ====
/-
  The gradient of the delta rule's input, carried through the root-mean-square normalization: the gradient that reaches the normalized input is the
  product of the cotangent and the weight, its rows are put through the normalization's derivative, and the gain's
  gradient is added up over sixteen blocks of rows in the output block itself.
-/
module

public import proofs.«01_k».proof.Proof.Gen.DHInKernelIdeal.Value
public import proofs.«01_k».proof.Proof.Gen.DHInReferenceIdeal.Run
public import Idealize.ShloMosaic.Lib.Pipeline.ValueKit
public import Idealize.ShloMosaic.Lib.Pipeline.ReadBack
public import proofs.«01_k».proof.Proof.RowGrad

@[expose] public section

set_option maxRecDepth 16384

noncomputable section

open Idealize.ShloMosaic Idealize.ShloMosaic.TcCoe Idealize.SL.Sem
open Idealize.ShloMosaic.Pipeline (Dat)

namespace Cert.DHInReferenceIdeal.Value

open Cert.DHInReferenceIdeal Cert.DHInReferenceIdeal.Gen

/-- The gradient that reaches the normalized input: the cotangent against the weight. -/
abbrev PROD (A2 : FVec Ideal S1024x4112 .f32) (A3 : FVec Ideal S8192x4112 .f32) : FVec Ideal S8192x1024 .f32 :=
  Host.dotGeneral dot_S8192x4112_S1024x4112_S8192x1024_1_1_0_0_n_n none A3 A2

/-- The normalization's derivative, as the reference spells it. -/
abbrev ROWS (D : FVec Ideal S8192x1024 .f32) (A0 : FVec Ideal S8192x1024 .f32) (A1 : FVec Ideal S1024 .f32) (A4 : FVec Ideal S8192x1024 .f32) : FVec Ideal S8192x1024 .f32 :=
  addf (addf (addf A4 (mulf (mulf D (broadcastInDim S8192x1024 ![0, 1] bcast_S1x1024_S8192x1024_0_1 (broadcastInDim S1x1024 ![1] bcast_S1024_S1x1024_1 A1))) (broadcastInDim S8192x1024 ![0, 1] bcast_S8192x1_S8192x1024_0_1 (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf A0 (broadcastInDim S8192x1024 ![0] bcast_S8192_S8192x1024_0 (Host.reduceAdd (Host.divf (mulf (shapeCast _ (Host.reduceAdd (mulf A0 (mulf D (broadcastInDim S8192x1024 ![0, 1] bcast_S1x1024_S8192x1024_0_1 (broadcastInDim S1x1024 ![1] bcast_S1024_S1x1024_1 A1)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf A0 (mulf D (broadcastInDim S8192x1024 ![0, 1] bcast_S1x1024_S8192x1024_0_1 (broadcastInDim S1x1024 ![1] bcast_S1024_S1x1024_1 A1)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) A0)

/-- The gain's gradient, as the reference spells it. -/
abbrev GAINROWS (D : FVec Ideal S8192x1024 .f32) (A0 : FVec Ideal S8192x1024 .f32) : FVec Ideal S1x1024 .f32 :=
  shapeCast S1x1024 (Host.reduceAdd (shapeCast S1x1024 (Host.reduceAdd (mulf (mulf A0 (broadcastInDim S8192x1024 ![0, 1] bcast_S8192x1_S8192x1024_0_1 (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) D) (constant S_ .f32 0x00000000#32) reducesTo_S8192x1024_S1024_d0 h_S_) shapeCasts_S1024_S1x1024) (constant S_ .f32 0x00000000#32) reducesTo_S1x1024_S1024_d0 h_S_) shapeCasts_S1024_S1x1024

/-- The reference's first result. -/
abbrev GRAD (A0 : FVec Ideal S8192x1024 .f32) (A1 : FVec Ideal S1024 .f32) (A2 : FVec Ideal S1024x4112 .f32) (A3 : FVec Ideal S8192x4112 .f32) (A4 : FVec Ideal S8192x1024 .f32) : FVec Ideal S8192x1024 .f32 :=
  ROWS (PROD A2 A3) A0 A1 A4

/-- The reference's last result. -/
abbrev GAIN (A0 : FVec Ideal S8192x1024 .f32) (A2 : FVec Ideal S1024x4112 .f32) (A3 : FVec Ideal S8192x4112 .f32) : FVec Ideal S1x1024 .f32 :=
  GAINROWS (PROD A2 A3) A0

theorem rows_apply (D : FVec Ideal S8192x1024 .f32) (A0 : FVec Ideal S8192x1024 .f32) (A1 : FVec Ideal S1024 .f32) (A4 : FVec Ideal S8192x1024 .f32) (a : Fin 8192) (b : Fin 1024) :
    ROWS D A0 A1 A4 (ix2 a b) = RowGrad.referenceRow (fun j => (A0 (ix2 a j) : EReal)) (fun j => (D (ix2 a j) : EReal) * A1 (ix1 j)) (fun j => A4 (ix2 a j)) b := by
  pointwise [ROWS, RowGrad.referenceRow, RowGrad.coefficient, RowGrad.square, RowNorm.factor]
  simp only [Finset.univ_unique, Finset.sum_const, Finset.card_singleton, one_smul]

/-- What one row adds to the gain's gradient. -/
def share (D : FVec Ideal S8192x1024 .f32) (A0 : FVec Ideal S8192x1024 .f32) (r : Fin 8192) (l : Fin 1024) : EReal :=
  (A0 (ix2 r l) : EReal) * RowNorm.factor (fun j => (A0 (ix2 r j) : EReal)) * D (ix2 r l)

theorem gain_apply (D : FVec Ideal S8192x1024 .f32) (A0 : FVec Ideal S8192x1024 .f32) (i : S1x1024.Idx) :
    GAINROWS D A0 i = ∑ r : Fin 8192, share D A0 r (i 1) := by
  pointwise [GAINROWS, share, RowNorm.factor]
  exact Fin.sum_univ_one _

end Cert.DHInReferenceIdeal.Value

namespace Cert.DHInKernelIdeal.Value

open Cert.DHInKernelIdeal Cert.DHInKernelIdeal.Gen

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] :=
  (by decide +kernel : ∀ t : Fin grid0.N, _)

theorem gain_eq (c : Dev nD) : (V m c main_v10 : FVec Ideal S1x1024 .f32) = shapeCast S1x1024 ((m ((c : Thread nD τ).loc main_arg1)) : FVec Ideal S1024 .f32) shapeCasts_S1024_S1x1024 := by
  simp only [V, hostOps0]
  after_results
  rfl

theorem gain_entry (c : Dev nD) (j : Fin 1024) : V m c main_v10 (ix2 0 j) = (m ((c : Thread nD τ).loc main_arg1)) (ix1 j) := by
  refine (congrFun (gain_eq m c) _).trans ?_
  generalize ((m ((c : Thread nD τ).loc main_arg1)) : FVec Ideal S1024 .f32) = w
  pointwise []

theorem gain_read (c : Dev nD) (t : Fin cfg0.N) (j : Fin 1024) :
    (show Vec Ideal S1x1024 .f32 from iblk m c 4 t) (ix2 0 j) = V m c main_v10 (ix2 0 j) := by
  blk_point [iblk, idx t]

/-- The cotangent with its columns in the order of the kernel: the gate's, the rest, and zeros to fill the last block. -/
def cotangent (w : FVec Ideal S8192x4112 .f32) : FVec Ideal S8192x4224 .bf16 :=
  concatenate S8192x4224 1 [⟨S8192x1024, (extractStridedSlice S8192x1024 ![0, 3088] (truncf .bf16 w bitsLt_bf16_f32 : FVec Ideal S8192x4112 .bf16) slices_S8192x4112_S8192x1024_0_3088 : FVec Ideal S8192x1024 .bf16)⟩, ⟨S8192x3088, (extractStridedSlice S8192x3088 ![0, 0] (truncf .bf16 w bitsLt_bf16_f32 : FVec Ideal S8192x4112 .bf16) slices_S8192x4112_S8192x3088_0_0 : FVec Ideal S8192x3088 .bf16)⟩, ⟨S8192x112, (broadcastInDim S8192x112 ![] bcast_S_S8192x112 (constant (F := Ideal) S_ .bf16 0x0000#16) : FVec Ideal S8192x112 .bf16)⟩] concatenates_S8192x1024_S8192x3088_S8192x112_S8192x4224_d1

theorem cotangent_eq (c : Dev nD) : (V m c main_v4 : FVec Ideal S8192x4224 .bf16) = cotangent (m ((c : Thread nD τ).loc main_arg3)) := by
  simp only [V, hostOps0]
  after_results
  rfl

theorem cotangent_apply (w : FVec Ideal S8192x4112 .f32) (j : S8192x4224.Idx) : (cotangent w j : EReal) =
    if h : (j 1).val < 1024 then w (ix2 (j 0) ⟨3088 + (j 1).val, by omega⟩)
    else if h : (j 1).val - 1024 < 3088 then w (ix2 (j 0) ⟨(j 1).val - 1024, by omega⟩) else 0 := by
  pointwise [cotangent]

theorem cotangent_gate (w : FVec Ideal S8192x4112 .f32) (a : Fin 8192) (k : Fin 1024) :
    (cotangent w (ix2 a ⟨k.val, by omega⟩) : EReal) = w (ix2 a ⟨3088 + k.val, by omega⟩) :=
  (cotangent_apply w _).trans (dif_pos k.isLt)

theorem cotangent_rest (w : FVec Ideal S8192x4112 .f32) (a : Fin 8192) (k : Fin 3088) :
    (cotangent w (ix2 a ⟨1024 + k.val, by omega⟩) : EReal) = w (ix2 a ⟨k.val, by omega⟩) := by
  refine (cotangent_apply w _).trans ((dif_neg (show ¬1024 + k.val < 1024 by omega)).trans ((dif_pos (show 1024 + k.val - 1024 < 3088 by omega)).trans ?_))
  exact congrArg (fun l : Fin 4112 => w (ix2 a l)) (Fin.ext (show 1024 + k.val - 1024 = k.val by omega))

theorem cotangent_fill (w : FVec Ideal S8192x4112 .f32) (a : Fin 8192) (k : Fin 112) :
    (cotangent w (ix2 a ⟨4112 + k.val, by omega⟩) : EReal) = 0 :=
  (cotangent_apply w _).trans ((dif_neg (show ¬4112 + k.val < 1024 by omega)).trans (dif_neg (show ¬4112 + k.val - 1024 < 3088 by omega)))

/-- The weight with its columns in that order. -/
def weight (w : FVec Ideal S1024x4112 .f32) : FVec Ideal S1024x4224 .bf16 :=
  concatenate S1024x4224 1 [⟨S1024x1024, (extractStridedSlice S1024x1024 ![0, 3088] (truncf .bf16 w bitsLt_bf16_f32 : FVec Ideal S1024x4112 .bf16) slices_S1024x4112_S1024x1024_0_3088 : FVec Ideal S1024x1024 .bf16)⟩, ⟨S1024x3088, (extractStridedSlice S1024x3088 ![0, 0] (truncf .bf16 w bitsLt_bf16_f32 : FVec Ideal S1024x4112 .bf16) slices_S1024x4112_S1024x3088_0_0 : FVec Ideal S1024x3088 .bf16)⟩, ⟨S1024x112, (broadcastInDim S1024x112 ![] bcast_S_S1024x112 (constant (F := Ideal) S_ .bf16 0x0000#16) : FVec Ideal S1024x112 .bf16)⟩] concatenates_S1024x1024_S1024x3088_S1024x112_S1024x4224_d1

theorem weight_eq (c : Dev nD) : (V m c main_v9 : FVec Ideal S1024x4224 .bf16) = weight (m ((c : Thread nD τ).loc main_arg2)) := by
  simp only [V, hostOps0]
  after_results
  rfl

theorem weight_apply (w : FVec Ideal S1024x4112 .f32) (j : S1024x4224.Idx) : (weight w j : EReal) =
    if h : (j 1).val < 1024 then w (ix2 (j 0) ⟨3088 + (j 1).val, by omega⟩)
    else if h : (j 1).val - 1024 < 3088 then w (ix2 (j 0) ⟨(j 1).val - 1024, by omega⟩) else 0 := by
  pointwise [weight]

theorem weight_gate (w : FVec Ideal S1024x4112 .f32) (a : Fin 1024) (k : Fin 1024) :
    (weight w (ix2 a ⟨k.val, by omega⟩) : EReal) = w (ix2 a ⟨3088 + k.val, by omega⟩) :=
  (weight_apply w _).trans (dif_pos k.isLt)

theorem weight_rest (w : FVec Ideal S1024x4112 .f32) (a : Fin 1024) (k : Fin 3088) :
    (weight w (ix2 a ⟨1024 + k.val, by omega⟩) : EReal) = w (ix2 a ⟨k.val, by omega⟩) := by
  refine (weight_apply w _).trans ((dif_neg (show ¬1024 + k.val < 1024 by omega)).trans ((dif_pos (show 1024 + k.val - 1024 < 3088 by omega)).trans ?_))
  exact congrArg (fun l : Fin 4112 => w (ix2 a l)) (Fin.ext (show 1024 + k.val - 1024 = k.val by omega))

theorem weight_fill (w : FVec Ideal S1024x4112 .f32) (a : Fin 1024) (k : Fin 112) :
    (weight w (ix2 a ⟨4112 + k.val, by omega⟩) : EReal) = 0 :=
  (weight_apply w _).trans ((dif_neg (show ¬4112 + k.val < 1024 by omega)).trans (dif_neg (show ¬4112 + k.val - 1024 < 3088 by omega)))

/-- A sum over the arranged columns is the sum over the columns in their first order. -/
theorem sum_arranged (f : Fin 4112 → EReal) (g : Fin 4224 → EReal) (h1 : ∀ k : Fin 1024, g ⟨k.val, by omega⟩ = f ⟨3088 + k.val, by omega⟩)
    (h2 : ∀ k : Fin 3088, g ⟨1024 + k.val, by omega⟩ = f ⟨k.val, by omega⟩) (h3 : ∀ k : Fin 112, g ⟨4112 + k.val, by omega⟩ = 0) :
    ∑ k, g k = ∑ k, f k := by
  have e1 : ∑ k, g k = ∑ k : Fin 4112, g ⟨k.val, by omega⟩ + ∑ k : Fin 112, g ⟨4112 + k.val, by omega⟩ := Fin.sum_univ_add (a := 4112) (b := 112) g
  have e2 : ∑ k : Fin 4112, g ⟨k.val, by omega⟩ = ∑ k : Fin 1024, g ⟨k.val, by omega⟩ + ∑ k : Fin 3088, g ⟨1024 + k.val, by omega⟩ :=
    Fin.sum_univ_add (a := 1024) (b := 3088) fun k => g ⟨k.val, by omega⟩
  have e3 : ∑ k, f k = ∑ k : Fin 3088, f ⟨k.val, by omega⟩ + ∑ k : Fin 1024, f ⟨3088 + k.val, by omega⟩ := Fin.sum_univ_add (a := 3088) (b := 1024) f
  rw [e1, e2, e3, Finset.sum_eq_zero fun k _ => h3 k, add_zero, Finset.sum_congr rfl fun k _ => h1 k, Finset.sum_congr rfl fun k _ => h2 k, add_comm]

/-- The product over the arranged columns is the reference's product. -/
theorem product (A2 : FVec Ideal S1024x4112 .f32) (A3 : FVec Ideal S8192x4112 .f32) (j : S8192x1024.Idx) :
    (∑ k : Fin 4224, (cotangent A3 (ix2 (j 0) k) : EReal) * weight A2 (ix2 (j 1) k) : EReal) = Cert.DHInReferenceIdeal.Value.PROD A2 A3 j := by
  pointwise [Cert.DHInReferenceIdeal.Value.PROD]
  refine sum_arranged (fun k => (A3 (ix2 (j 0) k) : EReal) * A2 (ix2 (j 1) k)) _ (fun k => ?_) (fun k => ?_) fun k => ?_
  · exact congrArg₂ (fun a b : EReal => a * b) (cotangent_gate A3 (j 0) k) (weight_gate A2 (j 1) k)
  · exact congrArg₂ (fun a b : EReal => a * b) (cotangent_rest A3 (j 0) k) (weight_rest A2 (j 1) k)
  · exact (congrArg₂ (fun a b : EReal => a * b) (cotangent_fill A3 (j 0) k) (weight_fill A2 (j 1) k)).trans (mul_zero _)

theorem block_left (c : Dev nD) (t : Fin cfg0.N) (k : Fin 4224) (y : S512x1024.Idx) :
    (show Vec Ideal S512x4224 .bf16 from iblk m c 0 t) (ix2 (y 0) k) = V m c main_v4 (ix2 ((((cfg0.win 5).blk t).view.emb y) 0) k) := by
  blk_point [iblk, idx t]

theorem block_right (c : Dev nD) (t : Fin cfg0.N) (k : Fin 4224) (y : S512x1024.Idx) :
    (show Vec Ideal S1024x4224 .bf16 from iblk m c 1 t) (ix2 (y 1) k) = V m c main_v9 (ix2 ((((cfg0.win 5).blk t).view.emb y) 1) k) := by
  blk_point [iblk, idx t]

/-- The kernel's product at an index of a point's block is the reference's at its place in the array. -/
theorem prod_point (c : Dev nD) (t : Fin cfg0.N) (y : S512x1024.Idx) : k0_pay2 (iblk m c 0 t) (iblk m c 1 t) y
    = Cert.DHInReferenceIdeal.Value.PROD (m ((c : Thread nD τ).loc main_arg2)) (m ((c : Thread nD τ).loc main_arg3)) (((cfg0.win 5).blk t).view.emb y) := by
  refine Eq.trans ?_ (product _ _ _)
  pointwise [k0_pay2]
  refine Finset.sum_congr rfl fun k _ => ?_
  exact congrArg₂ (fun a b : EReal => a * b) ((block_left m c t k y).trans (congrFun (cotangent_eq m c) _))
    ((block_right m c t k y).trans (congrFun (weight_eq m c) _))

/-- The kernel's row at an index of a block. -/
theorem rows_block (v0 : Vec Ideal S512x4224 .bf16) (v2 : Vec Ideal S1024x4224 .bf16) (v5 v6 : Vec Ideal S512x1024 .f32) (v7 : Vec Ideal S1x1024 .f32) (y : S512x1024.Idx) :
    k0_pay5 v0 v2 v5 v6 v7 y = RowGrad.kernelRow (fun j => (v5 (ix2 (y 0) j) : EReal)) (fun j => (k0_pay2 v0 v2 (ix2 (y 0) j) : EReal) * v7 (ix2 0 j)) (fun j => v6 (ix2 (y 0) j)) (y 1) := by
  unfold k0_pay5 k0_pay4 k0_pay3
  generalize k0_pay2 v0 v2 = D
  pointwise [RowGrad.kernelRow, RowNorm.factor]

/-- One block's share of the gain's gradient. -/
theorem gain_block (v0 : Vec Ideal S512x4224 .bf16) (v2 : Vec Ideal S1024x4224 .bf16) (v5 : Vec Ideal S512x1024 .f32) (j : S1x1024.Idx) :
    k0_pay6 v0 v2 v5 j = ∑ k : Fin 512, (k0_pay2 v0 v2 (ix2 k (j 1)) : EReal) * ((v5 (ix2 k (j 1)) : EReal) * RowNorm.factor (fun l => (v5 (ix2 k l) : EReal)) : EReal) := by
  unfold k0_pay6 k0_pay4 k0_pay3
  generalize k0_pay2 v0 v2 = D
  pointwise [RowNorm.factor]

theorem gain_step (a : FVec Ideal S1x1024 .f32) (b : Vec Ideal S1x1024 .f32) (j : S1x1024.Idx) : k0_pay1 a b j = (b j : EReal) + a j := by
  pointwise [k0_pay1]

/-- What the body stores of the gradient is the reference at its place in the array. -/
theorem rows_point (c : Dev nD) (t : Fin cfg0.N) (y : S512x1024.Idx) : k0_pay5 (iblk m c 0 t) (iblk m c 1 t) (iblk m c 2 t) (iblk m c 3 t) (iblk m c 4 t) y
    = Cert.DHInReferenceIdeal.Value.GRAD (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [rows_block]
  refine (RowGrad.row_eq _ _ _ _).trans ?_
  have e1 : ((cfg0.win 5).blk t).view.emb y = ix2 ((((cfg0.win 5).blk t).view.emb y) 0) (y 1) := by blk_point [idx t]
  have e2 (j : Fin 1024) : ((cfg0.win 5).blk t).view.emb (ix2 (y 0) j) = ix2 ((((cfg0.win 5).blk t).view.emb y) 0) j := by
    blk_point [idx t]
  refine Eq.trans ?_ (congrArg (Cert.DHInReferenceIdeal.Value.GRAD (m ((c : Thread nD τ).loc main_arg0)) (m ((c : Thread nD τ).loc main_arg1)) (m ((c : Thread nD τ).loc main_arg2)) (m ((c : Thread nD τ).loc main_arg3)) (m ((c : Thread nD τ).loc main_arg4))) e1.symm)
  refine Eq.trans ?_ (Cert.DHInReferenceIdeal.Value.rows_apply _ _ _ _ _ _).symm
  congr 1
  · funext j
    blk_point [iblk, V, idx t]
  · funext j
    refine congrArg₂ (fun a b : EReal => a * b) ?_ ?_
    · rw [prod_point, e2]; rfl
    · exact (gain_read m c t j).trans (gain_entry m c j)
  · funext j
    blk_point [iblk, V, idx t]

/-- The running sum of the gain's gradient after a point. -/
def left (c : Dev nD) (n : ℕ) (h : n < cfg0.N) (j : S1x1024.Idx) : EReal := (outsAt0 m c n h).2 j

theorem left_first (c : Dev nD) (t : Fin cfg0.N) (h : t.val % 16 = 0) (j : S1x1024.Idx) :
    left m c t.val t.isLt j = k0_pay6 (iblk m c 0 t) (iblk m c 1 t) (iblk m c 2 t) j := by
  have hN : t.val < 16 := t.isLt
  rw [left, outsAt0_A m c t h (by omega)]
  frame_out

theorem left_next (c : Dev nD) (t : Fin cfg0.N) (h : ¬t.val % 16 = 0) (j : S1x1024.Idx) :
    left m c t.val t.isLt j = left m c (t.val - 1) (Nat.lt_of_le_of_lt (Nat.sub_le _ _) t.isLt) j
      + k0_pay6 (iblk m c 0 t) (iblk m c 1 t) (iblk m c 2 t) j := by
  unfold left
  rw [outsAt0_B m c t h (by omega)]
  frame_out
  rw [gain_step]

/-- The first result array after the run. -/
theorem final5 (c : Dev nD) : (dats m 0 c).arrAt 5 (cfgs 0).N = Cert.DHInReferenceIdeal.Value.GRAD (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine Eq.trans ?_ (rows_point m c t y)
  by_cases h : t.val % 16 = 0
  · have hN : t.val < 16 := t.isLt
    rw [outsAt0_A m c t h (by omega)]
    frame_out
  · rw [outsAt0_B m c t h (by omega)]
    frame_out

/-- The last result array after the run. -/
theorem final6 (c : Dev nD) : (dats m 0 c).arrAt 6 (cfgs 0).N = Cert.DHInReferenceIdeal.Value.GAIN (m ((c : Thread nD τ).loc main_arg0)) (m ((c : Thread nD τ).loc main_arg2)) (m ((c : Thread nD τ).loc main_arg3)) := by
  refine (dats m 0 c).arrAt_eq_of_covers 6 _ (by decide +kernel) fun t hf y => ?_
  have h3 : t.val % 16 = 15 := (flush0_6 t).mp hf
  have hN : t.val < 16 := t.isLt
  blk_simp
  rw [after0_6]
  have e : (outsAt0 m c t.val t.isLt).2 y = left m c t.val t.isLt y := rfl
  rw [e, Pipeline.eq_sum_fin_of_reset_step_apply_of_flush (fun n h => left m c n h) 16 (fun _ => 0) _
    (fun t h j => by rw [left_first m c t h, zero_add]) (fun t h j => by rw [left_next m c t h]) t h3 _, zero_add]
  refine Eq.trans ?_ (Cert.DHInReferenceIdeal.Value.gain_apply _ _ _).symm
  simp only [gain_block]
  refine Fin.sum_mul_add_congr fun s k hl => ?_
  rw [mul_comm]
  have e1 : ((cfg0.win 6).blk t).view.emb y = ix2 ((((cfg0.win 6).blk t).view.emb y) 0) (y 1) := by blk_point [idx t]
  have e0 : (((cfg0.win 6).blk t).view.emb y) 1 = y 1 := congrFun e1 1
  have e2 (l : Fin 1024) : ((cfg0.win 5).blk ⟨_, Pipeline.run_point_lt_of_flush t h3 s⟩).view.emb (ix2 k l) = ix2 ⟨s.val * 512 + k.val, hl⟩ l := by
    blk_point [idx ⟨_, Pipeline.run_point_lt_of_flush t h3 s⟩]
  have e3 (l : Fin 1024) : (show Vec Ideal S512x1024 .f32 from iblk m c 2 ⟨_, Pipeline.run_point_lt_of_flush t h3 s⟩) (ix2 k l)
      = (m ((c : Thread nD τ).loc main_arg0)) (ix2 ⟨s.val * 512 + k.val, hl⟩ l) := by
    blk_point [iblk, V, idx ⟨_, Pipeline.run_point_lt_of_flush t h3 s⟩]
  refine Eq.trans ?_ (congrArg (Cert.DHInReferenceIdeal.Value.share (Cert.DHInReferenceIdeal.Value.PROD (m ((c : Thread nD τ).loc main_arg2)) (m ((c : Thread nD τ).loc main_arg3))) (m ((c : Thread nD τ).loc main_arg0)) ⟨s.val * 512 + k.val, hl⟩) e0.symm)
  exact congrArg₂ (fun a b : EReal => a * b) (congrArg₂ (fun a b : EReal => a * b) (e3 (y 1)) (congrArg RowNorm.factor (funext e3)))
    ((prod_point m c _ _).trans (congrArg (Cert.DHInReferenceIdeal.Value.PROD (m ((c : Thread nD τ).loc main_arg2)) (m ((c : Thread nD τ).loc main_arg3))) (e2 (y 1))))

end Cert.DHInKernelIdeal.Value

end
-- ==== Proof.WIn.lean ====
/-
  The gradient of the delta rule's input projection, as the kernel's accumulating product computes it: the layer's input
  transposed against the cotangent's columns in the kernel's order, over four blocks of 2048 rows for each of three blocks
  of columns, the partial sum kept in a scratch buffer between them. The reference is the derivative of the product in its
  right factor with its columns put in that order.
-/
module

public import proofs.«01_k».proof.Proof.Gen.WInKernelIdeal.Value
public import proofs.«01_k».proof.Proof.Gen.WInReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.WInReferenceIdeal.Value

open Cert.WInReferenceIdeal Cert.WInReferenceIdeal.Gen

/-- The reference's result over the arrays it reads. -/
abbrev REF (A0 : FVec Ideal S8192x1024 .f32) (A2 : FVec Ideal S8192x4112 .f32) : FVec Ideal S1024x4224 .bf16 :=
  (concatenate S1024x4224 1 [⟨S1024x1024, ((extractStridedSlice S1024x1024 ![0, 3088] (truncf .bf16 (transpose S1024x4112 [1, 0] (Host.dotGeneral dot_S8192x4112_S8192x1024_S4112x1024_0_0_1_1_n_n none A2 A0) transposes_S4112x1024_S1024x4112_1_0) bitsLt_bf16_f32) slices_S1024x4112_S1024x1024_0_3088) : FVec Ideal S1024x1024 .bf16)⟩, ⟨S1024x3088, ((extractStridedSlice S1024x3088 ![0, 0] (truncf .bf16 (transpose S1024x4112 [1, 0] (Host.dotGeneral dot_S8192x4112_S8192x1024_S4112x1024_0_0_1_1_n_n none A2 A0) transposes_S4112x1024_S1024x4112_1_0) bitsLt_bf16_f32) slices_S1024x4112_S1024x3088_0_0) : FVec Ideal S1024x3088 .bf16)⟩, ⟨S1024x112, ((broadcastInDim S1024x112 ![] bcast_S_S1024x112 (constant (F := Ideal) S_ .bf16 0x0000#16)) : FVec Ideal S1024x112 .bf16)⟩] concatenates_S1024x1024_S1024x3088_S1024x112_S1024x4224_d1 : FVec Ideal S1024x4224 .bf16)

end Cert.WInReferenceIdeal.Value

namespace Cert.WInKernelIdeal.Value

open Cert.WInKernelIdeal Cert.WInKernelIdeal.Gen

variable (m : (ℓ : Loc nD τ sig) → Buf (Elt Ideal) ℓ)

/-- The windows' block indices at every point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The cotangent with its columns in the kernel's order: the gate's, the rest, and zeros to fill the last block. -/
def arranged (w : FVec Ideal S8192x4112 .f32) : FVec Ideal S8192x4224 .bf16 :=
  concatenate S8192x4224 1 [⟨S8192x1024, (extractStridedSlice S8192x1024 ![0, 3088] (truncf .bf16 w bitsLt_bf16_f32 : FVec Ideal S8192x4112 .bf16) slices_S8192x4112_S8192x1024_0_3088 : FVec Ideal S8192x1024 .bf16)⟩, ⟨S8192x3088, (extractStridedSlice S8192x3088 ![0, 0] (truncf .bf16 w bitsLt_bf16_f32 : FVec Ideal S8192x4112 .bf16) slices_S8192x4112_S8192x3088_0_0 : FVec Ideal S8192x3088 .bf16)⟩, ⟨S8192x112, (broadcastInDim S8192x112 ![] bcast_S_S8192x112 (constant (F := Ideal) S_ .bf16 0x0000#16) : FVec Ideal S8192x112 .bf16)⟩] concatenates_S8192x1024_S8192x3088_S8192x112_S8192x4224_d1

/-- What the host code leaves for the kernel's second operand. -/
theorem arranged_eq (c : Dev nD) : (V m c main_v5 : FVec Ideal S8192x4224 .bf16) = arranged (m ((c : Thread nD τ).loc main_arg2)) := by
  simp only [V, hostOps0]
  after_results
  rfl

/-- The arranged cotangent at an index. -/
theorem arranged_apply (w : FVec Ideal S8192x4112 .f32) (j : S8192x4224.Idx) : (arranged w j : EReal) =
    if h : (j 1).val < 1024 then w (ix2 (j 0) ⟨3088 + (j 1).val, by omega⟩)
    else if h : (j 1).val - 1024 < 3088 then w (ix2 (j 0) ⟨(j 1).val - 1024, by omega⟩) else 0 := by
  pointwise [arranged]

/-- The product with the arranged cotangent is the reference's arranged product. -/
theorem product (A0 : FVec Ideal S8192x1024 .f32) (A2 : FVec Ideal S8192x4112 .f32) (j : S1024x4224.Idx) :
    (∑ k : Fin 8192, (arranged A2 (ix2 k (j 1)) : EReal) * A0 (ix2 k (j 0)) : EReal) = Cert.WInReferenceIdeal.Value.REF A0 A2 j := by
  pointwise [Cert.WInReferenceIdeal.Value.REF]
  have e := fun k : Fin 8192 => arranged_apply A2 (ix2 k (j 1))
  by_cases h1 : (j 1).val < 1024
  · refine Eq.trans ?_ (dif_pos h1).symm
    exact Finset.sum_congr rfl fun k _ => congrArg (fun z : EReal => z * A0 (ix2 k (j 0))) ((e k).trans (dif_pos h1))
  · refine Eq.trans ?_ (dif_neg h1).symm
    by_cases h2 : (j 1).val - 1024 < 3088
    · refine Eq.trans ?_ (dif_pos h2).symm
      exact Finset.sum_congr rfl fun k _ => congrArg (fun z : EReal => z * A0 (ix2 k (j 0))) ((e k).trans ((dif_neg h1).trans (dif_pos h2)))
    · refine Eq.trans ?_ (dif_neg h2).symm
      exact Finset.sum_eq_zero fun k _ => (congrArg (fun z : EReal => z * A0 (ix2 k (j 0))) ((e k).trans ((dif_neg h1).trans (dif_neg h2)))).trans (zero_mul _)

/-- One block's product at an index. -/
theorem part (x : Vec Ideal S2048x1024 .bf16) (g : Vec Ideal S2048x1408 .bf16) (j : S1024x1408.Idx) :
    k0_pay2 (F := Ideal) x g j = ∑ k : Fin 2048, (x (ix2 k (j 0)) : EReal) * g (ix2 k (j 1)) := by
  pointwise [k0_pay2, k0_pay1]

/-- The sum so far with one block's product added. -/
theorem step (x : Vec Ideal S2048x1024 .bf16) (g : Vec Ideal S2048x1408 .bf16) (a : Vec Ideal S1024x1408 .f32) (j : S1024x1408.Idx) :
    k0_pay3 (F := Ideal) x g a j = (a j : EReal) + ∑ k : Fin 2048, (x (ix2 k (j 0)) : EReal) * g (ix2 k (j 1)) := by
  pointwise [k0_pay3, k0_pay1]

theorem last (x : Vec Ideal S2048x1024 .bf16) (g : Vec Ideal S2048x1408 .bf16) (a : Vec Ideal S1024x1408 .f32) (j : S1024x1408.Idx) :
    k0_pay4 (F := Ideal) x g a j = k0_pay3 (F := Ideal) x g a j := by
  pointwise [k0_pay4, k0_pay3, k0_pay1]

/-- What a point leaves: the result block at the last point of the block's four, the scratch before. -/
def left (c : Dev nD) (n : ℕ) (h : n < cfg0.N) (j : S1024x1408.Idx) : EReal :=
  if n % 4 = 3 then (outsAt0 m c n h).1 j else (outsAt0 m c n h).2 j

/-- The first point of a block's four leaves its product. -/
theorem left_first (c : Dev nD) (t : Fin cfg0.N) (h : t.val % 4 = 0) (j : S1024x1408.Idx) :
    left m c t.val t.isLt j = ∑ k : Fin 2048, (show Vec Ideal S2048x1024 .bf16 from iblk m c 0 t) (ix2 k (j 0)) * (show Vec Ideal S2048x1408 .bf16 from iblk m c 1 t) (ix2 k (j 1)) := by
  rw [left, if_neg (by omega), outsAt0_A m c t h (by omega) (by omega)]
  frame_out
  rw [part]

/-- A later point adds its product to what the point before left. -/
theorem left_next (c : Dev nD) (t : Fin cfg0.N) (h : ¬t.val % 4 = 0) (j : S1024x1408.Idx) :
    left m c t.val t.isLt j = left m c (t.val - 1) (Nat.lt_of_le_of_lt (Nat.sub_le _ _) t.isLt) j
      + ∑ k : Fin 2048, (show Vec Ideal S2048x1024 .bf16 from iblk m c 0 t) (ix2 k (j 0)) * (show Vec Ideal S2048x1408 .bf16 from iblk m c 1 t) (ix2 k (j 1)) := by
  unfold left
  rw [if_neg (show ¬(t.val - 1) % 4 = 3 by omega)]
  by_cases h3 : t.val % 4 = 3
  · rw [if_pos h3, outsAt0_C m c t h (by omega) h3]
    frame_out
    rw [last, step, read_unread_whole]
  · rw [if_neg h3, outsAt0_B m c t h (by omega) h3]
    frame_out
    rw [step, read_unread_whole]

theorem block_left (c : Dev nD) (t : Fin cfg0.N) (h3 : t.val % 4 = 3) (s : Fin 4) (k : Fin 2048) (hl : s.val * 2048 + k.val < 8192) (y : S1024x1408.Idx) :
    (show Vec Ideal S2048x1024 .bf16 from iblk m c 0 ⟨_, Pipeline.run_point_lt_of_flush t h3 s⟩) (ix2 k (y 0))
      = (m ((c : Thread nD τ).loc main_arg0)) (ix2 ⟨s.val * 2048 + k.val, hl⟩ ((((cfg0.win 2).blk t).view.emb y) 0)) := by
  blk_point [iblk, V, idx t, idx ⟨_, Pipeline.run_point_lt_of_flush t h3 s⟩]

theorem block_right (c : Dev nD) (t : Fin cfg0.N) (h3 : t.val % 4 = 3) (s : Fin 4) (k : Fin 2048) (hl : s.val * 2048 + k.val < 8192) (y : S1024x1408.Idx) :
    (show Vec Ideal S2048x1408 .bf16 from iblk m c 1 ⟨_, Pipeline.run_point_lt_of_flush t h3 s⟩) (ix2 k (y 1))
      = V m c main_v5 (ix2 ⟨s.val * 2048 + k.val, hl⟩ ((((cfg0.win 2).blk t).view.emb y) 1)) := by
  blk_point [iblk, idx t, idx ⟨_, Pipeline.run_point_lt_of_flush t h3 s⟩]

/-- The result array after the run. -/
theorem final (c : Dev nD) : (dats m 0 c).arrAt 2 (cfgs 0).N
    = Cert.WInReferenceIdeal.Value.REF (m ((c : Thread nD τ).loc main_arg0)) (m ((c : Thread nD τ).loc main_arg2)) := by
  refine (dats m 0 c).arrAt_eq_of_covers 2 _ (by decide +kernel) fun t hf y => ?_
  have h3 := (flush0_2 t).mp hf
  blk_simp
  rw [after0_2]
  have e : (outsAt0 m c t.val t.isLt).1 y = left m c t.val t.isLt y := by rw [left, if_pos h3]
  rw [e, Pipeline.eq_sum_fin_of_reset_step_apply_of_flush (fun n h => left m c n h) 4 (fun _ => 0) _
    (fun t h j => by rw [left_first m c t h, zero_add]) (fun t h j => by rw [left_next m c t h]) t h3 _, zero_add]
  refine Eq.trans ?_ (product _ _ _)
  refine Fin.sum_mul_add_congr fun s k hl => ?_
  rw [mul_comm]
  exact congrArg₂ (fun a b : EReal => a * b) ((block_right m c t h3 s k hl y).trans (congrFun (arranged_eq m c) _)) (block_left m c t h3 s k hl y)

end Cert.WInKernelIdeal.Value

end
-- ==== Proof.In.lean ====
/-
  The delta rule's input projection over its four column groups, as the kernel's product over blocks of rows and
  columns computes it, beside the reference's one contraction with its columns put in the kernel's order.
-/
module

public import proofs.«01_k».proof.Proof.Gen.InKernelIdeal.Value
public import proofs.«01_k».proof.Proof.Gen.InReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InReferenceIdeal.Value

open Cert.InReferenceIdeal Cert.InReferenceIdeal.Gen

/-- The reference's result over the arrays it reads. -/
abbrev REF (A0 : FVec Ideal S8192x1024 .f32) (A1 : FVec Ideal S1024x4112 .f32) : FVec Ideal S8192x4224 .f32 :=
  (concatenate S8192x4224 1 [⟨S8192x1024, ((extractStridedSlice S8192x1024 ![0, 3088] (Host.dotGeneral dot_S8192x1024_S1024x4112_S8192x4112_1_0_0_1_n_n none A0 A1) slices_S8192x4112_S8192x1024_0_3088) : FVec Ideal S8192x1024 .f32)⟩, ⟨S8192x3088, ((extractStridedSlice S8192x3088 ![0, 0] (Host.dotGeneral dot_S8192x1024_S1024x4112_S8192x4112_1_0_0_1_n_n none A0 A1) slices_S8192x4112_S8192x3088_0_0) : FVec Ideal S8192x3088 .f32)⟩, ⟨S8192x112, ((broadcastInDim S8192x112 ![] bcast_S_S8192x112 (constant (F := Ideal) S_ .f32 0x00000000#32)) : FVec Ideal S8192x112 .f32)⟩] concatenates_S8192x1024_S8192x3088_S8192x112_S8192x4224_d1 : FVec Ideal S8192x4224 .f32)

end Cert.InReferenceIdeal.Value

namespace Cert.InKernelIdeal.Value

open Cert.InKernelIdeal Cert.InKernelIdeal.Gen

variable (m : (ℓ : Loc nD τ sig) → Buf (Elt Ideal) ℓ)

/-- The windows' block indices at every point. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The weight with its columns in the kernel's order: the gate's, the rest, and zeros to fill the last block. -/
def arranged (w : FVec Ideal S1024x4112 .f32) : FVec Ideal S1024x4224 .bf16 :=
  concatenate S1024x4224 1 [⟨S1024x1024, (extractStridedSlice S1024x1024 ![0, 3088] (truncf .bf16 w bitsLt_bf16_f32 : FVec Ideal S1024x4112 .bf16) slices_S1024x4112_S1024x1024_0_3088 : FVec Ideal S1024x1024 .bf16)⟩, ⟨S1024x3088, (extractStridedSlice S1024x3088 ![0, 0] (truncf .bf16 w bitsLt_bf16_f32 : FVec Ideal S1024x4112 .bf16) slices_S1024x4112_S1024x3088_0_0 : FVec Ideal S1024x3088 .bf16)⟩, ⟨S1024x112, (broadcastInDim S1024x112 ![] bcast_S_S1024x112 (constant (F := Ideal) S_ .bf16 0x0000#16) : FVec Ideal S1024x112 .bf16)⟩] concatenates_S1024x1024_S1024x3088_S1024x112_S1024x4224_d1

/-- What the host code leaves for the kernel's second operand. -/
theorem arranged_eq (c : Dev nD) : (V m c main_v5 : FVec Ideal S1024x4224 .bf16) = arranged (m ((c : Thread nD τ).loc main_arg1)) := by
  simp only [V, hostOps0]
  after_results
  rfl

/-- The arranged weight at an index. -/
theorem arranged_apply (w : FVec Ideal S1024x4112 .f32) (j : S1024x4224.Idx) : (arranged w j : EReal) =
    if h : (j 1).val < 1024 then w (ix2 (j 0) ⟨3088 + (j 1).val, by omega⟩)
    else if h : (j 1).val - 1024 < 3088 then w (ix2 (j 0) ⟨(j 1).val - 1024, by omega⟩) else 0 := by
  pointwise [arranged]

/-- The product with the arranged weight is the reference's arranged product. -/
theorem product (A0 : FVec Ideal S8192x1024 .f32) (A1 : FVec Ideal S1024x4112 .f32) (j : S8192x4224.Idx) :
    (∑ k : Fin 1024, (A0 (ix2 (j 0) k) : EReal) * arranged A1 (ix2 k (j 1)) : EReal) = Cert.InReferenceIdeal.Value.REF A0 A1 j := by
  pointwise [Cert.InReferenceIdeal.Value.REF]
  have e := fun k : Fin 1024 => arranged_apply A1 (ix2 k (j 1))
  by_cases h1 : (j 1).val < 1024
  · refine Eq.trans ?_ (dif_pos h1).symm
    exact Finset.sum_congr rfl fun k _ => congrArg (fun z : EReal => A0 (ix2 (j 0) k) * z) ((e k).trans (dif_pos h1))
  · refine Eq.trans ?_ (dif_neg h1).symm
    by_cases h2 : (j 1).val - 1024 < 3088
    · refine Eq.trans ?_ (dif_pos h2).symm
      exact Finset.sum_congr rfl fun k _ => congrArg (fun z : EReal => A0 (ix2 (j 0) k) * z) ((e k).trans ((dif_neg h1).trans (dif_pos h2)))
    · refine Eq.trans ?_ (dif_neg h2).symm
      exact Finset.sum_eq_zero fun k _ => (congrArg (fun z : EReal => A0 (ix2 (j 0) k) * z) ((e k).trans ((dif_neg h1).trans (dif_neg h2)))).trans (mul_zero _)

theorem block_left (c : Dev nD) (t : Fin cfg0.N) (k : Fin 1024) (y : S2048x1408.Idx) :
    (show Vec Ideal S2048x1024 .bf16 from iblk m c 0 t) (ix2 (y 0) k) = (m ((c : Thread nD τ).loc main_arg0)) (ix2 ((((cfg0.win 2).blk t).view.emb y) 0) k) := by
  blk_point [iblk, V, idx t]

theorem block_right (c : Dev nD) (t : Fin cfg0.N) (k : Fin 1024) (y : S2048x1408.Idx) :
    (show Vec Ideal S1024x1408 .bf16 from iblk m c 1 t) (ix2 k (y 1)) = V m c main_v5 (ix2 k ((((cfg0.win 2).blk t).view.emb y) 1)) := by
  blk_point [iblk, idx t]

/-- What the body stores at an index of a point's block is the reference at the index's place in the array. -/
theorem point (c : Dev nD) (t : Fin cfg0.N) (y : S2048x1408.Idx) : k0_pay1 (iblk m c 0 t) (iblk m c 1 t) y
    = Cert.InReferenceIdeal.Value.REF (m ((c : Thread nD τ).loc main_arg0)) (m ((c : Thread nD τ).loc main_arg1)) (((cfg0.win 2).blk t).view.emb y) := by
  rw [← product]
  pointwise [k0_pay1]
  refine Finset.sum_congr rfl fun k _ => ?_
  exact congrArg₂ (fun a b : EReal => a * b) (block_left m c t k y)
    ((block_right m c t k y).trans (congrFun (arranged_eq m c) _))

/-- The result array after the run. -/
theorem final (c : Dev nD) : (dats m 0 c).arrAt 2 (cfgs 0).N = Cert.InReferenceIdeal.Value.REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InKernelIdeal.Value

end
-- ==== Proof.Down.lean ====
/-
  The down projection added to the residual, and the sum normalized.
-/
module

public import proofs.«01_k».proof.Proof.Gen.DownKernelIdeal.Value
public import proofs.«01_k».proof.Proof.Gen.DownReferenceIdeal.Run
public import proofs.«01_k».proof.Proof.RowNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownReferenceIdeal.Value

open Cert.DownReferenceIdeal Cert.DownReferenceIdeal.Gen

/-- The reference's first result: the residual and the product. -/
abbrev SUM (A0 : FVec Ideal S8192x4096 .f32) (A1 : FVec Ideal S4096x1024 .f32) (A2 : FVec Ideal S8192x1024 .f32) : FVec Ideal S8192x1024 .f32 :=
  addf A2 (Host.dotGeneral dot_S8192x4096_S4096x1024_S8192x1024_1_0_0_1_n_n none A0 A1)

/-- The normalization of an array's rows, as the reference spells it. -/
abbrev NORM (Y : FVec Ideal S8192x1024 .f32) (A3 : FVec Ideal S1024 .f32) : FVec Ideal S8192x1024 .bf16 :=
  truncf .bf16 (mulf (mulf Y (broadcastInDim S8192x1024 ![0, 1] bcast_S8192x1_S8192x1024_0_1 (Host.rsqrt (addf (Host.divf (broadcastInDim S8192x1 ![0] bcast_S8192_S8192x1_0 (Host.reduceAdd (mulf Y Y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 A3))) bitsLt_bf16_f32

/-- The reference's second result: the first one normalized. -/
abbrev NORMED (A0 : FVec Ideal S8192x4096 .f32) (A1 : FVec Ideal S4096x1024 .f32) (A2 : FVec Ideal S8192x1024 .f32) (A3 : FVec Ideal S1024 .f32) : FVec Ideal S8192x1024 .bf16 :=
  NORM (SUM A0 A1 A2) A3

/-- An element of the normalization. -/
theorem norm_apply (Y : FVec Ideal S8192x1024 .f32) (A3 : FVec Ideal S1024 .f32) (i : S8192x1024.Idx) :
    NORM Y A3 i = RowNorm.normed (fun j => (Y (ix2 (i 0) j) : EReal)) (fun j => A3 (ix1 j)) (i 1) := by
  pointwise [NORM, RowNorm.normed, RowNorm.factor]

end Cert.DownReferenceIdeal.Value

namespace Cert.DownKernelIdeal.Value

open Cert.DownKernelIdeal Cert.DownKernelIdeal.Gen

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- An element of the kernel's sum is the reference's at its place in the array. -/
theorem sum_point (c : Dev nD) (t : Fin cfg0.N) (y : S512x1024.Idx) : k0_pay1 (iblk m c 0 t) (iblk m c 1 t) (iblk m c 2 t) y
    = Cert.DownReferenceIdeal.Value.SUM (m ((c : Thread nD τ).loc main_arg0)) (m ((c : Thread nD τ).loc main_arg1)) (m ((c : Thread nD τ).loc main_arg2)) (((cfg0.win 4).blk t).view.emb y) := by
  pointwise [k0_pay1, Cert.DownReferenceIdeal.Value.SUM]
  rw [add_comm]
  blk_point [iblk, V, idx t]

/-- The kernel's normalization of its sum at an index. -/
theorem norm_block (v0 : Vec Ideal S512x4096 .bf16) (v2 : Vec Ideal S4096x1024 .bf16) (v5 : Vec Ideal S512x1024 .f32) (v6 : Vec Ideal S1x1024 .f32) (y : S512x1024.Idx) :
    k0_pay2 v0 v2 v5 v6 y = RowNorm.normed (fun j => (k0_pay1 v0 v2 v5 (ix2 (y 0) j) : EReal)) (fun j => v6 (ix2 0 j)) (y 1) := by
  unfold k0_pay2
  generalize k0_pay1 v0 v2 v5 = X
  pointwise [RowNorm.normed, RowNorm.factor]

/-- What the body stores of the normalized sum is the reference at its place in the array. -/
theorem norm_point (c : Dev nD) (t : Fin cfg0.N) (y : S512x1024.Idx) : k0_pay2 (iblk m c 0 t) (iblk m c 1 t) (iblk m c 2 t) (iblk m c 3 t) y
    = Cert.DownReferenceIdeal.Value.NORMED (m ((c : Thread nD τ).loc main_arg0)) (m ((c : Thread nD τ).loc main_arg1)) (m ((c : Thread nD τ).loc main_arg2)) (m ((c : Thread nD τ).loc main_arg3)) (((cfg0.win 5).blk t).view.emb y) := by
  rw [norm_block]
  refine Eq.trans ?_ (Cert.DownReferenceIdeal.Value.norm_apply _ _ _).symm
  have e1 : ((cfg0.win 5).blk t).view.emb y = ix2 ((((cfg0.win 5).blk t).view.emb y) 0) (y 1) := by blk_point [idx t]
  have e2 (j : Fin 1024) : ((cfg0.win 4).blk t).view.emb (ix2 (y 0) j) = ix2 ((((cfg0.win 5).blk t).view.emb y) 0) j := by
    blk_point [idx t]
  congr 1
  · funext j
    rw [sum_point, e2]; rfl
  · funext j
    blk_point [iblk, V, idx t]
  · exact (congrFun e1 1).symm

/-- The first result array after the run. -/
theorem final4 (c : Dev nD) : (dats m 0 c).arrAt 4 (cfgs 0).N = Cert.DownReferenceIdeal.Value.SUM (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact sum_point m c t y

/-- The second result array after the run. -/
theorem final5 (c : Dev nD) : (dats m 0 c).arrAt 5 (cfgs 0).N = Cert.DownReferenceIdeal.Value.NORMED (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact norm_point m c t y

end Cert.DownKernelIdeal.Value

end
-- ==== Proof.AttnOut.lean ====
/-
  The attention output projection added to the residual, and the sum normalized.
-/
module

public import proofs.«01_k».proof.Proof.Gen.AOutKernelIdeal.Value
public import proofs.«01_k».proof.Proof.Gen.AOutReferenceIdeal.Run
public import proofs.«01_k».proof.Proof.RowNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AOutReferenceIdeal.Value

open Cert.AOutReferenceIdeal Cert.AOutReferenceIdeal.Gen

/-- The reference's first result: the residual and the product. -/
abbrev SUM (A0 : FVec Ideal S8192x512 .f32) (A1 : FVec Ideal S512x1024 .f32) (A2 : FVec Ideal S8192x1024 .f32) : FVec Ideal S8192x1024 .f32 :=
  addf A2 (Host.dotGeneral dot_S8192x512_S512x1024_S8192x1024_1_0_0_1_n_n none A0 A1)

/-- The normalization of an array's rows, as the reference spells it. -/
abbrev NORM (Y : FVec Ideal S8192x1024 .f32) (A3 : FVec Ideal S1024 .f32) : FVec Ideal S8192x1024 .bf16 :=
  truncf .bf16 (mulf (mulf Y (broadcastInDim S8192x1024 ![0, 1] bcast_S8192x1_S8192x1024_0_1 (Host.rsqrt (addf (Host.divf (broadcastInDim S8192x1 ![0] bcast_S8192_S8192x1_0 (Host.reduceAdd (mulf Y Y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 A3))) bitsLt_bf16_f32

/-- The reference's second result: the first one normalized. -/
abbrev NORMED (A0 : FVec Ideal S8192x512 .f32) (A1 : FVec Ideal S512x1024 .f32) (A2 : FVec Ideal S8192x1024 .f32) (A3 : FVec Ideal S1024 .f32) : FVec Ideal S8192x1024 .bf16 :=
  NORM (SUM A0 A1 A2) A3

/-- An element of the normalization. -/
theorem norm_apply (Y : FVec Ideal S8192x1024 .f32) (A3 : FVec Ideal S1024 .f32) (i : S8192x1024.Idx) :
    NORM Y A3 i = RowNorm.normed (fun j => (Y (ix2 (i 0) j) : EReal)) (fun j => A3 (ix1 j)) (i 1) := by
  pointwise [NORM, RowNorm.normed, RowNorm.factor]

end Cert.AOutReferenceIdeal.Value

namespace Cert.AOutKernelIdeal.Value

open Cert.AOutKernelIdeal Cert.AOutKernelIdeal.Gen

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- An element of the kernel's sum is the reference's at its place in the array. -/
theorem sum_point (c : Dev nD) (t : Fin cfg0.N) (y : S1024x1024.Idx) : k0_pay1 (iblk m c 0 t) (iblk m c 1 t) (iblk m c 2 t) y
    = Cert.AOutReferenceIdeal.Value.SUM (m ((c : Thread nD τ).loc main_arg0)) (m ((c : Thread nD τ).loc main_arg1)) (m ((c : Thread nD τ).loc main_arg2)) (((cfg0.win 4).blk t).view.emb y) := by
  pointwise [k0_pay1, Cert.AOutReferenceIdeal.Value.SUM]
  rw [add_comm]
  blk_point [iblk, V, idx t]

/-- The kernel's normalization of its sum at an index. -/
theorem norm_block (v0 : Vec Ideal S1024x512 .bf16) (v2 : Vec Ideal S512x1024 .bf16) (v5 : Vec Ideal S1024x1024 .f32) (v6 : Vec Ideal S1x1024 .f32) (y : S1024x1024.Idx) :
    k0_pay2 v0 v2 v5 v6 y = RowNorm.normed (fun j => (k0_pay1 v0 v2 v5 (ix2 (y 0) j) : EReal)) (fun j => v6 (ix2 0 j)) (y 1) := by
  unfold k0_pay2
  generalize k0_pay1 v0 v2 v5 = X
  pointwise [RowNorm.normed, RowNorm.factor]

/-- What the body stores of the normalized sum is the reference at its place in the array. -/
theorem norm_point (c : Dev nD) (t : Fin cfg0.N) (y : S1024x1024.Idx) : k0_pay2 (iblk m c 0 t) (iblk m c 1 t) (iblk m c 2 t) (iblk m c 3 t) y
    = Cert.AOutReferenceIdeal.Value.NORMED (m ((c : Thread nD τ).loc main_arg0)) (m ((c : Thread nD τ).loc main_arg1)) (m ((c : Thread nD τ).loc main_arg2)) (m ((c : Thread nD τ).loc main_arg3)) (((cfg0.win 5).blk t).view.emb y) := by
  rw [norm_block]
  refine Eq.trans ?_ (Cert.AOutReferenceIdeal.Value.norm_apply _ _ _).symm
  have e1 : ((cfg0.win 5).blk t).view.emb y = ix2 ((((cfg0.win 5).blk t).view.emb y) 0) (y 1) := by blk_point [idx t]
  have e2 (j : Fin 1024) : ((cfg0.win 4).blk t).view.emb (ix2 (y 0) j) = ix2 ((((cfg0.win 5).blk t).view.emb y) 0) j := by
    blk_point [idx t]
  congr 1
  · funext j
    rw [sum_point, e2]; rfl
  · funext j
    blk_point [iblk, V, idx t]
  · exact (congrFun e1 1).symm

/-- The first result array after the run. -/
theorem final4 (c : Dev nD) : (dats m 0 c).arrAt 4 (cfgs 0).N = Cert.AOutReferenceIdeal.Value.SUM (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact sum_point m c t y

/-- The second result array after the run. -/
theorem final5 (c : Dev nD) : (dats m 0 c).arrAt 5 (cfgs 0).N = Cert.AOutReferenceIdeal.Value.NORMED (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact norm_point m c t y

end Cert.AOutKernelIdeal.Value

end
-- ==== Proof.DeltaOut.lean ====
/-
  The delta rule's output projection added to the residual, and the sum normalized.
-/
module

public import proofs.«01_k».proof.Proof.Gen.DOutKernelIdeal.Value
public import proofs.«01_k».proof.Proof.Gen.DOutReferenceIdeal.Run
public import proofs.«01_k».proof.Proof.RowNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DOutReferenceIdeal.Value

open Cert.DOutReferenceIdeal Cert.DOutReferenceIdeal.Gen

/-- The reference's first result: the residual and the product. -/
abbrev SUM (A0 : FVec Ideal S8192x1024 .f32) (A1 : FVec Ideal S1024x1024 .f32) (A2 : FVec Ideal S8192x1024 .f32) : FVec Ideal S8192x1024 .f32 :=
  addf A2 (Host.dotGeneral dot_S8192x1024_S1024x1024_S8192x1024_1_0_0_1_n_n none A0 A1)

/-- The normalization of an array's rows, as the reference spells it. -/
abbrev NORM (Y : FVec Ideal S8192x1024 .f32) (A3 : FVec Ideal S1024 .f32) : FVec Ideal S8192x1024 .bf16 :=
  truncf .bf16 (mulf (mulf Y (broadcastInDim S8192x1024 ![0, 1] bcast_S8192x1_S8192x1024_0_1 (Host.rsqrt (addf (Host.divf (broadcastInDim S8192x1 ![0] bcast_S8192_S8192x1_0 (Host.reduceAdd (mulf Y Y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 A3))) bitsLt_bf16_f32

/-- The reference's second result: the first one normalized. -/
abbrev NORMED (A0 : FVec Ideal S8192x1024 .f32) (A1 : FVec Ideal S1024x1024 .f32) (A2 : FVec Ideal S8192x1024 .f32) (A3 : FVec Ideal S1024 .f32) : FVec Ideal S8192x1024 .bf16 :=
  NORM (SUM A0 A1 A2) A3

/-- An element of the normalization. -/
theorem norm_apply (Y : FVec Ideal S8192x1024 .f32) (A3 : FVec Ideal S1024 .f32) (i : S8192x1024.Idx) :
    NORM Y A3 i = RowNorm.normed (fun j => (Y (ix2 (i 0) j) : EReal)) (fun j => A3 (ix1 j)) (i 1) := by
  pointwise [NORM, RowNorm.normed, RowNorm.factor]

end Cert.DOutReferenceIdeal.Value

namespace Cert.DOutKernelIdeal.Value

open Cert.DOutKernelIdeal Cert.DOutKernelIdeal.Gen

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- An element of the kernel's sum is the reference's at its place in the array. -/
theorem sum_point (c : Dev nD) (t : Fin cfg0.N) (y : S1024x1024.Idx) : k0_pay1 (iblk m c 0 t) (iblk m c 1 t) (iblk m c 2 t) y
    = Cert.DOutReferenceIdeal.Value.SUM (m ((c : Thread nD τ).loc main_arg0)) (m ((c : Thread nD τ).loc main_arg1)) (m ((c : Thread nD τ).loc main_arg2)) (((cfg0.win 4).blk t).view.emb y) := by
  pointwise [k0_pay1, Cert.DOutReferenceIdeal.Value.SUM]
  rw [add_comm]
  blk_point [iblk, V, idx t]

/-- The kernel's normalization of its sum at an index. -/
theorem norm_block (v0 : Vec Ideal S1024x1024 .bf16) (v2 : Vec Ideal S1024x1024 .bf16) (v5 : Vec Ideal S1024x1024 .f32) (v6 : Vec Ideal S1x1024 .f32) (y : S1024x1024.Idx) :
    k0_pay2 v0 v2 v5 v6 y = RowNorm.normed (fun j => (k0_pay1 v0 v2 v5 (ix2 (y 0) j) : EReal)) (fun j => v6 (ix2 0 j)) (y 1) := by
  unfold k0_pay2
  generalize k0_pay1 v0 v2 v5 = X
  pointwise [RowNorm.normed, RowNorm.factor]

/-- What the body stores of the normalized sum is the reference at its place in the array. -/
theorem norm_point (c : Dev nD) (t : Fin cfg0.N) (y : S1024x1024.Idx) : k0_pay2 (iblk m c 0 t) (iblk m c 1 t) (iblk m c 2 t) (iblk m c 3 t) y
    = Cert.DOutReferenceIdeal.Value.NORMED (m ((c : Thread nD τ).loc main_arg0)) (m ((c : Thread nD τ).loc main_arg1)) (m ((c : Thread nD τ).loc main_arg2)) (m ((c : Thread nD τ).loc main_arg3)) (((cfg0.win 5).blk t).view.emb y) := by
  rw [norm_block]
  refine Eq.trans ?_ (Cert.DOutReferenceIdeal.Value.norm_apply _ _ _).symm
  have e1 : ((cfg0.win 5).blk t).view.emb y = ix2 ((((cfg0.win 5).blk t).view.emb y) 0) (y 1) := by blk_point [idx t]
  have e2 (j : Fin 1024) : ((cfg0.win 4).blk t).view.emb (ix2 (y 0) j) = ix2 ((((cfg0.win 5).blk t).view.emb y) 0) j := by
    blk_point [idx t]
  congr 1
  · funext j
    rw [sum_point, e2]; rfl
  · funext j
    blk_point [iblk, V, idx t]
  · exact (congrFun e1 1).symm

/-- The first result array after the run. -/
theorem final4 (c : Dev nD) : (dats m 0 c).arrAt 4 (cfgs 0).N = Cert.DOutReferenceIdeal.Value.SUM (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact sum_point m c t y

/-- The second result array after the run. -/
theorem final5 (c : Dev nD) : (dats m 0 c).arrAt 5 (cfgs 0).N = Cert.DOutReferenceIdeal.Value.NORMED (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact norm_point m c t y

end Cert.DOutKernelIdeal.Value

end
-- ==== Proof.BandRow.lean ====
/-
  One query's row of banded attention over the extended reals. The reference puts the scores of the previous block and of
  the query's own block side by side in one row of 256; the kernel keeps them as two rows of 128 and joins the maxima,
  the sums and the products.
-/
module

public import Idealize.ShloMosaic.Lib.Pipeline.ValueKit

@[expose] public section

noncomputable section

open Idealize.ShloMosaic

namespace BandRow

/-- A place of the row that belongs to the previous block. -/
abbrev lo (j : Fin 128) : Fin 256 := ⟨j.val, by omega⟩
/-- A place of the row that belongs to the query's own block. -/
abbrev hi (j : Fin 128) : Fin 256 := ⟨128 + j.val, by omega⟩

/-- The maximum of a row, started at `b`. -/
abbrev top {n : ℕ} (b : EReal) (s : Fin n → EReal) : EReal := Finset.univ.fold max b s

/-- The maximum of the two rows. -/
def mx (b : EReal) (c p : Fin 128 → EReal) : EReal := max (top b c) (top b p)
/-- The weights' sum over the two rows. -/
def den (b : EReal) (c p : Fin 128 → EReal) : EReal := (∑ j, Ideal.exp (c j - mx b c p)) + ∑ j, Ideal.exp (p j - mx b c p)
/-- The attention's result from the two rows. -/
def out (b : EReal) (c p vc vp : Fin 128 → EReal) : EReal :=
  (∑ j, Ideal.div (Ideal.exp (c j - mx b c p)) (den b c p) * vc j) + ∑ j, Ideal.div (Ideal.exp (p j - mx b c p)) (den b c p) * vp j
/-- The logarithm of the weights' sum, with the maximum put back. -/
def lse (b : EReal) (c p : Fin 128 → EReal) : EReal := mx b c p + Ideal.log (den b c p)

/-- The weights' sum over the joined row. -/
def den1 (b : EReal) (s : Fin 256 → EReal) : EReal := ∑ j, Ideal.exp (s j - top b s)
/-- The attention's result from the joined row. -/
def out1 (b : EReal) (s v : Fin 256 → EReal) : EReal := ∑ j, v j * Ideal.div (Ideal.exp (s j - top b s)) (den1 b s)
/-- The logarithm of the joined row's sum, with the maximum put back. -/
def lse1 (b : EReal) (s : Fin 256 → EReal) : EReal := top b s + Ideal.log (den1 b s)

theorem sum_join (f : Fin 256 → EReal) : ∑ j, f j = (∑ j, f (hi j)) + ∑ j, f (lo j) := by
  have h := Fin.sum_univ_add (a := 128) (b := 128) f
  exact h.trans (add_comm _ _)

theorem top_join (b : EReal) (s : Fin 256 → EReal) : top b s = max (top b fun j => s (hi j)) (top b fun j => s (lo j)) := by
  refine eq_of_forall_ge_iff fun x => ?_
  rw [max_le_iff]
  simp only [top, Finset.fold_max_le, Finset.mem_univ, forall_const]
  constructor
  · rintro ⟨h, g⟩
    exact ⟨⟨h, fun j => g _⟩, h, fun j => g _⟩
  · rintro ⟨⟨h, g⟩, -, k⟩
    refine ⟨h, fun j => ?_⟩
    by_cases hj : j.val < 128
    · exact k ⟨j.val, hj⟩
    · have e : j = hi ⟨j.val - 128, by omega⟩ := Fin.ext (by simp only [hi]; omega)
      rw [e]; exact g _

theorem den_join (b : EReal) (s : Fin 256 → EReal) : den1 b s = den b (fun j => s (hi j)) fun j => s (lo j) := by
  unfold den1 den mx
  rw [sum_join, top_join]

theorem lse_join (b : EReal) (s : Fin 256 → EReal) : lse1 b s = lse b (fun j => s (hi j)) fun j => s (lo j) := by
  unfold lse1 lse
  rw [den_join, top_join, mx]

/-- A masked score has no weight. -/
theorem exp_masked (x : EReal) : Ideal.exp (⊥ - x) = 0 := by
  rw [sub_eq_add_neg, EReal.bot_add]; rfl

/-- Twice a multiple of the lowest value is that multiple. -/
theorem twice_bot (x : EReal) : (⊥ : EReal) * x = 0 ∨ (⊥ : EReal) * x = ⊥ ∨ (⊥ : EReal) * x = ⊤ := by
  rcases lt_trichotomy x 0 with h | h | h
  · exact .inr (.inr (EReal.bot_mul_of_neg h))
  · subst h; exact .inl (mul_zero _)
  · exact .inr (.inl (EReal.bot_mul_of_pos h))

theorem sum_extreme (f : Fin 128 → EReal) (h : ∀ j, f j = 0 ∨ f j = ⊥ ∨ f j = ⊤) : (∑ j, f j) + ∑ j, f j = ∑ j, f j := by
  have key : ∀ t : Finset (Fin 128), ∑ j ∈ t, f j = 0 ∨ ∑ j ∈ t, f j = ⊥ ∨ ∑ j ∈ t, f j = ⊤ := by
    intro t
    induction t using Finset.induction_on with
    | empty => simp
    | insert a t ha ih =>
      rw [Finset.sum_insert ha]
      rcases h a with e | e | e <;> rcases ih with g | g | g <;> rw [e, g] <;> simp
  rcases key Finset.univ with e | e | e <;> rw [e] <;> simp

/-- The first block has no previous block: the reference multiplies the masked half by zeros, the kernel by the block's own
    values, and both leave the result as it is. -/
theorem out_first (b : EReal) (s v : Fin 256 → EReal) (hs : ∀ j, s (lo j) = ⊥) (hv : ∀ j, v (lo j) = 0) :
    out1 b s v = out b (fun j => s (hi j)) (fun j => s (lo j)) (fun j => v (hi j)) fun j => v (hi j) := by
  unfold out1 out
  rw [den_join, sum_join, top_join]
  change _ + _ = _
  simp only [hv, zero_mul, Finset.sum_const_zero, add_zero]
  have e : ∀ x, Ideal.exp (s (lo x) - mx b (fun j => s (hi j)) fun j => s (lo j)) = 0 := fun x => by rw [hs, exp_masked]
  simp only [e]
  by_cases hd : den b (fun j => s (hi j)) (fun j => s (lo j)) = 0
  · have hz : ∀ x, Ideal.exp (s (hi x) - mx b (fun j => s (hi j)) fun j => s (lo j)) = 0 := by
      unfold den at hd
      simp only [e, Finset.sum_const_zero, add_zero] at hd
      have nn : ∀ x : EReal, 0 ≤ Ideal.exp x := by
        intro x
        induction x using EReal.rec with
        | bot => exact le_refl _
        | top => exact le_top
        | coe r => exact EReal.coe_nonneg.mpr (Real.exp_nonneg r)
      intro x
      exact (Finset.sum_eq_zero_iff_of_nonneg fun _ _ => nn _).mp hd x (Finset.mem_univ _)
    have hb : Ideal.div 0 (den b (fun j => s (hi j)) fun j => s (lo j)) = ⊥ := by
      unfold Ideal.div; rw [if_pos hd, if_neg (lt_irrefl _)]
    have hm : max (top b fun j => s (hi j)) (top b fun j => s (lo j)) = mx b (fun j => s (hi j)) fun j => s (lo j) := rfl
    simp only [hm, hz, hb]
    rw [sum_extreme _ fun j => twice_bot _]
    exact Finset.sum_congr rfl fun j _ => mul_comm _ _
  · have hb : Ideal.div 0 (den b (fun j => s (hi j)) fun j => s (lo j)) = 0 := by
      unfold Ideal.div; rw [if_neg hd, zero_mul]
    simp only [hb, zero_mul, Finset.sum_const_zero, add_zero]
    exact Finset.sum_congr rfl fun j _ => mul_comm _ _

/-- Every other block: the two halves are the kernel's two rows. -/
theorem out_join (b : EReal) (s v : Fin 256 → EReal) :
    out1 b s v = out b (fun j => s (hi j)) (fun j => s (lo j)) (fun j => v (hi j)) fun j => v (lo j) := by
  unfold out1 out
  rw [den_join, sum_join, top_join]
  exact congrArg₂ (fun a b : EReal => a + b) (Finset.sum_congr rfl fun j _ => mul_comm _ _) (Finset.sum_congr rfl fun j _ => mul_comm _ _)

end BandRow

end
-- ==== Proof.AttnRef.lean ====
/-
  Banded attention, forward: what the reference computes, index by index.
-/
module

public import proofs.«01_k».proof.Proof.Gen.AttnReferenceIdeal
public import proofs.«01_k».proof.Proof.BandRow
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.AttnReferenceIdeal.Value

open Cert.AttnReferenceIdeal Cert.AttnReferenceIdeal.Gen

/-- An array's blocks, its heads apart. -/
def BLOCKS (A : FVec Ideal S8192x512 .f32) : FVec Ideal S1x1x64x128x8x64 .f32 :=
  shapeCast _ (transpose S1x1x8192x8x64 [0, 2, 1, 3, 4] (shapeCast _ (shapeCast _ A shapeCasts_S8192x512_S1x8192x8x64) shapeCasts_S1x8192x8x64_S1x8192x1x8x64) transposes_S1x8192x1x8x64_S1x1x8192x8x64_0_2_1_3_4) shapeCasts_S1x1x8192x8x64_S1x1x64x128x8x64

/-- The blocks after a block of zeros. -/
def PADDED (A : FVec Ideal S8192x512 .f32) : FVec Ideal S1x1x65x128x8x64 .f32 :=
  concatenate S1x1x65x128x8x64 2 [⟨S1x1x1x128x8x64, (broadcastInDim S1x1x1x128x8x64 ![] bcast_S_S1x1x1x128x8x64 (constant S_ .f32 0x00000000#32))⟩, ⟨S1x1x64x128x8x64, BLOCKS A⟩] concatenates_S1x1x1x128x8x64_S1x1x64x128x8x64_S1x1x65x128x8x64_d2

/-- Every block behind the block before it. -/
def BANDS (A : FVec Ideal S8192x512 .f32) : FVec Ideal S1x1x64x256x8x64 .f32 :=
  concatenate S1x1x64x256x8x64 3 [⟨S1x1x64x128x8x64, (extractStridedSlice S1x1x64x128x8x64 ![0, 0, 0, 0, 0, 0] (PADDED A) slices_S1x1x65x128x8x64_S1x1x64x128x8x64_0_0_0_0_0_0)⟩, ⟨S1x1x64x128x8x64, (extractStridedSlice S1x1x64x128x8x64 ![0, 0, 1, 0, 0, 0] (PADDED A) slices_S1x1x65x128x8x64_S1x1x64x128x8x64_0_0_1_0_0_0)⟩] concatenates_S1x1x64x128x8x64_S1x1x64x128x8x64_S1x1x64x256x8x64_d3

/-- Which places of a band a query reads. -/
def VALID : IVec S64x128x256 1 :=
  andi (broadcastInDim S64x128x256 ![0, 1, 2] bcast_S1x128x256_S64x128x256_0_1_2 (andi (broadcastInDim S1x128x256 ![1, 2] bcast_S128x256_S1x128x256_1_2 (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))) (broadcastInDim S1x128x256 ![1, 2] bcast_S128x256_S1x128x256_1_2 (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (cmpi .sge (addi (broadcastInDim S64x1x256 ![0, 1, 2] bcast_S64x1x1_S64x1x256_0_1_2 (muli (subi (broadcastInDim S64x1x1 ![0] bcast_S64_S64x1x1_0 (iotaInDim S64 32 0)) (broadcastInDim S64x1x1 ![] bcast_S_S64x1x1 (constantI S_ 32 1#32))) (broadcastInDim S64x1x1 ![] bcast_S_S64x1x1 (constantI S_ 32 128#32)))) (broadcastInDim S64x1x256 ![0, 1, 2] bcast_S1x1x256_S64x1x256_0_1_2 (broadcastInDim S1x1x256 ![1, 2] bcast_S1x256_S1x1x256_1_2 (broadcastInDim S1x256 ![1] bcast_S256_S1x256_1 (iotaInDim S256 32 0))))) (broadcastInDim S64x1x256 ![] bcast_S_S64x1x256 (constantI S_ 32 0#32))))

/-- The masked scores. -/
def SCORE (A0 A1 : FVec Ideal S8192x512 .f32) : FVec Ideal S1x1x64x8x128x256 .f32 :=
  select (broadcastInDim S1x1x64x8x128x256 ![0, 1, 2, 3, 4, 5] bcast_S1x1x64x1x128x256_S1x1x64x8x128x256_0_1_2_3_4_5 (broadcastInDim S1x1x64x1x128x256 ![2, 4, 5] bcast_S64x128x256_S1x1x64x1x128x256_2_4_5 VALID)) (mulf (Host.dotGeneral dot_S1x1x64x128x8x64_S1x1x64x256x8x64_S1x1x64x8x128x256_5_5_3_3_0124_0124 none (BLOCKS A0) (BANDS A1)) (broadcastInDim S1x1x64x8x128x256 ![] bcast_S_S1x1x64x8x128x256 (constant S_ .f32 0x3E000000#32))) (broadcastInDim S1x1x64x8x128x256 ![] bcast_S_S1x1x64x8x128x256 (id (constant S_ .f32 0xFF800000#32)))

/-- A row's maximum. -/
def RMAX (s : FVec Ideal S1x1x64x8x128x256 .f32) : FVec Ideal S1x1x64x8x128 .f32 :=
  Host.reduce FloatOps.maximumf s (constant S_ .f32 0xFF800000#32) reducesTo_S1x1x64x8x128x256_S1x1x64x8x128_d5 h_S_

/-- A row's sum. -/
def RSUM (s : FVec Ideal S1x1x64x8x128x256 .f32) : FVec Ideal S1x1x64x8x128 .f32 :=
  Host.reduceAdd s (constant S_ .f32 0x00000000#32) reducesTo_S1x1x64x8x128x256_S1x1x64x8x128_d5 h_S_

/-- The rows' maxima, a column of them. -/
def MX (s : FVec Ideal S1x1x64x8x128x256 .f32) : FVec Ideal S1x1x64x8x128x1 .f32 :=
  broadcastInDim S1x1x64x8x128x1 ![0, 1, 2, 3, 4] bcast_S1x1x64x8x128_S1x1x64x8x128x1_0_1_2_3_4 (RMAX s)

/-- The weights before their division. -/
def EX (s : FVec Ideal S1x1x64x8x128x256 .f32) : FVec Ideal S1x1x64x8x128x256 .f32 :=
  Host.exp (subf s (broadcastInDim S1x1x64x8x128x256 ![0, 1, 2, 3, 4, 5] bcast_S1x1x64x8x128x1_S1x1x64x8x128x256_0_1_2_3_4_5 (MX s)))

/-- The rows' sums, a column of them. -/
def DEN (s : FVec Ideal S1x1x64x8x128x256 .f32) : FVec Ideal S1x1x64x8x128x1 .f32 :=
  broadcastInDim S1x1x64x8x128x1 ![0, 1, 2, 3, 4] bcast_S1x1x64x8x128_S1x1x64x8x128x1_0_1_2_3_4 (RSUM (EX s))

/-- The weighted values. -/
def MIX (s : FVec Ideal S1x1x64x8x128x256 .f32) (v : FVec Ideal S1x1x64x256x8x64 .f32) : FVec Ideal S1x1x64x8x64x128 .f32 :=
  Host.dotGeneral dot_S1x1x64x256x8x64_S1x1x64x8x128x256_S1x1x64x8x64x128_3_5_5_4_0124_0123 none v (Host.divf (EX s) (broadcastInDim S1x1x64x8x128x256 ![0, 1, 2, 3, 4, 5] bcast_S1x1x64x8x128x1_S1x1x64x8x128x256_0_1_2_3_4_5 (DEN s)))

/-- The reference's first result. -/
def OUT (A0 A1 A2 : FVec Ideal S8192x512 .f32) : FVec Ideal S8192x512 .f32 :=
  shapeCast _ (shapeCast _ (transpose S1x8192x1x8x64 [0, 2, 1, 3, 4] (shapeCast _ (transpose S1x1x64x128x8x64 [0, 1, 2, 5, 3, 4] (MIX (SCORE A0 A1) (BANDS A2)) transposes_S1x1x64x8x64x128_S1x1x64x128x8x64_0_1_2_5_3_4) shapeCasts_S1x1x64x128x8x64_S1x1x8192x8x64) transposes_S1x1x8192x8x64_S1x8192x1x8x64_0_2_1_3_4) shapeCasts_S1x8192x1x8x64_S1x8192x8x64) shapeCasts_S1x8192x8x64_S8192x512

/-- The logarithms of the rows' sums, the maxima put back. -/
def LOGS (s : FVec Ideal S1x1x64x8x128x256 .f32) : FVec Ideal S1x1x64x8x128x1 .f32 := addf (MX s) (Host.log (DEN s))

/-- A column of rows, a row a query and a column a head. -/
def FLAT5 (l : FVec Ideal S1x1x64x8x128x1 .f32) : FVec Ideal S1x1x64x8x128 .f32 :=
  shapeCast _ l shapeCasts_S1x1x64x8x128x1_S1x1x64x8x128

/-- A row a query and a column a head. -/
def FLAT (l : FVec Ideal S1x1x64x8x128 .f32) : FVec Ideal S8192x8 .f32 :=
  shapeCast _ (shapeCast _ (transpose S1x8192x1x8 [0, 2, 1, 3] (shapeCast _ (transpose S1x1x64x128x8 [0, 1, 2, 4, 3] l transposes_S1x1x64x8x128_S1x1x64x128x8_0_1_2_4_3) shapeCasts_S1x1x64x128x8_S1x1x8192x8) transposes_S1x1x8192x8_S1x8192x1x8_0_2_1_3) shapeCasts_S1x8192x1x8_S1x8192x8) shapeCasts_S1x8192x8_S8192x8

/-- A column a head, spread over the head's columns. -/
def COLS (l : FVec Ideal S8192x8 .f32) : FVec Ideal S8192x512 .f32 :=
  shapeCast _ (broadcastInDim S8192x8x64 ![0, 1, 2] bcast_S8192x8x1_S8192x8x64_0_1_2 (broadcastInDim S8192x8x1 ![0, 1] bcast_S8192x8_S8192x8x1_0_1 l)) shapeCasts_S8192x8x64_S8192x512

/-- A column of rows, spread over the heads' columns. -/
def SPREAD (l : FVec Ideal S1x1x64x8x128x1 .f32) : FVec Ideal S8192x512 .f32 := COLS (FLAT (FLAT5 l))

/-- The reference's second result. -/
def LSE (A0 A1 : FVec Ideal S8192x512 .f32) : FVec Ideal S8192x512 .f32 := SPREAD (LOGS (SCORE A0 A1))

/-- A block is 128 rows, a head 64 columns. -/
theorem blocks_apply (A : FVec Ideal S8192x512 .f32) (n : Fin 64) (i : Fin 128) (h : Fin 8) (e : Fin 64) :
    BLOCKS A (ix6 0 0 n i h e) = A (ix2 ⟨n.val * 128 + i.val, by omega⟩ ⟨h.val * 64 + e.val, by omega⟩) := by
  pointwise [BLOCKS]

theorem padded_apply (A : FVec Ideal S8192x512 .f32) (n : Fin 65) (i : Fin 128) (h : Fin 8) (e : Fin 64) :
    PADDED A (ix6 0 0 n i h e) = if hn : n.val < 1 then (0 : EReal) else BLOCKS A (ix6 0 0 ⟨n.val - 1, by omega⟩ i h e) := by
  unfold PADDED
  generalize BLOCKS A = B
  pointwise

/-- The first half of a band is the block before. -/
theorem bands_lo (A : FVec Ideal S8192x512 .f32) (n : Fin 64) (j : Fin 128) (h : Fin 8) (e : Fin 64) :
    BANDS A (ix6 0 0 n (BandRow.lo j) h e) = PADDED A (ix6 0 0 ⟨n.val, by omega⟩ j h e) := by
  unfold BANDS
  generalize PADDED A = B
  pointwise

/-- The second half is the block itself. -/
theorem bands_hi (A : FVec Ideal S8192x512 .f32) (n : Fin 64) (j : Fin 128) (h : Fin 8) (e : Fin 64) :
    BANDS A (ix6 0 0 n (BandRow.hi j) h e) = PADDED A (ix6 0 0 ⟨1 + n.val, by omega⟩ j h e) := by
  unfold BANDS
  generalize PADDED A = B
  pointwise

/-- The second half of a band in the array. -/
theorem bands_own (A : FVec Ideal S8192x512 .f32) (n : Fin 64) (j : Fin 128) (h : Fin 8) (e : Fin 64) :
    BANDS A (ix6 0 0 n (BandRow.hi j) h e) = A (ix2 ⟨n.val * 128 + j.val, by omega⟩ ⟨h.val * 64 + e.val, by omega⟩) := by
  rw [bands_hi, padded_apply, dif_neg (by show ¬ 1 + n.val < 1; omega)]
  refine (blocks_apply A _ j h e).trans ?_
  simp only [Nat.add_sub_cancel_left]

/-- The first half of a band in the array. -/
theorem bands_before (A : FVec Ideal S8192x512 .f32) (n : Fin 64) (hn : n.val ≠ 0) (j : Fin 128) (h : Fin 8) (e : Fin 64) :
    BANDS A (ix6 0 0 n (BandRow.lo j) h e) = A (ix2 ⟨(n.val - 1) * 128 + j.val, by omega⟩ ⟨h.val * 64 + e.val, by omega⟩) := by
  rw [bands_lo, padded_apply, dif_neg (by show ¬ n.val < 1; omega)]
  exact blocks_apply A _ j h e

/-- The first block has nothing before it. -/
theorem bands_none (A : FVec Ideal S8192x512 .f32) (n : Fin 64) (hn : n.val = 0) (j : Fin 128) (h : Fin 8) (e : Fin 64) :
    BANDS A (ix6 0 0 n (BandRow.lo j) h e) = (0 : EReal) := by
  rw [bands_lo, padded_apply, dif_pos (by show n.val < 1; omega)]

/-- What the mask says at a place. -/
def inBand (n : Fin 64) (i : Fin 128) (b : Fin 256) : BitVec 1 :=
  IntOp.andi
      (IntOp.andi
        (IntOp.cmpi CmpIPredicate.sge (IntOp.subi (IntOp.addi (BitVec.ofNat 32 i.val) 128#32) (BitVec.ofNat 32 b.val)) 0#32)
        (IntOp.cmpi CmpIPredicate.sle (IntOp.subi (IntOp.addi (BitVec.ofNat 32 i.val) 128#32) (BitVec.ofNat 32 b.val))
          128#32))
      (IntOp.cmpi CmpIPredicate.sge
        (IntOp.addi (IntOp.muli (IntOp.subi (BitVec.ofNat 32 n.val) 1#32) 128#32) (BitVec.ofNat 32 b.val)) 0#32)

/-- Which places of its own block a query reads. -/
def own (i j : Fin 128) : BitVec 1 := IntOp.cmpi CmpIPredicate.sle (BitVec.ofNat 32 j.val) (BitVec.ofNat 32 i.val)

/-- Which places of the block before a query reads. -/
def before (i j : Fin 128) : BitVec 1 := IntOp.cmpi CmpIPredicate.sge (BitVec.ofNat 32 j.val) (BitVec.ofNat 32 i.val)

theorem band_hi : ∀ i j : Fin 128, IntOp.andi
        (IntOp.cmpi CmpIPredicate.sge (IntOp.subi (IntOp.addi (BitVec.ofNat 32 i.val) 128#32) (BitVec.ofNat 32 (128 + j.val))) 0#32)
        (IntOp.cmpi CmpIPredicate.sle (IntOp.subi (IntOp.addi (BitVec.ofNat 32 i.val) 128#32) (BitVec.ofNat 32 (128 + j.val))) 128#32) = own i j := by
  decide +kernel

theorem band_lo : ∀ i j : Fin 128, IntOp.andi
        (IntOp.cmpi CmpIPredicate.sge (IntOp.subi (IntOp.addi (BitVec.ofNat 32 i.val) 128#32) (BitVec.ofNat 32 j.val)) 0#32)
        (IntOp.cmpi CmpIPredicate.sle (IntOp.subi (IntOp.addi (BitVec.ofNat 32 i.val) 128#32) (BitVec.ofNat 32 j.val)) 128#32) = before i j := by
  decide +kernel

theorem start_hi : ∀ (n : Fin 64) (j : Fin 128), IntOp.cmpi CmpIPredicate.sge
        (IntOp.addi (IntOp.muli (IntOp.subi (BitVec.ofNat 32 n.val) 1#32) 128#32) (BitVec.ofNat 32 (128 + j.val))) 0#32 = 1#1 := by
  decide +kernel

theorem start_lo : ∀ (n : Fin 64) (j : Fin 128), IntOp.cmpi CmpIPredicate.sge
        (IntOp.addi (IntOp.muli (IntOp.subi (BitVec.ofNat 32 n.val) 1#32) 128#32) (BitVec.ofNat 32 j.val)) 0#32 = if n.val = 0 then 0#1 else 1#1 := by
  decide +kernel

theorem and_one : ∀ a : BitVec 1, IntOp.andi a 1#1 = a := by decide
theorem and_zero : ∀ a : BitVec 1, IntOp.andi a 0#1 = 0#1 := by decide

theorem inBand_hi (n : Fin 64) (i j : Fin 128) : inBand n i (BandRow.hi j) = own i j := by
  unfold inBand
  rw [← band_hi]
  refine Eq.trans ?_ (and_one _)
  exact congrArg₂ IntOp.andi rfl (start_hi n j)

theorem inBand_lo (n : Fin 64) (i j : Fin 128) : inBand n i (BandRow.lo j) = IntOp.andi (before i j) (if n.val = 0 then 0#1 else 1#1) := by
  unfold inBand
  rw [← band_lo]
  exact congrArg₂ IntOp.andi rfl (start_lo n j)

theorem valid_apply (n : Fin 64) (i : Fin 128) (b : Fin 256) : VALID (ix3 n i b) = inBand n i b := by
  pointwise [VALID, inBand]

theorem low : Ideal.ofBits .f32 0xFF800000#32 = ⊥ := by
  simp [Ideal.ofBits, Ideal.ieee, -EReal.coe_mul]

theorem score_apply (A0 A1 : FVec Ideal S8192x512 .f32) (n : Fin 64) (h : Fin 8) (i : Fin 128) (b : Fin 256) :
    SCORE A0 A1 (ix6 0 0 n h i b) = Scalar.select (inBand n i b) ((∑ e : Fin 64, (BLOCKS A0 (ix6 0 0 n i h e) : EReal) * BANDS A1 (ix6 0 0 n b h e)) * Ideal.ofBits FTy.f32 0x3E000000#32) (⊥ : EReal) := by
  rw [← valid_apply, ← low]
  unfold SCORE
  generalize BLOCKS A0 = B
  generalize BANDS A1 = B1
  generalize VALID = W
  simp only [id]
  pointwise

theorem cut5 : S1x1x64x8x128x256.Reduces [5] S1x1x64x8x128 := by decide

theorem lift_eq (n : Fin 64) (h : Fin 8) (i : Fin 128) (b : Fin 256) : cut5.lift (ix5 0 0 n h i) b = ix6 0 0 n h i b := by
  funext a; fin_cases a <;> rfl

theorem rmax_apply (s : FVec Ideal S1x1x64x8x128x256 .f32) (n : Fin 64) (h : Fin 8) (i : Fin 128) :
    RMAX s (ix5 0 0 n h i) = BandRow.top ⊥ fun b => (s (ix6 0 0 n h i b) : EReal) := by
  unfold RMAX
  rw [Host.reduce_eq_fold, Shape.ReducesTo.drop_eq_drop reducesTo_S1x1x64x8x128x256_S1x1x64x8x128_d5 cut5, cut5.fold_filter_drop_single]
  rw [← low]
  exact congrArg (fun f => Finset.univ.fold max (Ideal.ofBits .f32 0xFF800000#32) f) (funext fun b => congrArg s (lift_eq n h i b))

theorem rsum_apply (s : FVec Ideal S1x1x64x8x128x256 .f32) (n : Fin 64) (h : Fin 8) (i : Fin 128) :
    RSUM s (ix5 0 0 n h i) = ∑ b : Fin 256, (s (ix6 0 0 n h i b) : EReal) := by
  unfold RSUM
  pointwise
  rw [Ideal.hostReduceAdd_single _ cut5, zero_add]
  exact Finset.sum_congr rfl fun b _ => congrArg s (lift_eq n h i b)

theorem mx_apply (s : FVec Ideal S1x1x64x8x128x256 .f32) (n : Fin 64) (h : Fin 8) (i : Fin 128) :
    MX s (ix6 0 0 n h i 0) = BandRow.top ⊥ fun b => (s (ix6 0 0 n h i b) : EReal) := by
  rw [← rmax_apply]
  unfold MX
  generalize RMAX s = B
  pointwise

theorem ex_apply (s : FVec Ideal S1x1x64x8x128x256 .f32) (n : Fin 64) (h : Fin 8) (i : Fin 128) (b : Fin 256) :
    EX s (ix6 0 0 n h i b) = Ideal.exp ((s (ix6 0 0 n h i b) : EReal) - BandRow.top ⊥ fun b => (s (ix6 0 0 n h i b) : EReal)) := by
  rw [← mx_apply]
  unfold EX
  generalize MX s = B
  pointwise

theorem den_apply (s : FVec Ideal S1x1x64x8x128x256 .f32) (n : Fin 64) (h : Fin 8) (i : Fin 128) :
    DEN s (ix6 0 0 n h i 0) = BandRow.den1 ⊥ fun b => (s (ix6 0 0 n h i b) : EReal) := by
  have e : RSUM (EX s) (ix5 0 0 n h i) = BandRow.den1 ⊥ fun b => (s (ix6 0 0 n h i b) : EReal) := by
    rw [rsum_apply]
    exact Finset.sum_congr rfl fun b _ => ex_apply s n h i b
  rw [← e]
  unfold DEN
  generalize RSUM (EX s) = B
  pointwise

theorem mix_apply (s : FVec Ideal S1x1x64x8x128x256 .f32) (v : FVec Ideal S1x1x64x256x8x64 .f32) (n : Fin 64) (h : Fin 8) (i : Fin 128) (e : Fin 64) :
    MIX s v (ix6 0 0 n h e i) = BandRow.out1 ⊥ (fun b => (s (ix6 0 0 n h i b) : EReal)) fun b => v (ix6 0 0 n b h e) := by
  have g : MIX s v (ix6 0 0 n h e i) = ∑ b : Fin 256, (v (ix6 0 0 n b h e) : EReal) * Ideal.div (EX s (ix6 0 0 n h i b)) (DEN s (ix6 0 0 n h i 0)) := by
    unfold MIX
    generalize EX s = B
    generalize DEN s = D
    pointwise
  rw [g]
  exact Finset.sum_congr rfl fun b _ => by rw [ex_apply, den_apply]

theorem logs_read (B D : FVec Ideal S1x1x64x8x128x1 .f32) (x : S1x1x64x8x128x1.Idx) :
    addf B (Host.log D) x = (B x : EReal) + Ideal.log (D x) := rfl

theorem logs_apply (s : FVec Ideal S1x1x64x8x128x256 .f32) (n : Fin 64) (h : Fin 8) (i : Fin 128) :
    LOGS s (ix6 0 0 n h i 0) = BandRow.lse1 ⊥ fun b => (s (ix6 0 0 n h i b) : EReal) := by
  have g : LOGS s (ix6 0 0 n h i 0) = (MX s (ix6 0 0 n h i 0) : EReal) + Ideal.log (DEN s (ix6 0 0 n h i 0)) := by
    unfold LOGS
    exact logs_read _ _ _
  rw [mx_apply, den_apply] at g
  exact g

theorem out_apply (A0 A1 A2 : FVec Ideal S8192x512 .f32) (r : Fin 8192) (d : Fin 512) :
    OUT A0 A1 A2 (ix2 r d) = MIX (SCORE A0 A1) (BANDS A2) (ix6 0 0 ⟨r.val / 128, by omega⟩ ⟨d.val / 64, by omega⟩ ⟨d.val % 64, by omega⟩ ⟨r.val % 128, by omega⟩) := by
  unfold OUT
  generalize MIX (SCORE A0 A1) (BANDS A2) = B
  pointwise

theorem flat5_apply (l : FVec Ideal S1x1x64x8x128x1 .f32) (n : Fin 64) (h : Fin 8) (i : Fin 128) :
    FLAT5 l (ix5 0 0 n h i) = l (ix6 0 0 n h i 0) := by
  unfold FLAT5
  refine shapeCast_apply _ _ _ _ ?_
  rw [Shape.rowMajor_val_five, Shape.rowMajor_val_six]
  show _ = _
  simp

theorem flat_apply (l : FVec Ideal S1x1x64x8x128 .f32) (r : Fin 8192) (h : Fin 8) :
    FLAT l (ix2 r h) = l (ix5 0 0 ⟨r.val / 128, by omega⟩ h ⟨r.val % 128, by omega⟩) := by
  pointwise [FLAT]

theorem cols_apply (l : FVec Ideal S8192x8 .f32) (r : Fin 8192) (d : Fin 512) :
    COLS l (ix2 r d) = l (ix2 r ⟨d.val / 64, by omega⟩) := by
  pointwise [COLS]

theorem spread_apply (l : FVec Ideal S1x1x64x8x128x1 .f32) (r : Fin 8192) (d : Fin 512) :
    SPREAD l (ix2 r d) = l (ix6 0 0 ⟨r.val / 128, by omega⟩ ⟨d.val / 64, by omega⟩ ⟨r.val % 128, by omega⟩ 0) := by
  unfold SPREAD
  rw [cols_apply, flat_apply, flat5_apply]

end Cert.AttnReferenceIdeal.Value

end
-- ==== Proof.AttnForward.lean ====
/-
  Banded attention, forward: a block of queries against its own block and the block before it, the eight heads stacked.
-/
module

public import proofs.«01_k».proof.Proof.Gen.AttnKernelIdeal.Value
public import proofs.«01_k».proof.Proof.AttnRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnKernelIdeal.Value

open Cert.AttnKernelIdeal Cert.AttnKernelIdeal.Gen

/-- A head's columns, stacked. -/
theorem stack56 (i : grid0.Coords) (x0 x1 x2 x3 x4 : Vec Ideal S128x512 .bf16) (h : Fin 8) (j : Fin 128) (e : Fin 64) :
    k0_pay56 i x0 x1 x2 x3 x4 (ix3 h j e) = x0 (ix2 j ⟨h.val * 64 + e.val, by omega⟩) := by
  pointwise [k0_pay56, k0_pay16, k0_pay8, k0_pay9, k0_pay10, k0_pay11, k0_pay12, k0_pay13, k0_pay14, k0_pay15]
  obtain ⟨k, hk⟩ := h
  interval_cases k <;> simp

theorem stack17 (x : Vec Ideal S128x512 .bf16) (h : Fin 8) (j : Fin 128) (e : Fin 64) :
    k0_pay17 (View.ld x r0_0) (View.ld x r0_1) (View.ld x r0_2) (View.ld x r0_3) (View.ld x r0_4) (View.ld x r0_5) (View.ld x r0_6) (View.ld x r0_7) (ix3 h j e) = x (ix2 j ⟨h.val * 64 + e.val, by omega⟩) := by
  pointwise [k0_pay17]
  obtain ⟨k, hk⟩ := h
  interval_cases k <;> simp

theorem stack57 (i : grid0.Coords) (x0 x1 x2 x3 x4 : Vec Ideal S128x512 .bf16) (h : Fin 8) (j : Fin 128) (e : Fin 64) :
    k0_pay57 i x0 x1 x2 x3 x4 (ix3 h j e) = x1 (ix2 j ⟨h.val * 64 + e.val, by omega⟩) := by
  pointwise [k0_pay57, k0_pay18, k0_pay19, k0_pay20, k0_pay21]
  obtain ⟨k, hk⟩ := h
  interval_cases k <;> simp

theorem stack58 (i : grid0.Coords) (x0 x1 x2 x3 x4 : Vec Ideal S128x512 .bf16) (h : Fin 8) (j : Fin 128) (e : Fin 64) :
    k0_pay58 i x0 x1 x2 x3 x4 (ix3 h j e) = x4 (ix2 j ⟨h.val * 64 + e.val, by omega⟩) := by
  pointwise [k0_pay58, k0_pay22, k0_pay23, k0_pay24, k0_pay25, k0_pay26, k0_pay27, k0_pay28, k0_pay29, k0_pay30]
  obtain ⟨k, hk⟩ := h
  interval_cases k <;> simp

theorem stack59 (i : grid0.Coords) (x0 x1 x2 x3 x4 : Vec Ideal S128x512 .bf16) (h : Fin 8) (j : Fin 128) (e : Fin 64) :
    k0_pay59 i x0 x1 x2 x3 x4 (ix3 h j e) = x3 (ix2 j ⟨h.val * 64 + e.val, by omega⟩) := by
  pointwise [k0_pay59, k0_pay31]
  obtain ⟨k, hk⟩ := h
  interval_cases k <;> simp

theorem row37 (v16 : IVec S128x128 1) (v41 v91 : FVec Ideal S8x128x64 .bf16) (v145 : FVec Ideal S8x128x128 .f32) (v147 : IVec S8x128x128 1) (v148 : FVec Ideal S8x128x128 .f32) (h : Fin 8) (i : Fin 128) :
    k0_pay37 v16 v41 v91 v145 v147 v148 (ix3 h i 0) = BandRow.mx ⊥ (fun j => (k0_pay35 v145 v147 v148 (ix3 h i j) : EReal)) fun j => k0_pay36 v16 v41 v91 (ix3 h i j) := by
  unfold k0_pay37
  generalize k0_pay35 v145 v147 v148 = C
  generalize k0_pay36 v16 v41 v91 = P
  rw [← Cert.AttnReferenceIdeal.Value.low]
  pointwise [BandRow.mx, BandRow.top]

theorem row38 (v16 : IVec S128x128 1) (v41 v91 : FVec Ideal S8x128x64 .bf16) (v145 : FVec Ideal S8x128x128 .f32) (v147 : IVec S8x128x128 1) (v148 : FVec Ideal S8x128x128 .f32) (h : Fin 8) (i : Fin 128) (j : Fin 128) :
    k0_pay38 v16 v41 v91 v145 v147 v148 (ix3 h i j) = Ideal.exp ((k0_pay35 v145 v147 v148 (ix3 h i j) : EReal) - BandRow.mx ⊥ (fun j => (k0_pay35 v145 v147 v148 (ix3 h i j) : EReal)) fun j => k0_pay36 v16 v41 v91 (ix3 h i j)) := by
  rw [← row37]
  unfold k0_pay38
  generalize k0_pay35 v145 v147 v148 = C
  generalize k0_pay37 v16 v41 v91 v145 v147 v148 = M
  pointwise

theorem row39 (v16 : IVec S128x128 1) (v41 v91 : FVec Ideal S8x128x64 .bf16) (v145 : FVec Ideal S8x128x128 .f32) (v147 : IVec S8x128x128 1) (v148 : FVec Ideal S8x128x128 .f32) (h : Fin 8) (i : Fin 128) (j : Fin 128) :
    k0_pay39 v16 v41 v91 v145 v147 v148 (ix3 h i j) = Ideal.exp ((k0_pay36 v16 v41 v91 (ix3 h i j) : EReal) - BandRow.mx ⊥ (fun j => (k0_pay35 v145 v147 v148 (ix3 h i j) : EReal)) fun j => k0_pay36 v16 v41 v91 (ix3 h i j)) := by
  rw [← row37]
  unfold k0_pay39
  generalize k0_pay36 v16 v41 v91 = P
  generalize k0_pay37 v16 v41 v91 v145 v147 v148 = M
  pointwise

theorem row40 (v16 : IVec S128x128 1) (v41 v91 : FVec Ideal S8x128x64 .bf16) (v145 : FVec Ideal S8x128x128 .f32) (v147 : IVec S8x128x128 1) (v148 : FVec Ideal S8x128x128 .f32) (h : Fin 8) (i : Fin 128) :
    k0_pay40 v16 v41 v91 v145 v147 v148 (ix3 h i 0) = BandRow.den ⊥ (fun j => (k0_pay35 v145 v147 v148 (ix3 h i j) : EReal)) fun j => k0_pay36 v16 v41 v91 (ix3 h i j) := by
  have g : k0_pay40 v16 v41 v91 v145 v147 v148 (ix3 h i 0) = (∑ j : Fin 128, (k0_pay38 v16 v41 v91 v145 v147 v148 (ix3 h i j) : EReal)) + ∑ j : Fin 128, (k0_pay39 v16 v41 v91 v145 v147 v148 (ix3 h i j) : EReal) := by
    unfold k0_pay40
    generalize k0_pay38 v16 v41 v91 v145 v147 v148 = C
    generalize k0_pay39 v16 v41 v91 v145 v147 v148 = P
    pointwise
  simp only [row38, row39] at g
  exact g

theorem row41 (v16 : IVec S128x128 1) (v41 v91 v116 v141 : FVec Ideal S8x128x64 .bf16) (v145 : FVec Ideal S8x128x128 .f32) (v147 : IVec S8x128x128 1) (v148 : FVec Ideal S8x128x128 .f32) (h : Fin 8) (i : Fin 128) (e : Fin 64) :
    k0_pay41 v16 v41 v91 v116 v141 v145 v147 v148 (ix3 h i e) = BandRow.out ⊥ (fun j => (k0_pay35 v145 v147 v148 (ix3 h i j) : EReal)) (fun j => k0_pay36 v16 v41 v91 (ix3 h i j)) (fun j => v116 (ix3 h j e)) fun j => v141 (ix3 h j e) := by
  have g : k0_pay41 v16 v41 v91 v116 v141 v145 v147 v148 (ix3 h i e) = (∑ j : Fin 128, Ideal.div (k0_pay38 v16 v41 v91 v145 v147 v148 (ix3 h i j)) (k0_pay40 v16 v41 v91 v145 v147 v148 (ix3 h i 0)) * (v116 (ix3 h j e) : EReal)) + ∑ j : Fin 128, Ideal.div (k0_pay39 v16 v41 v91 v145 v147 v148 (ix3 h i j)) (k0_pay40 v16 v41 v91 v145 v147 v148 (ix3 h i 0)) * (v141 (ix3 h j e) : EReal) := by
    unfold k0_pay41
    generalize k0_pay38 v16 v41 v91 v145 v147 v148 = C
    generalize k0_pay39 v16 v41 v91 v145 v147 v148 = P
    generalize k0_pay40 v16 v41 v91 v145 v147 v148 = D
    pointwise
  simp only [row38, row39, row40] at g
  exact g

theorem row42 (v16 : IVec S128x128 1) (v41 v91 : FVec Ideal S8x128x64 .bf16) (v145 : FVec Ideal S8x128x128 .f32) (v147 : IVec S8x128x128 1) (v148 : FVec Ideal S8x128x128 .f32) (h : Fin 8) (i : Fin 128) :
    k0_pay42 v16 v41 v91 v145 v147 v148 (ix3 h i 0) = BandRow.lse ⊥ (fun j => (k0_pay35 v145 v147 v148 (ix3 h i j) : EReal)) fun j => k0_pay36 v16 v41 v91 (ix3 h i j) := by
  have g : k0_pay42 v16 v41 v91 v145 v147 v148 (ix3 h i 0) = (k0_pay37 v16 v41 v91 v145 v147 v148 (ix3 h i 0) : EReal) + Ideal.log (k0_pay40 v16 v41 v91 v145 v147 v148 (ix3 h i 0)) := rfl
  rw [row37, row40] at g
  exact g

open Cert.AttnReferenceIdeal.Value (own before low OUT LSE SCORE BANDS BLOCKS MIX LOGS SPREAD)

/-- A score of the query's own block. -/
theorem score35 (i : grid0.Coords) (x0 x1 x2 x3 x4 : Vec Ideal S128x512 .bf16) (h : Fin 8) (r j : Fin 128) :
    k0_pay35 (k0_pay60 i x0 x1 x2 x3 x4) (k0_pay61 i x0 x1 x2 x3 x4) (k0_pay62 i x0 x1 x2 x3 x4) (ix3 h r j) = Scalar.select (own r j) ((∑ e : Fin 64, (x0 (ix2 r ⟨h.val * 64 + e.val, by omega⟩) : EReal) * x2 (ix2 j ⟨h.val * 64 + e.val, by omega⟩)) * Ideal.ofBits FTy.f32 0x3E000000#32) (⊥ : EReal) := by
  simp only [← stack56 i x0 x1 x2 x3 x4 h r, ← stack17 x2 h j]
  rw [← low]
  unfold k0_pay35 k0_pay60 k0_pay61 k0_pay62 k0_pay32
  generalize k0_pay56 i x0 x1 x2 x3 x4 = Q
  generalize k0_pay17 (View.ld x2 r0_0) (View.ld x2 r0_1) (View.ld x2 r0_2) (View.ld x2 r0_3) (View.ld x2 r0_4) (View.ld x2 r0_5) (View.ld x2 r0_6) (View.ld x2 r0_7) = K
  pointwise [Cert.AttnReferenceIdeal.Value.own, k0_pay33, k0_pay34, k0_pay6]

/-- Whether a block has a block before it. -/
def later (n : Fin 64) : BitVec 1 :=
        (Scalar.cmpi CmpIPredicate.ne
          (Scalar.select
            (Scalar.andi
              (Scalar.xori
                (Scalar.cmpi CmpIPredicate.slt
                  (Scalar.remsi (BitVec.ofNat 32 n.val)
                    (Scalar.select (Scalar.cmpi CmpIPredicate.eq 64#32 0#32) 1#32 64#32))
                  0#32)
                (Scalar.cmpi CmpIPredicate.slt (Scalar.select (Scalar.cmpi CmpIPredicate.eq 64#32 0#32) 1#32 64#32)
                  0#32))
              (Scalar.cmpi CmpIPredicate.ne
                (Scalar.remsi (BitVec.ofNat 32 n.val)
                  (Scalar.select (Scalar.cmpi CmpIPredicate.eq 64#32 0#32) 1#32 64#32))
                0#32))
            (Scalar.addi
              (Scalar.remsi (BitVec.ofNat 32 n.val)
                (Scalar.select (Scalar.cmpi CmpIPredicate.eq 64#32 0#32) 1#32 64#32))
              (Scalar.select (Scalar.cmpi CmpIPredicate.eq 64#32 0#32) 1#32 64#32))
            (Scalar.remsi (BitVec.ofNat 32 n.val)
              (Scalar.select (Scalar.cmpi CmpIPredicate.eq 64#32 0#32) 1#32 64#32)))
          0#32)

theorem later_eq : ∀ n : Fin 64, later n = if n.val = 0 then 0#1 else 1#1 := by decide +kernel

/-- A score of the block before. -/
theorem score36 (i : grid0.Coords) (n : Fin 64) (hn : (i 0).val = n.val) (x0 x1 x2 x3 x4 : Vec Ideal S128x512 .bf16) (h : Fin 8) (r j : Fin 128) :
    k0_pay36 (k0_pay55 i x0 x1 x2 x3 x4) (k0_pay56 i x0 x1 x2 x3 x4) (k0_pay57 i x0 x1 x2 x3 x4) (ix3 h r j) = Scalar.select (IntOp.andi (before r j) (if n.val = 0 then 0#1 else 1#1)) ((∑ e : Fin 64, (x0 (ix2 r ⟨h.val * 64 + e.val, by omega⟩) : EReal) * x1 (ix2 j ⟨h.val * 64 + e.val, by omega⟩)) * Ideal.ofBits FTy.f32 0x3E000000#32) (⊥ : EReal) := by
  simp only [← stack56 i x0 x1 x2 x3 x4 h r, ← stack57 i x0 x1 x2 x3 x4 h j]
  rw [← low, ← later_eq]
  unfold later
  rw [← hn]
  unfold k0_pay55
  generalize k0_pay56 i x0 x1 x2 x3 x4 = Q
  generalize k0_pay57 i x0 x1 x2 x3 x4 = K
  pointwise [k0_pay36, k0_pay7, Cert.AttnReferenceIdeal.Value.before]

section Core

variable (A0 A1 A2 : FVec Ideal S8192x512 .f32) (i : grid0.Coords) (n : Fin 64) (x0 x1 x2 x3 x4 : Vec Ideal S128x512 .bf16)

/-- The blocks a grid point reads. -/
structure Reads : Prop where
  q : ∀ (r : Fin 128) (d : Fin 512), x0 (ix2 r d) = A0 (ix2 ⟨n.val * 128 + r.val, by omega⟩ d)
  kp : ∀ (r : Fin 128) (d : Fin 512), x1 (ix2 r d) = A1 (ix2 ⟨(n.val - 1) * 128 + r.val, by omega⟩ d)
  kc : ∀ (r : Fin 128) (d : Fin 512), x2 (ix2 r d) = A1 (ix2 ⟨n.val * 128 + r.val, by omega⟩ d)
  vp : ∀ (r : Fin 128) (d : Fin 512), x3 (ix2 r d) = A2 (ix2 ⟨(n.val - 1) * 128 + r.val, by omega⟩ d)
  vc : ∀ (r : Fin 128) (d : Fin 512), x4 (ix2 r d) = A2 (ix2 ⟨n.val * 128 + r.val, by omega⟩ d)
  place : (i 0).val = n.val

variable {A0 A1 A2 i n x0 x1 x2 x3 x4}

/-- The reference's scores of a query's own block are the kernel's. -/
theorem own_scores (H : Reads A0 A1 A2 i n x0 x1 x2 x3 x4) (h : Fin 8) (r j : Fin 128) :
    (SCORE A0 A1 (ix6 0 0 n h r (BandRow.hi j)) : EReal) = k0_pay35 (k0_pay60 i x0 x1 x2 x3 x4) (k0_pay61 i x0 x1 x2 x3 x4) (k0_pay62 i x0 x1 x2 x3 x4) (ix3 h r j) := by
  rw [score35, Cert.AttnReferenceIdeal.Value.score_apply, Cert.AttnReferenceIdeal.Value.inBand_hi]
  simp only [Cert.AttnReferenceIdeal.Value.bands_own, Cert.AttnReferenceIdeal.Value.blocks_apply, H.q, H.kc]

theorem select_none {α : Type} (a b : α) : Scalar.select 0#1 a b = b := rfl

/-- The reference's scores of the block before are the kernel's. -/
theorem before_scores (H : Reads A0 A1 A2 i n x0 x1 x2 x3 x4) (h : Fin 8) (r j : Fin 128) :
    (SCORE A0 A1 (ix6 0 0 n h r (BandRow.lo j)) : EReal) = k0_pay36 (k0_pay55 i x0 x1 x2 x3 x4) (k0_pay56 i x0 x1 x2 x3 x4) (k0_pay57 i x0 x1 x2 x3 x4) (ix3 h r j) := by
  rw [score36 i n H.place, Cert.AttnReferenceIdeal.Value.score_apply, Cert.AttnReferenceIdeal.Value.inBand_lo]
  by_cases hn : n.val = 0
  · rw [if_pos hn, Cert.AttnReferenceIdeal.Value.and_zero, select_none, select_none]
  · simp only [Cert.AttnReferenceIdeal.Value.bands_before _ _ hn, Cert.AttnReferenceIdeal.Value.blocks_apply, H.q, H.kp]

/-- Without a block before it, every such score is masked. -/
theorem masked (hn : n.val = 0) (h : Fin 8) (r j : Fin 128) : (SCORE A0 A1 (ix6 0 0 n h r (BandRow.lo j)) : EReal) = ⊥ := by
  rw [Cert.AttnReferenceIdeal.Value.score_apply, Cert.AttnReferenceIdeal.Value.inBand_lo, if_pos hn, Cert.AttnReferenceIdeal.Value.and_zero, select_none]

/-- The kernel's attention is the reference's. -/
theorem out_core (H : Reads A0 A1 A2 i n x0 x1 x2 x3 x4) (h : Fin 8) (r : Fin 128) (e : Fin 64) :
    k0_pay63 i x0 x1 x2 x3 x4 (ix3 h r e) = MIX (SCORE A0 A1) (BANDS A2) (ix6 0 0 n h e r) := by
  rw [Cert.AttnReferenceIdeal.Value.mix_apply]
  unfold k0_pay63
  rw [row41]
  simp only [← own_scores H, ← before_scores H, stack58, stack59, H.vp, H.vc]
  by_cases hn : n.val = 0
  · rw [BandRow.out_first _ _ _ (masked hn h r) fun j => Cert.AttnReferenceIdeal.Value.bands_none A2 n hn j h e]
    simp only [Cert.AttnReferenceIdeal.Value.bands_own]
    simp only [hn, Nat.zero_sub]
  · rw [BandRow.out_join]
    simp only [Cert.AttnReferenceIdeal.Value.bands_own, Cert.AttnReferenceIdeal.Value.bands_before A2 n hn]

/-- The kernel's logarithm of the weights' sum is the reference's. -/
theorem lse_core (H : Reads A0 A1 A2 i n x0 x1 x2 x3 x4) (h : Fin 8) (r : Fin 128) :
    k0_pay64 i x0 x1 x2 x3 x4 (ix3 h r 0) = LOGS (SCORE A0 A1) (ix6 0 0 n h r 0) := by
  rw [Cert.AttnReferenceIdeal.Value.logs_apply]
  unfold k0_pay64
  rw [row42, BandRow.lse_join]
  simp only [← own_scores H, ← before_scores H]

end Core

/-- The first result's block: the heads side by side. -/
theorem tiles5 (i : grid0.Coords) (x0 x1 x2 x3 x4 : Vec Ideal S128x512 .bf16) (y : S128x512.Idx) (b : Fin 8) (r : Fin 128) (e : Fin 64)
    (eb : b.val = (y 1 : ℕ) / 64) (er : r.val = (y 0 : ℕ)) (ee : e.val = (y 1 : ℕ) % 64) :
    out0_5 i x0 x1 x2 x3 x4 y = k0_pay63 i x0 x1 x2 x3 x4 (ix3 b r e) := by
  unfold k0_pay63
  canon_tiles x h
  all_goals simp only [k0_pay63, k0_pay4, k0_pay2, k0_pay54, k0_pay52, k0_pay50, k0_pay48, k0_pay46, k0_pay45, k0_pay43]
  all_goals generalize k0_pay41 (k0_pay55 i x0 x1 x2 x3 x4) (k0_pay56 i x0 x1 x2 x3 x4) (k0_pay57 i x0 x1 x2 x3 x4) (k0_pay58 i x0 x1 x2 x3 x4) (k0_pay59 i x0 x1 x2 x3 x4) (k0_pay60 i x0 x1 x2 x3 x4) (k0_pay61 i x0 x1 x2 x3 x4) (k0_pay62 i x0 x1 x2 x3 x4) = T
  all_goals (pointwise; blk_ext)

/-- The second result's block: each head's column spread over its width. -/
theorem tiles6 (i : grid0.Coords) (x0 x1 x2 x3 x4 : Vec Ideal S128x512 .bf16) (y : S128x512.Idx) (b : Fin 8) (r : Fin 128)
    (eb : b.val = (y 1 : ℕ) / 64) (er : r.val = (y 0 : ℕ)) :
    out0_6 i x0 x1 x2 x3 x4 y = k0_pay64 i x0 x1 x2 x3 x4 (ix3 b r 0) := by
  unfold k0_pay64
  canon_tiles x h
  all_goals simp only [k0_pay64, k0_pay5, k0_pay3, k0_pay1, k0_pay53, k0_pay51, k0_pay49, k0_pay47, k0_pay44]
  all_goals generalize k0_pay42 (k0_pay55 i x0 x1 x2 x3 x4) (k0_pay56 i x0 x1 x2 x3 x4) (k0_pay57 i x0 x1 x2 x3 x4) (k0_pay60 i x0 x1 x2 x3 x4) (k0_pay61 i x0 x1 x2 x3 x4) (k0_pay62 i x0 x1 x2 x3 x4) = T
  all_goals pointwise
  all_goals refine congrArg T (congrArg₂ (fun p q => (ix3 p q 0 : S8x128x1.Idx)) (Fin.ext ?_) (Fin.ext ?_))
  all_goals first | omega | (simp; omega)

variable (m : (ℓ : Loc nD τ sig) → Buf (Elt Ideal) ℓ)

/-- The windows' block indices at every point. -/
theorem idx : ∀ t : Fin cfg0.N, win0_0.index t = ![t.val, 0] ∧ win0_1.index t = ![t.val - 1, 0] ∧ win0_2.index t = ![t.val, 0] ∧ win0_3.index t = ![t.val - 1, 0]
    ∧ win0_4.index t = ![t.val, 0] ∧ win0_5.index t = ![t.val, 0] ∧ win0_6.index t = ![t.val, 0] :=
  (by decide +kernel : ∀ t : Fin grid0.N, _)

theorem point : ∀ t : Fin cfg0.N, (grid0.coords t 0).val = t.val :=
  (by decide +kernel : ∀ t : Fin grid0.N, _)

theorem reads (c : Dev nD) (t : Fin cfg0.N) (n : Fin 64) (hn : n.val = t.val) : Reads (m ((c : Thread nD τ).loc main_arg0)) (m ((c : Thread nD τ).loc main_arg1)) (m ((c : Thread nD τ).loc main_arg2)) (grid0.coords t) n (iblk m c 0 t) (iblk m c 1 t) (iblk m c 2 t) (iblk m c 3 t) (iblk m c 4 t) where
  place := (point t).trans hn.symm
  q r d := by blk_point [iblk, V, idx t]
  kp r d := by blk_point [iblk, V, idx t]
  kc r d := by blk_point [iblk, V, idx t]
  vp r d := by blk_point [iblk, V, idx t]
  vc r d := by blk_point [iblk, V, idx t]

theorem point5 (c : Dev nD) (t : Fin cfg0.N) (y : S128x512.Idx) (j : S8192x512.Idx) (h0 : (j 0 : ℕ) = t.val * 128 + (y 0 : ℕ)) (h1 : (j 1 : ℕ) = y 1) :
    out0_5 (grid0.coords t) (iblk m c 0 t) (iblk m c 1 t) (iblk m c 2 t) (iblk m c 3 t) (iblk m c 4 t) y = OUT (m ((c : Thread nD τ).loc main_arg0)) (m ((c : Thread nD τ).loc main_arg1)) (m ((c : Thread nD τ).loc main_arg2)) j := by
  have ht : t.val < 64 := lt_of_lt_of_eq t.isLt N_0
  have l0 : (y 0 : ℕ) < 128 := (y 0).isLt
  have l1 : (y 1 : ℕ) < 512 := (y 1).isLt
  obtain ⟨r, d, rfl⟩ : ∃ (r : Fin 8192) (d : Fin 512), j = ix2 r d := ⟨j 0, j 1, by ext a; fin_cases a <;> rfl⟩
  have e0 : r.val = t.val * 128 + (y 0 : ℕ) := h0
  have e1 : d.val = (y 1 : ℕ) := h1
  rw [tiles5 _ _ _ _ _ _ y ⟨(y 1 : ℕ) / 64, Nat.div_lt_of_lt_mul l1⟩ ⟨(y 0 : ℕ), l0⟩ ⟨(y 1 : ℕ) % 64, Nat.mod_lt _ (by omega)⟩ rfl rfl rfl, out_core (reads m c t ⟨t.val, ht⟩ rfl), Cert.AttnReferenceIdeal.Value.out_apply]
  congr 1
  blk_ext

theorem point6 (c : Dev nD) (t : Fin cfg0.N) (y : S128x512.Idx) (j : S8192x512.Idx) (h0 : (j 0 : ℕ) = t.val * 128 + (y 0 : ℕ)) (h1 : (j 1 : ℕ) = y 1) :
    out0_6 (grid0.coords t) (iblk m c 0 t) (iblk m c 1 t) (iblk m c 2 t) (iblk m c 3 t) (iblk m c 4 t) y = LSE (m ((c : Thread nD τ).loc main_arg0)) (m ((c : Thread nD τ).loc main_arg1)) j := by
  have ht : t.val < 64 := lt_of_lt_of_eq t.isLt N_0
  have l0 : (y 0 : ℕ) < 128 := (y 0).isLt
  have l1 : (y 1 : ℕ) < 512 := (y 1).isLt
  obtain ⟨r, d, rfl⟩ : ∃ (r : Fin 8192) (d : Fin 512), j = ix2 r d := ⟨j 0, j 1, by ext a; fin_cases a <;> rfl⟩
  have e0 : r.val = t.val * 128 + (y 0 : ℕ) := h0
  have e1 : d.val = (y 1 : ℕ) := h1
  rw [tiles6 _ _ _ _ _ _ y ⟨(y 1 : ℕ) / 64, Nat.div_lt_of_lt_mul l1⟩ ⟨(y 0 : ℕ), l0⟩ rfl rfl, lse_core (reads m c t ⟨t.val, ht⟩ rfl)]
  unfold LSE
  rw [Cert.AttnReferenceIdeal.Value.spread_apply]
  congr 1
  blk_ext

theorem final5 (c : Dev nD) : (dats m 0 c).arrAt 5 (cfgs 0).N = OUT (m ((c : Thread nD τ).loc main_arg0)) (m ((c : Thread nD τ).loc main_arg1)) (m ((c : Thread nD τ).loc main_arg2)) := by
  refine (dats m 0 c).arrAt_eq_of_covers 5 _ (by decide +kernel) fun t _ y => ?_
  rw [after0_5]
  refine point5 m c t y _ ?_ ?_
  all_goals (blk_simp [idx t] <;> try omega)

theorem final6 (c : Dev nD) : (dats m 0 c).arrAt 6 (cfgs 0).N = LSE (m ((c : Thread nD τ).loc main_arg0)) (m ((c : Thread nD τ).loc main_arg1)) := by
  refine (dats m 0 c).arrAt_eq_of_covers 6 _ (by decide +kernel) fun t _ y => ?_
  rw [after0_6]
  refine point6 m c t y _ ?_ ?_
  all_goals (blk_simp [idx t] <;> try omega)

end Cert.AttnKernelIdeal.Value

end
-- ==== Proof.BandBackIdealBase.lean ====
/-
  The backward band attention: the conditions of its body in closed form over the points, where each output is stored,
  and the buffers the triples of the body are stated over.
-/
module

public import proofs.«01_k».proof.Proof.Gen.AttnBKernelIdeal.Skeleton
public import proofs.«01_k».proof.Proof.Gen.AttnBKernelIdeal.Frame
public import Idealize.ShloMosaic.Lib.Pipeline.TableIdle
public import Idealize.ShloMosaic.Lib.Claim

@[expose] public section

set_option maxRecDepth 16384

noncomputable section

namespace Cert.AttnBKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The body's branch conditions -/

/-- The condition of the body's `scf.if` 0 from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, e0]
    word_cmp
   : ∀ t : Fin grid0.N, cond0_0 (grid0.coords t) ↔ t.val % 65 = 0)

/-- The condition of the body's `scf.if` 1, from the grid coordinates. -/
abbrev cond0_1 (i : grid0.Coords) : Prop := k0_cond2 i = 1#1
/-- It holds at the last point only — by arithmetic of the point. -/
theorem hcond0_1 : ∀ t : Fin cfg0.N, cond0_1 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_1, k0_cond2, e0]
    word_cmp
   : ∀ t : Fin grid0.N, cond0_1 (grid0.coords t) ↔ t.val % 65 = 64)

/-- The condition of the body's `scf.if` 2, from the grid coordinates. -/
abbrev cond0_2 (i : grid0.Coords) : Prop := k0_cond3 i = 1#1
/-- It holds at the points before point 64 — decided over the grid. -/
theorem hcond0_2 : ∀ t : Fin cfg0.N, cond0_2 (grid0.coords t) ↔ t.val < 64 :=
  (by decide +kernel : ∀ t : Fin grid0.N, cond0_2 (grid0.coords t) ↔ t.val < 64)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Each window's current staging memref at point `t`, spelled as the pipeline passes it (`bodyAt0`), and its wholeness. -/
abbrev ms0_0 (t : Fin cfg0.N) : Memref sig .tc .vmem S128x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x512 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S128x512 .f32 := Memref.whole cc0_scratch0
abbrev scM0_1 : Memref sig .tc .vmem S128x512 .f32 := Memref.whole cc0_scratch1

/-- What the launch hands the pipeline beside the windows: the two carried buffers at some contents, and the generator register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Where output 9 is stored, and where not. -/
theorem liveAt0_9 : ∀ t : Fin cfg0.N, cond0_2 (grid0.coords t) → cfg0.idle 9 (grid0.coords t) = false := by decide +kernel
theorem idleAt0_9 : ∀ t : Fin cfg0.N, ¬cond0_2 (grid0.coords t) → cfg0.idle 9 (grid0.coords t) = true := by decide +kernel
theorem flushAt0_9 : ∀ t : Fin cfg0.N, ¬cond0_2 (grid0.coords t) → (cfg0.win 9).flush t = true := by decide +kernel
/-- Outputs 10 and 11 are stored at every point. -/
theorem liveAt0_10 : ∀ t : Fin cfg0.N, cfg0.idle 10 (grid0.coords t) = false := by decide +kernel
theorem liveAt0_11 : ∀ t : Fin cfg0.N, cfg0.idle 11 (grid0.coords t) = false := by decide +kernel
/-- Output 9's buffer is fresh unless the point is the last. -/
def freshTab0_9 (n : ℕ) : Bool := n != 64
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
theorem notFresh0_9 (t : Fin cfg0.N) (h : t.val % 65 = 64) : cfg0.fresh 9 t.val = false := by
  have hN : t.val < 65 := lt_of_lt_of_eq t.isLt (show cfg0.N = 65 from N_0)
  rw [fresh0_9_eq, show t.val = 64 by omega]; rfl

/-- One staging buffer of each output and the two carried buffers, through which their contents are stated. -/
abbrev VO0_9 : View sig .tc .vmem S128x512 .f32 := (Memref.whole cc0_stg9_0 : Memref sig .tc .vmem S128x512 .f32).view
abbrev VO0_10 : View sig .tc .vmem S128x512 .f32 := (Memref.whole cc0_stg10_0 : Memref sig .tc .vmem S128x512 .f32).view
abbrev VO0_11 : View sig .tc .vmem S128x512 .f32 := (Memref.whole cc0_stg11_0 : Memref sig .tc .vmem S128x512 .f32).view
abbrev VS0_0 : View sig .tc .vmem S128x512 .f32 := scM0_0.view
abbrev VS0_1 : View sig .tc .vmem S128x512 .f32 := scM0_1.view

end Cert.AttnBKernelIdeal.Gen

end
-- ==== Proof.BandBackIdealA.lean ====
/-
  The body of the backward band attention at the first point, where the two carried buffers are emptied first.
-/
module

public import proofs.«01_k».proof.Proof.BandBackIdealBase

@[expose] public section

set_option maxRecDepth 16384

noncomputable section

namespace Cert.AttnBKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body of case A: what its stores leave in each buffer, as the list of stored pieces, with the triple that says so. -/
noncomputable def kernelRun0_A (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) :
    Σ' (L9 L10 L11 LS0 : List (View.Piece (Elt F) S128x512 .f32)), { LS1 : List (View.Piece (Elt F) S128x512 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_l0_attn_bwd0 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_l0_attn_bwd0_eq_skeleton]; unfold cc0_l0_attn_bwd0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexists _; iexact H10
    isplitl [H11]
    · iexists _; iexact H11
    isplitl [HS0]
    · iexists _; iexact HS0
    iexists _; iexact HS1

theorem cover0_A_9 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).1 S128x64.size (by sl_kernel_rfl) y

def out0_A_9 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) : Vec F S128x512 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).1)

theorem cover0_A_10 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).2.1 S128x64.size (by sl_kernel_rfl) y

def out0_A_10 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) : Vec F S128x512 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).2.1)

theorem cover0_A_11 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).2.2.1 S128x64.size (by sl_kernel_rfl) y

def out0_A_11 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) : Vec F S128x512 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).2.2.1)

theorem cover0_A_s0 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).2.2.2.1 S128x512.size (by sl_kernel_rfl) y

def out0_A_s0 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) : Vec F S128x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).2.2.2.1)

theorem cover0_A_s1 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).2.2.2.2.1 S128x512.size (by sl_kernel_rfl) y

def out0_A_s1 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) : Vec F S128x512 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8).2.2.2.2.1)

end Cert.AttnBKernelIdeal.Gen

end
-- ==== Proof.BandBackIdealB.lean ====
/-
  The body of the backward band attention at the points between.
-/
module

public import proofs.«01_k».proof.Proof.BandBackIdealA

@[expose] public section

set_option maxRecDepth 16384

noncomputable section

namespace Cert.AttnBKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body of case B: what its stores leave in each buffer, as the list of stored pieces, with the triple that says so. -/
noncomputable def kernelRun0_B (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) :
    Σ' (L9 L10 L11 LS0 : List (View.Piece (Elt F) S128x512 .f32)), { LS1 : List (View.Piece (Elt F) S128x512 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_l0_attn_bwd0 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_l0_attn_bwd0_eq_skeleton]; unfold cc0_l0_attn_bwd0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexists _; iexact H10
    isplitl [H11]
    · iexists _; iexact H11
    isplitl [HS0]
    · iexists _; iexact HS0
    iexists _; iexact HS1

theorem cover0_B_9 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).1 S128x64.size (by sl_kernel_rfl) y

def out0_B_9 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) : Vec F S128x512 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).1)

theorem cover0_B_10 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.1 S128x64.size (by sl_kernel_rfl) y

def out0_B_10 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) : Vec F S128x512 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.1)

theorem cover0_B_11 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.2.1 S128x64.size (by sl_kernel_rfl) y

def out0_B_11 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) : Vec F S128x512 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.2.1)

theorem cover0_B_s0 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.2.2.1 S128x64.size (by sl_kernel_rfl) y

def out0_B_s0 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) : Vec F S128x512 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.2.2.1)

theorem cover0_B_s1 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.2.2.2.1 S128x64.size (by sl_kernel_rfl) y

def out0_B_s1 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) : Vec F S128x512 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.2.2.2.1)

end Cert.AttnBKernelIdeal.Gen

end
-- ==== Proof.BandBackIdealC.lean ====
/-
  The body of the backward band attention at the last point, which only hands on the carried buffers.
-/
module

public import proofs.«01_k».proof.Proof.BandBackIdealB

@[expose] public section

set_option maxRecDepth 16384

noncomputable section

namespace Cert.AttnBKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body of case C: what its stores leave in each buffer, as the list of stored pieces, with the triple that says so. -/
noncomputable def kernelRun0_C (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : cond0_1 i) (hc2 : ¬cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) :
    Σ' (L10 : List (View.Piece (Elt F) S128x512 .f32)), { L11 : List (View.Piece (Elt F) S128x512 .f32) //
      ∀ (xi9 : Vec F S128x512 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xs0 ∗ owns (c : Thread nD τ) arg14 fullShare xs1) -∗ K ⟨⟩))
          ⊢ wp frame (wpE (defs₀ (F := F)) Variants.none c none) E (cc0_l0_attn_bwd0 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xi9 E K => ?run⟩
  case run =>
    simp only [cc0_l0_attn_bwd0_eq_skeleton]; unfold cc0_l0_attn_bwd0_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hfs0; obtain rfl := harg14.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    isplitl [H11]
    · iexists _; iexact H11
    isplitl [HS0]
    · iexists _; isplitr; · ipureintro; exact harg13.read_unread _
      iexact HS0
    iexists _; isplitr; · ipureintro; exact harg14.read_unread _
    iexact HS1

theorem cover0_C_10 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : cond0_1 i) (hc2 : ¬cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) (y : S128x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).1 S128x512.size (by sl_kernel_rfl) y

def out0_C_10 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : cond0_1 i) (hc2 : ¬cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) : Vec F S128x512 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).1)

theorem cover0_C_11 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : cond0_1 i) (hc2 : ¬cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) (y : S128x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.1 S128x512.size (by sl_kernel_rfl) y

def out0_C_11 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : cond0_1 i) (hc2 : ¬cond0_2 i)
    (x0 : Vec F S128x512 .bf16) (x1 : Vec F S128x512 .bf16) (x2 : Vec F S128x512 .bf16) (x3 : Vec F S128x512 .bf16) (x4 : Vec F S128x512 .bf16) (x5 : Vec F S128x512 .f32) (x6 : Vec F S128x512 .f32) (x7 : Vec F S128x512 .f32) (x8 : Vec F S128x512 .f32) (xs0 : Vec F S128x512 .f32) (xs1 : Vec F S128x512 .f32) : Vec F S128x512 .f32 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1).2.1)

end Cert.AttnBKernelIdeal.Gen

end
-- ==== Proof.BandBackIdealFrame.lean ====
/-
  The backward band attention: what every point leaves in the three outputs and in the two carried buffers, and the
  frame of the whole program, whose outputs end as the points leave them.
-/
module

public import proofs.«01_k».proof.Proof.BandBackIdealC

@[expose] public section

set_option maxRecDepth 16384

noncomputable section

namespace Cert.AttnBKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What case A leaves in the three outputs and the two carried buffers. -/
def left0_A (c : Dev nD) (t : Fin cfg0.N) (h0 : t.val % 65 = 0) (h1 : ¬t.val % 65 = 64) (h2 : t.val < 64) : Vec F S128x512 .f32 × Vec F S128x512 .f32 × Vec F S128x512 .f32 × Vec F S128x512 .f32 × Vec F S128x512 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t), out0_A_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t), out0_A_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t))

/-- What case B leaves in the three outputs and the two carried buffers, over what the point before left. -/
def left0_B (c : Dev nD) (t : Fin cfg0.N) (h0 : ¬t.val % 65 = 0) (h1 : ¬t.val % 65 = 64) (h2 : t.val < 64) (pv : Vec F S128x512 .f32 × Vec F S128x512 .f32 × Vec F S128x512 .f32 × Vec F S128x512 .f32 × Vec F S128x512 .f32) : Vec F S128x512 .f32 × Vec F S128x512 .f32 × Vec F S128x512 .f32 × Vec F S128x512 .f32 × Vec F S128x512 .f32 :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) pv.2.2.2.1 pv.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) pv.2.2.2.1 pv.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) pv.2.2.2.1 pv.2.2.2.2, out0_B_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) pv.2.2.2.1 pv.2.2.2.2, out0_B_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) pv.2.2.2.1 pv.2.2.2.2)

/-- What case C leaves in the three outputs and the two carried buffers, over what the point before left. -/
def left0_C (c : Dev nD) (t : Fin cfg0.N) (h0 : ¬t.val % 65 = 0) (h1 : t.val % 65 = 64) (h2 : ¬t.val < 64) (pv : Vec F S128x512 .f32 × Vec F S128x512 .f32 × Vec F S128x512 .f32 × Vec F S128x512 .f32 × Vec F S128x512 .f32) : Vec F S128x512 .f32 × Vec F S128x512 .f32 × Vec F S128x512 .f32 × Vec F S128x512 .f32 × Vec F S128x512 .f32 :=
  (pv.1, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) pv.2.2.2.1 pv.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) pv.2.2.2.1 pv.2.2.2.2, pv.2.2.2.1, pv.2.2.2.2)

/-- What a point after the first leaves, over what the point before left. -/
def step0 (c : Dev nD) (n : ℕ) (hn : n + 1 < cfg0.N) (pv : Vec F S128x512 .f32 × Vec F S128x512 .f32 × Vec F S128x512 .f32 × Vec F S128x512 .f32 × Vec F S128x512 .f32) : Vec F S128x512 .f32 × Vec F S128x512 .f32 × Vec F S128x512 .f32 × Vec F S128x512 .f32 × Vec F S128x512 .f32 :=
  if h1 : (n + 1) % 65 = 64 then
    left0_C m c ⟨n + 1, hn⟩ (by show ¬(n + 1) % 65 = 0; omega) h1 (by show ¬(n + 1) < 64; omega) pv
  else
    left0_B m c ⟨n + 1, hn⟩ (by have : n + 1 < 65 := lt_of_lt_of_eq hn (show cfg0.N = 65 from N_0); show ¬(n + 1) % 65 = 0; omega) h1
      (by have : n + 1 < 65 := lt_of_lt_of_eq hn (show cfg0.N = 65 from N_0); show n + 1 < 64; omega) pv

/-- What every point leaves in the three outputs and the two carried buffers. -/
def outsAt0 (c : Dev nD) : (n : ℕ) → n < cfg0.N → Vec F S128x512 .f32 × Vec F S128x512 .f32 × Vec F S128x512 .f32 × Vec F S128x512 .f32 × Vec F S128x512 .f32
  | 0, hn => left0_A m c ⟨0, hn⟩ (Nat.zero_mod _) (by show ¬ 0 % 65 = 64; decide) (by show 0 < 64; decide)
  | n + 1, hn => step0 m c n hn (outsAt0 c n (Nat.lt_of_succ_lt hn))

/-- What the point before left. -/
abbrev prev0 (c : Dev nD) (t : Fin cfg0.N) : Vec F S128x512 .f32 × Vec F S128x512 .f32 × Vec F S128x512 .f32 × Vec F S128x512 .f32 × Vec F S128x512 .f32 := outsAt0 m c (t.val - 1) (Nat.lt_of_le_of_lt (Nat.sub_le _ _) t.isLt)

theorem outsAt0_zero (c : Dev nD) (hn : 0 < cfg0.N) (h0 h1 h2) : outsAt0 m c 0 hn = left0_A m c ⟨0, hn⟩ h0 h1 h2 := rfl
theorem outsAt0_succ (c : Dev nD) (n : ℕ) (hn : n + 1 < cfg0.N) : outsAt0 m c (n + 1) hn = step0 m c n hn (outsAt0 m c n (Nat.lt_of_succ_lt hn)) := rfl

theorem outsAt0_A (c : Dev nD) (t : Fin cfg0.N) (h0 : t.val % 65 = 0) (h1 : ¬t.val % 65 = 64) (h2 : t.val < 64) : outsAt0 m c t.val t.isLt = left0_A m c t h0 h1 h2 := by
  obtain ⟨n, hn⟩ := t
  cases n with
  | zero => exact outsAt0_zero m c hn h0 h1 h2
  | succ n => exfalso; have : n + 1 < 65 := lt_of_lt_of_eq hn (show cfg0.N = 65 from N_0); simp only at h0; omega
theorem outsAt0_B (c : Dev nD) (t : Fin cfg0.N) (h0 : ¬t.val % 65 = 0) (h1 : ¬t.val % 65 = 64) (h2 : t.val < 64) : outsAt0 m c t.val t.isLt = left0_B m c t h0 h1 h2 (prev0 m c t) := by
  obtain ⟨n, hn⟩ := t
  cases n with
  | zero => exact absurd (Nat.zero_mod _) h0
  | succ n =>
    refine (outsAt0_succ m c n hn).trans ?_
    unfold step0
    rw [dif_neg h1]
    rfl
theorem outsAt0_C (c : Dev nD) (t : Fin cfg0.N) (h0 : ¬t.val % 65 = 0) (h1 : t.val % 65 = 64) (h2 : ¬t.val < 64) : outsAt0 m c t.val t.isLt = left0_C m c t h0 h1 h2 (prev0 m c t) := by
  obtain ⟨n, hn⟩ := t
  cases n with
  | zero => exact absurd (Nat.zero_mod _) h0
  | succ n =>
    refine (outsAt0_succ m c n hn).trans ?_
    unfold step0
    rw [dif_pos h1]
    rfl

/-- The region's invariant: before the first point the carried buffers hold anything, afterwards what the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl
theorem PhiS_pos (c : Dev nD) (n : ℕ) (h : n ≤ cfg0.N) (hz : n ≠ 0) : PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-- The proof data: the arrays as the region finds them, the inputs' blocks left in place, the outputs and the carried
    buffers at what the points leave, each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Where output 9 is not stored, it keeps what the point before left. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t hz hi _
  have hN : t.val < 65 := lt_of_lt_of_eq t.isLt (show cfg0.N = 65 from N_0)
  rw [after0_9, after0_9]
  by_cases h2 : t.val < 64
  · rw [liveAt0_9 t ((hcond0_2 t).mpr h2)] at hi
    exact absurd hi Bool.false_ne_true
  · rw [outsAt0_C m c t (by omega) (by omega) h2]; rfl

theorem before0_9_C (c : Dev nD) (t : Fin cfg0.N) (h1 : t.val % 65 = 64) (d) :
    (dats m 0 c).before 9 t d = (prev0 m c t).1 := by
  rw [Dat.before_out_traj _ 9 rfl (fun _ _ => rfl) (hcarry0_9 m c) t.val t rfl d,
    if_neg (by rw [notFresh0_9 t h1]; exact Bool.false_ne_true)]
  dsimp only [dats]

/-- What the body is called with at a point, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves0 (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves0_9_C (c : Dev nD) (t : Fin cfg0.N) (h : ¬cond0_2 (grid0.coords t)) :
    (dats m 0 c).leavesExact 9 t = owns (c : Thread nD τ) (ms0_9 t) fullShare ((dats m 0 c).after 9 t) := by
  unfold Dat.leavesExact; rw [idleAt0_9 t h, flushAt0_9 t h]

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 65 := lt_of_lt_of_eq t.isLt (show cfg0.N = 65 from N_0)
  rw [show (dats m 0 c).leavesExact 0 t = owns (c : Thread nD τ) (ms0_0 t) fullShare ((dats m 0 c).after 0 t) from leaves0 m c t 0 (liveAt0_0 t), after0_0]
  rw [show (dats m 0 c).leavesExact 1 t = owns (c : Thread nD τ) (ms0_1 t) fullShare ((dats m 0 c).after 1 t) from leaves0 m c t 1 (liveAt0_1 t), after0_1]
  rw [show (dats m 0 c).leavesExact 2 t = owns (c : Thread nD τ) (ms0_2 t) fullShare ((dats m 0 c).after 2 t) from leaves0 m c t 2 (liveAt0_2 t), after0_2]
  rw [show (dats m 0 c).leavesExact 3 t = owns (c : Thread nD τ) (ms0_3 t) fullShare ((dats m 0 c).after 3 t) from leaves0 m c t 3 (liveAt0_3 t), after0_3]
  rw [show (dats m 0 c).leavesExact 4 t = owns (c : Thread nD τ) (ms0_4 t) fullShare ((dats m 0 c).after 4 t) from leaves0 m c t 4 (liveAt0_4 t), after0_4]
  rw [show (dats m 0 c).leavesExact 5 t = owns (c : Thread nD τ) (ms0_5 t) fullShare ((dats m 0 c).after 5 t) from leaves0 m c t 5 (liveAt0_5 t), after0_5]
  rw [show (dats m 0 c).leavesExact 6 t = owns (c : Thread nD τ) (ms0_6 t) fullShare ((dats m 0 c).after 6 t) from leaves0 m c t 6 (liveAt0_6 t), after0_6]
  rw [show (dats m 0 c).leavesExact 7 t = owns (c : Thread nD τ) (ms0_7 t) fullShare ((dats m 0 c).after 7 t) from leaves0 m c t 7 (liveAt0_7 t), after0_7]
  rw [show (dats m 0 c).leavesExact 8 t = owns (c : Thread nD τ) (ms0_8 t) fullShare ((dats m 0 c).after 8 t) from leaves0 m c t 8 (liveAt0_8 t), after0_8]
  rw [show (dats m 0 c).leavesExact 10 t = owns (c : Thread nD τ) (ms0_10 t) fullShare ((dats m 0 c).after 10 t) from leaves0 m c t 10 (liveAt0_10 t), after0_10]
  rw [show (dats m 0 c).leavesExact 11 t = owns (c : Thread nD τ) (ms0_11 t) fullShare ((dats m 0 c).after 11 t) from leaves0 m c t 11 (liveAt0_11 t), after0_11]
  by_cases h1 : t.val % 65 = 64
  · have h0 : ¬t.val % 65 = 0 := by omega
    have h2 : ¬t.val < 64 := by omega
    simp only [before0_9_C m c t h1]
    rw [leaves0_9_C m c t (fun h => h2 ((hcond0_2 t).mp h)), after0_9]
    rw [PhiS_castSucc m c t, PhiS_pos m c _ _ (by omega)]
    rw [outsAt0_C m c t h0 h1 h2]
    unfold left0_C out0_C_10 out0_C_11; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_C c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _ _).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, ⟨%e10, H10⟩, ⟨%e11, H11⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover0_C_10 _ _ _ _ _ _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_C_11 _ _ _ _ _ _ _ _ _ _ _ _ _ _ _ _ _ _ _ _ _ _ _ _ _ _ _ _ _ _ _ _ _ _ _ _ _ _ _ _ _ _ _ _)
  · have h2 : t.val < 64 := by omega
    by_cases h0 : t.val % 65 = 0
    · rw [show (dats m 0 c).leavesExact 9 t = owns (c : Thread nD τ) (ms0_9 t) fullShare ((dats m 0 c).after 9 t) from leaves0 m c t 9 (liveAt0_9 t ((hcond0_2 t).mpr h2)), after0_9]
      rw [PhiS_castSucc m c t, PhiS_zero m c _ _ (by omega), PhiA0_eq]
      rw [outsAt0_A m c t h0 h1 h2]
      unfold left0_A out0_A_9 out0_A_10 out0_A_11 out0_A_s0 out0_A_s1; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (cover0_A_s0 _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (cover0_A_s1 _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 _ _ _ _ _ _ _ _ _ _ _ _ _ _ _ _ _ _ _ _ _ _ _ _ _ _ _ _ _ _ _ _ _ _ _ _ _ _ _ _ _ _)
    · rw [show (dats m 0 c).leavesExact 9 t = owns (c : Thread nD τ) (ms0_9 t) fullShare ((dats m 0 c).after 9 t) from leaves0 m c t 9 (liveAt0_9 t ((hcond0_2 t).mpr h2)), after0_9]
      rw [PhiS_castSucc m c t, PhiS_pos m c _ _ (by omega)]
      rw [outsAt0_B m c t h0 h1 h2]
      unfold left0_B out0_B_9 out0_B_10 out0_B_11 out0_B_s0 out0_B_s1; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (cover0_B_s0 _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (cover0_B_s1 _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 _ _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_B_11 _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

set_option maxHeartbeats 4000000 in
theorem hout (c : Dev nD) : (dats m 0 c).Φ (Fin.last cfg0.N) ⊢ Pipeline.ΦA spec0 c := by
  have ht : (Fin.last cfg0.N).val ≠ 0 := by rw [Fin.val_last]; have : cfg0.N = 65 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- Every execution of the program ends with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.AttnBKernelIdeal.Gen

end
-- ==== Proof.BandBackStack.lean ====
/-
  The gradient of banded attention: a block's arrays as stacks of heads, and the rows the body makes of them.
-/
module

public import proofs.«01_k».proof.Proof.BandBackIdealBase
public import proofs.«01_k».proof.Proof.AttnRef
public import Idealize.ShloMosaic.Lib.Pipeline.ValueKit

@[expose] public section

set_option maxRecDepth 16384

noncomputable section

open Idealize.ShloMosaic Idealize.ShloMosaic.TcCoe Idealize.SL.Sem

namespace Cert.AttnBKernelIdeal.Value

open Cert.AttnBKernelIdeal Cert.AttnBKernelIdeal.Gen

/-- A block's columns, 64 a head, stacked. -/
def STACK (x : Vec Ideal S128x512 .bf16) : FVec Ideal S8x128x64 .bf16 := fun k => x (ix2 (k 1) ⟨(k 0).val * 64 + (k 2).val, by
  have a : (k 0).val < 8 := (k 0).isLt
  have b : (k 2).val < 64 := (k 2).isLt
  omega⟩)
/-- The same of a block in the wider format. -/
def STACKW (x : Vec Ideal S128x512 .f32) : FVec Ideal S8x128x64 .f32 := fun k => x (ix2 (k 1) ⟨(k 0).val * 64 + (k 2).val, by
  have a : (k 0).val < 8 := (k 0).isLt
  have b : (k 2).val < 64 := (k 2).isLt
  omega⟩)

theorem each {P : S8x128x64.Idx → Prop} (H : ∀ (h : Fin 8) (j : Fin 128) (e : Fin 64), P (ix3 h j e)) (k : S8x128x64.Idx) : P k := by
  have : k = ix3 (k 0) (k 1) (k 2) := by funext a; fin_cases a <;> rfl
  rw [this]
  exact H _ _ _

theorem stack_apply (x : Vec Ideal S128x512 .bf16) (h : Fin 8) (j : Fin 128) (e : Fin 64) : STACK x (ix3 h j e) = x (ix2 j ⟨h.val * 64 + e.val, by omega⟩) := rfl
theorem stackw_apply (x : Vec Ideal S128x512 .f32) (h : Fin 8) (j : Fin 128) (e : Fin 64) : STACKW x (ix3 h j e) = x (ix2 j ⟨h.val * 64 + e.val, by omega⟩) := rfl

theorem stackQ (x : Vec Ideal S128x512 .bf16) :
    k0_pay14 (k0_pay6 (View.ld x (Rect.unit ![0, 256] ![128, 64] inb_S128x512_S128x64_0_256))) (k0_pay7 (View.ld x (Rect.unit ![0, 320] ![128, 64] inb_S128x512_S128x64_0_320))) (k0_pay8 (View.ld x (Rect.unit ![0, 384] ![128, 64] inb_S128x512_S128x64_0_384))) (k0_pay9 (View.ld x (Rect.unit ![0, 448] ![128, 64] inb_S128x512_S128x64_0_448))) (k0_pay10 (View.ld x (Rect.unit ![0, 0] ![128, 64] inb_S128x512_S128x64_0_0))) (k0_pay11 (View.ld x (Rect.unit ![0, 64] ![128, 64] inb_S128x512_S128x64_0_64))) (k0_pay12 (View.ld x (Rect.unit ![0, 128] ![128, 64] inb_S128x512_S128x64_0_128))) (k0_pay13 (View.ld x (Rect.unit ![0, 192] ![128, 64] inb_S128x512_S128x64_0_192))) = STACK x := by
  refine funext (each fun h j e => ?_)
  rw [stack_apply]
  pointwise [k0_pay6, k0_pay7, k0_pay8, k0_pay9, k0_pay10, k0_pay11, k0_pay12, k0_pay13, k0_pay14]
  obtain ⟨k, hk⟩ := h
  interval_cases k <;> simp

theorem stackK (x : Vec Ideal S128x512 .bf16) :
    k0_pay15 (View.ld x (Rect.unit ![0, 0] ![128, 64] inb_S128x512_S128x64_0_0)) (View.ld x (Rect.unit ![0, 64] ![128, 64] inb_S128x512_S128x64_0_64)) (View.ld x (Rect.unit ![0, 128] ![128, 64] inb_S128x512_S128x64_0_128)) (View.ld x (Rect.unit ![0, 192] ![128, 64] inb_S128x512_S128x64_0_192)) (View.ld x (Rect.unit ![0, 256] ![128, 64] inb_S128x512_S128x64_0_256)) (View.ld x (Rect.unit ![0, 320] ![128, 64] inb_S128x512_S128x64_0_320)) (View.ld x (Rect.unit ![0, 384] ![128, 64] inb_S128x512_S128x64_0_384)) (View.ld x (Rect.unit ![0, 448] ![128, 64] inb_S128x512_S128x64_0_448)) = STACK x := by
  refine funext (each fun h j e => ?_)
  rw [stack_apply]
  pointwise [k0_pay15]
  obtain ⟨k, hk⟩ := h
  interval_cases k <;> simp

theorem stackKp (x : Vec Ideal S128x512 .bf16) :
    k0_pay19 (k0_pay16 (View.ld x (Rect.unit ![0, 0] ![128, 64] inb_S128x512_S128x64_0_0))) (k0_pay17 (View.ld x (Rect.unit ![0, 64] ![128, 64] inb_S128x512_S128x64_0_64))) (k0_pay18 (View.ld x (Rect.unit ![0, 128] ![128, 64] inb_S128x512_S128x64_0_128))) (View.ld x (Rect.unit ![0, 192] ![128, 64] inb_S128x512_S128x64_0_192)) (View.ld x (Rect.unit ![0, 256] ![128, 64] inb_S128x512_S128x64_0_256)) (View.ld x (Rect.unit ![0, 320] ![128, 64] inb_S128x512_S128x64_0_320)) (View.ld x (Rect.unit ![0, 384] ![128, 64] inb_S128x512_S128x64_0_384)) (View.ld x (Rect.unit ![0, 448] ![128, 64] inb_S128x512_S128x64_0_448)) = STACK x := by
  refine funext (each fun h j e => ?_)
  rw [stack_apply]
  pointwise [k0_pay16, k0_pay17, k0_pay18, k0_pay19]
  obtain ⟨k, hk⟩ := h
  interval_cases k <;> simp

theorem stackV (x : Vec Ideal S128x512 .bf16) :
    k0_pay28 (k0_pay20 (View.ld x (Rect.unit ![0, 64] ![128, 64] inb_S128x512_S128x64_0_64))) (k0_pay21 (View.ld x (Rect.unit ![0, 128] ![128, 64] inb_S128x512_S128x64_0_128))) (k0_pay22 (View.ld x (Rect.unit ![0, 192] ![128, 64] inb_S128x512_S128x64_0_192))) (k0_pay23 (View.ld x (Rect.unit ![0, 256] ![128, 64] inb_S128x512_S128x64_0_256))) (k0_pay24 (View.ld x (Rect.unit ![0, 320] ![128, 64] inb_S128x512_S128x64_0_320))) (k0_pay25 (View.ld x (Rect.unit ![0, 384] ![128, 64] inb_S128x512_S128x64_0_384))) (k0_pay26 (View.ld x (Rect.unit ![0, 448] ![128, 64] inb_S128x512_S128x64_0_448))) (k0_pay27 (View.ld x (Rect.unit ![0, 0] ![128, 64] inb_S128x512_S128x64_0_0))) = STACK x := by
  refine funext (each fun h j e => ?_)
  rw [stack_apply]
  pointwise [k0_pay20, k0_pay21, k0_pay22, k0_pay23, k0_pay24, k0_pay25, k0_pay26, k0_pay27, k0_pay28]
  obtain ⟨k, hk⟩ := h
  interval_cases k <;> simp

theorem stackVp (x : Vec Ideal S128x512 .bf16) :
    k0_pay29 (View.ld x (Rect.unit ![0, 0] ![128, 64] inb_S128x512_S128x64_0_0)) (View.ld x (Rect.unit ![0, 64] ![128, 64] inb_S128x512_S128x64_0_64)) (View.ld x (Rect.unit ![0, 128] ![128, 64] inb_S128x512_S128x64_0_128)) (View.ld x (Rect.unit ![0, 192] ![128, 64] inb_S128x512_S128x64_0_192)) (View.ld x (Rect.unit ![0, 256] ![128, 64] inb_S128x512_S128x64_0_256)) (View.ld x (Rect.unit ![0, 320] ![128, 64] inb_S128x512_S128x64_0_320)) (View.ld x (Rect.unit ![0, 384] ![128, 64] inb_S128x512_S128x64_0_384)) (View.ld x (Rect.unit ![0, 448] ![128, 64] inb_S128x512_S128x64_0_448)) = STACK x := by
  refine funext (each fun h j e => ?_)
  rw [stack_apply]
  pointwise [k0_pay29]
  obtain ⟨k, hk⟩ := h
  interval_cases k <;> simp

theorem stackD (x : Vec Ideal S128x512 .f32) :
    k0_pay30 (View.ld x (Rect.unit ![0, 0] ![128, 64] inb_S128x512_S128x64_0_0)) (View.ld x (Rect.unit ![0, 64] ![128, 64] inb_S128x512_S128x64_0_64)) (View.ld x (Rect.unit ![0, 128] ![128, 64] inb_S128x512_S128x64_0_128)) (View.ld x (Rect.unit ![0, 192] ![128, 64] inb_S128x512_S128x64_0_192)) (View.ld x (Rect.unit ![0, 256] ![128, 64] inb_S128x512_S128x64_0_256)) (View.ld x (Rect.unit ![0, 320] ![128, 64] inb_S128x512_S128x64_0_320)) (View.ld x (Rect.unit ![0, 384] ![128, 64] inb_S128x512_S128x64_0_384)) (View.ld x (Rect.unit ![0, 448] ![128, 64] inb_S128x512_S128x64_0_448)) = STACKW x := by
  refine funext (each fun h j e => ?_)
  rw [stackw_apply]
  pointwise [k0_pay30]
  obtain ⟨k, hk⟩ := h
  interval_cases k <;> simp

theorem stackO (x : Vec Ideal S128x512 .f32) :
    k0_pay39 (k0_pay31 (View.ld x (Rect.unit ![0, 384] ![128, 64] inb_S128x512_S128x64_0_384))) (k0_pay32 (View.ld x (Rect.unit ![0, 448] ![128, 64] inb_S128x512_S128x64_0_448))) (k0_pay33 (View.ld x (Rect.unit ![0, 0] ![128, 64] inb_S128x512_S128x64_0_0))) (k0_pay34 (View.ld x (Rect.unit ![0, 64] ![128, 64] inb_S128x512_S128x64_0_64))) (k0_pay35 (View.ld x (Rect.unit ![0, 128] ![128, 64] inb_S128x512_S128x64_0_128))) (k0_pay36 (View.ld x (Rect.unit ![0, 192] ![128, 64] inb_S128x512_S128x64_0_192))) (k0_pay37 (View.ld x (Rect.unit ![0, 256] ![128, 64] inb_S128x512_S128x64_0_256))) (k0_pay38 (View.ld x (Rect.unit ![0, 320] ![128, 64] inb_S128x512_S128x64_0_320))) = STACKW x := by
  refine funext (each fun h j e => ?_)
  rw [stackw_apply]
  pointwise [k0_pay31, k0_pay32, k0_pay33, k0_pay34, k0_pay35, k0_pay36, k0_pay37, k0_pay38, k0_pay39]
  obtain ⟨k, hk⟩ := h
  interval_cases k <;> simp

theorem stackL (x : Vec Ideal S128x512 .f32) :
    k0_pay40 (View.ld x (Rect.unit ![0, 0] ![128, 64] inb_S128x512_S128x64_0_0)) (View.ld x (Rect.unit ![0, 64] ![128, 64] inb_S128x512_S128x64_0_64)) (View.ld x (Rect.unit ![0, 128] ![128, 64] inb_S128x512_S128x64_0_128)) (View.ld x (Rect.unit ![0, 192] ![128, 64] inb_S128x512_S128x64_0_192)) (View.ld x (Rect.unit ![0, 256] ![128, 64] inb_S128x512_S128x64_0_256)) (View.ld x (Rect.unit ![0, 320] ![128, 64] inb_S128x512_S128x64_0_320)) (View.ld x (Rect.unit ![0, 384] ![128, 64] inb_S128x512_S128x64_0_384)) (View.ld x (Rect.unit ![0, 448] ![128, 64] inb_S128x512_S128x64_0_448)) = STACKW x := by
  refine funext (each fun h j e => ?_)
  rw [stackw_apply]
  pointwise [k0_pay40]
  obtain ⟨k, hk⟩ := h
  interval_cases k <;> simp

/-- A query's saved logarithm: the largest of a head's 64 equal columns. -/
def SAVED (x : Vec Ideal S128x512 .f32) : FVec Ideal S8x128x1 .f32 :=
  k0_pay47 (k0_pay41 (View.ld x (Rect.unit ![0, 0] ![128, 64] inb_S128x512_S128x64_0_0))) (k0_pay42 (View.ld x (Rect.unit ![0, 64] ![128, 64] inb_S128x512_S128x64_0_64))) (k0_pay43 (View.ld x (Rect.unit ![0, 128] ![128, 64] inb_S128x512_S128x64_0_128))) (k0_pay44 (View.ld x (Rect.unit ![0, 192] ![128, 64] inb_S128x512_S128x64_0_192))) (k0_pay45 (View.ld x (Rect.unit ![0, 256] ![128, 64] inb_S128x512_S128x64_0_256))) (k0_pay46 (View.ld x (Rect.unit ![0, 320] ![128, 64] inb_S128x512_S128x64_0_320))) (View.ld x (Rect.unit ![0, 384] ![128, 64] inb_S128x512_S128x64_0_384)) (View.ld x (Rect.unit ![0, 448] ![128, 64] inb_S128x512_S128x64_0_448))

theorem max_same (f : Fin 64 → EReal) (l : EReal) (H : ∀ e, f e = l) : (Finset.univ : Finset (Fin 64)).fold max ⊥ f = l := by
  refine eq_of_forall_ge_iff fun c => ?_
  rw [Finset.fold_max_le]
  simp only [H, bot_le, true_and, Finset.mem_univ, forall_const]

theorem saved_apply (x : Vec Ideal S128x512 .f32) (h : Fin 8) (i : Fin 128) (l : EReal)
    (H : ∀ e : Fin 64, x (ix2 i ⟨h.val * 64 + e.val, by omega⟩) = l) : SAVED x (ix3 h i 0) = l := by
  have g : SAVED x (ix3 h i 0) = (Finset.univ : Finset (Fin 64)).fold max (Ideal.ofBits .f32 0xFF800000#32) fun e => (x (ix2 i ⟨h.val * 64 + e.val, by omega⟩) : EReal) := by
    pointwise [SAVED, k0_pay47, k0_pay41, k0_pay42, k0_pay43, k0_pay44, k0_pay45, k0_pay46]
    refine Finset.fold_congr fun e _ => ?_
    obtain ⟨k, hk⟩ := h
    interval_cases k <;> simp
  rw [g, Cert.AttnReferenceIdeal.Value.low]
  exact max_same _ l H

/-- The weights of a block's own keys. -/
def WC (x0 x2 : Vec Ideal S128x512 .bf16) (x6 : Vec Ideal S128x512 .f32) : FVec Ideal S8x128x128 .f32 :=
  k0_pay48 k0_pay4 (STACK x0) (STACK x2) (k0_pay41 (View.ld x6 (Rect.unit ![0, 0] ![128, 64] inb_S128x512_S128x64_0_0))) (k0_pay42 (View.ld x6 (Rect.unit ![0, 64] ![128, 64] inb_S128x512_S128x64_0_64))) (k0_pay43 (View.ld x6 (Rect.unit ![0, 128] ![128, 64] inb_S128x512_S128x64_0_128))) (k0_pay44 (View.ld x6 (Rect.unit ![0, 192] ![128, 64] inb_S128x512_S128x64_0_192))) (k0_pay45 (View.ld x6 (Rect.unit ![0, 256] ![128, 64] inb_S128x512_S128x64_0_256))) (k0_pay46 (View.ld x6 (Rect.unit ![0, 320] ![128, 64] inb_S128x512_S128x64_0_320))) (View.ld x6 (Rect.unit ![0, 384] ![128, 64] inb_S128x512_S128x64_0_384)) (View.ld x6 (Rect.unit ![0, 448] ![128, 64] inb_S128x512_S128x64_0_448))
/-- The weights of the block before. -/
def WP (w : BitVec 32) (x0 x1 : Vec Ideal S128x512 .bf16) (x6 : Vec Ideal S128x512 .f32) : FVec Ideal S8x128x128 .f32 :=
  k0_pay49 (k0_pay5 w) (STACK x0) (STACK x1) (k0_pay41 (View.ld x6 (Rect.unit ![0, 0] ![128, 64] inb_S128x512_S128x64_0_0))) (k0_pay42 (View.ld x6 (Rect.unit ![0, 64] ![128, 64] inb_S128x512_S128x64_0_64))) (k0_pay43 (View.ld x6 (Rect.unit ![0, 128] ![128, 64] inb_S128x512_S128x64_0_128))) (k0_pay44 (View.ld x6 (Rect.unit ![0, 192] ![128, 64] inb_S128x512_S128x64_0_192))) (k0_pay45 (View.ld x6 (Rect.unit ![0, 256] ![128, 64] inb_S128x512_S128x64_0_256))) (k0_pay46 (View.ld x6 (Rect.unit ![0, 320] ![128, 64] inb_S128x512_S128x64_0_320))) (View.ld x6 (Rect.unit ![0, 384] ![128, 64] inb_S128x512_S128x64_0_384)) (View.ld x6 (Rect.unit ![0, 448] ![128, 64] inb_S128x512_S128x64_0_448))
/-- What a row's gradient loses. -/
def LOSS (x5 x7 x8 : Vec Ideal S128x512 .f32) : FVec Ideal S8x128x1 .f32 := k0_pay50 (STACKW x7) (STACKW x5) (STACKW x8)
/-- The gradient of the scores of a block's own keys, unscaled. -/
def SC (x0 x2 x4 : Vec Ideal S128x512 .bf16) (x5 x6 x7 x8 : Vec Ideal S128x512 .f32) : FVec Ideal S8x128x128 .bf16 :=
  k0_pay54 (WC x0 x2 x6) (k0_pay52 (STACK x4) (STACKW x7)) (k0_pay53 (STACKW x7) (STACKW x5) (STACKW x8))
/-- The same of the block before. -/
def SP (w : BitVec 32) (x0 x1 x3 : Vec Ideal S128x512 .bf16) (x5 x6 x7 x8 : Vec Ideal S128x512 .f32) : FVec Ideal S8x128x128 .bf16 :=
  k0_pay55 (STACK x3) (WP w x0 x1 x6) (LOSS x5 x7 x8) (k0_pay51 (STACKW x7))

open Cert.AttnReferenceIdeal.Value (own before low)

/-- A block's position as the body tests it: whether a block is before it. -/
def front (w : BitVec 32) : BitVec 1 :=
        (Scalar.cmpi CmpIPredicate.ne
          (Scalar.select
            (Scalar.andi
              (Scalar.xori
                (Scalar.cmpi CmpIPredicate.slt
                  (Scalar.remsi w
                    (Scalar.select (Scalar.cmpi CmpIPredicate.eq 64#32 0#32) 1#32 64#32))
                  0#32)
                (Scalar.cmpi CmpIPredicate.slt (Scalar.select (Scalar.cmpi CmpIPredicate.eq 64#32 0#32) 1#32 64#32)
                  0#32))
              (Scalar.cmpi CmpIPredicate.ne
                (Scalar.remsi w
                  (Scalar.select (Scalar.cmpi CmpIPredicate.eq 64#32 0#32) 1#32 64#32))
                0#32))
            (Scalar.addi
              (Scalar.remsi w
                (Scalar.select (Scalar.cmpi CmpIPredicate.eq 64#32 0#32) 1#32 64#32))
              (Scalar.select (Scalar.cmpi CmpIPredicate.eq 64#32 0#32) 1#32 64#32))
            (Scalar.remsi w
              (Scalar.select (Scalar.cmpi CmpIPredicate.eq 64#32 0#32) 1#32 64#32)))
          0#32)

theorem front_eq : ∀ n : Fin 64, front (BitVec.ofNat 32 n.val) = if n.val = 0 then 0#1 else 1#1 := by decide +kernel

theorem wc_apply (x0 x2 : Vec Ideal S128x512 .bf16) (x6 : Vec Ideal S128x512 .f32) (h : Fin 8) (i j : Fin 128) :
    WC x0 x2 x6 (ix3 h i j) = Scalar.select (own i j) (Ideal.exp ((∑ e : Fin 64, (STACK x0 (ix3 h i e) : EReal) * STACK x2 (ix3 h j e)) * Ideal.ofBits .f32 0x3E000000#32 - SAVED x6 (ix3 h i 0))) (0 : EReal) := by
  unfold WC k0_pay48
  change _ = Scalar.select (own i j) (Ideal.exp (_ - k0_pay47 (k0_pay41 (View.ld x6 (Rect.unit ![0, 0] ![128, 64] inb_S128x512_S128x64_0_0))) (k0_pay42 (View.ld x6 (Rect.unit ![0, 64] ![128, 64] inb_S128x512_S128x64_0_64))) (k0_pay43 (View.ld x6 (Rect.unit ![0, 128] ![128, 64] inb_S128x512_S128x64_0_128))) (k0_pay44 (View.ld x6 (Rect.unit ![0, 192] ![128, 64] inb_S128x512_S128x64_0_192))) (k0_pay45 (View.ld x6 (Rect.unit ![0, 256] ![128, 64] inb_S128x512_S128x64_0_256))) (k0_pay46 (View.ld x6 (Rect.unit ![0, 320] ![128, 64] inb_S128x512_S128x64_0_320))) (View.ld x6 (Rect.unit ![0, 384] ![128, 64] inb_S128x512_S128x64_0_384)) (View.ld x6 (Rect.unit ![0, 448] ![128, 64] inb_S128x512_S128x64_0_448)) (ix3 h i 0))) (0 : EReal)
  generalize k0_pay47 (k0_pay41 (View.ld x6 (Rect.unit ![0, 0] ![128, 64] inb_S128x512_S128x64_0_0))) (k0_pay42 (View.ld x6 (Rect.unit ![0, 64] ![128, 64] inb_S128x512_S128x64_0_64))) (k0_pay43 (View.ld x6 (Rect.unit ![0, 128] ![128, 64] inb_S128x512_S128x64_0_128))) (k0_pay44 (View.ld x6 (Rect.unit ![0, 192] ![128, 64] inb_S128x512_S128x64_0_192))) (k0_pay45 (View.ld x6 (Rect.unit ![0, 256] ![128, 64] inb_S128x512_S128x64_0_256))) (k0_pay46 (View.ld x6 (Rect.unit ![0, 320] ![128, 64] inb_S128x512_S128x64_0_320))) (View.ld x6 (Rect.unit ![0, 384] ![128, 64] inb_S128x512_S128x64_0_384)) (View.ld x6 (Rect.unit ![0, 448] ![128, 64] inb_S128x512_S128x64_0_448)) = L
  generalize STACK x0 = A
  generalize STACK x2 = B
  pointwise [k0_pay4, Cert.AttnReferenceIdeal.Value.own]

theorem wp_apply (w : BitVec 32) (x0 x1 : Vec Ideal S128x512 .bf16) (x6 : Vec Ideal S128x512 .f32) (h : Fin 8) (i j : Fin 128) :
    WP w x0 x1 x6 (ix3 h i j) = Scalar.select (IntOp.andi (before i j) (front w)) (Ideal.exp ((∑ e : Fin 64, (STACK x0 (ix3 h i e) : EReal) * STACK x1 (ix3 h j e)) * Ideal.ofBits .f32 0x3E000000#32 - SAVED x6 (ix3 h i 0))) (0 : EReal) := by
  unfold WP k0_pay49
  change _ = Scalar.select (IntOp.andi (before i j) (front w)) (Ideal.exp (_ - k0_pay47 (k0_pay41 (View.ld x6 (Rect.unit ![0, 0] ![128, 64] inb_S128x512_S128x64_0_0))) (k0_pay42 (View.ld x6 (Rect.unit ![0, 64] ![128, 64] inb_S128x512_S128x64_0_64))) (k0_pay43 (View.ld x6 (Rect.unit ![0, 128] ![128, 64] inb_S128x512_S128x64_0_128))) (k0_pay44 (View.ld x6 (Rect.unit ![0, 192] ![128, 64] inb_S128x512_S128x64_0_192))) (k0_pay45 (View.ld x6 (Rect.unit ![0, 256] ![128, 64] inb_S128x512_S128x64_0_256))) (k0_pay46 (View.ld x6 (Rect.unit ![0, 320] ![128, 64] inb_S128x512_S128x64_0_320))) (View.ld x6 (Rect.unit ![0, 384] ![128, 64] inb_S128x512_S128x64_0_384)) (View.ld x6 (Rect.unit ![0, 448] ![128, 64] inb_S128x512_S128x64_0_448)) (ix3 h i 0))) (0 : EReal)
  generalize k0_pay47 (k0_pay41 (View.ld x6 (Rect.unit ![0, 0] ![128, 64] inb_S128x512_S128x64_0_0))) (k0_pay42 (View.ld x6 (Rect.unit ![0, 64] ![128, 64] inb_S128x512_S128x64_0_64))) (k0_pay43 (View.ld x6 (Rect.unit ![0, 128] ![128, 64] inb_S128x512_S128x64_0_128))) (k0_pay44 (View.ld x6 (Rect.unit ![0, 192] ![128, 64] inb_S128x512_S128x64_0_192))) (k0_pay45 (View.ld x6 (Rect.unit ![0, 256] ![128, 64] inb_S128x512_S128x64_0_256))) (k0_pay46 (View.ld x6 (Rect.unit ![0, 320] ![128, 64] inb_S128x512_S128x64_0_320))) (View.ld x6 (Rect.unit ![0, 384] ![128, 64] inb_S128x512_S128x64_0_384)) (View.ld x6 (Rect.unit ![0, 448] ![128, 64] inb_S128x512_S128x64_0_448)) = L
  generalize STACK x0 = A
  generalize STACK x1 = B
  pointwise [k0_pay5, front, Cert.AttnReferenceIdeal.Value.before]

theorem loss_apply (x5 x7 x8 : Vec Ideal S128x512 .f32) (h : Fin 8) (i : Fin 128) :
    LOSS x5 x7 x8 (ix3 h i 0) = (∑ e : Fin 64, (STACKW x8 (ix3 h i e) : EReal)) - ∑ e : Fin 64, (STACKW x7 (ix3 h i e) : EReal) * STACKW x5 (ix3 h i e) := by
  unfold LOSS
  generalize STACKW x5 = A
  generalize STACKW x7 = B
  generalize STACKW x8 = C
  pointwise [k0_pay50]

theorem sc_apply (x0 x2 x4 : Vec Ideal S128x512 .bf16) (x5 x6 x7 x8 : Vec Ideal S128x512 .f32) (h : Fin 8) (i j : Fin 128) :
    SC x0 x2 x4 x5 x6 x7 x8 (ix3 h i j) = (WC x0 x2 x6 (ix3 h i j) : EReal) * ((∑ e : Fin 64, (STACKW x7 (ix3 h i e) : EReal) * STACK x4 (ix3 h j e)) + LOSS x5 x7 x8 (ix3 h i 0)) := by
  unfold SC k0_pay54 k0_pay53
  change _ = (WC x0 x2 x6 (ix3 h i j) : EReal) * (_ + k0_pay50 (STACKW x7) (STACKW x5) (STACKW x8) (ix3 h i 0))
  generalize k0_pay50 (STACKW x7) (STACKW x5) (STACKW x8) = L
  generalize WC x0 x2 x6 = G
  generalize STACKW x7 = B
  generalize STACK x4 = V
  pointwise [k0_pay52, k0_pay51]

theorem sp_apply (w : BitVec 32) (x0 x1 x3 : Vec Ideal S128x512 .bf16) (x5 x6 x7 x8 : Vec Ideal S128x512 .f32) (h : Fin 8) (i j : Fin 128) :
    SP w x0 x1 x3 x5 x6 x7 x8 (ix3 h i j) = (WP w x0 x1 x6 (ix3 h i j) : EReal) * ((∑ e : Fin 64, (STACKW x7 (ix3 h i e) : EReal) * STACK x3 (ix3 h j e)) + LOSS x5 x7 x8 (ix3 h i 0)) := by
  unfold SP k0_pay55
  generalize LOSS x5 x7 x8 = L
  generalize WP w x0 x1 x6 = G
  generalize STACKW x7 = B
  generalize STACK x3 = V
  pointwise [k0_pay51]

/-- The queries' gradient, a stack of heads. -/
def GQ (w : BitVec 32) (x0 x1 x2 x3 x4 : Vec Ideal S128x512 .bf16) (x5 x6 x7 x8 : Vec Ideal S128x512 .f32) : FVec Ideal S8x128x64 .f32 :=
  k0_pay56 (STACK x2) (STACK x1) (STACK x3) (WC x0 x2 x6) (WP w x0 x1 x6) (LOSS x5 x7 x8) (k0_pay51 (STACKW x7)) (k0_pay52 (STACK x4) (STACKW x7)) (k0_pay53 (STACKW x7) (STACKW x5) (STACKW x8))
/-- The gradient of the keys of the block before. -/
def GKP (w : BitVec 32) (x0 x1 x3 : Vec Ideal S128x512 .bf16) (x5 x6 x7 x8 : Vec Ideal S128x512 .f32) : FVec Ideal S8x128x64 .f32 :=
  k0_pay57 (STACK x0) (STACK x3) (WP w x0 x1 x6) (LOSS x5 x7 x8) (k0_pay51 (STACKW x7))
/-- The gradient of a block's own keys. -/
def GKC (x0 x2 x4 : Vec Ideal S128x512 .bf16) (x5 x6 x7 x8 : Vec Ideal S128x512 .f32) : FVec Ideal S8x128x64 .f32 :=
  k0_pay58 (STACK x0) (WC x0 x2 x6) (k0_pay52 (STACK x4) (STACKW x7)) (k0_pay53 (STACKW x7) (STACKW x5) (STACKW x8))
/-- The gradient of the values of the block before. -/
def GVP (w : BitVec 32) (x0 x1 : Vec Ideal S128x512 .bf16) (x6 x7 : Vec Ideal S128x512 .f32) : FVec Ideal S8x128x64 .f32 :=
  k0_pay59 (WP w x0 x1 x6) (k0_pay51 (STACKW x7))
/-- The gradient of a block's own values. -/
def GVC (x0 x2 : Vec Ideal S128x512 .bf16) (x6 x7 : Vec Ideal S128x512 .f32) : FVec Ideal S8x128x64 .f32 :=
  k0_pay60 (WC x0 x2 x6) (k0_pay51 (STACKW x7))

theorem gq_apply (w : BitVec 32) (x0 x1 x2 x3 x4 : Vec Ideal S128x512 .bf16) (x5 x6 x7 x8 : Vec Ideal S128x512 .f32) (h : Fin 8) (i : Fin 128) (e : Fin 64) :
    GQ w x0 x1 x2 x3 x4 x5 x6 x7 x8 (ix3 h i e) = ((∑ j : Fin 128, (SC x0 x2 x4 x5 x6 x7 x8 (ix3 h i j) : EReal) * STACK x2 (ix3 h j e)) + ∑ j : Fin 128, (SP w x0 x1 x3 x5 x6 x7 x8 (ix3 h i j) : EReal) * STACK x1 (ix3 h j e)) * Ideal.ofBits .f32 0x3E000000#32 := by
  unfold GQ k0_pay56
  change mulf (addf (matmul _ none (SC x0 x2 x4 x5 x6 x7 x8) _ _) (matmul _ none (SP w x0 x1 x3 x5 x6 x7 x8) _ _)) _ _ = _
  generalize SC x0 x2 x4 x5 x6 x7 x8 = A
  generalize SP w x0 x1 x3 x5 x6 x7 x8 = B
  generalize STACK x2 = C
  generalize STACK x1 = D
  pointwise

theorem gkp_apply (w : BitVec 32) (x0 x1 x3 : Vec Ideal S128x512 .bf16) (x5 x6 x7 x8 : Vec Ideal S128x512 .f32) (h : Fin 8) (j : Fin 128) (e : Fin 64) :
    GKP w x0 x1 x3 x5 x6 x7 x8 (ix3 h j e) = (∑ i : Fin 128, (SP w x0 x1 x3 x5 x6 x7 x8 (ix3 h i j) : EReal) * STACK x0 (ix3 h i e)) * Ideal.ofBits .f32 0x3E000000#32 := by
  unfold GKP k0_pay57
  change mulf (matmul _ none (SP w x0 x1 x3 x5 x6 x7 x8) _ _) _ _ = _
  generalize SP w x0 x1 x3 x5 x6 x7 x8 = B
  generalize STACK x0 = D
  pointwise

theorem gkc_apply (x0 x2 x4 : Vec Ideal S128x512 .bf16) (x5 x6 x7 x8 : Vec Ideal S128x512 .f32) (h : Fin 8) (j : Fin 128) (e : Fin 64) :
    GKC x0 x2 x4 x5 x6 x7 x8 (ix3 h j e) = (∑ i : Fin 128, (SC x0 x2 x4 x5 x6 x7 x8 (ix3 h i j) : EReal) * STACK x0 (ix3 h i e)) * Ideal.ofBits .f32 0x3E000000#32 := by
  unfold GKC k0_pay58
  change mulf (matmul _ none (SC x0 x2 x4 x5 x6 x7 x8) _ _) _ _ = _
  generalize SC x0 x2 x4 x5 x6 x7 x8 = B
  generalize STACK x0 = D
  pointwise

theorem gvp_apply (w : BitVec 32) (x0 x1 : Vec Ideal S128x512 .bf16) (x6 x7 : Vec Ideal S128x512 .f32) (h : Fin 8) (j : Fin 128) (e : Fin 64) :
    GVP w x0 x1 x6 x7 (ix3 h j e) = ∑ i : Fin 128, (WP w x0 x1 x6 (ix3 h i j) : EReal) * STACKW x7 (ix3 h i e) := by
  unfold GVP
  generalize WP w x0 x1 x6 = B
  generalize STACKW x7 = D
  pointwise [k0_pay59, k0_pay51]

theorem gvc_apply (x0 x2 : Vec Ideal S128x512 .bf16) (x6 x7 : Vec Ideal S128x512 .f32) (h : Fin 8) (j : Fin 128) (e : Fin 64) :
    GVC x0 x2 x6 x7 (ix3 h j e) = ∑ i : Fin 128, (WC x0 x2 x6 (ix3 h i j) : EReal) * STACKW x7 (ix3 h i e) := by
  unfold GVC
  generalize WC x0 x2 x6 = B
  generalize STACKW x7 = D
  pointwise [k0_pay60, k0_pay51]

end Cert.AttnBKernelIdeal.Value

end
-- ==== Proof.BandBackTiles.lean ====
/-
  The gradient of banded attention: what a grid point leaves in the results' blocks and the two carried blocks.
-/
module

public import proofs.«01_k».proof.Proof.BandBackIdealFrame
public import proofs.«01_k».proof.Proof.BandBackStack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnBKernelIdeal.Value

open Cert.AttnBKernelIdeal Cert.AttnBKernelIdeal.Gen

theorem foldWC (x0 x2 : Vec Ideal S128x512 .bf16) (x6 : Vec Ideal S128x512 .f32) : k0_pay48 k0_pay4 (STACK x0) (STACK x2) (k0_pay41 (View.ld x6 (Rect.unit ![0, 0] ![128, 64] inb_S128x512_S128x64_0_0))) (k0_pay42 (View.ld x6 (Rect.unit ![0, 64] ![128, 64] inb_S128x512_S128x64_0_64))) (k0_pay43 (View.ld x6 (Rect.unit ![0, 128] ![128, 64] inb_S128x512_S128x64_0_128))) (k0_pay44 (View.ld x6 (Rect.unit ![0, 192] ![128, 64] inb_S128x512_S128x64_0_192))) (k0_pay45 (View.ld x6 (Rect.unit ![0, 256] ![128, 64] inb_S128x512_S128x64_0_256))) (k0_pay46 (View.ld x6 (Rect.unit ![0, 320] ![128, 64] inb_S128x512_S128x64_0_320))) (View.ld x6 (Rect.unit ![0, 384] ![128, 64] inb_S128x512_S128x64_0_384)) (View.ld x6 (Rect.unit ![0, 448] ![128, 64] inb_S128x512_S128x64_0_448)) = WC x0 x2 x6 := rfl
theorem foldWP (w : BitVec 32) (x0 x1 : Vec Ideal S128x512 .bf16) (x6 : Vec Ideal S128x512 .f32) : k0_pay49 (k0_pay5 w) (STACK x0) (STACK x1) (k0_pay41 (View.ld x6 (Rect.unit ![0, 0] ![128, 64] inb_S128x512_S128x64_0_0))) (k0_pay42 (View.ld x6 (Rect.unit ![0, 64] ![128, 64] inb_S128x512_S128x64_0_64))) (k0_pay43 (View.ld x6 (Rect.unit ![0, 128] ![128, 64] inb_S128x512_S128x64_0_128))) (k0_pay44 (View.ld x6 (Rect.unit ![0, 192] ![128, 64] inb_S128x512_S128x64_0_192))) (k0_pay45 (View.ld x6 (Rect.unit ![0, 256] ![128, 64] inb_S128x512_S128x64_0_256))) (k0_pay46 (View.ld x6 (Rect.unit ![0, 320] ![128, 64] inb_S128x512_S128x64_0_320))) (View.ld x6 (Rect.unit ![0, 384] ![128, 64] inb_S128x512_S128x64_0_384)) (View.ld x6 (Rect.unit ![0, 448] ![128, 64] inb_S128x512_S128x64_0_448)) = WP w x0 x1 x6 := rfl
theorem foldL (x5 x7 x8 : Vec Ideal S128x512 .f32) : k0_pay50 (STACKW x7) (STACKW x5) (STACKW x8) = LOSS x5 x7 x8 := rfl
theorem foldGQ (w : BitVec 32) (x0 x1 x2 x3 x4 : Vec Ideal S128x512 .bf16) (x5 x6 x7 x8 : Vec Ideal S128x512 .f32) : k0_pay56 (STACK x2) (STACK x1) (STACK x3) (WC x0 x2 x6) (WP w x0 x1 x6) (LOSS x5 x7 x8) (k0_pay51 (STACKW x7)) (k0_pay52 (STACK x4) (STACKW x7)) (k0_pay53 (STACKW x7) (STACKW x5) (STACKW x8)) = GQ w x0 x1 x2 x3 x4 x5 x6 x7 x8 := rfl
theorem foldGKP (w : BitVec 32) (x0 x1 x3 : Vec Ideal S128x512 .bf16) (x5 x6 x7 x8 : Vec Ideal S128x512 .f32) : k0_pay57 (STACK x0) (STACK x3) (WP w x0 x1 x6) (LOSS x5 x7 x8) (k0_pay51 (STACKW x7)) = GKP w x0 x1 x3 x5 x6 x7 x8 := rfl
theorem foldGKC (x0 x2 x4 : Vec Ideal S128x512 .bf16) (x5 x6 x7 x8 : Vec Ideal S128x512 .f32) : k0_pay58 (STACK x0) (WC x0 x2 x6) (k0_pay52 (STACK x4) (STACKW x7)) (k0_pay53 (STACKW x7) (STACKW x5) (STACKW x8)) = GKC x0 x2 x4 x5 x6 x7 x8 := rfl
theorem foldGVP (w : BitVec 32) (x0 x1 : Vec Ideal S128x512 .bf16) (x6 x7 : Vec Ideal S128x512 .f32) : k0_pay59 (WP w x0 x1 x6) (k0_pay51 (STACKW x7)) = GVP w x0 x1 x6 x7 := rfl
theorem foldGVC (x0 x2 : Vec Ideal S128x512 .bf16) (x6 x7 : Vec Ideal S128x512 .f32) : k0_pay60 (WC x0 x2 x6) (k0_pay51 (STACKW x7)) = GVC x0 x2 x6 x7 := rfl

/-- A fill stored first is not seen where later stores cover it. -/
theorem drop_fill (z : View.Piece (Elt Ideal) S128x512 .f32) (y : S128x512.Idx) : ∀ (L : List (View.Piece (Elt Ideal) S128x512 .f32)) (_ : ∃ p ∈ L, y ∈ p.1.set),
    View.canon (L ++ [z]) y = View.canon L y
  | [], hc => by obtain ⟨p, hp, _⟩ := hc; exact absurd hp List.not_mem_nil
  | p :: L, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine drop_fill z y L ?_
      obtain ⟨q, hq, hyq⟩ := hc
      rcases List.mem_cons.mp hq with rfl | hq'
      · exact absurd hyq hm
      · exact ⟨q, hq', hyq⟩

theorem drop_fill8 (p0 p1 p2 p3 p4 p5 p6 p7 z : View.Piece (Elt Ideal) S128x512 .f32) (y : S128x512.Idx)
    (h : View.Piece.tiled [p0, p1, p2, p3, p4, p5, p6, p7] ![128, 64] = true) :
    View.canon [p0, p1, p2, p3, p4, p5, p6, p7, z] y = View.canon [p0, p1, p2, p3, p4, p5, p6, p7] y :=
  drop_fill z y [p0, p1, p2, p3, p4, p5, p6, p7] (View.cover_of_tiled _ _ h y)

set_option maxHeartbeats 4000000 in
/-- The queries' gradient, case A. -/
theorem tilesA9 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec Ideal S128x512 .bf16) (x1 : Vec Ideal S128x512 .bf16) (x2 : Vec Ideal S128x512 .bf16) (x3 : Vec Ideal S128x512 .bf16) (x4 : Vec Ideal S128x512 .bf16) (x5 : Vec Ideal S128x512 .f32) (x6 : Vec Ideal S128x512 .f32) (x7 : Vec Ideal S128x512 .f32) (x8 : Vec Ideal S128x512 .f32) (y : S128x512.Idx) (b : Fin 8) (r : Fin 128) (e : Fin 64)
    (eb : b.val = (y 1 : ℕ) / 64) (er : r.val = (y 0 : ℕ)) (ee : e.val = (y 1 : ℕ) % 64) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 y = GQ (BitVec.ofNat 32 (i 0).val) x0 x1 x2 x3 x4 x5 x6 x7 x8 (ix3 b r e) := by
  unfold out0_A_9
  rw [View.read_writes_junk_eq_canon]
  frame_out
  simp only [stackQ, stackK, stackKp, stackV, stackVp, stackD, stackO, stackL, k0_pay61, k0_pay62, k0_pay63, k0_pay64]
  simp only [foldWC, foldWP, foldL]
  simp only [foldGQ]
  generalize GQ (BitVec.ofNat 32 (i 0).val) x0 x1 x2 x3 x4 x5 x6 x7 x8 = T
  canon_tiles x h
  all_goals (open_payloads; pointwise)
  all_goals blk_ext

set_option maxHeartbeats 4000000 in
/-- The keys' gradient carried on, case A. -/
theorem tilesAs0 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec Ideal S128x512 .bf16) (x1 : Vec Ideal S128x512 .bf16) (x2 : Vec Ideal S128x512 .bf16) (x3 : Vec Ideal S128x512 .bf16) (x4 : Vec Ideal S128x512 .bf16) (x5 : Vec Ideal S128x512 .f32) (x6 : Vec Ideal S128x512 .f32) (x7 : Vec Ideal S128x512 .f32) (x8 : Vec Ideal S128x512 .f32) (y : S128x512.Idx) (b : Fin 8) (r : Fin 128) (e : Fin 64)
    (eb : b.val = (y 1 : ℕ) / 64) (er : r.val = (y 0 : ℕ)) (ee : e.val = (y 1 : ℕ) % 64) :
    out0_A_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 y = GKC x0 x2 x4 x5 x6 x7 x8 (ix3 b r e) := by
  unfold out0_A_s0
  rw [View.read_writes_junk_eq_canon]
  frame_out
  simp only [stackQ, stackK, stackKp, stackV, stackVp, stackD, stackO, stackL, k0_pay61, k0_pay62, k0_pay63, k0_pay64]
  simp only [foldWC, foldWP, foldL]
  simp only [foldGKC]
  generalize GKC x0 x2 x4 x5 x6 x7 x8 = T
  refine (drop_fill8 _ _ _ _ _ _ _ _ _ y ?_).trans ?_
  · rfl
  canon_tiles x h
  all_goals (open_payloads; pointwise)
  all_goals blk_ext

set_option maxHeartbeats 4000000 in
/-- The values' gradient carried on, case A. -/
theorem tilesAs1 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : cond0_2 i)
    (x0 : Vec Ideal S128x512 .bf16) (x1 : Vec Ideal S128x512 .bf16) (x2 : Vec Ideal S128x512 .bf16) (x3 : Vec Ideal S128x512 .bf16) (x4 : Vec Ideal S128x512 .bf16) (x5 : Vec Ideal S128x512 .f32) (x6 : Vec Ideal S128x512 .f32) (x7 : Vec Ideal S128x512 .f32) (x8 : Vec Ideal S128x512 .f32) (y : S128x512.Idx) (b : Fin 8) (r : Fin 128) (e : Fin 64)
    (eb : b.val = (y 1 : ℕ) / 64) (er : r.val = (y 0 : ℕ)) (ee : e.val = (y 1 : ℕ) % 64) :
    out0_A_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 y = GVC x0 x2 x6 x7 (ix3 b r e) := by
  unfold out0_A_s1
  rw [View.read_writes_junk_eq_canon]
  frame_out
  simp only [stackQ, stackK, stackKp, stackV, stackVp, stackD, stackO, stackL, k0_pay61, k0_pay62, k0_pay63, k0_pay64]
  simp only [foldWC, foldWP, foldL]
  simp only [foldGVC]
  generalize GVC x0 x2 x6 x7 = T
  refine (drop_fill8 _ _ _ _ _ _ _ _ _ y ?_).trans ?_
  · rfl
  canon_tiles x h
  all_goals (open_payloads; pointwise)
  all_goals blk_ext

set_option maxHeartbeats 4000000 in
/-- The queries' gradient, case B. -/
theorem tilesB9 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec Ideal S128x512 .bf16) (x1 : Vec Ideal S128x512 .bf16) (x2 : Vec Ideal S128x512 .bf16) (x3 : Vec Ideal S128x512 .bf16) (x4 : Vec Ideal S128x512 .bf16) (x5 : Vec Ideal S128x512 .f32) (x6 : Vec Ideal S128x512 .f32) (x7 : Vec Ideal S128x512 .f32) (x8 : Vec Ideal S128x512 .f32) (xs0 : Vec Ideal S128x512 .f32) (xs1 : Vec Ideal S128x512 .f32) (y : S128x512.Idx) (b : Fin 8) (r : Fin 128) (e : Fin 64)
    (eb : b.val = (y 1 : ℕ) / 64) (er : r.val = (y 0 : ℕ)) (ee : e.val = (y 1 : ℕ) % 64) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1 y = GQ (BitVec.ofNat 32 (i 0).val) x0 x1 x2 x3 x4 x5 x6 x7 x8 (ix3 b r e) := by
  unfold out0_B_9
  rw [View.read_writes_junk_eq_canon]
  frame_out
  simp only [stackQ, stackK, stackKp, stackV, stackVp, stackD, stackO, stackL, k0_pay61, k0_pay62, k0_pay63, k0_pay64]
  simp only [foldWC, foldWP, foldL]
  simp only [foldGQ]
  generalize GQ (BitVec.ofNat 32 (i 0).val) x0 x1 x2 x3 x4 x5 x6 x7 x8 = T
  canon_tiles x h
  all_goals (open_payloads; pointwise)
  all_goals blk_ext

set_option maxHeartbeats 4000000 in
/-- The keys' gradient, case B. -/
theorem tilesB10 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec Ideal S128x512 .bf16) (x1 : Vec Ideal S128x512 .bf16) (x2 : Vec Ideal S128x512 .bf16) (x3 : Vec Ideal S128x512 .bf16) (x4 : Vec Ideal S128x512 .bf16) (x5 : Vec Ideal S128x512 .f32) (x6 : Vec Ideal S128x512 .f32) (x7 : Vec Ideal S128x512 .f32) (x8 : Vec Ideal S128x512 .f32) (xs0 : Vec Ideal S128x512 .f32) (xs1 : Vec Ideal S128x512 .f32) (y : S128x512.Idx) (b : Fin 8) (r : Fin 128) (e : Fin 64)
    (eb : b.val = (y 1 : ℕ) / 64) (er : r.val = (y 0 : ℕ)) (ee : e.val = (y 1 : ℕ) % 64) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1 y = (xs0 (ix2 r ⟨b.val * 64 + e.val, by omega⟩) : EReal) + GKP (BitVec.ofNat 32 (i 0).val) x0 x1 x3 x5 x6 x7 x8 (ix3 b r e) := by
  unfold out0_B_10
  rw [View.read_writes_junk_eq_canon]
  frame_out
  simp only [stackQ, stackK, stackKp, stackV, stackVp, stackD, stackO, stackL, k0_pay61, k0_pay62, k0_pay63, k0_pay64]
  simp only [foldWC, foldWP, foldL]
  simp only [foldGKP]
  generalize GKP (BitVec.ofNat 32 (i 0).val) x0 x1 x3 x5 x6 x7 x8 = T
  canon_tiles x h
  all_goals (open_payloads; pointwise)
  all_goals (refine congrArg₂ (fun a b : EReal => a + b) ?_ ?_ <;> blk_ext)

set_option maxHeartbeats 4000000 in
/-- The values' gradient, case B. -/
theorem tilesB11 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec Ideal S128x512 .bf16) (x1 : Vec Ideal S128x512 .bf16) (x2 : Vec Ideal S128x512 .bf16) (x3 : Vec Ideal S128x512 .bf16) (x4 : Vec Ideal S128x512 .bf16) (x5 : Vec Ideal S128x512 .f32) (x6 : Vec Ideal S128x512 .f32) (x7 : Vec Ideal S128x512 .f32) (x8 : Vec Ideal S128x512 .f32) (xs0 : Vec Ideal S128x512 .f32) (xs1 : Vec Ideal S128x512 .f32) (y : S128x512.Idx) (b : Fin 8) (r : Fin 128) (e : Fin 64)
    (eb : b.val = (y 1 : ℕ) / 64) (er : r.val = (y 0 : ℕ)) (ee : e.val = (y 1 : ℕ) % 64) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1 y = (xs1 (ix2 r ⟨b.val * 64 + e.val, by omega⟩) : EReal) + GVP (BitVec.ofNat 32 (i 0).val) x0 x1 x6 x7 (ix3 b r e) := by
  unfold out0_B_11
  rw [View.read_writes_junk_eq_canon]
  frame_out
  simp only [stackQ, stackK, stackKp, stackV, stackVp, stackD, stackO, stackL, k0_pay61, k0_pay62, k0_pay63, k0_pay64]
  simp only [foldWC, foldWP, foldL]
  simp only [foldGVP]
  generalize GVP (BitVec.ofNat 32 (i 0).val) x0 x1 x6 x7 = T
  canon_tiles x h
  all_goals (open_payloads; pointwise)
  all_goals (refine congrArg₂ (fun a b : EReal => a + b) ?_ ?_ <;> blk_ext)

set_option maxHeartbeats 4000000 in
/-- The keys' gradient carried on, case B. -/
theorem tilesBs0 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec Ideal S128x512 .bf16) (x1 : Vec Ideal S128x512 .bf16) (x2 : Vec Ideal S128x512 .bf16) (x3 : Vec Ideal S128x512 .bf16) (x4 : Vec Ideal S128x512 .bf16) (x5 : Vec Ideal S128x512 .f32) (x6 : Vec Ideal S128x512 .f32) (x7 : Vec Ideal S128x512 .f32) (x8 : Vec Ideal S128x512 .f32) (xs0 : Vec Ideal S128x512 .f32) (xs1 : Vec Ideal S128x512 .f32) (y : S128x512.Idx) (b : Fin 8) (r : Fin 128) (e : Fin 64)
    (eb : b.val = (y 1 : ℕ) / 64) (er : r.val = (y 0 : ℕ)) (ee : e.val = (y 1 : ℕ) % 64) :
    out0_B_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1 y = GKC x0 x2 x4 x5 x6 x7 x8 (ix3 b r e) := by
  unfold out0_B_s0
  rw [View.read_writes_junk_eq_canon]
  frame_out
  simp only [stackQ, stackK, stackKp, stackV, stackVp, stackD, stackO, stackL, k0_pay61, k0_pay62, k0_pay63, k0_pay64]
  simp only [foldWC, foldWP, foldL]
  simp only [foldGKC]
  generalize GKC x0 x2 x4 x5 x6 x7 x8 = T
  canon_tiles x h
  all_goals (open_payloads; pointwise)
  all_goals blk_ext

set_option maxHeartbeats 4000000 in
/-- The values' gradient carried on, case B. -/
theorem tilesBs1 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : cond0_2 i)
    (x0 : Vec Ideal S128x512 .bf16) (x1 : Vec Ideal S128x512 .bf16) (x2 : Vec Ideal S128x512 .bf16) (x3 : Vec Ideal S128x512 .bf16) (x4 : Vec Ideal S128x512 .bf16) (x5 : Vec Ideal S128x512 .f32) (x6 : Vec Ideal S128x512 .f32) (x7 : Vec Ideal S128x512 .f32) (x8 : Vec Ideal S128x512 .f32) (xs0 : Vec Ideal S128x512 .f32) (xs1 : Vec Ideal S128x512 .f32) (y : S128x512.Idx) (b : Fin 8) (r : Fin 128) (e : Fin 64)
    (eb : b.val = (y 1 : ℕ) / 64) (er : r.val = (y 0 : ℕ)) (ee : e.val = (y 1 : ℕ) % 64) :
    out0_B_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1 y = GVC x0 x2 x6 x7 (ix3 b r e) := by
  unfold out0_B_s1
  rw [View.read_writes_junk_eq_canon]
  frame_out
  simp only [stackQ, stackK, stackKp, stackV, stackVp, stackD, stackO, stackL, k0_pay61, k0_pay62, k0_pay63, k0_pay64]
  simp only [foldWC, foldWP, foldL]
  simp only [foldGVC]
  generalize GVC x0 x2 x6 x7 = T
  canon_tiles x h
  all_goals (open_payloads; pointwise)
  all_goals blk_ext

/-- At the last point the carried block is stored. -/
theorem tilesC10 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : cond0_1 i) (hc2 : ¬cond0_2 i)
    (x0 : Vec Ideal S128x512 .bf16) (x1 : Vec Ideal S128x512 .bf16) (x2 : Vec Ideal S128x512 .bf16) (x3 : Vec Ideal S128x512 .bf16) (x4 : Vec Ideal S128x512 .bf16) (x5 : Vec Ideal S128x512 .f32) (x6 : Vec Ideal S128x512 .f32) (x7 : Vec Ideal S128x512 .f32) (x8 : Vec Ideal S128x512 .f32) (xs0 : Vec Ideal S128x512 .f32) (xs1 : Vec Ideal S128x512 .f32) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1 = xs0 := by
  unfold out0_C_10
  rw [View.read_writes_junk_eq_canon]
  frame_out

/-- At the last point the carried block is stored. -/
theorem tilesC11 (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : cond0_1 i) (hc2 : ¬cond0_2 i)
    (x0 : Vec Ideal S128x512 .bf16) (x1 : Vec Ideal S128x512 .bf16) (x2 : Vec Ideal S128x512 .bf16) (x3 : Vec Ideal S128x512 .bf16) (x4 : Vec Ideal S128x512 .bf16) (x5 : Vec Ideal S128x512 .f32) (x6 : Vec Ideal S128x512 .f32) (x7 : Vec Ideal S128x512 .f32) (x8 : Vec Ideal S128x512 .f32) (xs0 : Vec Ideal S128x512 .f32) (xs1 : Vec Ideal S128x512 .f32) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0 xs1 = xs1 := by
  unfold out0_C_11
  rw [View.read_writes_junk_eq_canon]
  frame_out

end Cert.AttnBKernelIdeal.Value

end
-- ==== Proof.BandBackRow.lean ====
/-
  One query's row of the gradient of banded attention, on finite scores. The reference differentiates the softmax as it is
  written, through the maximum, the sum and the quotient; the kernel forms the weights from the saved logarithm of the sum
  and subtracts the saved row product. On finite numbers the gradient through the maximum has a zero numerator, and both
  are the same real number.
-/
module

public import Idealize.ShloMosaic.Lib.Pipeline.ValueKit
public import proofs.«01_k».proof.Proof.BandRow

@[expose] public section

noncomputable section

open Idealize.ShloMosaic

namespace BandRow

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem pick {α : Type} {c : BitVec 1} (h : c = 1#1) (a b : α) : Scalar.select c a b = a := if_pos h
theorem drop {α : Type} {c : BitVec 1} (h : ¬ c = 1#1) (a b : α) : Scalar.select c a b = b := if_neg h

/-- The masked row of scores. -/
abbrev masked (m : Fin 256 → BitVec 1) (x : Fin 256 → EReal) : Fin 256 → EReal := fun b => Scalar.select (m b) (x b) ⊥

/-- The gradient of the shifted scores, as the reference writes it: through the quotient's numerator and through the sum. -/
def inner (s g : Fin 256 → EReal) (l : EReal) (b : Fin 256) : EReal :=
  (Ideal.div (g b) (den1 ⊥ s) + (Ideal.div l (den1 ⊥ s)
      + -(∑ a, (g a * Ideal.div 1 (den1 ⊥ s * den1 ⊥ s)) * Ideal.exp (s a - top ⊥ s))))
    * Ideal.exp (s b - top ⊥ s)

/-- The gradient of the scores, as the reference writes it: the gradient of the maximum is shared by the places that attain it. -/
def refds (m : Fin 256 → BitVec 1) (s g : Fin 256 → EReal) (l k : EReal) (eq : Fin 256 → EReal) (b : Fin 256) : EReal :=
  Scalar.select (m b) (inner s g l b + Ideal.div (l + ∑ a, -(inner s g l a)) (∑ a, eq a) * eq b) 0 * k

/-- The weight the kernel forms from the saved logarithm. -/
def weight (m : Fin 256 → BitVec 1) (x : Fin 256 → EReal) (b : Fin 256) : EReal :=
  Scalar.select (m b) (Ideal.exp (x b - lse1 ⊥ (masked m x))) 0

/-- The gradient of the scores, as the kernel forms it. -/
def kerds (m : Fin 256 → BitVec 1) (x g : Fin 256 → EReal) (l : EReal) (o : EReal) (b : Fin 256) : EReal :=
  weight m x b * (g b + (l - o))

section
variable (m : Fin 256 → BitVec 1) (x : Fin 256 → ℝ) (b0 : Fin 256) (h0 : m b0 = 1#1)
include h0

theorem top_real : ∃ M : ℝ, top ⊥ (masked m fun b => x b) = M ∧ ∃ b, masked m (fun b => (x b : EReal)) b = M := by
  have e : top ⊥ (masked m fun b => x b) = Finset.univ.sup (masked m fun b => x b) := rfl
  obtain ⟨b, -, hb⟩ := Finset.exists_mem_eq_sup (Finset.univ : Finset (Fin 256)) ⟨0, Finset.mem_univ _⟩ (masked m fun b => (x b : EReal))
  have hle : masked m (fun b => (x b : EReal)) b0 ≤ Finset.univ.sup (masked m fun b => (x b : EReal)) := Finset.le_sup (Finset.mem_univ b0)
  have hs0 : masked m (fun b => (x b : EReal)) b0 = x b0 := pick h0 _ _
  rw [hs0, hb] at hle
  by_cases hm : m b = 1#1
  · have hs : masked m (fun b => (x b : EReal)) b = x b := pick hm _ _
    exact ⟨x b, by rw [e, hb, hs], b, hs⟩
  · have hs : masked m (fun b => (x b : EReal)) b = ⊥ := drop hm _ _
    rw [hs] at hle
    exact absurd (le_bot_iff.mp hle) (EReal.coe_ne_bot _)

/-- Everything a row's softmax is made of, as real numbers. -/
theorem row_real : ∃ (M D : ℝ) (w : Fin 256 → ℝ), top ⊥ (masked m fun b => x b) = M
    ∧ (∃ b, masked m (fun b => (x b : EReal)) b = M)
    ∧ (∀ b, Ideal.exp (masked m (fun b => (x b : EReal)) b - top ⊥ (masked m fun b => x b)) = w b)
    ∧ (∀ b, m b ≠ 1#1 → w b = 0) ∧ (∀ b, m b = 1#1 → w b = Real.exp (x b - M))
    ∧ den1 ⊥ (masked m fun b => x b) = D ∧ D = ∑ b, w b ∧ 0 < D := by
  obtain ⟨M, hM, hb⟩ := top_real m x b0 h0
  let w : Fin 256 → ℝ := fun b => if m b = 1#1 then Real.exp (x b - M) else 0
  have hw : ∀ b, Ideal.exp (masked m (fun b => (x b : EReal)) b - top ⊥ (masked m fun b => x b)) = w b := by
    intro b
    rw [hM]
    by_cases h : m b = 1#1
    · have hs : masked m (fun b => (x b : EReal)) b = x b := pick h _ _
      rw [hs, ← EReal.coe_sub, Ideal.exp_coe]
      simp only [w, if_pos h]
    · have hs : masked m (fun b => (x b : EReal)) b = ⊥ := drop h _ _
      rw [hs, exp_masked]
      simp only [w, if_neg h, EReal.coe_zero]
  have nn : ∀ b, 0 ≤ w b := fun b => by
    by_cases h : m b = 1#1
    · simp only [w, if_pos h]; exact (Real.exp_pos _).le
    · simp only [w, if_neg h]; exact le_refl _
  refine ⟨M, ∑ b, w b, w, hM, hb, hw, fun b h => ?_, fun b h => ?_, ?_, rfl, ?_⟩
  · simp only [w, if_neg h]
  · simp only [w, if_pos h]
  · unfold den1
    rw [coe_sum]
    exact Finset.sum_congr rfl fun b _ => hw b
  · refine Finset.sum_pos' (fun b _ => nn b) ⟨b0, Finset.mem_univ _, ?_⟩
    simp only [w, if_pos h0]
    exact Real.exp_pos _

/-- The kernel's weight is the reference's quotient, and a real number. -/
theorem weight_real (b : Fin 256) : ∃ r : ℝ, weight m (fun b => x b) b = r
    ∧ Ideal.div (Ideal.exp (masked m (fun b => (x b : EReal)) b - top ⊥ (masked m fun b => x b))) (den1 ⊥ (masked m fun b => x b)) = r := by
  obtain ⟨M, D, w, hM, -, hw, hw0, hw1, hD, -, hpos⟩ := row_real m x b0 h0
  refine ⟨w b / D, ?_, ?_⟩
  · unfold weight
    by_cases h : m b = 1#1
    · rw [pick h]
      unfold lse1
      rw [hM, hD, Ideal.log_coe, if_neg (not_le.mpr hpos), ← EReal.coe_add, ← EReal.coe_sub, Ideal.exp_coe, hw1 b h]
      refine congrArg _ ?_
      rw [show x b - (M + Real.log D) = (x b - M) - Real.log D by ring, Real.exp_sub, Real.exp_log hpos]
    · rw [drop h, hw0 b h, _root_.zero_div, EReal.coe_zero]
  · rw [hw, hD, Ideal.div_coe hpos.ne', ← EReal.coe_mul]
    exact congrArg _ (by ring)

/-- The kernel's weight is the reference's quotient. -/
theorem weight_eq (b : Fin 256) : weight m (fun b => x b) b
    = Ideal.div (Ideal.exp (masked m (fun b => (x b : EReal)) b - top ⊥ (masked m fun b => x b))) (den1 ⊥ (masked m fun b => x b)) := by
  obtain ⟨r, h, g⟩ := weight_real m x b0 h0 b
  rw [h, g]

/-- The gradient of the scores: the reference's is the kernel's, scaled, and the kernel's is a real number. -/
theorem grad_row (v : Fin 256 → Fin 64 → ℝ) (d : Fin 64 → ℝ) (l k : ℝ) (g eq : Fin 256 → EReal)
    (hg : ∀ b, g b = ∑ e, (d e : EReal) * (v b e : EReal))
    (heq : ∀ b, eq b = if masked m (fun b => (x b : EReal)) b = top ⊥ (masked m fun b => x b) then (1 : EReal) else 0) (b : Fin 256) :
    ∃ r : ℝ, kerds m (fun b => x b) g l (∑ e, (d e : EReal) * out1 ⊥ (masked m fun b => x b) fun b => (v b e : EReal)) b = r
      ∧ refds m (masked m fun b => x b) g l k eq b = (r : EReal) * k := by
  have hwt := weight_real m x b0 h0
  choose p hp hp' using hwt
  obtain ⟨M, D, w, hM, ⟨b1, hb1⟩, hw, hw0, hw1, hD, hsum, hpos⟩ := row_real m x b0 h0
  have hpw : ∀ b, p b = w b / D := fun b => by
    have h := hp' b
    rw [hw, hD, Ideal.div_coe hpos.ne', ← EReal.coe_mul] at h
    rw [← EReal.coe_injective h]; ring
  let G : Fin 256 → ℝ := fun b => ∑ e, d e * v b e
  have hG : ∀ b, g b = (G b : EReal) := fun b => by
    rw [hg, coe_sum]; exact Finset.sum_congr rfl fun e _ => (EReal.coe_mul _ _).symm
  have hout : ∀ e, out1 ⊥ (masked m fun b => (x b : EReal)) (fun b => (v b e : EReal)) = ((∑ b, v b e * p b : ℝ) : EReal) := fun e => by
    unfold out1
    rw [coe_sum]
    exact Finset.sum_congr rfl fun b _ => by rw [hp' b, EReal.coe_mul]
  have ho : (∑ e, (d e : EReal) * out1 ⊥ (masked m fun b => (x b : EReal)) fun b => (v b e : EReal)) = ((∑ b, p b * G b : ℝ) : EReal) := by
    have : (∑ b, p b * G b : ℝ) = ∑ e, d e * ∑ b, v b e * p b := by
      simp only [G, Finset.mul_sum]
      rw [Finset.sum_comm]
      exact Finset.sum_congr rfl fun e _ => Finset.sum_congr rfl fun b _ => by ring
    rw [this, coe_sum]
    exact Finset.sum_congr rfl fun e _ => by rw [hout, EReal.coe_mul]
  have hps : ∑ b, p b = 1 := by
    simp only [hpw]
    rw [← Finset.sum_div, ← hsum, div_self hpos.ne']
  let T : ℝ := ∑ b, p b * G b
  have hin : ∀ b, inner (masked m fun b => (x b : EReal)) g l b = ((p b * (G b + (l - T)) : ℝ) : EReal) := fun b => by
    unfold inner
    have hs : (∑ a, (g a * Ideal.div 1 (den1 ⊥ (masked m fun b => (x b : EReal)) * den1 ⊥ (masked m fun b => (x b : EReal)))) * Ideal.exp (masked m (fun b => (x b : EReal)) a - top ⊥ (masked m fun b => x b)))
        = ((∑ a, G a * (1 * (1 / (D * D))) * w a : ℝ) : EReal) := by
      rw [coe_sum]
      refine Finset.sum_congr rfl fun a _ => ?_
      rw [hG, hw, hD, ← EReal.coe_mul, Ideal.div_coe (mul_pos hpos hpos).ne', ← EReal.coe_one, ← EReal.coe_mul, ← EReal.coe_mul, ← EReal.coe_mul]
    rw [hs, hw, hD, hG, Ideal.div_coe hpos.ne', Ideal.div_coe hpos.ne', ← EReal.coe_neg, ← EReal.coe_mul, ← EReal.coe_mul,
      ← EReal.coe_add, ← EReal.coe_add, ← EReal.coe_mul]
    refine congrArg _ ?_
    have ht : (∑ a, G a * (1 * (1 / (D * D))) * w a) = T / D := by
      simp only [T, Finset.sum_div]
      exact Finset.sum_congr rfl fun a _ => by rw [hpw]; field_simp
    rw [ht, hpw]
    field_simp
    ring
  have hnum : (l : EReal) + ∑ a, -(inner (masked m fun b => (x b : EReal)) g l a) = 0 := by
    have : ∑ a, -(inner (masked m fun b => (x b : EReal)) g l a) = ((∑ a, -(p a * (G a + (l - T))) : ℝ) : EReal) := by
      rw [coe_sum]
      exact Finset.sum_congr rfl fun a _ => by rw [hin, EReal.coe_neg]
    rw [this, ← EReal.coe_add, ← EReal.coe_zero]
    refine congrArg _ ?_
    have h2 : (∑ a, -(p a * (G a + (l - T)))) = -(T + (∑ a, p a) * (l - T)) := by
      rw [Finset.sum_neg_distrib, Finset.sum_mul]
      simp only [T]
      rw [← Finset.sum_add_distrib]
      exact congrArg _ (Finset.sum_congr rfl fun a _ => by ring)
    rw [h2, hps]; ring
  have hcnt : (∑ a, eq a) ≠ 0 := by
    have nn : ∀ a ∈ Finset.univ, 0 ≤ eq a := fun a _ => by
      rw [heq]; split
      · exact zero_le_one
      · exact le_refl _
    have h1 := Finset.single_le_sum nn (Finset.mem_univ b1)
    rw [heq b1, hM, if_pos hb1] at h1
    intro h
    rw [h] at h1
    exact absurd h1 (not_le.mpr zero_lt_one)
  have hz : Ideal.div 0 (∑ a, eq a) = 0 := by
    unfold Ideal.div; rw [if_neg hcnt, zero_mul]
  refine ⟨p b * (G b + (l - T)), ?_, ?_⟩
  · unfold kerds
    rw [hp, hG, ho, ← EReal.coe_sub, ← EReal.coe_add, ← EReal.coe_mul]
  · unfold refds
    rw [hnum, hz, zero_mul, add_zero, hin]
    refine congrArg (· * (k : EReal)) ?_
    by_cases h : m b = 1#1
    · exact pick h _ _
    · rw [drop h, hpw, hw0 b h, _root_.zero_div, zero_mul, EReal.coe_zero]

end

/-- A scale that every term of a sum of finite products carries comes out of the sum. -/
theorem scale_out {n : ℕ} (r y : Fin n → ℝ) (k : ℝ) :
    ∑ i, ((r i : EReal) * (k : EReal)) * (y i : EReal) = (∑ i, (r i : EReal) * (y i : EReal)) * (k : EReal) := by
  have h1 : ∑ i, ((r i : EReal) * (k : EReal)) * (y i : EReal) = ((∑ i, r i * k * y i : ℝ) : EReal) := by
    rw [coe_sum]; exact Finset.sum_congr rfl fun i _ => by rw [EReal.coe_mul, EReal.coe_mul]
  have h2 : ∑ i, (r i : EReal) * (y i : EReal) = ((∑ i, r i * y i : ℝ) : EReal) := by
    rw [coe_sum]; exact Finset.sum_congr rfl fun i _ => by rw [EReal.coe_mul]
  rw [h1, h2, ← EReal.coe_mul, Finset.sum_mul]
  exact congrArg _ (Finset.sum_congr rfl fun i _ => by ring)

end BandRow

end
-- ==== Proof.BandBackRef.lean ====
/-
  The gradient of banded attention: what the reference computes, index by index.
-/
module

public import proofs.«01_k».proof.Proof.Gen.AttnBReferenceIdeal
public import proofs.«01_k».proof.Proof.AttnRef
public import proofs.«01_k».proof.Proof.BandBackRow
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

namespace Cert.AttnBReferenceIdeal.Value

open Cert.AttnBReferenceIdeal Cert.AttnBReferenceIdeal.Gen
open Cert.AttnReferenceIdeal.Value (BLOCKS BANDS SCORE VALID RMAX RSUM MX EX DEN inBand lift_eq cut5 rsum_apply rmax_apply ex_apply den_apply low)

/-- The mask, one a head. -/
def MASK : IVec S1x1x64x8x128x256 1 :=
  broadcastInDim S1x1x64x8x128x256 ![0, 1, 2, 3, 4, 5] bcast_S1x1x64x1x128x256_S1x1x64x8x128x256_0_1_2_3_4_5 (broadcastInDim S1x1x64x1x128x256 ![2, 4, 5] bcast_S64x128x256_S1x1x64x1x128x256_2_4_5 VALID)

/-- The gradient of the logarithms: a head's columns summed. -/
def SUMS (A : FVec Ideal S8192x512 .f32) : FVec Ideal S1x1x64x8x128x1 .f32 :=
  broadcastInDim S1x1x64x8x128x1 ![0, 1, 2, 3, 4] bcast_S1x1x64x8x128_S1x1x64x8x128x1_0_1_2_3_4 (transpose S1x1x64x8x128 [0, 1, 2, 4, 3] (shapeCast _ (transpose S1x1x8192x8 [0, 2, 1, 3] (shapeCast _ (Host.reduceAdd (shapeCast _ A shapeCasts_S8192x512_S1x8192x8x64) (constant S_ .f32 0x00000000#32) reducesTo_S1x8192x8x64_S1x8192x8_d3 h_S_) shapeCasts_S1x8192x8_S1x8192x1x8) transposes_S1x8192x1x8_S1x1x8192x8_0_2_1_3) shapeCasts_S1x1x8192x8_S1x1x64x128x8) transposes_S1x1x64x128x8_S1x1x64x8x128_0_1_2_4_3)

/-- The result's gradient, a head's columns before its rows. -/
def TURNED (A : FVec Ideal S8192x512 .f32) : FVec Ideal S1x1x64x8x64x128 .f32 :=
  transpose S1x1x64x8x64x128 [0, 1, 2, 4, 5, 3] (BLOCKS A) transposes_S1x1x64x128x8x64_S1x1x64x8x64x128_0_1_2_4_5_3

/-- The gradient of the weights. -/
def GRADW (d : FVec Ideal S1x1x64x8x64x128 .f32) (v : FVec Ideal S1x1x64x256x8x64 .f32) : FVec Ideal S1x1x64x8x128x256 .f32 :=
  Host.dotGeneral dot_S1x1x64x8x64x128_S1x1x64x256x8x64_S1x1x64x8x128x256_4_5_5_3_0123_0124 none d v

/-- The weights. -/
def WEIGHTS (s : FVec Ideal S1x1x64x8x128x256 .f32) : FVec Ideal S1x1x64x8x128x256 .f32 :=
  Host.divf (EX s) (broadcastInDim S1x1x64x8x128x256 ![0, 1, 2, 3, 4, 5] bcast_S1x1x64x8x128x1_S1x1x64x8x128x256_0_1_2_3_4_5 (DEN s))

/-- The gradient of the values' bands. -/
def GRADV (d : FVec Ideal S1x1x64x8x64x128 .f32) (w : FVec Ideal S1x1x64x8x128x256 .f32) : FVec Ideal S1x1x64x256x8x64 .f32 :=
  transpose S1x1x64x256x8x64 [0, 1, 2, 5, 3, 4] (Host.dotGeneral dot_S1x1x64x8x64x128_S1x1x64x8x128x256_S1x1x64x8x64x256_5_4_4_5_0123_0123 none d w) transposes_S1x1x64x8x64x256_S1x1x64x256x8x64_0_1_2_5_3_4

/-- Which places attain the maximum. -/
def TIES (s : FVec Ideal S1x1x64x8x128x256 .f32) : FVec Ideal S1x1x64x8x128x256 .f32 :=
  uitofp .f32 (cmpf .oeq s (broadcastInDim S1x1x64x8x128x256 ![0, 1, 2, 3, 4, 5] bcast_S1x1x64x8x128x1_S1x1x64x8x128x256_0_1_2_3_4_5 (shapeCast _ (RMAX s) shapeCasts_S1x1x64x8x128_S1x1x64x8x128x1)))

/-- A column of rows with its dimensions of one dropped. -/
def BARE (l : FVec Ideal S1x1x64x8x128x1 .f32) : FVec Ideal S64x8x128 .f32 :=
  Host.reduceAdd l (constant S_ .f32 0x00000000#32) reducesTo_S1x1x64x8x128x1_S64x8x128_d0_1_5 h_S_

/-- Rows' numbers as a column. -/
def COLUMN (l : FVec Ideal S1x1x64x8x128 .f32) : FVec Ideal S1x1x64x8x128x1 .f32 :=
  shapeCast _ l shapeCasts_S1x1x64x8x128_S1x1x64x8x128x1

/-- The inverse of the squared sums, spread over the rows. -/
def INVSQ (den : FVec Ideal S1x1x64x8x128x1 .f32) : FVec Ideal S1x1x64x8x128x256 .f32 :=
  broadcastInDim S1x1x64x8x128x256 ![0, 1, 2, 3, 4, 5] bcast_S1x1x64x8x128x1_S1x1x64x8x128x256_0_1_2_3_4_5 (Host.divf (broadcastInDim S1x1x64x8x128x1 ![] bcast_S_S1x1x64x8x128x1 (constant S_ .f32 0x3F800000#32)) (mulf den den))

/-- What the sum of the weights contributes. -/
def THROUGH (den l : FVec Ideal S1x1x64x8x128x1 .f32) (x g : FVec Ideal S1x1x64x8x128x256 .f32) : FVec Ideal S1x1x64x8x128x1 .f32 :=
  addf (Host.divf l den) (Host.negf (COLUMN (RSUM (mulf (mulf g (INVSQ den)) x))))

/-- The gradient of the shifted scores. -/
def SHIFTED (den l : FVec Ideal S1x1x64x8x128x1 .f32) (x g : FVec Ideal S1x1x64x8x128x256 .f32) : FVec Ideal S1x1x64x8x128x256 .f32 :=
  mulf (addf (Host.divf g (broadcastInDim S1x1x64x8x128x256 ![0, 1, 2, 3, 4, 5] bcast_S1x1x64x8x128x1_S1x1x64x8x128x256_0_1_2_3_4_5 den)) (broadcastInDim S1x1x64x8x128x256 ![0, 1, 2, 3, 4] bcast_S1x1x64x8x128_S1x1x64x8x128x256_0_1_2_3_4 (broadcastInDim S1x1x64x8x128 ![2, 3, 4] bcast_S64x8x128_S1x1x64x8x128_2_3_4 (BARE (THROUGH den l x g))))) x

/-- What the maximum contributes, shared by the places that attain it. -/
def SHARED (l : FVec Ideal S1x1x64x8x128x1 .f32) (u t : FVec Ideal S1x1x64x8x128x256 .f32) : FVec Ideal S1x1x64x8x128 .f32 :=
  Host.divf (broadcastInDim S1x1x64x8x128 ![2, 3, 4] bcast_S64x8x128_S1x1x64x8x128_2_3_4 (BARE (addf l (COLUMN (RSUM (Host.negf u)))))) (RSUM t)

/-- The gradient of the products of queries and keys. -/
def GRADS (l : FVec Ideal S1x1x64x8x128x1 .f32) (u t : FVec Ideal S1x1x64x8x128x256 .f32) : FVec Ideal S1x1x64x8x128x256 .f32 :=
  mulf (select MASK (addf u (mulf (broadcastInDim S1x1x64x8x128x256 ![0, 1, 2, 3, 4] bcast_S1x1x64x8x128_S1x1x64x8x128x256_0_1_2_3_4 (SHARED l u t)) t)) (broadcastInDim S1x1x64x8x128x256 ![] bcast_S_S1x1x64x8x128x256 (constant S_ .f32 0x00000000#32))) (broadcastInDim S1x1x64x8x128x256 ![] bcast_S_S1x1x64x8x128x256 (constant S_ .f32 0x3E000000#32))

/-- The gradient of the products, from the scores, the weights' gradient and the logarithms' gradient. -/
def PRODS (s g : FVec Ideal S1x1x64x8x128x256 .f32) (l : FVec Ideal S1x1x64x8x128x1 .f32) : FVec Ideal S1x1x64x8x128x256 .f32 :=
  GRADS l (SHIFTED (DEN s) l (EX s) g) (TIES s)

/-- The gradient of the queries' blocks. -/
def GRADQ (p : FVec Ideal S1x1x64x8x128x256 .f32) (k : FVec Ideal S1x1x64x256x8x64 .f32) : FVec Ideal S1x1x64x128x8x64 .f32 :=
  transpose S1x1x64x128x8x64 [0, 1, 2, 4, 3, 5] (Host.dotGeneral dot_S1x1x64x8x128x256_S1x1x64x256x8x64_S1x1x64x8x128x64_5_3_4_5_0123_0124 none p k) transposes_S1x1x64x8x128x64_S1x1x64x128x8x64_0_1_2_4_3_5

/-- The gradient of the keys' bands. -/
def GRADK (p : FVec Ideal S1x1x64x8x128x256 .f32) (q : FVec Ideal S1x1x64x128x8x64 .f32) : FVec Ideal S1x1x64x256x8x64 .f32 :=
  transpose S1x1x64x256x8x64 [0, 1, 2, 4, 3, 5] (Host.dotGeneral dot_S1x1x64x8x128x256_S1x1x64x128x8x64_S1x1x64x8x256x64_4_3_5_5_0123_0124 none p q) transposes_S1x1x64x8x256x64_S1x1x64x256x8x64_0_1_2_4_3_5

/-- A band's two halves added to the blocks they came from. -/
def FOLDED (b : FVec Ideal S1x1x64x256x8x64 .f32) : FVec Ideal S1x1x65x128x8x64 .f32 :=
  addf (pad S1x1x65x128x8x64 ![0, 0, 1, 0, 0, 0] ![0, 0, 0, 0, 0, 0] ![0, 0, 0, 0, 0, 0] (extractStridedSlice S1x1x64x128x8x64 ![0, 0, 0, 128, 0, 0] b slices_S1x1x64x256x8x64_S1x1x64x128x8x64_0_0_0_128_0_0) (constant S_ .f32 0x00000000#32) pads_S1x1x64x128x8x64_S1x1x65x128x8x64_000_000_100_000_000_000 h_S_) (pad S1x1x65x128x8x64 ![0, 0, 0, 0, 0, 0] ![0, 0, 1, 0, 0, 0] ![0, 0, 0, 0, 0, 0] (extractStridedSlice S1x1x64x128x8x64 ![0, 0, 0, 0, 0, 0] b slices_S1x1x64x256x8x64_S1x1x64x128x8x64_0_0_0_0_0_0) (constant S_ .f32 0x00000000#32) pads_S1x1x64x128x8x64_S1x1x65x128x8x64_000_000_010_000_000_000 h_S_)

/-- Blocks as an array again. -/
def ARRAY (b : FVec Ideal S1x1x64x128x8x64 .f32) : FVec Ideal S8192x512 .f32 :=
  shapeCast _ (shapeCast _ (transpose S1x8192x1x8x64 [0, 2, 1, 3, 4] (shapeCast _ b shapeCasts_S1x1x64x128x8x64_S1x1x8192x8x64) transposes_S1x1x8192x8x64_S1x8192x1x8x64_0_2_1_3_4) shapeCasts_S1x8192x1x8x64_S1x8192x8x64) shapeCasts_S1x8192x8x64_S8192x512

/-- Bands folded, without the block of zeros in front. -/
def UNBAND (b : FVec Ideal S1x1x64x256x8x64 .f32) : FVec Ideal S8192x512 .f32 :=
  ARRAY (extractStridedSlice S1x1x64x128x8x64 ![0, 0, 1, 0, 0, 0] (FOLDED b) slices_S1x1x65x128x8x64_S1x1x64x128x8x64_0_0_1_0_0_0)

section Results

variable (A0 A1 A2 A3 A4 : FVec Ideal S8192x512 .f32)

/-- The gradient of the products, from the arguments. -/
def DPROD : FVec Ideal S1x1x64x8x128x256 .f32 := PRODS (SCORE A0 A1) (GRADW (TURNED A3) (BANDS A2)) (SUMS A4)
/-- The queries' gradient. -/
def DQ : FVec Ideal S8192x512 .f32 := ARRAY (GRADQ (DPROD A0 A1 A2 A3 A4) (BANDS A1))
/-- The keys' gradient. -/
def DK : FVec Ideal S8192x512 .f32 := UNBAND (GRADK (DPROD A0 A1 A2 A3 A4) (BLOCKS A0))
/-- The values' gradient. -/
def DV : FVec Ideal S8192x512 .f32 := UNBAND (GRADV (TURNED A3) (WEIGHTS (SCORE A0 A1)))

end Results

theorem mask_apply (n : Fin 64) (h : Fin 8) (i : Fin 128) (b : Fin 256) : MASK (ix6 0 0 n h i b) = inBand n i b := by
  rw [← Cert.AttnReferenceIdeal.Value.valid_apply]
  unfold MASK
  generalize VALID = W
  pointwise

theorem sums_apply (A : FVec Ideal S8192x512 .f32) (n : Fin 64) (h : Fin 8) (i : Fin 128) :
    SUMS A (ix6 0 0 n h i 0) = ∑ e : Fin 64, (A (ix2 ⟨n.val * 128 + i.val, by omega⟩ ⟨h.val * 64 + e.val, by omega⟩) : EReal) := by
  pointwise [SUMS]

theorem turned_apply (A : FVec Ideal S8192x512 .f32) (n : Fin 64) (h : Fin 8) (i : Fin 128) (e : Fin 64) :
    TURNED A (ix6 0 0 n h e i) = A (ix2 ⟨n.val * 128 + i.val, by omega⟩ ⟨h.val * 64 + e.val, by omega⟩) := by
  rw [← Cert.AttnReferenceIdeal.Value.blocks_apply A n i h e]
  unfold TURNED
  generalize BLOCKS A = B
  pointwise

theorem gradw_apply (d : FVec Ideal S1x1x64x8x64x128 .f32) (v : FVec Ideal S1x1x64x256x8x64 .f32) (n : Fin 64) (h : Fin 8) (i : Fin 128) (b : Fin 256) :
    GRADW d v (ix6 0 0 n h i b) = ∑ e : Fin 64, (d (ix6 0 0 n h e i) : EReal) * v (ix6 0 0 n b h e) := by
  pointwise [GRADW]

theorem weights_apply (s : FVec Ideal S1x1x64x8x128x256 .f32) (n : Fin 64) (h : Fin 8) (i : Fin 128) (b : Fin 256) :
    WEIGHTS s (ix6 0 0 n h i b) = Ideal.div (Ideal.exp ((s (ix6 0 0 n h i b) : EReal) - BandRow.top ⊥ fun b => (s (ix6 0 0 n h i b) : EReal))) (BandRow.den1 ⊥ fun b => (s (ix6 0 0 n h i b) : EReal)) := by
  rw [← den_apply, ← ex_apply]
  unfold WEIGHTS
  generalize DEN s = D
  generalize EX s = X
  pointwise

theorem gradv_apply (d : FVec Ideal S1x1x64x8x64x128 .f32) (w : FVec Ideal S1x1x64x8x128x256 .f32) (n : Fin 64) (h : Fin 8) (b : Fin 256) (e : Fin 64) :
    GRADV d w (ix6 0 0 n b h e) = ∑ i : Fin 128, (d (ix6 0 0 n h e i) : EReal) * w (ix6 0 0 n h i b) := by
  pointwise [GRADV]

theorem bare_drop (n : Fin 64) (h : Fin 8) (i : Fin 128) : reducesTo_S1x1x64x8x128x1_S64x8x128_d0_1_5.drop (ix6 0 0 n h i 0) = ix3 n h i := by
  funext a; fin_cases a <;> rfl

theorem bare_apply (l : FVec Ideal S1x1x64x8x128x1 .f32) (n : Fin 64) (h : Fin 8) (i : Fin 128) :
    BARE l (ix3 n h i) = (l (ix6 0 0 n h i 0) : EReal) := by
  unfold BARE
  change Ideal.hostReduceAdd _ _ _ _ = _
  unfold Ideal.hostReduceAdd
  have e0 : (constant S_ .f32 0x00000000#32 : FVec Ideal S_ .f32) (Shape.Idx.first h_S_) = (0 : EReal) := by pointwise
  rw [e0, zero_add]
  refine Finset.sum_eq_single_of_mem _ ?_ ?_
  · rw [Finset.mem_filter]; exact ⟨Finset.mem_univ _, bare_drop n h i⟩
  · intro x hx hne
    refine absurd ?_ hne
    have hd := (Finset.mem_filter.mp hx).2
    have h0 : x 0 = (0 : Fin 1) := Subsingleton.elim (α := Fin 1) (x 0) 0
    have h1 : x 1 = (0 : Fin 1) := Subsingleton.elim (α := Fin 1) (x 1) 0
    have h5 : x 5 = (0 : Fin 1) := Subsingleton.elim (α := Fin 1) (x 5) 0
    have h2 : x 2 = n := congrFun hd 0
    have h3 : x 3 = h := congrFun hd 1
    have h4 : x 4 = i := congrFun hd 2
    funext a
    fin_cases a
    · exact h0
    · exact h1
    · exact h2
    · exact h3
    · exact h4
    · exact h5

theorem column_apply (l : FVec Ideal S1x1x64x8x128 .f32) (n : Fin 64) (h : Fin 8) (i : Fin 128) :
    COLUMN l (ix6 0 0 n h i 0) = l (ix5 0 0 n h i) := by
  unfold COLUMN
  refine shapeCast_apply _ _ _ _ ?_
  rw [Shape.rowMajor_val_five, Shape.rowMajor_val_six]
  show _ = _
  simp

theorem ties_apply (s : FVec Ideal S1x1x64x8x128x256 .f32) (n : Fin 64) (h : Fin 8) (i : Fin 128) (b : Fin 256) :
    TIES s (ix6 0 0 n h i b) = if (s (ix6 0 0 n h i b) : EReal) = BandRow.top ⊥ (fun b => (s (ix6 0 0 n h i b) : EReal)) then (1 : EReal) else 0 := by
  have g : TIES s (ix6 0 0 n h i b) = ((((Ideal.cmp .oeq (s (ix6 0 0 n h i b)) (COLUMN (RMAX s) (ix6 0 0 n h i 0))).toNat : ℝ)) : EReal) := by
    unfold TIES COLUMN
    generalize shapeCast S1x1x64x8x128x1 (RMAX s) shapeCasts_S1x1x64x8x128_S1x1x64x8x128x1 = C
    pointwise
    rfl
  rw [g, column_apply, rmax_apply]
  unfold Ideal.cmp
  by_cases hc : (s (ix6 0 0 n h i b) : EReal) = BandRow.top ⊥ (fun b => (s (ix6 0 0 n h i b) : EReal))
  · rw [if_pos hc]; simp [hc]
  · rw [if_neg hc]; simp [hc]

theorem invsq_apply (den : FVec Ideal S1x1x64x8x128x1 .f32) (n : Fin 64) (h : Fin 8) (i : Fin 128) (b : Fin 256) :
    INVSQ den (ix6 0 0 n h i b) = Ideal.div 1 ((den (ix6 0 0 n h i 0) : EReal) * den (ix6 0 0 n h i 0)) := by
  pointwise [INVSQ]

theorem through_apply (den l : FVec Ideal S1x1x64x8x128x1 .f32) (x g : FVec Ideal S1x1x64x8x128x256 .f32) (n : Fin 64) (h : Fin 8) (i : Fin 128) :
    THROUGH den l x g (ix6 0 0 n h i 0) = Ideal.div (l (ix6 0 0 n h i 0)) (den (ix6 0 0 n h i 0))
      + -(∑ a : Fin 256, ((g (ix6 0 0 n h i a) : EReal) * Ideal.div 1 ((den (ix6 0 0 n h i 0) : EReal) * den (ix6 0 0 n h i 0))) * x (ix6 0 0 n h i a)) := by
  have e : RSUM (mulf (mulf g (INVSQ den)) x) (ix5 0 0 n h i) = ∑ a : Fin 256, ((g (ix6 0 0 n h i a) : EReal) * Ideal.div 1 ((den (ix6 0 0 n h i 0) : EReal) * den (ix6 0 0 n h i 0))) * x (ix6 0 0 n h i a) := by
    rw [rsum_apply]
    refine Finset.sum_congr rfl fun a _ => ?_
    rw [← invsq_apply den n h i a]
    rfl
  rw [← e, ← column_apply (RSUM (mulf (mulf g (INVSQ den)) x)) n h i]
  rfl

theorem shifted_apply (den l : FVec Ideal S1x1x64x8x128x1 .f32) (x g : FVec Ideal S1x1x64x8x128x256 .f32) (n : Fin 64) (h : Fin 8) (i : Fin 128) (b : Fin 256) :
    SHIFTED den l x g (ix6 0 0 n h i b) = (Ideal.div (g (ix6 0 0 n h i b)) (den (ix6 0 0 n h i 0)) + THROUGH den l x g (ix6 0 0 n h i 0)) * x (ix6 0 0 n h i b) := by
  rw [← bare_apply (THROUGH den l x g) n h i]
  unfold SHIFTED
  generalize BARE (THROUGH den l x g) = T
  pointwise

theorem shared_apply (l : FVec Ideal S1x1x64x8x128x1 .f32) (u t : FVec Ideal S1x1x64x8x128x256 .f32) (n : Fin 64) (h : Fin 8) (i : Fin 128) :
    SHARED l u t (ix5 0 0 n h i) = Ideal.div ((l (ix6 0 0 n h i 0) : EReal) + ∑ a : Fin 256, -(u (ix6 0 0 n h i a) : EReal)) (∑ a : Fin 256, (t (ix6 0 0 n h i a) : EReal)) := by
  have e : BARE (addf l (COLUMN (RSUM (Host.negf u)))) (ix3 n h i) = (l (ix6 0 0 n h i 0) : EReal) + ∑ a : Fin 256, -(u (ix6 0 0 n h i a) : EReal) := by
    rw [bare_apply]
    have e1 : (∑ a : Fin 256, -(u (ix6 0 0 n h i a) : EReal)) = RSUM (Host.negf u) (ix5 0 0 n h i) := by
      rw [rsum_apply]; rfl
    rw [e1, ← column_apply (RSUM (Host.negf u)) n h i]
    rfl
  rw [← e, ← rsum_apply]
  unfold SHARED
  generalize BARE (addf l (COLUMN (RSUM (Host.negf u)))) = T
  generalize RSUM t = R
  pointwise

theorem grads_apply (l : FVec Ideal S1x1x64x8x128x1 .f32) (u t : FVec Ideal S1x1x64x8x128x256 .f32) (n : Fin 64) (h : Fin 8) (i : Fin 128) (b : Fin 256) :
    GRADS l u t (ix6 0 0 n h i b) = Scalar.select (inBand n i b) ((u (ix6 0 0 n h i b) : EReal) + (SHARED l u t (ix5 0 0 n h i) : EReal) * t (ix6 0 0 n h i b)) (0 : EReal) * Ideal.ofBits FTy.f32 0x3E000000#32 := by
  rw [← mask_apply n h i b]
  unfold GRADS
  generalize SHARED l u t = S
  generalize MASK = W
  pointwise

/-- The gradient of the products, row by row. -/
theorem prods_apply (s g : FVec Ideal S1x1x64x8x128x256 .f32) (l : FVec Ideal S1x1x64x8x128x1 .f32) (n : Fin 64) (h : Fin 8) (i : Fin 128) (b : Fin 256) :
    PRODS s g l (ix6 0 0 n h i b) = BandRow.refds (inBand n i) (fun b => (s (ix6 0 0 n h i b) : EReal)) (fun b => (g (ix6 0 0 n h i b) : EReal)) (l (ix6 0 0 n h i 0)) (Ideal.ofBits FTy.f32 0x3E000000#32) (fun b => (TIES s (ix6 0 0 n h i b) : EReal)) b := by
  have e : ∀ a, SHIFTED (DEN s) l (EX s) g (ix6 0 0 n h i a) = BandRow.inner (fun b => (s (ix6 0 0 n h i b) : EReal)) (fun b => (g (ix6 0 0 n h i b) : EReal)) (l (ix6 0 0 n h i 0)) a := by
    intro a
    rw [shifted_apply, through_apply]
    simp only [den_apply, ex_apply]
    rfl
  unfold PRODS
  rw [grads_apply, shared_apply]
  simp only [e]
  rfl

theorem gradq_apply (p : FVec Ideal S1x1x64x8x128x256 .f32) (k : FVec Ideal S1x1x64x256x8x64 .f32) (n : Fin 64) (h : Fin 8) (i : Fin 128) (e : Fin 64) :
    GRADQ p k (ix6 0 0 n i h e) = ∑ b : Fin 256, (p (ix6 0 0 n h i b) : EReal) * k (ix6 0 0 n b h e) := by
  pointwise [GRADQ]

theorem gradk_apply (p : FVec Ideal S1x1x64x8x128x256 .f32) (q : FVec Ideal S1x1x64x128x8x64 .f32) (n : Fin 64) (h : Fin 8) (b : Fin 256) (e : Fin 64) :
    GRADK p q (ix6 0 0 n b h e) = ∑ i : Fin 128, (p (ix6 0 0 n h i b) : EReal) * q (ix6 0 0 n i h e) := by
  pointwise [GRADK]

theorem array_apply (b : FVec Ideal S1x1x64x128x8x64 .f32) (r : Fin 8192) (d : Fin 512) :
    ARRAY b (ix2 r d) = b (ix6 0 0 ⟨r.val / 128, by omega⟩ ⟨r.val % 128, by omega⟩ ⟨d.val / 64, by omega⟩ ⟨d.val % 64, by omega⟩) := by
  pointwise [ARRAY]

/-- The two halves of a band at a block: its own, and what the next block's queries add. -/
theorem folded_apply (b : FVec Ideal S1x1x64x256x8x64 .f32) (n : Fin 64) (j : Fin 128) (h : Fin 8) (e : Fin 64) :
    FOLDED b (ix6 0 0 ⟨1 + n.val, by omega⟩ j h e) = (b (ix6 0 0 n (BandRow.hi j) h e) : EReal)
      + if hn : n.val + 1 < 64 then (b (ix6 0 0 ⟨n.val + 1, hn⟩ (BandRow.lo j) h e) : EReal) else 0 := by
  unfold FOLDED
  pointwise
  simp only [Nat.add_comm 1 n.val]

theorem unband_apply (b : FVec Ideal S1x1x64x256x8x64 .f32) (n : Fin 64) (j : Fin 128) (h : Fin 8) (e : Fin 64) :
    UNBAND b (ix2 ⟨n.val * 128 + j.val, by omega⟩ ⟨h.val * 64 + e.val, by omega⟩) = (b (ix6 0 0 n (BandRow.hi j) h e) : EReal)
      + if hn : n.val + 1 < 64 then (b (ix6 0 0 ⟨n.val + 1, hn⟩ (BandRow.lo j) h e) : EReal) else 0 := by
  rw [← folded_apply]
  unfold UNBAND
  rw [array_apply]
  generalize FOLDED b = F
  pointwise
  have e1 : (n.val * 128 + j.val) / 128 = n.val := by omega
  have e2 : (n.val * 128 + j.val) % 128 = j.val := by omega
  have e3 : (h.val * 64 + e.val) / 64 = h.val := by omega
  have e4 : (h.val * 64 + e.val) % 64 = e.val := by omega
  simp only [e1, e2, e3, e4]

end Cert.AttnBReferenceIdeal.Value

end
-- ==== Proof.BandBackCore.lean ====
/-
  The gradient of banded attention: at one block of queries, on finite arrays, what the kernel's body computes is what the
  reference's gradient holds there.
-/
module

public import proofs.«01_k».proof.Proof.BandBackStack
public import proofs.«01_k».proof.Proof.BandBackRef
public import proofs.«01_k».proof.Proof.BandBackRow

@[expose] public section

set_option maxRecDepth 16384

noncomputable section

open Idealize.ShloMosaic Idealize.ShloMosaic.TcCoe Idealize.SL.Sem

namespace Cert.AttnBKernelIdeal.Value

open Cert.AttnBKernelIdeal Cert.AttnBKernelIdeal.Gen
open Cert.AttnReferenceIdeal.Value (SCORE BLOCKS BANDS MIX LOGS OUT LSE inBand blocks_apply bands_own bands_before bands_none score_apply inBand_hi inBand_lo and_zero mix_apply logs_apply out_apply spread_apply)
open Cert.AttnBReferenceIdeal.Value (DPROD DQ DK DV SUMS TURNED GRADW GRADQ GRADK GRADV WEIGHTS TIES PRODS sums_apply turned_apply gradw_apply weights_apply gradv_apply ties_apply prods_apply gradq_apply gradk_apply)
open BandRow (hi lo kerds refds weight)

theorem eighth : ∃ k : ℝ, Ideal.ofBits FTy.f32 0x3E000000#32 = (k : EReal) :=
  ⟨_, by simp [Ideal.ofBits, Ideal.ieee, -EReal.coe_mul]; rfl⟩

theorem own_self : ∀ i : Fin 128, Cert.AttnReferenceIdeal.Value.own i i = 1#1 := by decide +kernel

theorem off (a b : EReal) : Scalar.select 0#1 a b = b := rfl

/-- Every place of a band is in the block before or in the query's own. -/
theorem halves (P : Fin 256 → Prop) (h : ∀ j, P (hi j)) (l : ∀ j, P (lo j)) (b : Fin 256) : P b := by
  by_cases hb : b.val < 128
  · exact (show lo ⟨b.val, hb⟩ = b from Fin.ext rfl) ▸ l ⟨b.val, hb⟩
  · have e : hi ⟨b.val - 128, by omega⟩ = b := Fin.ext (by show 128 + (b.val - 128) = b.val; omega)
    exact e ▸ h ⟨b.val - 128, by omega⟩

section Core

variable (A0 A1 A2 A3 A4 : FVec Ideal S8192x512 .f32) (n : Fin 64)
  (x0 x1 x2 x3 x4 : Vec Ideal S128x512 .bf16) (x5 x6 x7 x8 : Vec Ideal S128x512 .f32)

/-- What the windows hold at a point. -/
structure Reads : Prop where
  q : ∀ (r : Fin 128) (d : Fin 512), x0 (ix2 r d) = A0 (ix2 ⟨n.val * 128 + r.val, by omega⟩ d)
  kp : ∀ (r : Fin 128) (d : Fin 512), x1 (ix2 r d) = A1 (ix2 ⟨(n.val - 1) * 128 + r.val, by omega⟩ d)
  kc : ∀ (r : Fin 128) (d : Fin 512), x2 (ix2 r d) = A1 (ix2 ⟨n.val * 128 + r.val, by omega⟩ d)
  vp : ∀ (r : Fin 128) (d : Fin 512), x3 (ix2 r d) = A2 (ix2 ⟨(n.val - 1) * 128 + r.val, by omega⟩ d)
  vc : ∀ (r : Fin 128) (d : Fin 512), x4 (ix2 r d) = A2 (ix2 ⟨n.val * 128 + r.val, by omega⟩ d)
  o : ∀ (r : Fin 128) (d : Fin 512), x5 (ix2 r d) = OUT A0 A1 A2 (ix2 ⟨n.val * 128 + r.val, by omega⟩ d)
  l : ∀ (r : Fin 128) (d : Fin 512), x6 (ix2 r d) = LSE A0 A1 (ix2 ⟨n.val * 128 + r.val, by omega⟩ d)
  d : ∀ (r : Fin 128) (d : Fin 512), x7 (ix2 r d) = A3 (ix2 ⟨n.val * 128 + r.val, by omega⟩ d)
  dl : ∀ (r : Fin 128) (d : Fin 512), x8 (ix2 r d) = A4 (ix2 ⟨n.val * 128 + r.val, by omega⟩ d)

/-- A query's scaled products with its band. -/
def XS (h : Fin 8) (i : Fin 128) (b : Fin 256) : EReal :=
  (∑ e : Fin 64, (BLOCKS A0 (ix6 0 0 n i h e) : EReal) * BANDS A1 (ix6 0 0 n b h e)) * Ideal.ofBits FTy.f32 0x3E000000#32

/-- A query's gradient of its weights. -/
def GW (h : Fin 8) (i : Fin 128) (b : Fin 256) : EReal := GRADW (TURNED A3) (BANDS A2) (ix6 0 0 n h i b)

/-- A query's product of the result and its gradient. -/
def OD (h : Fin 8) (i : Fin 128) : EReal :=
  ∑ e : Fin 64, (TURNED A3 (ix6 0 0 n h e i) : EReal) * MIX (SCORE A0 A1) (BANDS A2) (ix6 0 0 n h e i)

variable {A0 A1 A2 A3 A4 n x0 x1 x2 x3 x4 x5 x6 x7 x8}
variable (H : Reads A0 A1 A2 A3 A4 n x0 x1 x2 x3 x4 x5 x6 x7 x8)

theorem score_row (h : Fin 8) (i : Fin 128) :
    (fun b => (SCORE A0 A1 (ix6 0 0 n h i b) : EReal)) = BandRow.masked (inBand n i) (XS A0 A1 n h i) :=
  funext fun b => score_apply A0 A1 n h i b

theorem at_row {n : Fin 64} {i : Fin 128} {h : Fin 8} {e : Fin 64} :
    (⟨(n.val * 128 + i.val) / 128, by omega⟩ : Fin 64) = n ∧ (⟨(n.val * 128 + i.val) % 128, by omega⟩ : Fin 128) = i
      ∧ (⟨(h.val * 64 + e.val) / 64, by omega⟩ : Fin 8) = h ∧ (⟨(h.val * 64 + e.val) % 64, by omega⟩ : Fin 64) = e :=
  ⟨Fin.ext (by show _ / 128 = _; omega), Fin.ext (by show _ % 128 = _; omega), Fin.ext (by show _ / 64 = _; omega), Fin.ext (by show _ % 64 = _; omega)⟩

include H

theorem saved (h : Fin 8) (i : Fin 128) : (SAVED x6 (ix3 h i 0) : EReal) = BandRow.lse1 ⊥ (BandRow.masked (inBand n i) (XS A0 A1 n h i)) := by
  refine (saved_apply x6 h i _ fun e => ?_)
  rw [H.l]
  unfold LSE
  rw [spread_apply]
  rw [← score_row, ← logs_apply]
  obtain ⟨e1, e2, e3, -⟩ := at_row (n := n) (i := i) (h := h) (e := e)
  simp only [e1, e2, e3]

theorem wc_core (h : Fin 8) (i j : Fin 128) : (WC x0 x2 x6 (ix3 h i j) : EReal) = weight (inBand n i) (XS A0 A1 n h i) (hi j) := by
  rw [wc_apply, saved H]
  unfold weight XS
  simp only [inBand_hi, bands_own, blocks_apply, stack_apply, H.q, H.kc]

theorem wp_core (h : Fin 8) (i j : Fin 128) : (WP (BitVec.ofNat 32 n.val) x0 x1 x6 (ix3 h i j) : EReal) = weight (inBand n i) (XS A0 A1 n h i) (lo j) := by
  rw [wp_apply, saved H, front_eq]
  unfold weight XS
  by_cases hn : n.val = 0
  · simp only [inBand_lo, if_pos hn]
    rw [and_zero]
    exact (off _ _).trans (off _ _).symm
  · simp only [inBand_lo, bands_before A1 n hn, blocks_apply, stack_apply, H.q, H.kp]

omit H in
theorem first_weight (hn : n.val = 0) (h : Fin 8) (i j : Fin 128) : weight (inBand n i) (XS A0 A1 n h i) (lo j) = 0 := by
  unfold weight
  rw [inBand_lo, if_pos hn, and_zero]
  exact off _ _

theorem loss_core (h : Fin 8) (i : Fin 128) : (LOSS x5 x7 x8 (ix3 h i 0) : EReal) = (SUMS A4 (ix6 0 0 n h i 0) : EReal) - OD A0 A1 A2 A3 n h i := by
  rw [loss_apply, sums_apply]
  unfold OD
  simp only [stackw_apply, H.o, H.d, H.dl, turned_apply, out_apply]
  refine congrArg₂ (fun a b : EReal => a - b) rfl (Finset.sum_congr rfl fun e _ => ?_)
  obtain ⟨e1, e2, e3, e4⟩ := at_row (n := n) (i := i) (h := h) (e := e)
  simp only [e1, e2, e3, e4]

theorem sc_core (h : Fin 8) (i j : Fin 128) : (SC x0 x2 x4 x5 x6 x7 x8 (ix3 h i j) : EReal)
    = kerds (inBand n i) (XS A0 A1 n h i) (GW A2 A3 n h i) (SUMS A4 (ix6 0 0 n h i 0)) (OD A0 A1 A2 A3 n h i) (hi j) := by
  rw [sc_apply, wc_core H, loss_core H]
  unfold kerds GW
  rw [gradw_apply]
  simp only [stackw_apply, stack_apply, turned_apply, bands_own, H.d, H.vc]

theorem sp_core (h : Fin 8) (i j : Fin 128) : (SP (BitVec.ofNat 32 n.val) x0 x1 x3 x5 x6 x7 x8 (ix3 h i j) : EReal)
    = kerds (inBand n i) (XS A0 A1 n h i) (GW A2 A3 n h i) (SUMS A4 (ix6 0 0 n h i 0)) (OD A0 A1 A2 A3 n h i) (lo j) := by
  rw [sp_apply, wp_core H, loss_core H]
  unfold kerds
  by_cases hn : n.val = 0
  · rw [first_weight hn, zero_mul, zero_mul]
  · unfold GW
    rw [gradw_apply]
    simp only [stackw_apply, stack_apply, turned_apply, bands_before A2 n hn, H.d, H.vp]

omit H

/-- Finite numbers throughout. -/
def Real (A : FVec Ideal S8192x512 .f32) : Prop := ∀ j, ∃ r : ℝ, (A j : EReal) = r

theorem real_blocks {A : FVec Ideal S8192x512 .f32} (R : Real A) (n : Fin 64) (h : Fin 8) :
    ∃ v : Fin 128 → Fin 64 → ℝ, ∀ i e, (BLOCKS A (ix6 0 0 n i h e) : EReal) = v i e := by
  have : ∀ i e, ∃ r : ℝ, (BLOCKS A (ix6 0 0 n i h e) : EReal) = r := fun i e => by rw [blocks_apply]; exact R _
  choose v hv using this
  exact ⟨v, hv⟩

theorem real_turned {A : FVec Ideal S8192x512 .f32} (R : Real A) (n : Fin 64) (h : Fin 8) :
    ∃ v : Fin 128 → Fin 64 → ℝ, ∀ i e, (TURNED A (ix6 0 0 n h e i) : EReal) = v i e := by
  have : ∀ i e, ∃ r : ℝ, (TURNED A (ix6 0 0 n h e i) : EReal) = r := fun i e => by rw [turned_apply]; exact R _
  choose v hv using this
  exact ⟨v, hv⟩

theorem real_bands {A : FVec Ideal S8192x512 .f32} (R : Real A) (n : Fin 64) (h : Fin 8) :
    ∃ v : Fin 256 → Fin 64 → ℝ, ∀ b e, (BANDS A (ix6 0 0 n b h e) : EReal) = v b e := by
  have : ∀ b e, ∃ r : ℝ, (BANDS A (ix6 0 0 n b h e) : EReal) = r := by
    refine halves _ (fun j e => ?_) fun j e => ?_
    · rw [bands_own]; exact R _
    · by_cases hn : n.val = 0
      · rw [bands_none A n hn]; exact ⟨0, EReal.coe_zero.symm⟩
      · rw [bands_before A n hn]; exact R _
  choose v hv using this
  exact ⟨v, hv⟩

theorem real_scores (R0 : Real A0) (R1 : Real A1) (n : Fin 64) (h : Fin 8) (i : Fin 128) :
    ∃ x : Fin 256 → ℝ, XS A0 A1 n h i = fun b => (x b : EReal) := by
  obtain ⟨q, hq⟩ := real_blocks R0 n h
  obtain ⟨k, hk⟩ := real_bands R1 n h
  obtain ⟨s, hs⟩ := eighth
  refine ⟨fun b => (∑ e, q i e * k b e) * s, funext fun b => ?_⟩
  unfold XS
  rw [hs, EReal.coe_mul, BandRow.coe_sum]
  simp only [hq, hk, EReal.coe_mul]

theorem real_sums (R4 : Real A4) (n : Fin 64) (h : Fin 8) (i : Fin 128) : ∃ l : ℝ, (SUMS A4 (ix6 0 0 n h i 0) : EReal) = l := by
  have : ∀ e : Fin 64, ∃ r : ℝ, (A4 (ix2 ⟨n.val * 128 + i.val, by omega⟩ ⟨h.val * 64 + e.val, by omega⟩) : EReal) = r := fun e => R4 _
  choose v hv using this
  refine ⟨∑ e, v e, ?_⟩
  rw [sums_apply, BandRow.coe_sum]
  simp only [hv]

theorem start (n : Fin 64) (i : Fin 128) : inBand n i (hi i) = 1#1 := by rw [inBand_hi]; exact own_self i

/-- The kernel's gradient of a score is finite, and the reference's is it scaled. -/
theorem grad_core (R0 : Real A0) (R1 : Real A1) (R2 : Real A2) (R3 : Real A3) (R4 : Real A4) (s : ℝ) (hs : Ideal.ofBits FTy.f32 0x3E000000#32 = (s : EReal))
    (n : Fin 64) (h : Fin 8) (i : Fin 128) (b : Fin 256) :
    ∃ r : ℝ, kerds (inBand n i) (XS A0 A1 n h i) (GW A2 A3 n h i) (SUMS A4 (ix6 0 0 n h i 0)) (OD A0 A1 A2 A3 n h i) b = r
      ∧ (DPROD A0 A1 A2 A3 A4 (ix6 0 0 n h i b) : EReal) = (r : EReal) * (s : EReal) := by
  obtain ⟨x, hx⟩ := real_scores R0 R1 n h i
  obtain ⟨l, hl⟩ := real_sums R4 n h i
  obtain ⟨v, hv⟩ := real_bands R2 n h
  obtain ⟨d, hd⟩ := real_turned R3 n h
  have hrow : (fun b => (SCORE A0 A1 (ix6 0 0 n h i b) : EReal)) = BandRow.masked (inBand n i) fun b => (x b : EReal) := by rw [score_row, hx]
  have ho : OD A0 A1 A2 A3 n h i = ∑ e, (d i e : EReal) * BandRow.out1 ⊥ (BandRow.masked (inBand n i) fun b => (x b : EReal)) fun b => (v b e : EReal) := by
    unfold OD
    refine Finset.sum_congr rfl fun e _ => ?_
    rw [mix_apply, hrow, hd]
    simp only [hv]
  have key := BandRow.grad_row (inBand n i) x (hi i) (start n i) v (d i) l s (GW A2 A3 n h i)
    (fun b => (TIES (SCORE A0 A1) (ix6 0 0 n h i b) : EReal))
    (fun b => by unfold GW; rw [gradw_apply]; simp only [hd, hv])
    (fun b => by
      show (TIES (SCORE A0 A1) (ix6 0 0 n h i b) : EReal) = _
      rw [ties_apply, hrow]
      rw [show (SCORE A0 A1 (ix6 0 0 n h i b) : EReal) = _ from congrFun hrow b]) b
  obtain ⟨r, h1, h2⟩ := key
  refine ⟨r, ?_, ?_⟩
  · rw [hx, hl, ho]; exact h1
  · unfold DPROD
    rw [prods_apply, hrow, hl, hs]
    exact h2

theorem weight_core (R0 : Real A0) (R1 : Real A1) (n : Fin 64) (h : Fin 8) (i : Fin 128) (b : Fin 256) :
    (WEIGHTS (SCORE A0 A1) (ix6 0 0 n h i b) : EReal) = weight (inBand n i) (XS A0 A1 n h i) b := by
  obtain ⟨x, hx⟩ := real_scores R0 R1 n h i
  have hrow : (fun b => (SCORE A0 A1 (ix6 0 0 n h i b) : EReal)) = BandRow.masked (inBand n i) fun b => (x b : EReal) := by rw [score_row, hx]
  rw [weights_apply, hrow, hx, BandRow.weight_eq (inBand n i) x (hi i) (start n i)]
  rw [show (SCORE A0 A1 (ix6 0 0 n h i b) : EReal) = _ from congrFun hrow b]

include H
variable (R0 : Real A0) (R1 : Real A1) (R2 : Real A2) (R3 : Real A3) (R4 : Real A4)
include R0 R1

theorem gvc_core (h : Fin 8) (j : Fin 128) (e : Fin 64) :
    (GVC x0 x2 x6 x7 (ix3 h j e) : EReal) = GRADV (TURNED A3) (WEIGHTS (SCORE A0 A1)) (ix6 0 0 n (hi j) h e) := by
  rw [gvc_apply, gradv_apply]
  refine Finset.sum_congr rfl fun i _ => ?_
  rw [wc_core H, weight_core R0 R1, turned_apply, stackw_apply, H.d]
  exact mul_comm _ _

theorem gvp_core (h : Fin 8) (j : Fin 128) (e : Fin 64) :
    (GVP (BitVec.ofNat 32 n.val) x0 x1 x6 x7 (ix3 h j e) : EReal) = GRADV (TURNED A3) (WEIGHTS (SCORE A0 A1)) (ix6 0 0 n (lo j) h e) := by
  rw [gvp_apply, gradv_apply]
  refine Finset.sum_congr rfl fun i _ => ?_
  rw [wp_core H, weight_core R0 R1, turned_apply, stackw_apply, H.d]
  exact mul_comm _ _

include R2 R3 R4

theorem gkc_core (h : Fin 8) (j : Fin 128) (e : Fin 64) :
    (GKC x0 x2 x4 x5 x6 x7 x8 (ix3 h j e) : EReal) = GRADK (DPROD A0 A1 A2 A3 A4) (BLOCKS A0) (ix6 0 0 n (hi j) h e) := by
  obtain ⟨s, hs⟩ := eighth
  choose r hr hr' using fun i => grad_core R0 R1 R2 R3 R4 s hs n h i (hi j)
  obtain ⟨q, hq⟩ := real_blocks R0 n h
  rw [gkc_apply, gradk_apply, hs]
  simp only [sc_core H, hr, hr', hq]
  rw [BandRow.scale_out]
  simp only [← hq, blocks_apply, stack_apply, H.q]

theorem gkp_core (h : Fin 8) (j : Fin 128) (e : Fin 64) :
    (GKP (BitVec.ofNat 32 n.val) x0 x1 x3 x5 x6 x7 x8 (ix3 h j e) : EReal) = GRADK (DPROD A0 A1 A2 A3 A4) (BLOCKS A0) (ix6 0 0 n (lo j) h e) := by
  obtain ⟨s, hs⟩ := eighth
  choose r hr hr' using fun i => grad_core R0 R1 R2 R3 R4 s hs n h i (lo j)
  obtain ⟨q, hq⟩ := real_blocks R0 n h
  rw [gkp_apply, gradk_apply, hs]
  simp only [sp_core H, hr, hr', hq]
  rw [BandRow.scale_out]
  simp only [← hq, blocks_apply, stack_apply, H.q]

theorem gq_core (h : Fin 8) (i : Fin 128) (e : Fin 64) :
    (GQ (BitVec.ofNat 32 n.val) x0 x1 x2 x3 x4 x5 x6 x7 x8 (ix3 h i e) : EReal) = GRADQ (DPROD A0 A1 A2 A3 A4) (BANDS A1) (ix6 0 0 n i h e) := by
  obtain ⟨s, hs⟩ := eighth
  choose r hr hr' using fun b => grad_core R0 R1 R2 R3 R4 s hs n h i b
  obtain ⟨k, hk⟩ := real_bands R1 n h
  have hz : ∀ j, n.val = 0 → (r (lo j) : EReal) = 0 := fun j hn => by
    rw [← hr (lo j)]; unfold kerds; rw [first_weight hn, zero_mul]
  rw [gq_apply, gradq_apply, hs]
  simp only [hr', hk]
  rw [BandRow.scale_out, BandRow.sum_join]
  simp only [sc_core H, sp_core H, hr, ← hk, bands_own, stack_apply, H.kc]
  congr 2
  by_cases hn : n.val = 0
  · simp only [hz _ hn, zero_mul]
  · simp only [bands_before A1 n hn, H.kp]

end Core

end Cert.AttnBKernelIdeal.Value

end
-- ==== Proof.BandBackHost.lean ====
/-
  The gradient of banded attention: what the launch's host code leaves in the arrays the windows read.
-/
module

public import proofs.«01_k».proof.Proof.Gen.AttnBKernelIdeal.Frame
public import proofs.«01_k».proof.Proof.AttnRef
public import Idealize.ShloMosaic.Lib.Pipeline.ValueKit
public import Idealize.ShloMosaic.Lib.Claim

@[expose] public section

set_option maxRecDepth 65536
set_option maxHeartbeats 40000000

noncomputable section

open Idealize.ShloMosaic Idealize.ShloMosaic.TcCoe Idealize.SL.Sem

namespace Cert.AttnBKernelIdeal.Value

open Cert.AttnBKernelIdeal Cert.AttnBKernelIdeal.Gen
open Cert.AttnReferenceIdeal.Value (OUT LSE)

variable (m : (ℓ : Loc nD τ sig) → Buf (Elt Ideal) ℓ)

theorem entry_q (c : Dev nD) : (V m c main_v86 : Vec Ideal S8192x512 .bf16) = m ((c : Thread nD τ).loc main_arg0) := by
  entry_read
  rfl

theorem entry_k (c : Dev nD) : (V m c main_v87 : Vec Ideal S8192x512 .bf16) = m ((c : Thread nD τ).loc main_arg1) := by
  entry_read
  rfl

theorem entry_v (c : Dev nD) : (V m c main_v88 : Vec Ideal S8192x512 .bf16) = m ((c : Thread nD τ).loc main_arg2) := by
  entry_read
  rfl

theorem entry_o (c : Dev nD) : (V m c main_v81 : Vec Ideal S8192x512 .f32) = OUT (m ((c : Thread nD τ).loc main_arg0)) (m ((c : Thread nD τ).loc main_arg1)) (m ((c : Thread nD τ).loc main_arg2)) := by
  unfold V
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp <;> rfl

theorem entry_lse (c : Dev nD) : (V m c main_v85 : Vec Ideal S8192x512 .f32) = LSE (m ((c : Thread nD τ).loc main_arg0)) (m ((c : Thread nD τ).loc main_arg1)) := by
  unfold V
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp <;> rfl

end Cert.AttnBKernelIdeal.Value

end
-- ==== Proof.BandBackPoint.lean ====
/-
  The gradient of banded attention: what the kernel's three results hold when the grid is through. A point's own block of
  keys and values is carried to the next point, which adds what its queries owe the block before them.
-/
module

public import proofs.«01_k».proof.Proof.BandBackTiles
public import proofs.«01_k».proof.Proof.BandBackCore
public import proofs.«01_k».proof.Proof.BandBackHost

@[expose] public section

set_option maxRecDepth 16384

noncomputable section

open Idealize.ShloMosaic Idealize.ShloMosaic.TcCoe Idealize.SL.Sem

namespace Cert.AttnBKernelIdeal.Value

open Cert.AttnBKernelIdeal Cert.AttnBKernelIdeal.Gen
open Cert.AttnReferenceIdeal.Value (SCORE BLOCKS BANDS)
open Cert.AttnBReferenceIdeal.Value (DPROD DQ DK DV TURNED GRADQ GRADK GRADV WEIGHTS UNBAND array_apply unband_apply)
open BandRow (hi lo)

variable (m : (ℓ : Loc nD τ sig) → Buf (Elt Ideal) ℓ)

/-- The arguments. -/
abbrev Q (c : Dev nD) : FVec Ideal S8192x512 .f32 := m ((c : Thread nD τ).loc main_arg0)
abbrev K (c : Dev nD) : FVec Ideal S8192x512 .f32 := m ((c : Thread nD τ).loc main_arg1)
abbrev W (c : Dev nD) : FVec Ideal S8192x512 .f32 := m ((c : Thread nD τ).loc main_arg2)
abbrev G (c : Dev nD) : FVec Ideal S8192x512 .f32 := m ((c : Thread nD τ).loc main_arg3)
abbrev L (c : Dev nD) : FVec Ideal S8192x512 .f32 := m ((c : Thread nD τ).loc main_arg4)

/-- The windows' block indices at every point. -/
theorem idx : ∀ t : Fin cfg0.N, win0_0.index t = ![min t.val 63, 0] ∧ win0_1.index t = ![t.val - 1, 0] ∧ win0_2.index t = ![min t.val 63, 0] ∧ win0_3.index t = ![t.val - 1, 0]
    ∧ win0_4.index t = ![min t.val 63, 0] ∧ win0_5.index t = ![min t.val 63, 0] ∧ win0_6.index t = ![min t.val 63, 0] ∧ win0_7.index t = ![min t.val 63, 0] ∧ win0_8.index t = ![min t.val 63, 0]
    ∧ win0_9.index t = ![min t.val 63, 0] ∧ win0_10.index t = ![t.val - 1, 0] ∧ win0_11.index t = ![t.val - 1, 0] :=
  (by decide +kernel : ∀ t : Fin grid0.N, _)

theorem point : ∀ t : Fin cfg0.N, (grid0.coords t 0).val = t.val :=
  (by decide +kernel : ∀ t : Fin grid0.N, _)

section Picks

variable (c : Dev nD) (t : Fin cfg0.N) (n : Fin 64) (hn : n.val = t.val) (r : Fin 128) (d : Fin 512)
include hn

theorem pick0 : iblk m c 0 t (ix2 r d) = (V m c main_v86 : Vec Ideal S8192x512 .bf16) (ix2 ⟨n.val * 128 + r.val, by omega⟩ d) := by
  have hm : min t.val 63 = t.val := by omega
  blk_point [iblk, idx t]

theorem pick1 : iblk m c 1 t (ix2 r d) = (V m c main_v87 : Vec Ideal S8192x512 .bf16) (ix2 ⟨(n.val - 1) * 128 + r.val, by omega⟩ d) := by
  have hm : min t.val 63 = t.val := by omega
  blk_point [iblk, idx t]

theorem pick2 : iblk m c 2 t (ix2 r d) = (V m c main_v87 : Vec Ideal S8192x512 .bf16) (ix2 ⟨n.val * 128 + r.val, by omega⟩ d) := by
  have hm : min t.val 63 = t.val := by omega
  blk_point [iblk, idx t]

theorem pick3 : iblk m c 3 t (ix2 r d) = (V m c main_v88 : Vec Ideal S8192x512 .bf16) (ix2 ⟨(n.val - 1) * 128 + r.val, by omega⟩ d) := by
  have hm : min t.val 63 = t.val := by omega
  blk_point [iblk, idx t]

theorem pick4 : iblk m c 4 t (ix2 r d) = (V m c main_v88 : Vec Ideal S8192x512 .bf16) (ix2 ⟨n.val * 128 + r.val, by omega⟩ d) := by
  have hm : min t.val 63 = t.val := by omega
  blk_point [iblk, idx t]

omit m in
theorem blk5 (f : (b : Ref sig .tc) → Buf (Elt Ideal) ((c : Thread nD τ).loc b)) :
    ((cfg0.win 5).blk t).view.read (Elt Ideal) (f (Pipeline.arrRef spec0 5)) (ix2 r d) = (f main_v81 : Vec Ideal S8192x512 .f32) (ix2 ⟨n.val * 128 + r.val, by omega⟩ d) := by
  have hm : min t.val 63 = t.val := by omega
  show ((cfg0.win 5).blk t).view.read (Elt Ideal) (f main_v81) (ix2 r d) = _
  generalize (f main_v81 : Vec Ideal S8192x512 .f32) = B
  blk_point [idx t]

theorem pick5 : iblk m c 5 t (ix2 r d) = (V m c main_v81 : Vec Ideal S8192x512 .f32) (ix2 ⟨n.val * 128 + r.val, by omega⟩ d) :=
  blk5 c t n hn r d (V m c)

omit m in
theorem blk6 (f : (b : Ref sig .tc) → Buf (Elt Ideal) ((c : Thread nD τ).loc b)) :
    ((cfg0.win 6).blk t).view.read (Elt Ideal) (f (Pipeline.arrRef spec0 6)) (ix2 r d) = (f main_v85 : Vec Ideal S8192x512 .f32) (ix2 ⟨n.val * 128 + r.val, by omega⟩ d) := by
  have hm : min t.val 63 = t.val := by omega
  show ((cfg0.win 6).blk t).view.read (Elt Ideal) (f main_v85) (ix2 r d) = _
  generalize (f main_v85 : Vec Ideal S8192x512 .f32) = B
  blk_point [idx t]

theorem pick6 : iblk m c 6 t (ix2 r d) = (V m c main_v85 : Vec Ideal S8192x512 .f32) (ix2 ⟨n.val * 128 + r.val, by omega⟩ d) :=
  blk6 c t n hn r d (V m c)

theorem pick7 : iblk m c 7 t (ix2 r d) = (V m c main_arg3 : Vec Ideal S8192x512 .f32) (ix2 ⟨n.val * 128 + r.val, by omega⟩ d) := by
  have hm : min t.val 63 = t.val := by omega
  blk_point [iblk, idx t]

theorem pick8 : iblk m c 8 t (ix2 r d) = (V m c main_arg4 : Vec Ideal S8192x512 .f32) (ix2 ⟨n.val * 128 + r.val, by omega⟩ d) := by
  have hm : min t.val 63 = t.val := by omega
  blk_point [iblk, idx t]

end Picks

theorem reads (c : Dev nD) (t : Fin cfg0.N) (n : Fin 64) (hn : n.val = t.val) :
    Reads (Q m c) (K m c) (W m c) (G m c) (L m c) n (iblk m c 0 t) (iblk m c 1 t) (iblk m c 2 t) (iblk m c 3 t) (iblk m c 4 t) (iblk m c 5 t) (iblk m c 6 t) (iblk m c 7 t) (iblk m c 8 t) where
  q r d := (pick0 m c t n hn r d).trans (congrFun (entry_q m c) _)
  kp r d := (pick1 m c t n hn r d).trans (congrFun (entry_k m c) _)
  kc r d := (pick2 m c t n hn r d).trans (congrFun (entry_k m c) _)
  vp r d := (pick3 m c t n hn r d).trans (congrFun (entry_v m c) _)
  vc r d := (pick4 m c t n hn r d).trans (congrFun (entry_v m c) _)
  o r d := (pick5 m c t n hn r d).trans (congrFun (entry_o m c) _)
  l r d := (pick6 m c t n hn r d).trans (congrFun (entry_lse m c) _)
  d r d := (pick7 m c t n hn r d).trans (congrFun (V_main_arg3 m c) _)
  dl r d := (pick8 m c t n hn r d).trans (congrFun (V_main_arg4 m c) _)

/-- The reference's gradients of the keys' and the values' bands. -/
abbrev BK (c : Dev nD) := GRADK (DPROD (Q m c) (K m c) (W m c) (G m c) (L m c)) (BLOCKS (Q m c))
abbrev BV (c : Dev nD) := GRADV (TURNED (G m c)) (WEIGHTS (SCORE (Q m c) (K m c)))

section Points

variable (c : Dev nD) (R0 : Real (Q m c)) (R1 : Real (K m c)) (R2 : Real (W m c)) (R3 : Real (G m c)) (R4 : Real (L m c))

/-- What a point carries for the keys is the gradient of its own block through its own queries. -/
theorem carry_k (R0 : Real (Q m c)) (R1 : Real (K m c)) (R2 : Real (W m c)) (R3 : Real (G m c)) (R4 : Real (L m c)) (t : Fin cfg0.N) (n : Fin 64) (hn : n.val = t.val) (y : S128x512.Idx) (b : Fin 8) (r : Fin 128) (e : Fin 64)
    (eb : b.val = (y 1 : ℕ) / 64) (er : r.val = (y 0 : ℕ)) (ee : e.val = (y 1 : ℕ) % 64) :
    (outsAt0 m c t.val t.isLt).2.2.2.1 y = BK m c (ix6 0 0 n (hi r) b e) := by
  unfold BK
  rw [← gkc_core (reads m c t n hn) R0 R1 R2 R3 R4]
  by_cases h : t.val = 0
  · rw [outsAt0_A m c t (by omega) (by omega) (by omega)]
    unfold left0_A
    dsimp only
    exact tilesAs0 _ _ _ _ _ _ _ _ _ _ _ _ _ _ _ _ _ _ _ _ _ _ _ _ _ _ _ _ _ _ _ _ _ _ _ _ _ _ _ _ _ _ y b r e eb er ee
  · rw [outsAt0_B m c t (by omega) (by omega) (by omega)]
    unfold left0_B
    dsimp only
    exact tilesBs0 _ _ _ _ _ _ _ _ _ _ _ _ _ _ _ _ _ _ _ _ _ _ _ _ _ _ _ _ _ _ _ _ _ _ _ _ _ _ _ _ _ _ _ _ y b r e eb er ee

theorem carry_v (R0 : Real (Q m c)) (R1 : Real (K m c)) (t : Fin cfg0.N) (n : Fin 64) (hn : n.val = t.val) (y : S128x512.Idx) (b : Fin 8) (r : Fin 128) (e : Fin 64)
    (eb : b.val = (y 1 : ℕ) / 64) (er : r.val = (y 0 : ℕ)) (ee : e.val = (y 1 : ℕ) % 64) :
    (outsAt0 m c t.val t.isLt).2.2.2.2 y = BV m c (ix6 0 0 n (hi r) b e) := by
  unfold BV
  rw [← gvc_core (reads m c t n hn) R0 R1]
  by_cases h : t.val = 0
  · rw [outsAt0_A m c t (by omega) (by omega) (by omega)]
    unfold left0_A
    dsimp only
    exact tilesAs1 _ _ _ _ _ _ _ _ _ _ _ _ _ _ _ _ _ _ _ _ _ _ _ _ _ _ _ _ _ _ _ _ _ _ _ _ _ _ _ _ _ _ y b r e eb er ee
  · rw [outsAt0_B m c t (by omega) (by omega) (by omega)]
    unfold left0_B
    dsimp only
    exact tilesBs1 _ _ _ _ _ _ _ _ _ _ _ _ _ _ _ _ _ _ _ _ _ _ _ _ _ _ _ _ _ _ _ _ _ _ _ _ _ _ _ _ _ _ _ _ y b r e eb er ee

/-- A point's queries. -/
theorem at_q (R0 : Real (Q m c)) (R1 : Real (K m c)) (R2 : Real (W m c)) (R3 : Real (G m c)) (R4 : Real (L m c)) (t : Fin cfg0.N) (n : Fin 64) (hn : n.val = t.val) (y : S128x512.Idx) (j : S8192x512.Idx) (h0 : (j 0 : ℕ) = t.val * 128 + (y 0 : ℕ)) (h1 : (j 1 : ℕ) = y 1) :
    (outsAt0 m c t.val t.isLt).1 y = DQ (Q m c) (K m c) (W m c) (G m c) (L m c) j := by
  have l0 : (y 0 : ℕ) < 128 := (y 0).isLt
  have l1 : (y 1 : ℕ) < 512 := (y 1).isLt
  obtain ⟨r, d, rfl⟩ : ∃ (r : Fin 8192) (d : Fin 512), j = ix2 r d := ⟨j 0, j 1, by ext a; fin_cases a <;> rfl⟩
  have e0 : r.val = t.val * 128 + (y 0 : ℕ) := h0
  have e1 : d.val = (y 1 : ℕ) := h1
  have q1 : (⟨r.val / 128, by omega⟩ : Fin 64) = n := Fin.ext (by show r.val / 128 = _; omega)
  have q2 : (⟨r.val % 128, by omega⟩ : Fin 128) = ⟨(y 0 : ℕ), l0⟩ := Fin.ext (by show r.val % 128 = (y 0 : ℕ); omega)
  have q3 : (⟨d.val / 64, by omega⟩ : Fin 8) = ⟨(y 1 : ℕ) / 64, Nat.div_lt_of_lt_mul l1⟩ := Fin.ext (by show d.val / 64 = (y 1 : ℕ) / 64; omega)
  have q4 : (⟨d.val % 64, by omega⟩ : Fin 64) = ⟨(y 1 : ℕ) % 64, Nat.mod_lt _ (by omega)⟩ := Fin.ext (by show d.val % 64 = (y 1 : ℕ) % 64; omega)
  unfold DQ
  rw [array_apply, q1, q2, q3, q4, ← gq_core (reads m c t n hn) R0 R1 R2 R3 R4]
  have hw : n.val = (grid0.coords t 0).val := hn.trans (point t).symm
  rw [hw]
  by_cases h : t.val = 0
  · rw [outsAt0_A m c t (by omega) (by omega) (by omega)]
    unfold left0_A
    dsimp only
    exact tilesA9 _ _ _ _ _ _ _ _ _ _ _ _ _ _ _ _ _ _ _ _ _ _ _ _ _ _ _ _ _ _ _ _ _ _ _ _ _ _ _ _ _ _ y _ _ _ rfl rfl rfl
  · rw [outsAt0_B m c t (by omega) (by omega) (by omega)]
    unfold left0_B
    dsimp only
    exact tilesB9 _ _ _ _ _ _ _ _ _ _ _ _ _ _ _ _ _ _ _ _ _ _ _ _ _ _ _ _ _ _ _ _ _ _ _ _ _ _ _ _ _ _ _ _ y _ _ _ rfl rfl rfl

/-- A row of a head's column, split. -/
theorem split (t : ℕ) (n : Fin 64) (hn : n.val + 1 = t) (y : S128x512.Idx) (j : S8192x512.Idx) (h0 : (j 0 : ℕ) = (t - 1) * 128 + (y 0 : ℕ)) (h1 : (j 1 : ℕ) = y 1) :
    ∃ (b : Fin 8) (r : Fin 128) (e : Fin 64), b.val = (y 1 : ℕ) / 64 ∧ r.val = (y 0 : ℕ) ∧ e.val = (y 1 : ℕ) % 64
      ∧ y = ix2 r ⟨b.val * 64 + e.val, by omega⟩ ∧ j = ix2 ⟨n.val * 128 + r.val, by omega⟩ ⟨b.val * 64 + e.val, by omega⟩ := by
  have l0 : (y 0 : ℕ) < 128 := (y 0).isLt
  have l1 : (y 1 : ℕ) < 512 := (y 1).isLt
  refine ⟨⟨(y 1 : ℕ) / 64, Nat.div_lt_of_lt_mul l1⟩, ⟨(y 0 : ℕ), l0⟩, ⟨(y 1 : ℕ) % 64, Nat.mod_lt _ (by omega)⟩, rfl, rfl, rfl, ?_, ?_⟩
  · funext a
    fin_cases a
    · rfl
    · exact Fin.ext (by show (y 1 : ℕ) = (y 1 : ℕ) / 64 * 64 + (y 1 : ℕ) % 64; omega)
  · funext a
    fin_cases a
    · exact Fin.ext (by show (j 0 : ℕ) = n.val * 128 + (y 0 : ℕ); rw [h0, ← hn]; rfl)
    · exact Fin.ext (by show (j 1 : ℕ) = (y 1 : ℕ) / 64 * 64 + (y 1 : ℕ) % 64; omega)

/-- A point's keys: the block before it. -/
theorem at_k (R0 : Real (Q m c)) (R1 : Real (K m c)) (R2 : Real (W m c)) (R3 : Real (G m c)) (R4 : Real (L m c)) (t : Fin cfg0.N) (n : Fin 64) (hn : n.val + 1 = t.val) (y : S128x512.Idx) (j : S8192x512.Idx) (h0 : (j 0 : ℕ) = (t.val - 1) * 128 + (y 0 : ℕ)) (h1 : (j 1 : ℕ) = y 1) :
    (outsAt0 m c t.val t.isLt).2.1 y = DK (Q m c) (K m c) (W m c) (G m c) (L m c) j := by
  obtain ⟨b, r, e, eb, er, ee, hy, hj⟩ := split t.val n hn y j h0 h1
  have hc := carry_k m c R0 R1 R2 R3 R4 ⟨t.val - 1, Nat.lt_of_le_of_lt (Nat.sub_le _ _) t.isLt⟩ n (by show n.val = t.val - 1; omega) y b r e eb er ee
  unfold BK at hc
  rw [hj]
  unfold DK
  rw [unband_apply, ← hc]
  by_cases h : t.val < 64
  · rw [dif_pos (by omega), ← gkp_core (reads m c t ⟨n.val + 1, by omega⟩ hn) R0 R1 R2 R3 R4]
    have hw : n.val + 1 = (grid0.coords t 0).val := hn.trans (point t).symm
    show _ = _ + GKP (BitVec.ofNat 32 (n.val + 1)) _ _ _ _ _ _ _ _
    rw [hw, outsAt0_B m c t (by omega) (by omega) h]
    unfold left0_B
    dsimp only
    refine (tilesB10 _ _ _ _ _ _ _ _ _ _ _ _ _ _ _ _ _ _ _ _ _ _ _ _ _ _ _ _ _ _ _ _ _ _ _ _ _ _ _ _ _ _ _ _ y b r e eb er ee).trans ?_
    rw [← hy]
  · rw [dif_neg (by omega), add_zero, outsAt0_C m c t (by omega) (by omega) h]
    unfold left0_C
    dsimp only
    exact congrFun (tilesC10 _ _ _ _ _ _ _ _ _ _ _ _ _ _ _ _ _ _ _ _ _ _ _ _ _ _ _ _ _ _ _ _ _ _ _ _ _ _ _ _ _ _ _ _) y

/-- A point's values: the block before it. -/
theorem at_v (R0 : Real (Q m c)) (R1 : Real (K m c)) (t : Fin cfg0.N) (n : Fin 64) (hn : n.val + 1 = t.val) (y : S128x512.Idx) (j : S8192x512.Idx) (h0 : (j 0 : ℕ) = (t.val - 1) * 128 + (y 0 : ℕ)) (h1 : (j 1 : ℕ) = y 1) :
    (outsAt0 m c t.val t.isLt).2.2.1 y = UNBAND (BV m c) j := by
  obtain ⟨b, r, e, eb, er, ee, hy, hj⟩ := split t.val n hn y j h0 h1
  have hc := carry_v m c R0 R1 ⟨t.val - 1, Nat.lt_of_le_of_lt (Nat.sub_le _ _) t.isLt⟩ n (by show n.val = t.val - 1; omega) y b r e eb er ee
  unfold BV at hc
  rw [hj]
  unfold BV
  rw [unband_apply, ← hc]
  by_cases h : t.val < 64
  · rw [dif_pos (by omega), ← gvp_core (reads m c t ⟨n.val + 1, by omega⟩ hn) R0 R1]
    have hw : n.val + 1 = (grid0.coords t 0).val := hn.trans (point t).symm
    show _ = _ + GVP (BitVec.ofNat 32 (n.val + 1)) _ _ _ _ _
    rw [hw, outsAt0_B m c t (by omega) (by omega) h]
    unfold left0_B
    dsimp only
    refine (tilesB11 _ _ _ _ _ _ _ _ _ _ _ _ _ _ _ _ _ _ _ _ _ _ _ _ _ _ _ _ _ _ _ _ _ _ _ _ _ _ _ _ _ _ _ _ y b r e eb er ee).trans ?_
    rw [← hy]
  · rw [dif_neg (by omega), add_zero, outsAt0_C m c t (by omega) (by omega) h]
    unfold left0_C
    dsimp only
    exact congrFun (tilesC11 _ _ _ _ _ _ _ _ _ _ _ _ _ _ _ _ _ _ _ _ _ _ _ _ _ _ _ _ _ _ _ _ _ _ _ _ _ _ _ _ _ _ _ _) y

end Points

theorem flush10 : ∀ t : Fin cfg0.N, (cfg0.win 10).flush t = true → 1 ≤ t.val :=
  (by decide +kernel : ∀ t : Fin grid0.N, _)
theorem flush11 : ∀ t : Fin cfg0.N, (cfg0.win 11).flush t = true → 1 ≤ t.val :=
  (by decide +kernel : ∀ t : Fin grid0.N, _)

section Finals

variable (c : Dev nD)

theorem final9 (R0 : Real (Q m c)) (R1 : Real (K m c)) (R2 : Real (W m c)) (R3 : Real (G m c)) (R4 : Real (L m c)) :
    (dats m 0 c).arrAt 9 (cfgs 0).N = DQ (Q m c) (K m c) (W m c) (G m c) (L m c) := by
  refine (dats m 0 c).arrAt_eq_of_covers 9 _ (by decide +kernel) fun t _ y => ?_
  rw [after0_9]
  have ht : t.val < 65 := lt_of_lt_of_eq t.isLt N_0
  by_cases h : t.val < 64
  · refine at_q m c R0 R1 R2 R3 R4 t ⟨t.val, h⟩ rfl y _ ?_ ?_
    all_goals (blk_simp [idx t] <;> first | omega | (dsimp only; omega) | skip)
  · rw [outsAt0_C m c t (by omega) (by omega) h]
    refine at_q m c R0 R1 R2 R3 R4 ⟨t.val - 1, Nat.lt_of_le_of_lt (Nat.sub_le _ _) t.isLt⟩ ⟨t.val - 1, by omega⟩ rfl y _ ?_ ?_
    all_goals (blk_simp [idx t] <;> first | omega | (dsimp only; omega) | skip)

theorem final10 (R0 : Real (Q m c)) (R1 : Real (K m c)) (R2 : Real (W m c)) (R3 : Real (G m c)) (R4 : Real (L m c)) :
    (dats m 0 c).arrAt 10 (cfgs 0).N = DK (Q m c) (K m c) (W m c) (G m c) (L m c) := by
  refine (dats m 0 c).arrAt_eq_of_covers 10 _ (by decide +kernel) fun t hf y => ?_
  rw [after0_10]
  have ht : t.val < 65 := lt_of_lt_of_eq t.isLt N_0
  have h1 := flush10 t hf
  refine at_k m c R0 R1 R2 R3 R4 t ⟨t.val - 1, by omega⟩ (by show t.val - 1 + 1 = t.val; omega) y _ ?_ ?_
  all_goals (blk_simp [idx t] <;> first | omega | (dsimp only; omega) | skip)

theorem final11 (R0 : Real (Q m c)) (R1 : Real (K m c)) :
    (dats m 0 c).arrAt 11 (cfgs 0).N = UNBAND (BV m c) := by
  refine (dats m 0 c).arrAt_eq_of_covers 11 _ (by decide +kernel) fun t hf y => ?_
  rw [after0_11]
  have ht : t.val < 65 := lt_of_lt_of_eq t.isLt N_0
  have h1 := flush11 t hf
  refine at_v m c R0 R1 t ⟨t.val - 1, by omega⟩ (by show t.val - 1 + 1 = t.val; omega) y _ ?_ ?_
  all_goals (blk_simp [idx t] <;> first | omega | (dsimp only; omega) | skip)

end Finals

end Cert.AttnBKernelIdeal.Value

end
-- ==== Proof.BandBackRun.lean ====
/-
  The gradient of banded attention: what a run of the kernel and a run of the reference leave, and what the precondition
  says of the arguments.
-/
module

public import proofs.«01_k».proof.Proof.BandBackPoint
public import proofs.«01_k».proof.Proof.Gen.AttnBReferenceIdeal.Run
public import proofs.«01_k».proof.Proof.Gen.Pre_finite
public import proofs.«01_k».proof.Pre_finite
public import Idealize.ShloMosaic.Lib.ReduceAll

@[expose] public section

set_option maxRecDepth 16384

noncomputable section

open Idealize.ShloMosaic Idealize.ShloMosaic.TcCoe Idealize.SL.Sem

namespace Cert.AttnBKernelIdeal.Value

open Cert.AttnBKernelIdeal Cert.AttnBKernelIdeal.Gen

/-- A finite magnitude is a real's. -/
theorem real_of_lt (x : EReal) (h : max x (-x) < ⊤) : ∃ r : ℝ, (x : EReal) = r := by
  induction x using EReal.rec with
  | bot => simp at h
  | coe r => exact ⟨r, rfl⟩
  | top => simp at h

/-- The word of the infinity. -/
theorem top_word : (FloatOps.ofBits .f32 0x7F800000#32 : Ideal .f32) = (⊤ : EReal) := by
  simp [Ideal.ofBits, Ideal.ieee, -EReal.coe_mul]

theorem both (a b : BitVec 1) (h : IntOp.andi a b = 1#1) : a = 1#1 ∧ b = 1#1 := by
  revert a b; decide

/-- One array's part of the precondition. -/
theorem real_of_all (A : FVec Ideal S8192x512 .f32)
    (h : Host.reduce IntOp.andi (cmpf .olt (Host.absf A) (broadcastInDim Cert.Pre_finite.S8192x512 ![] Cert.Pre_finite.Gen.bcast_S_S8192x512 (constant Cert.Pre_finite.S_ .f32 0x7F800000#32)))
      (constantI Cert.Pre_finite.S_ 1 1#1) Cert.Pre_finite.Gen.reducesTo_S8192x512_S_d0_1 Cert.Pre_finite.Gen.h_S_ ix0 = 1#1) : Real A := by
  intro j
  haveI : Subsingleton Cert.Pre_finite.S_.Idx := ⟨fun a b => funext fun k => k.elim0⟩
  have e := Host.reduce_andi_all _ _ _ _ _ h j
  have e' : Ideal.cmp .olt (max (A j : EReal) (-(A j : EReal))) (FloatOps.ofBits .f32 0x7F800000#32 : Ideal .f32) = 1#1 := e
  rw [top_word] at e'
  refine real_of_lt _ ?_
  by_contra hn
  simp [Ideal.cmp, hn] at e'

/-- The precondition: every entry of the five arguments is a real number. -/
theorem real_of_pre (A0 A1 A2 A3 A4 : FVec Ideal S8192x512 .f32) (h : Cert.Pre_finite.fn (F := Ideal) A0 A1 A2 A3 A4 = fun _ => 1#1) :
    Real A0 ∧ Real A1 ∧ Real A2 ∧ Real A3 ∧ Real A4 := by
  have e := congrFun h ix0
  obtain ⟨e, h4⟩ := both _ _ e
  obtain ⟨e, h3⟩ := both _ _ e
  obtain ⟨e, h2⟩ := both _ _ e
  obtain ⟨h0, h1⟩ := both _ _ e
  exact ⟨real_of_all A0 h0, real_of_all A1 h1, real_of_all A2 h2, real_of_all A3 h3, real_of_all A4 h4⟩

variable (m : (ℓ : Loc nD τ sig) → Buf (Elt Ideal) ℓ) (ρ : Dev nD → PrngReg)

/-- A run of the kernel: its three results and the arguments kept. -/
theorem run_blocks : θ_run defs (onTc (τ := τ) (main (F := Ideal))) ⟨m, fun _ => 0, ρ⟩ fun r => ∀ c : Dev nD,
      r.2.mem ((c.tc : Thread nD τ).loc main_v89_0) = (dats m 0 c).arrAt 9 (cfgs 0).N
      ∧ r.2.mem ((c.tc : Thread nD τ).loc main_v89_1) = (dats m 0 c).arrAt 10 (cfgs 0).N
      ∧ r.2.mem ((c.tc : Thread nD τ).loc main_v89_2) = (dats m 0 c).arrAt 11 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1 9, (h c).1 10, (h c).1 11,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 7).trans (((dats m 0 c).arrAt_in 7 rfl _).trans ((A_eq m c 7).trans (V_main_arg3 m c))),
      ((h c).1 8).trans (((dats m 0 c).arrAt_in 8 rfl _).trans ((A_eq m c 8).trans (V_main_arg4 m c)))⟩)
    (run_main m ρ)

end Cert.AttnBKernelIdeal.Value

namespace Cert.AttnBReferenceIdeal.Value

open Cert.AttnBReferenceIdeal Cert.AttnBReferenceIdeal.Gen

variable (m : (ℓ : Loc nD τ sig) → Buf (Elt Ideal) ℓ) (ρ : Dev nD → PrngReg)

/-- A run of the reference: its three results and the arguments kept. -/
theorem run_grads : θ_run defs (onTc (τ := τ) (main (F := Ideal))) ⟨m, fun _ => 0, ρ⟩ fun r => ∀ c : Dev nD,
      r.2.mem ((c.tc : Thread nD τ).loc main_v163) = DQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v162) = DK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v161) = DV (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans rfl, (h c).2.1.trans rfl, (h c).2.2.1.trans rfl, (h c).2.2.2⟩) (run m ρ)

end Cert.AttnBReferenceIdeal.Value

end
-- ==== Proof.lean ====
module

public import proofs.«01_k».proof.Defs
public import proofs.«01_k».proof.Proof.Gen.UKernel.Frame
public import proofs.«01_k».proof.Proof.Gen.UKernelIdeal.Value
public import proofs.«01_k».proof.Proof.Gen.UReferenceIdeal.Run
public import proofs.«01_k».proof.Proof.UpGrad
public import proofs.«01_k».proof.Proof.Gen.DKernel.Frame
public import proofs.«01_k».proof.Proof.Gen.DKernelIdeal.Value
public import proofs.«01_k».proof.Proof.Gen.DReferenceIdeal.Run
public import proofs.«01_k».proof.Proof.DownGrad
public import proofs.«01_k».proof.Proof.Gen.WUpKernel.Frame
public import proofs.«01_k».proof.Proof.Gen.WUpKernelIdeal.Value
public import proofs.«01_k».proof.Proof.Gen.WUpReferenceIdeal.Run
public import proofs.«01_k».proof.Proof.WeightUp
public import proofs.«01_k».proof.Proof.Gen.WGateKernel.Frame
public import proofs.«01_k».proof.Proof.Gen.WGateKernelIdeal.Value
public import proofs.«01_k».proof.Proof.Gen.WGateReferenceIdeal.Run
public import proofs.«01_k».proof.Proof.WeightGate
public import proofs.«01_k».proof.Proof.Gen.WPleKernel.Frame
public import proofs.«01_k».proof.Proof.Gen.WPleKernelIdeal.Value
public import proofs.«01_k».proof.Proof.Gen.WPleReferenceIdeal.Run
public import proofs.«01_k».proof.Proof.WeightPle
public import proofs.«01_k».proof.Proof.Gen.WOKernel.Frame
public import proofs.«01_k».proof.Proof.Gen.WOKernelIdeal.Value
public import proofs.«01_k».proof.Proof.Gen.WOReferenceIdeal.Run
public import proofs.«01_k».proof.Proof.WeightOut
public import proofs.«01_k».proof.Proof.Gen.WQkvKernel.Frame
public import proofs.«01_k».proof.Proof.Gen.WQkvKernelIdeal.Value
public import proofs.«01_k».proof.Proof.Gen.WQkvReferenceIdeal.Run
public import proofs.«01_k».proof.Proof.WeightQkv
public import proofs.«01_k».proof.Proof.Gen.DYKernel.Frame
public import proofs.«01_k».proof.Proof.Gen.DYKernelIdeal.Value
public import proofs.«01_k».proof.Proof.Gen.DYReferenceIdeal.Run
public import proofs.«01_k».proof.Proof.InputDelta
public import proofs.«01_k».proof.Proof.Gen.DOmKernel.Frame
public import proofs.«01_k».proof.Proof.Gen.DOmKernelIdeal.Value
public import proofs.«01_k».proof.Proof.Gen.DOmReferenceIdeal.Run
public import proofs.«01_k».proof.Proof.InputOut
public import proofs.«01_k».proof.Proof.Gen.DH0Kernel.Frame
public import proofs.«01_k».proof.Proof.Gen.DH0KernelIdeal.Value
public import proofs.«01_k».proof.Proof.Gen.DH0ReferenceIdeal.Run
public import proofs.«01_k».proof.Proof.InputQkv
public import proofs.«01_k».proof.Proof.Gen.GateKernel.Frame
public import proofs.«01_k».proof.Proof.Gen.GateKernelIdeal.Value
public import proofs.«01_k».proof.Proof.Gen.GateReferenceIdeal.Run
public import proofs.«01_k».proof.Proof.Gate
public import proofs.«01_k».proof.Proof.Gen.PleKernel.Frame
public import proofs.«01_k».proof.Proof.Gen.PleKernelIdeal.Value
public import proofs.«01_k».proof.Proof.Gen.PleReferenceIdeal.Run
public import proofs.«01_k».proof.Proof.Ple
public import proofs.«01_k».proof.Proof.Gen.QkvKernel.Frame
public import proofs.«01_k».proof.Proof.Gen.QkvKernelIdeal.Value
public import proofs.«01_k».proof.Proof.Gen.QkvReferenceIdeal.Run
public import proofs.«01_k».proof.Proof.Qkv
public import proofs.«01_k».proof.Proof.Gen.UpKernel.Frame
public import proofs.«01_k».proof.Proof.Gen.UpKernelIdeal.Value
public import proofs.«01_k».proof.Proof.Gen.UpReferenceIdeal.Run
public import proofs.«01_k».proof.Proof.Up
public import proofs.«01_k».proof.Proof.Gen.DHKernel.Frame
public import proofs.«01_k».proof.Proof.Gen.DHKernelIdeal.Value
public import proofs.«01_k».proof.Proof.Gen.DHReferenceIdeal.Run
public import proofs.«01_k».proof.Proof.DownInput
public import proofs.«01_k».proof.Proof.Gen.DHgKernel.Frame
public import proofs.«01_k».proof.Proof.Gen.DHgKernelIdeal.Value
public import proofs.«01_k».proof.Proof.Gen.DHgReferenceIdeal.Run
public import proofs.«01_k».proof.Proof.GateInput
public import proofs.«01_k».proof.Proof.Gen.DHInKernel.Frame
public import proofs.«01_k».proof.Proof.Gen.DHInKernelIdeal.Value
public import proofs.«01_k».proof.Proof.Gen.DHInReferenceIdeal.Run
public import proofs.«01_k».proof.Proof.DeltaInput
public import proofs.«01_k».proof.Proof.Gen.WInKernel.Frame
public import proofs.«01_k».proof.Proof.Gen.WInKernelIdeal.Value
public import proofs.«01_k».proof.Proof.Gen.WInReferenceIdeal.Run
public import proofs.«01_k».proof.Proof.WIn
public import proofs.«01_k».proof.Proof.Gen.InKernel.Frame
public import proofs.«01_k».proof.Proof.Gen.InKernelIdeal.Value
public import proofs.«01_k».proof.Proof.Gen.InReferenceIdeal.Run
public import proofs.«01_k».proof.Proof.In
public import proofs.«01_k».proof.Proof.Gen.DownKernel.Frame
public import proofs.«01_k».proof.Proof.Gen.DownKernelIdeal.Value
public import proofs.«01_k».proof.Proof.Gen.DownReferenceIdeal.Run
public import proofs.«01_k».proof.Proof.Down
public import proofs.«01_k».proof.Proof.Gen.AOutKernel.Frame
public import proofs.«01_k».proof.Proof.Gen.AOutKernelIdeal.Value
public import proofs.«01_k».proof.Proof.Gen.AOutReferenceIdeal.Run
public import proofs.«01_k».proof.Proof.AttnOut
public import proofs.«01_k».proof.Proof.Gen.DOutKernel.Frame
public import proofs.«01_k».proof.Proof.Gen.DOutKernelIdeal.Value
public import proofs.«01_k».proof.Proof.Gen.DOutReferenceIdeal.Run
public import proofs.«01_k».proof.Proof.DeltaOut
public import proofs.«01_k».proof.Proof.Gen.AttnKernel.Frame
public import proofs.«01_k».proof.Proof.Gen.AttnKernelIdeal.Value
public import proofs.«01_k».proof.Proof.Gen.AttnReferenceIdeal.Run
public import proofs.«01_k».proof.Proof.AttnForward
public import proofs.«01_k».proof.Proof.Gen.AttnBKernel.Skeleton
public import proofs.«01_k».proof.Proof.Gen.AttnBKernelIdeal.Skeleton
public import proofs.«01_k».proof.Proof.Gen.AttnBKernel.Frame
public import proofs.«01_k».proof.Proof.Gen.AttnBKernelIdeal.Frame
public import proofs.«01_k».proof.Proof.Gen.AttnBReferenceIdeal.Run
public import proofs.«01_k».proof.Proof.Gen.Pre_finite
public import proofs.«01_k».proof.Proof.BandBackFrame
public import proofs.«01_k».proof.Proof.BandBackIdealFrame
public import proofs.«01_k».proof.Proof.BandBackRun
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- `UReferenceIdeal` runs and leaves its arguments; it declares no semaphore. -/
theorem frame_UR : Cert.quiescent_UReferenceIdeal := fun m g _ =>
  (θ_run Cert.UReferenceIdeal.defs _ _).mono (fun r h => ⟨fun c => (h c).2, sem_eq_zero_of_no_sems (by decide) r.2⟩) (Cert.UReferenceIdeal.Value.run m g)

/-- The idealized kernel and reference of `UKernel` end with equal results. -/
theorem algebraic_U : Cert.algebraic_UKernelIdeal_UReferenceIdeal := by
  intro m g m' g' _ hagree
  refine ⟨fun c => Cert.UKernelIdeal.Value.REF (m ((c.tc : Thread Cert.UKernelIdeal.nD Cert.UKernelIdeal.τ).loc Cert.UKernelIdeal.main_arg0)) (m ((c.tc : Thread Cert.UKernelIdeal.nD Cert.UKernelIdeal.τ).loc Cert.UKernelIdeal.main_arg1)) (m ((c.tc : Thread Cert.UKernelIdeal.nD Cert.UKernelIdeal.τ).loc Cert.UKernelIdeal.main_arg2)), ?_, ?_⟩
  · exact (θ_run Cert.UKernelIdeal.defs _ _).mono (fun r h c => ⟨(h c).1.trans (Cert.UKernelIdeal.Value.final m c), (h c).2⟩) (Cert.UKernelIdeal.Value.run_blocks m g)
  · refine (θ_run Cert.UReferenceIdeal.defs _ _).mono (fun r h c => ?_) (Cert.UReferenceIdeal.Value.run m' g')
    have e0 := (hagree c).1; have e1 := (hagree c).2.1; have e2 := (hagree c).2.2
    exact ⟨(h c).1.trans (by rw [e0, e1, e2]), (h c).2⟩

/-- `DReferenceIdeal` runs and leaves its arguments; it declares no semaphore. -/
theorem frame_DR : Cert.quiescent_DReferenceIdeal := fun m g _ =>
  (θ_run Cert.DReferenceIdeal.defs _ _).mono (fun r h => ⟨fun c => (h c).2, sem_eq_zero_of_no_sems (by decide) r.2⟩) (Cert.DReferenceIdeal.Value.run m g)

/-- The idealized kernel and reference of `DKernel` end with equal results. -/
theorem algebraic_D : Cert.algebraic_DKernelIdeal_DReferenceIdeal := by
  intro m g m' g' _ hagree
  refine ⟨fun c => Cert.DKernelIdeal.Value.REF (m ((c.tc : Thread Cert.DKernelIdeal.nD Cert.DKernelIdeal.τ).loc Cert.DKernelIdeal.main_arg0)) (m ((c.tc : Thread Cert.DKernelIdeal.nD Cert.DKernelIdeal.τ).loc Cert.DKernelIdeal.main_arg2)), ?_, ?_⟩
  · exact (θ_run Cert.DKernelIdeal.defs _ _).mono (fun r h c => ⟨(h c).1.trans (Cert.DKernelIdeal.Value.final m c), (h c).2⟩) (Cert.DKernelIdeal.Value.run_blocks m g)
  · refine (θ_run Cert.DReferenceIdeal.defs _ _).mono (fun r h c => ?_) (Cert.DReferenceIdeal.Value.run m' g')
    have e0 := (hagree c).1; have e1 := (hagree c).2.1; have e2 := (hagree c).2.2
    exact ⟨(h c).1.trans (by rw [e0, e2]), (h c).2⟩

/-- `WUpReferenceIdeal` runs and leaves its arguments; it declares no semaphore. -/
theorem frame_WUpR : Cert.quiescent_WUpReferenceIdeal := fun m g _ =>
  (θ_run Cert.WUpReferenceIdeal.defs _ _).mono (fun r h => ⟨fun c => (h c).2, sem_eq_zero_of_no_sems (by decide) r.2⟩) (Cert.WUpReferenceIdeal.Value.run m g)

/-- The idealized kernel and reference of `WUpKernel` end with equal results. -/
theorem algebraic_WUp : Cert.algebraic_WUpKernelIdeal_WUpReferenceIdeal := by
  intro m g m' g' _ hagree
  refine ⟨fun c => Cert.WUpReferenceIdeal.Value.REF (m ((c.tc : Thread Cert.WUpKernelIdeal.nD Cert.WUpKernelIdeal.τ).loc Cert.WUpKernelIdeal.main_arg0)) (m ((c.tc : Thread Cert.WUpKernelIdeal.nD Cert.WUpKernelIdeal.τ).loc Cert.WUpKernelIdeal.main_arg2)), ?_, ?_⟩
  · exact (θ_run Cert.WUpKernelIdeal.defs _ _).mono (fun r h c => ⟨(h c).1.trans (Cert.WUpKernelIdeal.Value.final m c), (h c).2⟩) (Cert.WUpKernelIdeal.Value.run_blocks m g)
  · refine (θ_run Cert.WUpReferenceIdeal.defs _ _).mono (fun r h c => ?_) (Cert.WUpReferenceIdeal.Value.run m' g')
    have e0 := (hagree c).1; have e1 := (hagree c).2.1; have e2 := (hagree c).2.2
    exact ⟨(h c).1.trans (by rw [e0, e2]), (h c).2⟩

/-- `WGateReferenceIdeal` runs and leaves its arguments; it declares no semaphore. -/
theorem frame_WGateR : Cert.quiescent_WGateReferenceIdeal := fun m g _ =>
  (θ_run Cert.WGateReferenceIdeal.defs _ _).mono (fun r h => ⟨fun c => (h c).2, sem_eq_zero_of_no_sems (by decide) r.2⟩) (Cert.WGateReferenceIdeal.Value.run m g)

/-- The idealized kernel and reference of `WGateKernel` end with equal results. -/
theorem algebraic_WGate : Cert.algebraic_WGateKernelIdeal_WGateReferenceIdeal := by
  intro m g m' g' _ hagree
  refine ⟨fun c => Cert.WGateReferenceIdeal.Value.REF (m ((c.tc : Thread Cert.WGateKernelIdeal.nD Cert.WGateKernelIdeal.τ).loc Cert.WGateKernelIdeal.main_arg0)) (m ((c.tc : Thread Cert.WGateKernelIdeal.nD Cert.WGateKernelIdeal.τ).loc Cert.WGateKernelIdeal.main_arg2)), ?_, ?_⟩
  · exact (θ_run Cert.WGateKernelIdeal.defs _ _).mono (fun r h c => ⟨(h c).1.trans (Cert.WGateKernelIdeal.Value.final m c), (h c).2⟩) (Cert.WGateKernelIdeal.Value.run_blocks m g)
  · refine (θ_run Cert.WGateReferenceIdeal.defs _ _).mono (fun r h c => ?_) (Cert.WGateReferenceIdeal.Value.run m' g')
    have e0 := (hagree c).1; have e1 := (hagree c).2.1; have e2 := (hagree c).2.2
    exact ⟨(h c).1.trans (by rw [e0, e2]), (h c).2⟩

/-- `WPleReferenceIdeal` runs and leaves its arguments; it declares no semaphore. -/
theorem frame_WPleR : Cert.quiescent_WPleReferenceIdeal := fun m g _ =>
  (θ_run Cert.WPleReferenceIdeal.defs _ _).mono (fun r h => ⟨fun c => (h c).2, sem_eq_zero_of_no_sems (by decide) r.2⟩) (Cert.WPleReferenceIdeal.Value.run m g)

/-- The idealized kernel and reference of `WPleKernel` end with equal results. -/
theorem algebraic_WPle : Cert.algebraic_WPleKernelIdeal_WPleReferenceIdeal := by
  intro m g m' g' _ hagree
  refine ⟨fun c => Cert.WPleReferenceIdeal.Value.REF (m ((c.tc : Thread Cert.WPleKernelIdeal.nD Cert.WPleKernelIdeal.τ).loc Cert.WPleKernelIdeal.main_arg0)) (m ((c.tc : Thread Cert.WPleKernelIdeal.nD Cert.WPleKernelIdeal.τ).loc Cert.WPleKernelIdeal.main_arg2)), ?_, ?_⟩
  · exact (θ_run Cert.WPleKernelIdeal.defs _ _).mono (fun r h c => ⟨(h c).1.trans (Cert.WPleKernelIdeal.Value.final m c), (h c).2⟩) (Cert.WPleKernelIdeal.Value.run_blocks m g)
  · refine (θ_run Cert.WPleReferenceIdeal.defs _ _).mono (fun r h c => ?_) (Cert.WPleReferenceIdeal.Value.run m' g')
    have e0 := (hagree c).1; have e1 := (hagree c).2.1; have e2 := (hagree c).2.2
    exact ⟨(h c).1.trans (by rw [e0, e2]), (h c).2⟩

/-- `WOReferenceIdeal` runs and leaves its arguments; it declares no semaphore. -/
theorem frame_WOR : Cert.quiescent_WOReferenceIdeal := fun m g _ =>
  (θ_run Cert.WOReferenceIdeal.defs _ _).mono (fun r h => ⟨fun c => (h c).2, sem_eq_zero_of_no_sems (by decide) r.2⟩) (Cert.WOReferenceIdeal.Value.run m g)

/-- The idealized kernel and reference of `WOKernel` end with equal results. -/
theorem algebraic_WO : Cert.algebraic_WOKernelIdeal_WOReferenceIdeal := by
  intro m g m' g' _ hagree
  refine ⟨fun c => Cert.WOReferenceIdeal.Value.REF (m ((c.tc : Thread Cert.WOKernelIdeal.nD Cert.WOKernelIdeal.τ).loc Cert.WOKernelIdeal.main_arg0)) (m ((c.tc : Thread Cert.WOKernelIdeal.nD Cert.WOKernelIdeal.τ).loc Cert.WOKernelIdeal.main_arg2)), ?_, ?_⟩
  · exact (θ_run Cert.WOKernelIdeal.defs _ _).mono (fun r h c => ⟨(h c).1.trans (Cert.WOKernelIdeal.Value.final m c), (h c).2⟩) (Cert.WOKernelIdeal.Value.run_blocks m g)
  · refine (θ_run Cert.WOReferenceIdeal.defs _ _).mono (fun r h c => ?_) (Cert.WOReferenceIdeal.Value.run m' g')
    have e0 := (hagree c).1; have e1 := (hagree c).2.1; have e2 := (hagree c).2.2
    exact ⟨(h c).1.trans (by rw [e0, e2]), (h c).2⟩

/-- `WQkvReferenceIdeal` runs and leaves its arguments; it declares no semaphore. -/
theorem frame_WQkvR : Cert.quiescent_WQkvReferenceIdeal := fun m g _ =>
  (θ_run Cert.WQkvReferenceIdeal.defs _ _).mono (fun r h => ⟨fun c => (h c).2, sem_eq_zero_of_no_sems (by decide) r.2⟩) (Cert.WQkvReferenceIdeal.Value.run m g)

/-- The idealized kernel and reference of `WQkvKernel` end with equal results. -/
theorem algebraic_WQkv : Cert.algebraic_WQkvKernelIdeal_WQkvReferenceIdeal := by
  intro m g m' g' _ hagree
  refine ⟨fun c => Cert.WQkvReferenceIdeal.Value.REF (m ((c.tc : Thread Cert.WQkvKernelIdeal.nD Cert.WQkvKernelIdeal.τ).loc Cert.WQkvKernelIdeal.main_arg0)) (m ((c.tc : Thread Cert.WQkvKernelIdeal.nD Cert.WQkvKernelIdeal.τ).loc Cert.WQkvKernelIdeal.main_arg2)), ?_, ?_⟩
  · exact (θ_run Cert.WQkvKernelIdeal.defs _ _).mono (fun r h c => ⟨(h c).1.trans (Cert.WQkvKernelIdeal.Value.final m c), (h c).2⟩) (Cert.WQkvKernelIdeal.Value.run_blocks m g)
  · refine (θ_run Cert.WQkvReferenceIdeal.defs _ _).mono (fun r h c => ?_) (Cert.WQkvReferenceIdeal.Value.run m' g')
    have e0 := (hagree c).1; have e1 := (hagree c).2.1; have e2 := (hagree c).2.2
    exact ⟨(h c).1.trans (by rw [e0, e2]), (h c).2⟩

/-- `DYReferenceIdeal` runs and leaves its arguments; it declares no semaphore. -/
theorem frame_DYR : Cert.quiescent_DYReferenceIdeal := fun m g _ =>
  (θ_run Cert.DYReferenceIdeal.defs _ _).mono (fun r h => ⟨fun c => (h c).2, sem_eq_zero_of_no_sems (by decide) r.2⟩) (Cert.DYReferenceIdeal.Value.run m g)

/-- The idealized kernel and reference of `DYKernel` end with equal results. -/
theorem algebraic_DY : Cert.algebraic_DYKernelIdeal_DYReferenceIdeal := by
  intro m g m' g' _ hagree
  refine ⟨fun c => Cert.DYReferenceIdeal.Value.REF (m ((c.tc : Thread Cert.DYKernelIdeal.nD Cert.DYKernelIdeal.τ).loc Cert.DYKernelIdeal.main_arg1)) (m ((c.tc : Thread Cert.DYKernelIdeal.nD Cert.DYKernelIdeal.τ).loc Cert.DYKernelIdeal.main_arg2)), ?_, ?_⟩
  · exact (θ_run Cert.DYKernelIdeal.defs _ _).mono (fun r h c => ⟨(h c).1.trans (Cert.DYKernelIdeal.Value.final m c), (h c).2⟩) (Cert.DYKernelIdeal.Value.run_blocks m g)
  · refine (θ_run Cert.DYReferenceIdeal.defs _ _).mono (fun r h c => ?_) (Cert.DYReferenceIdeal.Value.run m' g')
    have e0 := (hagree c).1; have e1 := (hagree c).2.1; have e2 := (hagree c).2.2
    exact ⟨(h c).1.trans (by rw [e1, e2]), (h c).2⟩

/-- `DOmReferenceIdeal` runs and leaves its arguments; it declares no semaphore. -/
theorem frame_DOmR : Cert.quiescent_DOmReferenceIdeal := fun m g _ =>
  (θ_run Cert.DOmReferenceIdeal.defs _ _).mono (fun r h => ⟨fun c => (h c).2, sem_eq_zero_of_no_sems (by decide) r.2⟩) (Cert.DOmReferenceIdeal.Value.run m g)

/-- The idealized kernel and reference of `DOmKernel` end with equal results. -/
theorem algebraic_DOm : Cert.algebraic_DOmKernelIdeal_DOmReferenceIdeal := by
  intro m g m' g' _ hagree
  refine ⟨fun c => Cert.DOmReferenceIdeal.Value.REF (m ((c.tc : Thread Cert.DOmKernelIdeal.nD Cert.DOmKernelIdeal.τ).loc Cert.DOmKernelIdeal.main_arg1)) (m ((c.tc : Thread Cert.DOmKernelIdeal.nD Cert.DOmKernelIdeal.τ).loc Cert.DOmKernelIdeal.main_arg2)), ?_, ?_⟩
  · exact (θ_run Cert.DOmKernelIdeal.defs _ _).mono (fun r h c => ⟨(h c).1.trans (Cert.DOmKernelIdeal.Value.final m c), (h c).2⟩) (Cert.DOmKernelIdeal.Value.run_blocks m g)
  · refine (θ_run Cert.DOmReferenceIdeal.defs _ _).mono (fun r h c => ?_) (Cert.DOmReferenceIdeal.Value.run m' g')
    have e0 := (hagree c).1; have e1 := (hagree c).2.1; have e2 := (hagree c).2.2
    exact ⟨(h c).1.trans (by rw [e1, e2]), (h c).2⟩

/-- `DH0ReferenceIdeal` runs and leaves its arguments; it declares no semaphore. -/
theorem frame_DH0R : Cert.quiescent_DH0ReferenceIdeal := fun m g _ =>
  (θ_run Cert.DH0ReferenceIdeal.defs _ _).mono (fun r h => ⟨fun c => (h c).2, sem_eq_zero_of_no_sems (by decide) r.2⟩) (Cert.DH0ReferenceIdeal.Value.run m g)

/-- The idealized kernel and reference of `DH0Kernel` end with equal results. -/
theorem algebraic_DH0 : Cert.algebraic_DH0KernelIdeal_DH0ReferenceIdeal := by
  intro m g m' g' _ hagree
  refine ⟨fun c => Cert.DH0ReferenceIdeal.Value.REF (m ((c.tc : Thread Cert.DH0KernelIdeal.nD Cert.DH0KernelIdeal.τ).loc Cert.DH0KernelIdeal.main_arg1)) (m ((c.tc : Thread Cert.DH0KernelIdeal.nD Cert.DH0KernelIdeal.τ).loc Cert.DH0KernelIdeal.main_arg2)), ?_, ?_⟩
  · exact (θ_run Cert.DH0KernelIdeal.defs _ _).mono (fun r h c => ⟨(h c).1.trans (Cert.DH0KernelIdeal.Value.final m c), (h c).2⟩) (Cert.DH0KernelIdeal.Value.run_blocks m g)
  · refine (θ_run Cert.DH0ReferenceIdeal.defs _ _).mono (fun r h c => ?_) (Cert.DH0ReferenceIdeal.Value.run m' g')
    have e0 := (hagree c).1; have e1 := (hagree c).2.1; have e2 := (hagree c).2.2
    exact ⟨(h c).1.trans (by rw [e1, e2]), (h c).2⟩

/-- `GateReferenceIdeal` runs and leaves its arguments; it declares no semaphore. -/
theorem frame_GateR : Cert.quiescent_GateReferenceIdeal := fun m g _ =>
  (θ_run Cert.GateReferenceIdeal.defs _ _).mono (fun r h => ⟨fun c => (h c).2, sem_eq_zero_of_no_sems (by decide) r.2⟩) (Cert.GateReferenceIdeal.Value.run m g)

/-- The idealized kernel and reference of `GateKernel` end with equal results. -/
theorem algebraic_Gate : Cert.algebraic_GateKernelIdeal_GateReferenceIdeal := by
  intro m g m' g' _ hagree
  refine ⟨fun c => Cert.GateReferenceIdeal.Value.REF (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)), ?_, ?_⟩
  · exact (θ_run Cert.GateKernelIdeal.defs _ _).mono (fun r h c => ⟨(h c).1.trans (Cert.GateKernelIdeal.Value.final m c), (h c).2⟩) (Cert.GateKernelIdeal.Value.run_blocks m g)
  · refine (θ_run Cert.GateReferenceIdeal.defs _ _).mono (fun r h c => ?_) (Cert.GateReferenceIdeal.Value.run m' g')
    have e0 := (hagree c).1; have e1 := (hagree c).2
    exact ⟨(h c).1.trans (by rw [e0, e1]), (h c).2⟩

/-- `PleReferenceIdeal` runs and leaves its arguments; it declares no semaphore. -/
theorem frame_PleR : Cert.quiescent_PleReferenceIdeal := fun m g _ =>
  (θ_run Cert.PleReferenceIdeal.defs _ _).mono (fun r h => ⟨fun c => (h c).2, sem_eq_zero_of_no_sems (by decide) r.2⟩) (Cert.PleReferenceIdeal.Value.run m g)

/-- The idealized kernel and reference of `PleKernel` end with equal results. -/
theorem algebraic_Ple : Cert.algebraic_PleKernelIdeal_PleReferenceIdeal := by
  intro m g m' g' _ hagree
  refine ⟨fun c => Cert.PleReferenceIdeal.Value.REF (m ((c.tc : Thread Cert.PleKernelIdeal.nD Cert.PleKernelIdeal.τ).loc Cert.PleKernelIdeal.main_arg0)) (m ((c.tc : Thread Cert.PleKernelIdeal.nD Cert.PleKernelIdeal.τ).loc Cert.PleKernelIdeal.main_arg1)), ?_, ?_⟩
  · exact (θ_run Cert.PleKernelIdeal.defs _ _).mono (fun r h c => ⟨(h c).1.trans (Cert.PleKernelIdeal.Value.final m c), (h c).2⟩) (Cert.PleKernelIdeal.Value.run_blocks m g)
  · refine (θ_run Cert.PleReferenceIdeal.defs _ _).mono (fun r h c => ?_) (Cert.PleReferenceIdeal.Value.run m' g')
    have e0 := (hagree c).1; have e1 := (hagree c).2
    exact ⟨(h c).1.trans (by rw [e0, e1]), (h c).2⟩

/-- `QkvReferenceIdeal` runs and leaves its arguments; it declares no semaphore. -/
theorem frame_QkvR : Cert.quiescent_QkvReferenceIdeal := fun m g _ =>
  (θ_run Cert.QkvReferenceIdeal.defs _ _).mono (fun r h => ⟨fun c => (h c).2, sem_eq_zero_of_no_sems (by decide) r.2⟩) (Cert.QkvReferenceIdeal.Value.run m g)

/-- The idealized kernel and reference of `QkvKernel` end with equal results. -/
theorem algebraic_Qkv : Cert.algebraic_QkvKernelIdeal_QkvReferenceIdeal := by
  intro m g m' g' _ hagree
  refine ⟨fun c => Cert.QkvReferenceIdeal.Value.REF (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)), ?_, ?_⟩
  · exact (θ_run Cert.QkvKernelIdeal.defs _ _).mono (fun r h c => ⟨(h c).1.trans (Cert.QkvKernelIdeal.Value.final m c), (h c).2⟩) (Cert.QkvKernelIdeal.Value.run_blocks m g)
  · refine (θ_run Cert.QkvReferenceIdeal.defs _ _).mono (fun r h c => ?_) (Cert.QkvReferenceIdeal.Value.run m' g')
    have e0 := (hagree c).1; have e1 := (hagree c).2
    exact ⟨(h c).1.trans (by rw [e0, e1]), (h c).2⟩

/-- `UpReferenceIdeal` runs and leaves its arguments; it declares no semaphore. -/
theorem frame_UpR : Cert.quiescent_UpReferenceIdeal := fun m g _ =>
  (θ_run Cert.UpReferenceIdeal.defs _ _).mono (fun r h => ⟨fun c => (h c).2, sem_eq_zero_of_no_sems (by decide) r.2⟩) (Cert.UpReferenceIdeal.Value.run m g)

/-- The idealized kernel and reference of `UpKernel` end with equal results. -/
theorem algebraic_Up : Cert.algebraic_UpKernelIdeal_UpReferenceIdeal := by
  intro m g m' g' _ hagree
  refine ⟨fun c => Cert.UpReferenceIdeal.Value.REF (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)), ?_, ?_⟩
  · exact (θ_run Cert.UpKernelIdeal.defs _ _).mono (fun r h c => ⟨(h c).1.trans (Cert.UpKernelIdeal.Value.final m c), (h c).2⟩) (Cert.UpKernelIdeal.Value.run_blocks m g)
  · refine (θ_run Cert.UpReferenceIdeal.defs _ _).mono (fun r h c => ?_) (Cert.UpReferenceIdeal.Value.run m' g')
    have e0 := (hagree c).1; have e1 := (hagree c).2
    exact ⟨(h c).1.trans (by rw [e0, e1]), (h c).2⟩

/-- `DHReferenceIdeal` runs and leaves its arguments; it declares no semaphore. -/
theorem frame_DHR : Cert.quiescent_DHReferenceIdeal := fun m g _ =>
  (θ_run Cert.DHReferenceIdeal.defs _ _).mono (fun r h => ⟨fun c => (h c).2.2.2, sem_eq_zero_of_no_sems (by decide) r.2⟩) (Cert.DHReferenceIdeal.Value.run m g)

/-- The idealized kernel and reference of `DHKernel` end with equal results. -/
theorem algebraic_DH : Cert.algebraic_DHKernelIdeal_DHReferenceIdeal := by
  intro m g m' g' _ hagree
  refine ⟨fun c => Cert.DHReferenceIdeal.Value.GRAD (m ((c.tc : Thread Cert.DHKernelIdeal.nD Cert.DHKernelIdeal.τ).loc Cert.DHKernelIdeal.main_arg0)) (m ((c.tc : Thread Cert.DHKernelIdeal.nD Cert.DHKernelIdeal.τ).loc Cert.DHKernelIdeal.main_arg1)) (m ((c.tc : Thread Cert.DHKernelIdeal.nD Cert.DHKernelIdeal.τ).loc Cert.DHKernelIdeal.main_arg2)) (m ((c.tc : Thread Cert.DHKernelIdeal.nD Cert.DHKernelIdeal.τ).loc Cert.DHKernelIdeal.main_arg3)) (m ((c.tc : Thread Cert.DHKernelIdeal.nD Cert.DHKernelIdeal.τ).loc Cert.DHKernelIdeal.main_arg4)), fun c => Cert.DHReferenceIdeal.Value.ROUNDED (m ((c.tc : Thread Cert.DHKernelIdeal.nD Cert.DHKernelIdeal.τ).loc Cert.DHKernelIdeal.main_arg0)) (m ((c.tc : Thread Cert.DHKernelIdeal.nD Cert.DHKernelIdeal.τ).loc Cert.DHKernelIdeal.main_arg1)) (m ((c.tc : Thread Cert.DHKernelIdeal.nD Cert.DHKernelIdeal.τ).loc Cert.DHKernelIdeal.main_arg2)) (m ((c.tc : Thread Cert.DHKernelIdeal.nD Cert.DHKernelIdeal.τ).loc Cert.DHKernelIdeal.main_arg3)) (m ((c.tc : Thread Cert.DHKernelIdeal.nD Cert.DHKernelIdeal.τ).loc Cert.DHKernelIdeal.main_arg4)), fun c => Cert.DHReferenceIdeal.Value.GAIN (m ((c.tc : Thread Cert.DHKernelIdeal.nD Cert.DHKernelIdeal.τ).loc Cert.DHKernelIdeal.main_arg0)) (m ((c.tc : Thread Cert.DHKernelIdeal.nD Cert.DHKernelIdeal.τ).loc Cert.DHKernelIdeal.main_arg2)) (m ((c.tc : Thread Cert.DHKernelIdeal.nD Cert.DHKernelIdeal.τ).loc Cert.DHKernelIdeal.main_arg3)), ?_, ?_⟩
  · exact (θ_run Cert.DHKernelIdeal.defs _ _).mono (fun r h c => ⟨(h c).1.trans (Cert.DHKernelIdeal.Value.final5 m c), (h c).2.1.trans (Cert.DHKernelIdeal.Value.final6 m c), (h c).2.2.1.trans (Cert.DHKernelIdeal.Value.final7 m c), (h c).2.2.2⟩) (Cert.DHKernelIdeal.Value.run_blocks m g)
  · refine (θ_run Cert.DHReferenceIdeal.defs _ _).mono (fun r h c => ?_) (Cert.DHReferenceIdeal.Value.run m' g')
    have e0 := (hagree c).1; have e1 := (hagree c).2.1; have e2 := (hagree c).2.2.1; have e3 := (hagree c).2.2.2.1; have e4 := (hagree c).2.2.2.2
    exact ⟨(h c).1.trans (by show Cert.DHReferenceIdeal.Value.GRAD (m' ((c.tc : Thread Cert.DHReferenceIdeal.nD Cert.DHReferenceIdeal.τ).loc Cert.DHReferenceIdeal.main_arg0)) (m' ((c.tc : Thread Cert.DHReferenceIdeal.nD Cert.DHReferenceIdeal.τ).loc Cert.DHReferenceIdeal.main_arg1)) (m' ((c.tc : Thread Cert.DHReferenceIdeal.nD Cert.DHReferenceIdeal.τ).loc Cert.DHReferenceIdeal.main_arg2)) (m' ((c.tc : Thread Cert.DHReferenceIdeal.nD Cert.DHReferenceIdeal.τ).loc Cert.DHReferenceIdeal.main_arg3)) (m' ((c.tc : Thread Cert.DHReferenceIdeal.nD Cert.DHReferenceIdeal.τ).loc Cert.DHReferenceIdeal.main_arg4)) = _; rw [e0, e1, e2, e3, e4]), (h c).2.1.trans (by show Cert.DHReferenceIdeal.Value.ROUNDED (m' ((c.tc : Thread Cert.DHReferenceIdeal.nD Cert.DHReferenceIdeal.τ).loc Cert.DHReferenceIdeal.main_arg0)) (m' ((c.tc : Thread Cert.DHReferenceIdeal.nD Cert.DHReferenceIdeal.τ).loc Cert.DHReferenceIdeal.main_arg1)) (m' ((c.tc : Thread Cert.DHReferenceIdeal.nD Cert.DHReferenceIdeal.τ).loc Cert.DHReferenceIdeal.main_arg2)) (m' ((c.tc : Thread Cert.DHReferenceIdeal.nD Cert.DHReferenceIdeal.τ).loc Cert.DHReferenceIdeal.main_arg3)) (m' ((c.tc : Thread Cert.DHReferenceIdeal.nD Cert.DHReferenceIdeal.τ).loc Cert.DHReferenceIdeal.main_arg4)) = _; rw [e0, e1, e2, e3, e4]), (h c).2.2.1.trans (by show Cert.DHReferenceIdeal.Value.GAIN (m' ((c.tc : Thread Cert.DHReferenceIdeal.nD Cert.DHReferenceIdeal.τ).loc Cert.DHReferenceIdeal.main_arg0)) (m' ((c.tc : Thread Cert.DHReferenceIdeal.nD Cert.DHReferenceIdeal.τ).loc Cert.DHReferenceIdeal.main_arg2)) (m' ((c.tc : Thread Cert.DHReferenceIdeal.nD Cert.DHReferenceIdeal.τ).loc Cert.DHReferenceIdeal.main_arg3)) = _; rw [e0, e2, e3]), (h c).2.2.2⟩

/-- `DHgReferenceIdeal` runs and leaves its arguments; it declares no semaphore. -/
theorem frame_DHgR : Cert.quiescent_DHgReferenceIdeal := fun m g _ =>
  (θ_run Cert.DHgReferenceIdeal.defs _ _).mono (fun r h => ⟨fun c => (h c).2.2.2, sem_eq_zero_of_no_sems (by decide) r.2⟩) (Cert.DHgReferenceIdeal.Value.run m g)

/-- The idealized kernel and reference of `DHgKernel` end with equal results. -/
theorem algebraic_DHg : Cert.algebraic_DHgKernelIdeal_DHgReferenceIdeal := by
  intro m g m' g' _ hagree
  refine ⟨fun c => Cert.DHgReferenceIdeal.Value.GRAD (m ((c.tc : Thread Cert.DHgKernelIdeal.nD Cert.DHgKernelIdeal.τ).loc Cert.DHgKernelIdeal.main_arg0)) (m ((c.tc : Thread Cert.DHgKernelIdeal.nD Cert.DHgKernelIdeal.τ).loc Cert.DHgKernelIdeal.main_arg1)) (m ((c.tc : Thread Cert.DHgKernelIdeal.nD Cert.DHgKernelIdeal.τ).loc Cert.DHgKernelIdeal.main_arg2)) (m ((c.tc : Thread Cert.DHgKernelIdeal.nD Cert.DHgKernelIdeal.τ).loc Cert.DHgKernelIdeal.main_arg3)) (m ((c.tc : Thread Cert.DHgKernelIdeal.nD Cert.DHgKernelIdeal.τ).loc Cert.DHgKernelIdeal.main_arg4)), fun c => Cert.DHgReferenceIdeal.Value.ROUNDED (m ((c.tc : Thread Cert.DHgKernelIdeal.nD Cert.DHgKernelIdeal.τ).loc Cert.DHgKernelIdeal.main_arg0)) (m ((c.tc : Thread Cert.DHgKernelIdeal.nD Cert.DHgKernelIdeal.τ).loc Cert.DHgKernelIdeal.main_arg1)) (m ((c.tc : Thread Cert.DHgKernelIdeal.nD Cert.DHgKernelIdeal.τ).loc Cert.DHgKernelIdeal.main_arg2)) (m ((c.tc : Thread Cert.DHgKernelIdeal.nD Cert.DHgKernelIdeal.τ).loc Cert.DHgKernelIdeal.main_arg3)) (m ((c.tc : Thread Cert.DHgKernelIdeal.nD Cert.DHgKernelIdeal.τ).loc Cert.DHgKernelIdeal.main_arg4)), fun c => Cert.DHgReferenceIdeal.Value.GAIN (m ((c.tc : Thread Cert.DHgKernelIdeal.nD Cert.DHgKernelIdeal.τ).loc Cert.DHgKernelIdeal.main_arg0)) (m ((c.tc : Thread Cert.DHgKernelIdeal.nD Cert.DHgKernelIdeal.τ).loc Cert.DHgKernelIdeal.main_arg2)) (m ((c.tc : Thread Cert.DHgKernelIdeal.nD Cert.DHgKernelIdeal.τ).loc Cert.DHgKernelIdeal.main_arg3)), ?_, ?_⟩
  · exact (θ_run Cert.DHgKernelIdeal.defs _ _).mono (fun r h c => ⟨(h c).1.trans (Cert.DHgKernelIdeal.Value.final5 m c), (h c).2.1.trans (Cert.DHgKernelIdeal.Value.final6 m c), (h c).2.2.1.trans (Cert.DHgKernelIdeal.Value.final7 m c), (h c).2.2.2⟩) (Cert.DHgKernelIdeal.Value.run_blocks m g)
  · refine (θ_run Cert.DHgReferenceIdeal.defs _ _).mono (fun r h c => ?_) (Cert.DHgReferenceIdeal.Value.run m' g')
    have e0 := (hagree c).1; have e1 := (hagree c).2.1; have e2 := (hagree c).2.2.1; have e3 := (hagree c).2.2.2.1; have e4 := (hagree c).2.2.2.2
    exact ⟨(h c).1.trans (by show Cert.DHgReferenceIdeal.Value.GRAD (m' ((c.tc : Thread Cert.DHgReferenceIdeal.nD Cert.DHgReferenceIdeal.τ).loc Cert.DHgReferenceIdeal.main_arg0)) (m' ((c.tc : Thread Cert.DHgReferenceIdeal.nD Cert.DHgReferenceIdeal.τ).loc Cert.DHgReferenceIdeal.main_arg1)) (m' ((c.tc : Thread Cert.DHgReferenceIdeal.nD Cert.DHgReferenceIdeal.τ).loc Cert.DHgReferenceIdeal.main_arg2)) (m' ((c.tc : Thread Cert.DHgReferenceIdeal.nD Cert.DHgReferenceIdeal.τ).loc Cert.DHgReferenceIdeal.main_arg3)) (m' ((c.tc : Thread Cert.DHgReferenceIdeal.nD Cert.DHgReferenceIdeal.τ).loc Cert.DHgReferenceIdeal.main_arg4)) = _; rw [e0, e1, e2, e3, e4]), (h c).2.1.trans (by show Cert.DHgReferenceIdeal.Value.ROUNDED (m' ((c.tc : Thread Cert.DHgReferenceIdeal.nD Cert.DHgReferenceIdeal.τ).loc Cert.DHgReferenceIdeal.main_arg0)) (m' ((c.tc : Thread Cert.DHgReferenceIdeal.nD Cert.DHgReferenceIdeal.τ).loc Cert.DHgReferenceIdeal.main_arg1)) (m' ((c.tc : Thread Cert.DHgReferenceIdeal.nD Cert.DHgReferenceIdeal.τ).loc Cert.DHgReferenceIdeal.main_arg2)) (m' ((c.tc : Thread Cert.DHgReferenceIdeal.nD Cert.DHgReferenceIdeal.τ).loc Cert.DHgReferenceIdeal.main_arg3)) (m' ((c.tc : Thread Cert.DHgReferenceIdeal.nD Cert.DHgReferenceIdeal.τ).loc Cert.DHgReferenceIdeal.main_arg4)) = _; rw [e0, e1, e2, e3, e4]), (h c).2.2.1.trans (by show Cert.DHgReferenceIdeal.Value.GAIN (m' ((c.tc : Thread Cert.DHgReferenceIdeal.nD Cert.DHgReferenceIdeal.τ).loc Cert.DHgReferenceIdeal.main_arg0)) (m' ((c.tc : Thread Cert.DHgReferenceIdeal.nD Cert.DHgReferenceIdeal.τ).loc Cert.DHgReferenceIdeal.main_arg2)) (m' ((c.tc : Thread Cert.DHgReferenceIdeal.nD Cert.DHgReferenceIdeal.τ).loc Cert.DHgReferenceIdeal.main_arg3)) = _; rw [e0, e2, e3]), (h c).2.2.2⟩

/-- `DHInReferenceIdeal` runs and leaves its arguments; it declares no semaphore. -/
theorem frame_DHInR : Cert.quiescent_DHInReferenceIdeal := fun m g _ =>
  (θ_run Cert.DHInReferenceIdeal.defs _ _).mono (fun r h => ⟨fun c => (h c).2.2, sem_eq_zero_of_no_sems (by decide) r.2⟩) (Cert.DHInReferenceIdeal.Value.run m g)

/-- The idealized kernel and reference of `DHInKernel` end with equal results. -/
theorem algebraic_DHIn : Cert.algebraic_DHInKernelIdeal_DHInReferenceIdeal := by
  intro m g m' g' _ hagree
  refine ⟨fun c => Cert.DHInReferenceIdeal.Value.GRAD (m ((c.tc : Thread Cert.DHInKernelIdeal.nD Cert.DHInKernelIdeal.τ).loc Cert.DHInKernelIdeal.main_arg0)) (m ((c.tc : Thread Cert.DHInKernelIdeal.nD Cert.DHInKernelIdeal.τ).loc Cert.DHInKernelIdeal.main_arg1)) (m ((c.tc : Thread Cert.DHInKernelIdeal.nD Cert.DHInKernelIdeal.τ).loc Cert.DHInKernelIdeal.main_arg2)) (m ((c.tc : Thread Cert.DHInKernelIdeal.nD Cert.DHInKernelIdeal.τ).loc Cert.DHInKernelIdeal.main_arg3)) (m ((c.tc : Thread Cert.DHInKernelIdeal.nD Cert.DHInKernelIdeal.τ).loc Cert.DHInKernelIdeal.main_arg4)), fun c => Cert.DHInReferenceIdeal.Value.GAIN (m ((c.tc : Thread Cert.DHInKernelIdeal.nD Cert.DHInKernelIdeal.τ).loc Cert.DHInKernelIdeal.main_arg0)) (m ((c.tc : Thread Cert.DHInKernelIdeal.nD Cert.DHInKernelIdeal.τ).loc Cert.DHInKernelIdeal.main_arg2)) (m ((c.tc : Thread Cert.DHInKernelIdeal.nD Cert.DHInKernelIdeal.τ).loc Cert.DHInKernelIdeal.main_arg3)), ?_, ?_⟩
  · exact (θ_run Cert.DHInKernelIdeal.defs _ _).mono (fun r h c => ⟨(h c).1.trans (Cert.DHInKernelIdeal.Value.final5 m c), (h c).2.1.trans (Cert.DHInKernelIdeal.Value.final6 m c), (h c).2.2⟩) (Cert.DHInKernelIdeal.Value.run_blocks m g)
  · refine (θ_run Cert.DHInReferenceIdeal.defs _ _).mono (fun r h c => ?_) (Cert.DHInReferenceIdeal.Value.run m' g')
    have e0 := (hagree c).1; have e1 := (hagree c).2.1; have e2 := (hagree c).2.2.1; have e3 := (hagree c).2.2.2.1; have e4 := (hagree c).2.2.2.2
    exact ⟨(h c).1.trans (by show Cert.DHInReferenceIdeal.Value.GRAD (m' ((c.tc : Thread Cert.DHInReferenceIdeal.nD Cert.DHInReferenceIdeal.τ).loc Cert.DHInReferenceIdeal.main_arg0)) (m' ((c.tc : Thread Cert.DHInReferenceIdeal.nD Cert.DHInReferenceIdeal.τ).loc Cert.DHInReferenceIdeal.main_arg1)) (m' ((c.tc : Thread Cert.DHInReferenceIdeal.nD Cert.DHInReferenceIdeal.τ).loc Cert.DHInReferenceIdeal.main_arg2)) (m' ((c.tc : Thread Cert.DHInReferenceIdeal.nD Cert.DHInReferenceIdeal.τ).loc Cert.DHInReferenceIdeal.main_arg3)) (m' ((c.tc : Thread Cert.DHInReferenceIdeal.nD Cert.DHInReferenceIdeal.τ).loc Cert.DHInReferenceIdeal.main_arg4)) = _; rw [e0, e1, e2, e3, e4]), (h c).2.1.trans (by show Cert.DHInReferenceIdeal.Value.GAIN (m' ((c.tc : Thread Cert.DHInReferenceIdeal.nD Cert.DHInReferenceIdeal.τ).loc Cert.DHInReferenceIdeal.main_arg0)) (m' ((c.tc : Thread Cert.DHInReferenceIdeal.nD Cert.DHInReferenceIdeal.τ).loc Cert.DHInReferenceIdeal.main_arg2)) (m' ((c.tc : Thread Cert.DHInReferenceIdeal.nD Cert.DHInReferenceIdeal.τ).loc Cert.DHInReferenceIdeal.main_arg3)) = _; rw [e0, e2, e3]), (h c).2.2⟩

/-- `WInReferenceIdeal` runs and leaves its arguments; it declares no semaphore. -/
theorem frame_WInR : Cert.quiescent_WInReferenceIdeal := fun m g _ =>
  (θ_run Cert.WInReferenceIdeal.defs _ _).mono (fun r h => ⟨fun c => (h c).2, sem_eq_zero_of_no_sems (by decide) r.2⟩) (Cert.WInReferenceIdeal.Value.run m g)

/-- The idealized kernel and reference of `WInKernel` end with equal results. -/
theorem algebraic_WIn : Cert.algebraic_WInKernelIdeal_WInReferenceIdeal := by
  intro m g m' g' _ hagree
  refine ⟨fun c => Cert.WInReferenceIdeal.Value.REF (m ((c.tc : Thread Cert.WInKernelIdeal.nD Cert.WInKernelIdeal.τ).loc Cert.WInKernelIdeal.main_arg0)) (m ((c.tc : Thread Cert.WInKernelIdeal.nD Cert.WInKernelIdeal.τ).loc Cert.WInKernelIdeal.main_arg2)), ?_, ?_⟩
  · exact (θ_run Cert.WInKernelIdeal.defs _ _).mono (fun r h c => ⟨(h c).1.trans (Cert.WInKernelIdeal.Value.final m c), (h c).2⟩) (Cert.WInKernelIdeal.Value.run_blocks m g)
  · refine (θ_run Cert.WInReferenceIdeal.defs _ _).mono (fun r h c => ?_) (Cert.WInReferenceIdeal.Value.run m' g')
    have e0 := (hagree c).1; have e1 := (hagree c).2.1; have e2 := (hagree c).2.2
    exact ⟨(h c).1.trans (by show Cert.WInReferenceIdeal.Value.REF (m' ((c.tc : Thread Cert.WInReferenceIdeal.nD Cert.WInReferenceIdeal.τ).loc Cert.WInReferenceIdeal.main_arg0)) (m' ((c.tc : Thread Cert.WInReferenceIdeal.nD Cert.WInReferenceIdeal.τ).loc Cert.WInReferenceIdeal.main_arg2)) = _; rw [e0, e2]), (h c).2⟩

/-- `InReferenceIdeal` runs and leaves its arguments; it declares no semaphore. -/
theorem frame_InR : Cert.quiescent_InReferenceIdeal := fun m g _ =>
  (θ_run Cert.InReferenceIdeal.defs _ _).mono (fun r h => ⟨fun c => (h c).2, sem_eq_zero_of_no_sems (by decide) r.2⟩) (Cert.InReferenceIdeal.Value.run m g)

/-- The idealized kernel and reference of `InKernel` end with equal results. -/
theorem algebraic_In : Cert.algebraic_InKernelIdeal_InReferenceIdeal := by
  intro m g m' g' _ hagree
  refine ⟨fun c => Cert.InReferenceIdeal.Value.REF (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)), ?_, ?_⟩
  · exact (θ_run Cert.InKernelIdeal.defs _ _).mono (fun r h c => ⟨(h c).1.trans (Cert.InKernelIdeal.Value.final m c), (h c).2⟩) (Cert.InKernelIdeal.Value.run_blocks m g)
  · refine (θ_run Cert.InReferenceIdeal.defs _ _).mono (fun r h c => ?_) (Cert.InReferenceIdeal.Value.run m' g')
    have e0 := (hagree c).1; have e1 := (hagree c).2
    exact ⟨(h c).1.trans (by show Cert.InReferenceIdeal.Value.REF (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg1)) = _; rw [e0, e1]), (h c).2⟩

/-- `DownReferenceIdeal` runs and leaves its arguments; it declares no semaphore. -/
theorem frame_DownR : Cert.quiescent_DownReferenceIdeal := fun m g _ =>
  (θ_run Cert.DownReferenceIdeal.defs _ _).mono (fun r h => ⟨fun c => (h c).2.2, sem_eq_zero_of_no_sems (by decide) r.2⟩) (Cert.DownReferenceIdeal.Value.run m g)

/-- The idealized kernel and reference of `DownKernel` end with equal results. -/
theorem algebraic_Down : Cert.algebraic_DownKernelIdeal_DownReferenceIdeal := by
  intro m g m' g' _ hagree
  refine ⟨fun c => Cert.DownReferenceIdeal.Value.SUM (m ((c.tc : Thread Cert.DownKernelIdeal.nD Cert.DownKernelIdeal.τ).loc Cert.DownKernelIdeal.main_arg0)) (m ((c.tc : Thread Cert.DownKernelIdeal.nD Cert.DownKernelIdeal.τ).loc Cert.DownKernelIdeal.main_arg1)) (m ((c.tc : Thread Cert.DownKernelIdeal.nD Cert.DownKernelIdeal.τ).loc Cert.DownKernelIdeal.main_arg2)), fun c => Cert.DownReferenceIdeal.Value.NORMED (m ((c.tc : Thread Cert.DownKernelIdeal.nD Cert.DownKernelIdeal.τ).loc Cert.DownKernelIdeal.main_arg0)) (m ((c.tc : Thread Cert.DownKernelIdeal.nD Cert.DownKernelIdeal.τ).loc Cert.DownKernelIdeal.main_arg1)) (m ((c.tc : Thread Cert.DownKernelIdeal.nD Cert.DownKernelIdeal.τ).loc Cert.DownKernelIdeal.main_arg2)) (m ((c.tc : Thread Cert.DownKernelIdeal.nD Cert.DownKernelIdeal.τ).loc Cert.DownKernelIdeal.main_arg3)), ?_, ?_⟩
  · exact (θ_run Cert.DownKernelIdeal.defs _ _).mono (fun r h c => ⟨(h c).1.trans (Cert.DownKernelIdeal.Value.final4 m c), (h c).2.1.trans (Cert.DownKernelIdeal.Value.final5 m c), (h c).2.2⟩) (Cert.DownKernelIdeal.Value.run_blocks m g)
  · refine (θ_run Cert.DownReferenceIdeal.defs _ _).mono (fun r h c => ?_) (Cert.DownReferenceIdeal.Value.run m' g')
    have e0 := (hagree c).1; have e1 := (hagree c).2.1; have e2 := (hagree c).2.2.1; have e3 := (hagree c).2.2.2
    exact ⟨(h c).1.trans (by show Cert.DownReferenceIdeal.Value.SUM (m' ((c.tc : Thread Cert.DownReferenceIdeal.nD Cert.DownReferenceIdeal.τ).loc Cert.DownReferenceIdeal.main_arg0)) (m' ((c.tc : Thread Cert.DownReferenceIdeal.nD Cert.DownReferenceIdeal.τ).loc Cert.DownReferenceIdeal.main_arg1)) (m' ((c.tc : Thread Cert.DownReferenceIdeal.nD Cert.DownReferenceIdeal.τ).loc Cert.DownReferenceIdeal.main_arg2)) = _; rw [e0, e1, e2]), (h c).2.1.trans (by show Cert.DownReferenceIdeal.Value.NORMED (m' ((c.tc : Thread Cert.DownReferenceIdeal.nD Cert.DownReferenceIdeal.τ).loc Cert.DownReferenceIdeal.main_arg0)) (m' ((c.tc : Thread Cert.DownReferenceIdeal.nD Cert.DownReferenceIdeal.τ).loc Cert.DownReferenceIdeal.main_arg1)) (m' ((c.tc : Thread Cert.DownReferenceIdeal.nD Cert.DownReferenceIdeal.τ).loc Cert.DownReferenceIdeal.main_arg2)) (m' ((c.tc : Thread Cert.DownReferenceIdeal.nD Cert.DownReferenceIdeal.τ).loc Cert.DownReferenceIdeal.main_arg3)) = _; rw [e0, e1, e2, e3]), (h c).2.2⟩

/-- `AOutReferenceIdeal` runs and leaves its arguments; it declares no semaphore. -/
theorem frame_AOutR : Cert.quiescent_AOutReferenceIdeal := fun m g _ =>
  (θ_run Cert.AOutReferenceIdeal.defs _ _).mono (fun r h => ⟨fun c => (h c).2.2, sem_eq_zero_of_no_sems (by decide) r.2⟩) (Cert.AOutReferenceIdeal.Value.run m g)

/-- The idealized kernel and reference of `AOutKernel` end with equal results. -/
theorem algebraic_AOut : Cert.algebraic_AOutKernelIdeal_AOutReferenceIdeal := by
  intro m g m' g' _ hagree
  refine ⟨fun c => Cert.AOutReferenceIdeal.Value.SUM (m ((c.tc : Thread Cert.AOutKernelIdeal.nD Cert.AOutKernelIdeal.τ).loc Cert.AOutKernelIdeal.main_arg0)) (m ((c.tc : Thread Cert.AOutKernelIdeal.nD Cert.AOutKernelIdeal.τ).loc Cert.AOutKernelIdeal.main_arg1)) (m ((c.tc : Thread Cert.AOutKernelIdeal.nD Cert.AOutKernelIdeal.τ).loc Cert.AOutKernelIdeal.main_arg2)), fun c => Cert.AOutReferenceIdeal.Value.NORMED (m ((c.tc : Thread Cert.AOutKernelIdeal.nD Cert.AOutKernelIdeal.τ).loc Cert.AOutKernelIdeal.main_arg0)) (m ((c.tc : Thread Cert.AOutKernelIdeal.nD Cert.AOutKernelIdeal.τ).loc Cert.AOutKernelIdeal.main_arg1)) (m ((c.tc : Thread Cert.AOutKernelIdeal.nD Cert.AOutKernelIdeal.τ).loc Cert.AOutKernelIdeal.main_arg2)) (m ((c.tc : Thread Cert.AOutKernelIdeal.nD Cert.AOutKernelIdeal.τ).loc Cert.AOutKernelIdeal.main_arg3)), ?_, ?_⟩
  · exact (θ_run Cert.AOutKernelIdeal.defs _ _).mono (fun r h c => ⟨(h c).1.trans (Cert.AOutKernelIdeal.Value.final4 m c), (h c).2.1.trans (Cert.AOutKernelIdeal.Value.final5 m c), (h c).2.2⟩) (Cert.AOutKernelIdeal.Value.run_blocks m g)
  · refine (θ_run Cert.AOutReferenceIdeal.defs _ _).mono (fun r h c => ?_) (Cert.AOutReferenceIdeal.Value.run m' g')
    have e0 := (hagree c).1; have e1 := (hagree c).2.1; have e2 := (hagree c).2.2.1; have e3 := (hagree c).2.2.2
    exact ⟨(h c).1.trans (by show Cert.AOutReferenceIdeal.Value.SUM (m' ((c.tc : Thread Cert.AOutReferenceIdeal.nD Cert.AOutReferenceIdeal.τ).loc Cert.AOutReferenceIdeal.main_arg0)) (m' ((c.tc : Thread Cert.AOutReferenceIdeal.nD Cert.AOutReferenceIdeal.τ).loc Cert.AOutReferenceIdeal.main_arg1)) (m' ((c.tc : Thread Cert.AOutReferenceIdeal.nD Cert.AOutReferenceIdeal.τ).loc Cert.AOutReferenceIdeal.main_arg2)) = _; rw [e0, e1, e2]), (h c).2.1.trans (by show Cert.AOutReferenceIdeal.Value.NORMED (m' ((c.tc : Thread Cert.AOutReferenceIdeal.nD Cert.AOutReferenceIdeal.τ).loc Cert.AOutReferenceIdeal.main_arg0)) (m' ((c.tc : Thread Cert.AOutReferenceIdeal.nD Cert.AOutReferenceIdeal.τ).loc Cert.AOutReferenceIdeal.main_arg1)) (m' ((c.tc : Thread Cert.AOutReferenceIdeal.nD Cert.AOutReferenceIdeal.τ).loc Cert.AOutReferenceIdeal.main_arg2)) (m' ((c.tc : Thread Cert.AOutReferenceIdeal.nD Cert.AOutReferenceIdeal.τ).loc Cert.AOutReferenceIdeal.main_arg3)) = _; rw [e0, e1, e2, e3]), (h c).2.2⟩

/-- `DOutReferenceIdeal` runs and leaves its arguments; it declares no semaphore. -/
theorem frame_DOutR : Cert.quiescent_DOutReferenceIdeal := fun m g _ =>
  (θ_run Cert.DOutReferenceIdeal.defs _ _).mono (fun r h => ⟨fun c => (h c).2.2, sem_eq_zero_of_no_sems (by decide) r.2⟩) (Cert.DOutReferenceIdeal.Value.run m g)

/-- The idealized kernel and reference of `DOutKernel` end with equal results. -/
theorem algebraic_DOut : Cert.algebraic_DOutKernelIdeal_DOutReferenceIdeal := by
  intro m g m' g' _ hagree
  refine ⟨fun c => Cert.DOutReferenceIdeal.Value.SUM (m ((c.tc : Thread Cert.DOutKernelIdeal.nD Cert.DOutKernelIdeal.τ).loc Cert.DOutKernelIdeal.main_arg0)) (m ((c.tc : Thread Cert.DOutKernelIdeal.nD Cert.DOutKernelIdeal.τ).loc Cert.DOutKernelIdeal.main_arg1)) (m ((c.tc : Thread Cert.DOutKernelIdeal.nD Cert.DOutKernelIdeal.τ).loc Cert.DOutKernelIdeal.main_arg2)), fun c => Cert.DOutReferenceIdeal.Value.NORMED (m ((c.tc : Thread Cert.DOutKernelIdeal.nD Cert.DOutKernelIdeal.τ).loc Cert.DOutKernelIdeal.main_arg0)) (m ((c.tc : Thread Cert.DOutKernelIdeal.nD Cert.DOutKernelIdeal.τ).loc Cert.DOutKernelIdeal.main_arg1)) (m ((c.tc : Thread Cert.DOutKernelIdeal.nD Cert.DOutKernelIdeal.τ).loc Cert.DOutKernelIdeal.main_arg2)) (m ((c.tc : Thread Cert.DOutKernelIdeal.nD Cert.DOutKernelIdeal.τ).loc Cert.DOutKernelIdeal.main_arg3)), ?_, ?_⟩
  · exact (θ_run Cert.DOutKernelIdeal.defs _ _).mono (fun r h c => ⟨(h c).1.trans (Cert.DOutKernelIdeal.Value.final4 m c), (h c).2.1.trans (Cert.DOutKernelIdeal.Value.final5 m c), (h c).2.2⟩) (Cert.DOutKernelIdeal.Value.run_blocks m g)
  · refine (θ_run Cert.DOutReferenceIdeal.defs _ _).mono (fun r h c => ?_) (Cert.DOutReferenceIdeal.Value.run m' g')
    have e0 := (hagree c).1; have e1 := (hagree c).2.1; have e2 := (hagree c).2.2.1; have e3 := (hagree c).2.2.2
    exact ⟨(h c).1.trans (by show Cert.DOutReferenceIdeal.Value.SUM (m' ((c.tc : Thread Cert.DOutReferenceIdeal.nD Cert.DOutReferenceIdeal.τ).loc Cert.DOutReferenceIdeal.main_arg0)) (m' ((c.tc : Thread Cert.DOutReferenceIdeal.nD Cert.DOutReferenceIdeal.τ).loc Cert.DOutReferenceIdeal.main_arg1)) (m' ((c.tc : Thread Cert.DOutReferenceIdeal.nD Cert.DOutReferenceIdeal.τ).loc Cert.DOutReferenceIdeal.main_arg2)) = _; rw [e0, e1, e2]), (h c).2.1.trans (by show Cert.DOutReferenceIdeal.Value.NORMED (m' ((c.tc : Thread Cert.DOutReferenceIdeal.nD Cert.DOutReferenceIdeal.τ).loc Cert.DOutReferenceIdeal.main_arg0)) (m' ((c.tc : Thread Cert.DOutReferenceIdeal.nD Cert.DOutReferenceIdeal.τ).loc Cert.DOutReferenceIdeal.main_arg1)) (m' ((c.tc : Thread Cert.DOutReferenceIdeal.nD Cert.DOutReferenceIdeal.τ).loc Cert.DOutReferenceIdeal.main_arg2)) (m' ((c.tc : Thread Cert.DOutReferenceIdeal.nD Cert.DOutReferenceIdeal.τ).loc Cert.DOutReferenceIdeal.main_arg3)) = _; rw [e0, e1, e2, e3]), (h c).2.2⟩

/-- `AttnReferenceIdeal` runs and leaves its arguments; it declares no semaphore. -/
theorem frame_AttnR : Cert.quiescent_AttnReferenceIdeal := fun m g _ =>
  (θ_run Cert.AttnReferenceIdeal.defs _ _).mono (fun r h => ⟨fun c => (h c).2.2, sem_eq_zero_of_no_sems (by decide) r.2⟩) (Cert.AttnReferenceIdeal.Value.run m g)

/-- The idealized kernel and reference of `AttnKernel` end with equal results. -/
theorem algebraic_Attn : Cert.algebraic_AttnKernelIdeal_AttnReferenceIdeal := by
  intro m g m' g' _ hagree
  refine ⟨fun c => Cert.AttnReferenceIdeal.Value.OUT (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)), fun c => Cert.AttnReferenceIdeal.Value.LSE (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)), ?_, ?_⟩
  · exact (θ_run Cert.AttnKernelIdeal.defs _ _).mono (fun r h c => ⟨(h c).1.trans (Cert.AttnKernelIdeal.Value.final5 m c), (h c).2.1.trans (Cert.AttnKernelIdeal.Value.final6 m c), (h c).2.2⟩) (Cert.AttnKernelIdeal.Value.run_blocks m g)
  · refine (θ_run Cert.AttnReferenceIdeal.defs _ _).mono (fun r h c => ?_) (Cert.AttnReferenceIdeal.Value.run m' g')
    have e0 := (hagree c).1; have e1 := (hagree c).2.1; have e2 := (hagree c).2.2
    exact ⟨(h c).1.trans (by show Cert.AttnReferenceIdeal.Value.OUT (m' ((c.tc : Thread Cert.AttnReferenceIdeal.nD Cert.AttnReferenceIdeal.τ).loc Cert.AttnReferenceIdeal.main_arg0)) (m' ((c.tc : Thread Cert.AttnReferenceIdeal.nD Cert.AttnReferenceIdeal.τ).loc Cert.AttnReferenceIdeal.main_arg1)) (m' ((c.tc : Thread Cert.AttnReferenceIdeal.nD Cert.AttnReferenceIdeal.τ).loc Cert.AttnReferenceIdeal.main_arg2)) = _; rw [e0, e1, e2]), (h c).2.1.trans (by show Cert.AttnReferenceIdeal.Value.LSE (m' ((c.tc : Thread Cert.AttnReferenceIdeal.nD Cert.AttnReferenceIdeal.τ).loc Cert.AttnReferenceIdeal.main_arg0)) (m' ((c.tc : Thread Cert.AttnReferenceIdeal.nD Cert.AttnReferenceIdeal.τ).loc Cert.AttnReferenceIdeal.main_arg1)) = _; rw [e0, e1]), (h c).2.2⟩

/-- `AttnBReferenceIdeal` runs and leaves its arguments; it declares no semaphore. -/
theorem frame_AttnBR : Cert.quiescent_AttnBReferenceIdeal := fun m g _ =>
  (θ_run Cert.AttnBReferenceIdeal.defs _ _).mono (fun r h => ⟨fun c => (h c).2.2.2, sem_eq_zero_of_no_sems (by decide) r.2⟩) (Cert.AttnBReferenceIdeal.Value.run_grads m g)

/-- The idealized kernel and reference of `AttnBKernel` end with equal results where the arguments are finite. -/
theorem algebraic_AttnB : Cert.algebraic_AttnBKernelIdeal_AttnBReferenceIdeal_pre_finite := by
  intro m g m' g' hpre hagree
  refine ⟨fun c => Cert.AttnBReferenceIdeal.Value.DQ (m ((c.tc : Thread Cert.AttnBKernelIdeal.nD Cert.AttnBKernelIdeal.τ).loc Cert.AttnBKernelIdeal.main_arg0)) (m ((c.tc : Thread Cert.AttnBKernelIdeal.nD Cert.AttnBKernelIdeal.τ).loc Cert.AttnBKernelIdeal.main_arg1)) (m ((c.tc : Thread Cert.AttnBKernelIdeal.nD Cert.AttnBKernelIdeal.τ).loc Cert.AttnBKernelIdeal.main_arg2)) (m ((c.tc : Thread Cert.AttnBKernelIdeal.nD Cert.AttnBKernelIdeal.τ).loc Cert.AttnBKernelIdeal.main_arg3)) (m ((c.tc : Thread Cert.AttnBKernelIdeal.nD Cert.AttnBKernelIdeal.τ).loc Cert.AttnBKernelIdeal.main_arg4)), fun c => Cert.AttnBReferenceIdeal.Value.DK (m ((c.tc : Thread Cert.AttnBKernelIdeal.nD Cert.AttnBKernelIdeal.τ).loc Cert.AttnBKernelIdeal.main_arg0)) (m ((c.tc : Thread Cert.AttnBKernelIdeal.nD Cert.AttnBKernelIdeal.τ).loc Cert.AttnBKernelIdeal.main_arg1)) (m ((c.tc : Thread Cert.AttnBKernelIdeal.nD Cert.AttnBKernelIdeal.τ).loc Cert.AttnBKernelIdeal.main_arg2)) (m ((c.tc : Thread Cert.AttnBKernelIdeal.nD Cert.AttnBKernelIdeal.τ).loc Cert.AttnBKernelIdeal.main_arg3)) (m ((c.tc : Thread Cert.AttnBKernelIdeal.nD Cert.AttnBKernelIdeal.τ).loc Cert.AttnBKernelIdeal.main_arg4)), fun c => Cert.AttnBReferenceIdeal.Value.DV (m ((c.tc : Thread Cert.AttnBKernelIdeal.nD Cert.AttnBKernelIdeal.τ).loc Cert.AttnBKernelIdeal.main_arg0)) (m ((c.tc : Thread Cert.AttnBKernelIdeal.nD Cert.AttnBKernelIdeal.τ).loc Cert.AttnBKernelIdeal.main_arg1)) (m ((c.tc : Thread Cert.AttnBKernelIdeal.nD Cert.AttnBKernelIdeal.τ).loc Cert.AttnBKernelIdeal.main_arg3)), ?_, ?_⟩
  · refine (θ_run Cert.AttnBKernelIdeal.defs _ _).mono (fun r h c => ?_) (Cert.AttnBKernelIdeal.Value.run_blocks m g)
    obtain ⟨R0, R1, R2, R3, R4⟩ := Cert.AttnBKernelIdeal.Value.real_of_pre _ _ _ _ _ (hpre c)
    exact ⟨(h c).1.trans (Cert.AttnBKernelIdeal.Value.final9 m c R0 R1 R2 R3 R4), (h c).2.1.trans (Cert.AttnBKernelIdeal.Value.final10 m c R0 R1 R2 R3 R4), (h c).2.2.1.trans (Cert.AttnBKernelIdeal.Value.final11 m c R0 R1), (h c).2.2.2⟩
  · refine (θ_run Cert.AttnBReferenceIdeal.defs _ _).mono (fun r h c => ?_) (Cert.AttnBReferenceIdeal.Value.run_grads m' g')
    have e0 := (hagree c).1; have e1 := (hagree c).2.1; have e2 := (hagree c).2.2.1; have e3 := (hagree c).2.2.2.1; have e4 := (hagree c).2.2.2.2
    exact ⟨(h c).1.trans (by show Cert.AttnBReferenceIdeal.Value.DQ (m' ((c.tc : Thread Cert.AttnBReferenceIdeal.nD Cert.AttnBReferenceIdeal.τ).loc Cert.AttnBReferenceIdeal.main_arg0)) (m' ((c.tc : Thread Cert.AttnBReferenceIdeal.nD Cert.AttnBReferenceIdeal.τ).loc Cert.AttnBReferenceIdeal.main_arg1)) (m' ((c.tc : Thread Cert.AttnBReferenceIdeal.nD Cert.AttnBReferenceIdeal.τ).loc Cert.AttnBReferenceIdeal.main_arg2)) (m' ((c.tc : Thread Cert.AttnBReferenceIdeal.nD Cert.AttnBReferenceIdeal.τ).loc Cert.AttnBReferenceIdeal.main_arg3)) (m' ((c.tc : Thread Cert.AttnBReferenceIdeal.nD Cert.AttnBReferenceIdeal.τ).loc Cert.AttnBReferenceIdeal.main_arg4)) = _; rw [e0, e1, e2, e3, e4]), (h c).2.1.trans (by show Cert.AttnBReferenceIdeal.Value.DK (m' ((c.tc : Thread Cert.AttnBReferenceIdeal.nD Cert.AttnBReferenceIdeal.τ).loc Cert.AttnBReferenceIdeal.main_arg0)) (m' ((c.tc : Thread Cert.AttnBReferenceIdeal.nD Cert.AttnBReferenceIdeal.τ).loc Cert.AttnBReferenceIdeal.main_arg1)) (m' ((c.tc : Thread Cert.AttnBReferenceIdeal.nD Cert.AttnBReferenceIdeal.τ).loc Cert.AttnBReferenceIdeal.main_arg2)) (m' ((c.tc : Thread Cert.AttnBReferenceIdeal.nD Cert.AttnBReferenceIdeal.τ).loc Cert.AttnBReferenceIdeal.main_arg3)) (m' ((c.tc : Thread Cert.AttnBReferenceIdeal.nD Cert.AttnBReferenceIdeal.τ).loc Cert.AttnBReferenceIdeal.main_arg4)) = _; rw [e0, e1, e2, e3, e4]), (h c).2.2.1.trans (by show Cert.AttnBReferenceIdeal.Value.DV (m' ((c.tc : Thread Cert.AttnBReferenceIdeal.nD Cert.AttnBReferenceIdeal.τ).loc Cert.AttnBReferenceIdeal.main_arg0)) (m' ((c.tc : Thread Cert.AttnBReferenceIdeal.nD Cert.AttnBReferenceIdeal.τ).loc Cert.AttnBReferenceIdeal.main_arg1)) (m' ((c.tc : Thread Cert.AttnBReferenceIdeal.nD Cert.AttnBReferenceIdeal.τ).loc Cert.AttnBReferenceIdeal.main_arg3)) = _; rw [e0, e1, e3]), (h c).2.2.2⟩

theorem claim : Cert.Claim := ⟨Cert.UKernel.Gen.facts, Cert.UKernelIdeal.Gen.facts, Cert.UReferenceIdeal.Gen.facts,
  Cert.DKernel.Gen.facts, Cert.DKernelIdeal.Gen.facts, Cert.DReferenceIdeal.Gen.facts,
  Cert.WUpKernel.Gen.facts, Cert.WUpKernelIdeal.Gen.facts, Cert.WUpReferenceIdeal.Gen.facts,
  Cert.WGateKernel.Gen.facts, Cert.WGateKernelIdeal.Gen.facts, Cert.WGateReferenceIdeal.Gen.facts,
  Cert.WPleKernel.Gen.facts, Cert.WPleKernelIdeal.Gen.facts, Cert.WPleReferenceIdeal.Gen.facts,
  Cert.WOKernel.Gen.facts, Cert.WOKernelIdeal.Gen.facts, Cert.WOReferenceIdeal.Gen.facts,
  Cert.WQkvKernel.Gen.facts, Cert.WQkvKernelIdeal.Gen.facts, Cert.WQkvReferenceIdeal.Gen.facts,
  Cert.DYKernel.Gen.facts, Cert.DYKernelIdeal.Gen.facts, Cert.DYReferenceIdeal.Gen.facts,
  Cert.DOmKernel.Gen.facts, Cert.DOmKernelIdeal.Gen.facts, Cert.DOmReferenceIdeal.Gen.facts,
  Cert.DH0Kernel.Gen.facts, Cert.DH0KernelIdeal.Gen.facts, Cert.DH0ReferenceIdeal.Gen.facts,
  Cert.GateKernel.Gen.facts, Cert.GateKernelIdeal.Gen.facts, Cert.GateReferenceIdeal.Gen.facts,
  Cert.PleKernel.Gen.facts, Cert.PleKernelIdeal.Gen.facts, Cert.PleReferenceIdeal.Gen.facts,
  Cert.QkvKernel.Gen.facts, Cert.QkvKernelIdeal.Gen.facts, Cert.QkvReferenceIdeal.Gen.facts,
  Cert.UpKernel.Gen.facts, Cert.UpKernelIdeal.Gen.facts, Cert.UpReferenceIdeal.Gen.facts,
  Cert.DHKernel.Gen.facts, Cert.DHKernelIdeal.Gen.facts, Cert.DHReferenceIdeal.Gen.facts,
  Cert.DHgKernel.Gen.facts, Cert.DHgKernelIdeal.Gen.facts, Cert.DHgReferenceIdeal.Gen.facts,
  Cert.DHInKernel.Gen.facts, Cert.DHInKernelIdeal.Gen.facts, Cert.DHInReferenceIdeal.Gen.facts,
  Cert.WInKernel.Gen.facts, Cert.WInKernelIdeal.Gen.facts, Cert.WInReferenceIdeal.Gen.facts,
  Cert.InKernel.Gen.facts, Cert.InKernelIdeal.Gen.facts, Cert.InReferenceIdeal.Gen.facts,
  Cert.DownKernel.Gen.facts, Cert.DownKernelIdeal.Gen.facts, Cert.DownReferenceIdeal.Gen.facts,
  Cert.AOutKernel.Gen.facts, Cert.AOutKernelIdeal.Gen.facts, Cert.AOutReferenceIdeal.Gen.facts,
  Cert.DOutKernel.Gen.facts, Cert.DOutKernelIdeal.Gen.facts, Cert.DOutReferenceIdeal.Gen.facts,
  Cert.AttnKernel.Gen.facts, Cert.AttnKernelIdeal.Gen.facts, Cert.AttnReferenceIdeal.Gen.facts,
  Cert.AttnBKernel.Gen.facts, Cert.AttnBKernelIdeal.Gen.facts, Cert.AttnBReferenceIdeal.Gen.facts, Cert.Pre_finite.Gen.facts,
  fun m g _ => Cert.UKernel.Gen.frame m g, fun m g _ => Cert.UKernelIdeal.Gen.frame m g, frame_UR,
  fun m g _ => Cert.DKernel.Gen.frame m g, fun m g _ => Cert.DKernelIdeal.Gen.frame m g, frame_DR,
  fun m g _ => Cert.WUpKernel.Gen.frame m g, fun m g _ => Cert.WUpKernelIdeal.Gen.frame m g, frame_WUpR,
  fun m g _ => Cert.WGateKernel.Gen.frame m g, fun m g _ => Cert.WGateKernelIdeal.Gen.frame m g, frame_WGateR,
  fun m g _ => Cert.WPleKernel.Gen.frame m g, fun m g _ => Cert.WPleKernelIdeal.Gen.frame m g, frame_WPleR,
  fun m g _ => Cert.WOKernel.Gen.frame m g, fun m g _ => Cert.WOKernelIdeal.Gen.frame m g, frame_WOR,
  fun m g _ => Cert.WQkvKernel.Gen.frame m g, fun m g _ => Cert.WQkvKernelIdeal.Gen.frame m g, frame_WQkvR,
  fun m g _ => Cert.DYKernel.Gen.frame m g, fun m g _ => Cert.DYKernelIdeal.Gen.frame m g, frame_DYR,
  fun m g _ => Cert.DOmKernel.Gen.frame m g, fun m g _ => Cert.DOmKernelIdeal.Gen.frame m g, frame_DOmR,
  fun m g _ => Cert.DH0Kernel.Gen.frame m g, fun m g _ => Cert.DH0KernelIdeal.Gen.frame m g, frame_DH0R,
  fun m g _ => Cert.GateKernel.Gen.frame m g, fun m g _ => Cert.GateKernelIdeal.Gen.frame m g, frame_GateR,
  fun m g _ => Cert.PleKernel.Gen.frame m g, fun m g _ => Cert.PleKernelIdeal.Gen.frame m g, frame_PleR,
  fun m g _ => Cert.QkvKernel.Gen.frame m g, fun m g _ => Cert.QkvKernelIdeal.Gen.frame m g, frame_QkvR,
  fun m g _ => Cert.UpKernel.Gen.frame m g, fun m g _ => Cert.UpKernelIdeal.Gen.frame m g, frame_UpR,
  fun m g _ => Cert.DHKernel.Gen.frame m g, fun m g _ => Cert.DHKernelIdeal.Gen.frame m g, frame_DHR,
  fun m g _ => Cert.DHgKernel.Gen.frame m g, fun m g _ => Cert.DHgKernelIdeal.Gen.frame m g, frame_DHgR,
  fun m g _ => Cert.DHInKernel.Gen.frame m g, fun m g _ => Cert.DHInKernelIdeal.Gen.frame m g, frame_DHInR,
  fun m g _ => Cert.WInKernel.Gen.frame m g, fun m g _ => Cert.WInKernelIdeal.Gen.frame m g, frame_WInR,
  fun m g _ => Cert.InKernel.Gen.frame m g, fun m g _ => Cert.InKernelIdeal.Gen.frame m g, frame_InR,
  fun m g _ => Cert.DownKernel.Gen.frame m g, fun m g _ => Cert.DownKernelIdeal.Gen.frame m g, frame_DownR,
  fun m g _ => Cert.AOutKernel.Gen.frame m g, fun m g _ => Cert.AOutKernelIdeal.Gen.frame m g, frame_AOutR,
  fun m g _ => Cert.DOutKernel.Gen.frame m g, fun m g _ => Cert.DOutKernelIdeal.Gen.frame m g, frame_DOutR,
  fun m g _ => Cert.AttnKernel.Gen.frame m g, fun m g _ => Cert.AttnKernelIdeal.Gen.frame m g, frame_AttnR,
  fun m g _ => Cert.AttnBKernel.Gen.frame m g, fun m g _ => Cert.AttnBKernelIdeal.Gen.frame m g, fun m g _ => Cert.AttnBKernelIdeal.Gen.frame m g,
  frame_AttnBR, fun m g _ => frame_AttnBR m g trivial,
  trivial, algebraic_U,
  trivial, algebraic_D,
  trivial, algebraic_WUp,
  trivial, algebraic_WGate,
  trivial, algebraic_WPle,
  trivial, algebraic_WO,
  trivial, algebraic_WQkv,
  trivial, algebraic_DY,
  trivial, algebraic_DOm,
  trivial, algebraic_DH0,
  trivial, algebraic_Gate,
  trivial, algebraic_Ple,
  trivial, algebraic_Qkv,
  trivial, algebraic_Up,
  trivial, algebraic_DH,
  trivial, algebraic_DHg,
  trivial, algebraic_DHIn,
  trivial, algebraic_WIn,
  trivial, algebraic_In,
  trivial, algebraic_Down,
  trivial, algebraic_AOut,
  trivial, algebraic_DOut,
  trivial, algebraic_Attn,
  trivial, algebraic_AttnB⟩

end Cert.Proof

end
